-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mined_apart [hPre_mined_apart : Cert.Pre_mined_apart.Facts] (m : (ℓ : Loc Cert.KernelIdeal.nD Cert.KernelIdeal.τ Cert.KernelIdeal.sig) → Buf (Elt Ideal) ℓ) : Prop :=
  ∀ c : Dev Cert.KernelIdeal.nD,
    (Cert.Pre_mined_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mined_apart [hPre_mined_apart : Cert.Pre_mined_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mined_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mined_apart [hKernelIdeal : Cert.KernelIdeal.Facts] [hPre_mined_apart : Cert.Pre_mined_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mined_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mined_apart [hReferenceIdeal : Cert.ReferenceIdeal.Facts] [hPre_mined_apart : Cert.Pre_mined_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mined_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_var_s" .f32 0x40A00000#32 ((67108864 / 13421773 : ℝ) : EReal)

def algebraic_KernelIdeal_ReferenceIdeal_pre_mined_apart [hKernelIdeal : Cert.KernelIdeal.Facts] [hReferenceIdeal : Cert.ReferenceIdeal.Facts] [hPre_mined_apart : Cert.Pre_mined_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mined_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_mined_apart : Cert.Pre_mined_apart.Facts),
    quiescent_Kernel (hKernel := hKernel)
    ∧ quiescent_KernelIdeal (hKernelIdeal := hKernelIdeal)
    ∧ quiescent_KernelIdeal_pre_mined_apart (hKernelIdeal := hKernelIdeal) (hPre_mined_apart := hPre_mined_apart)
    ∧ quiescent_ReferenceIdeal (hReferenceIdeal := hReferenceIdeal)
    ∧ quiescent_ReferenceIdeal_pre_mined_apart (hReferenceIdeal := hReferenceIdeal) (hPre_mined_apart := hPre_mined_apart)
    ∧ preserves_Kernel_KernelIdeal
    ∧ algebraic_KernelIdeal_ReferenceIdeal_pre_mined_apart (hKernelIdeal := hKernelIdeal) (hReferenceIdeal := hReferenceIdeal) (hPre_mined_apart := hPre_mined_apart)
-- ==== Pre_mined_apart.lean ====
abbrev S16x8732x4 : Shape := ⟨3, ![16, 8732, 4]⟩
abbrev S16x8732x81 : Shape := ⟨3, ![16, 8732, 81]⟩
abbrev S16x24x4 : Shape := ⟨3, ![16, 24, 4]⟩
abbrev S8732x4 : Shape := ⟨2, ![8732, 4]⟩
abbrev S16x24 : Shape := ⟨2, ![16, 24]⟩
abbrev S16x8732x1 : Shape := ⟨3, ![16, 8732, 1]⟩
abbrev S_ : Shape := ⟨0, ![]⟩
abbrev S16x24x1 : Shape := ⟨3, ![16, 24, 1]⟩
abbrev S16x24x8732 : Shape := ⟨3, ![16, 24, 8732]⟩
abbrev S8732x1 : Shape := ⟨2, ![8732, 1]⟩
abbrev S8732 : Shape := ⟨1, ![8732]⟩
abbrev S16x8732 : Shape := ⟨2, ![16, 8732]⟩
abbrev S16 : Shape := ⟨1, ![16]⟩
abbrev S16x8731 : Shape := ⟨2, ![16, 8731]⟩

class Facts : Prop where
  slices_S16x8732x81_S16x8732x1_0_0_0 : S16x8732x81.Slices ![0, 0, 0] S16x8732x1
  bcast_S16x8732x1_S16x8732x81_0_1_2 : S16x8732x1.BroadcastsInDim S16x8732x81 (![0, 1, 2] : Fin 3 → Fin S16x8732x81.rank)
  bcast_S_S16x8732x81 : S_.BroadcastsInDim S16x8732x81 (![] : Fin 0 → Fin S16x8732x81.rank)
  reducesTo_S16x8732x81_S_d0_1_2 : S16x8732x81.ReducesTo [0, 1, 2] S_
  h_S_ : 0 < S_.numel
  bcast_S_S8732x4 : S_.BroadcastsInDim S8732x4 (![] : Fin 0 → Fin S8732x4.rank)
  reducesTo_S8732x4_S_d0_1 : S8732x4.ReducesTo [0, 1] S_
  bcast_S_S16x24 : S_.BroadcastsInDim S16x24 (![] : Fin 0 → Fin S16x24.rank)
  reducesTo_S16x24_S_d0_1 : S16x24.ReducesTo [0, 1] S_
  slices_S16x24x4_S16x24x1_0_0_2 : S16x24x4.Slices ![0, 0, 2] S16x24x1
  shapeCasts_S16x24x1_S16x24 : S16x24x1.ShapeCasts S16x24
  bcast_S16x24_S16x24x8732_0_1 : S16x24.BroadcastsInDim S16x24x8732 (![0, 1] : Fin 2 → Fin S16x24x8732.rank)
  slices_S8732x4_S8732x1_0_2 : S8732x4.Slices ![0, 2] S8732x1
  shapeCasts_S8732x1_S8732 : S8732x1.ShapeCasts S8732
  bcast_S8732_S16x24x8732_2 : S8732.BroadcastsInDim S16x24x8732 (![2] : Fin 1 → Fin S16x24x8732.rank)
  slices_S16x24x4_S16x24x1_0_0_0 : S16x24x4.Slices ![0, 0, 0] S16x24x1
  slices_S8732x4_S8732x1_0_0 : S8732x4.Slices ![0, 0] S8732x1
  bcast_S_S16x24x8732 : S_.BroadcastsInDim S16x24x8732 (![] : Fin 0 → Fin S16x24x8732.rank)
  slices_S16x24x4_S16x24x1_0_0_3 : S16x24x4.Slices ![0, 0, 3] S16x24x1
  slices_S8732x4_S8732x1_0_3 : S8732x4.Slices ![0, 3] S8732x1
  slices_S16x24x4_S16x24x1_0_0_1 : S16x24x4.Slices ![0, 0, 1] S16x24x1
  slices_S8732x4_S8732x1_0_1 : S8732x4.Slices ![0, 1] S8732x1
  reducesTo_S16x24x8732_S16x24_d2 : S16x24x8732.ReducesTo [2] S16x24
  reducesTo_S16x24x8732_S16x8732_d1 : S16x24x8732.ReducesTo [1] S16x8732
  reducesTo_S16x8732x81_S16x8732_d2 : S16x8732x81.ReducesTo [2] S16x8732
  bcast_S_S16x8732 : S_.BroadcastsInDim S16x8732 (![] : Fin 0 → Fin S16x8732.rank)
  natLt_1_32 : 1 < 32
  reducesTo_S16x8732_S16_d1 : S16x8732.ReducesTo [1] S16
  bcast_S_S16 : S_.BroadcastsInDim S16 (![] : Fin 0 → Fin S16.rank)
  slices_S16x8732_S16x8731_0_0 : S16x8732.Slices ![0, 0] S16x8731
  slices_S16x8732_S16x8731_0_1 : S16x8732.Slices ![0, 1] S16x8731
  bcast_S_S16x8731 : S_.BroadcastsInDim S16x8731 (![] : Fin 0 → Fin S16x8731.rank)
  bcast_S16_S16x8731_0 : S16.BroadcastsInDim S16x8731 (![0] : Fin 1 → Fin S16x8731.rank)
  reducesTo_S16x8731_S_d0_1 : S16x8731.ReducesTo [0, 1] S_

variable [Facts]

variable {F : FTy → Type} [FloatOps F]
def comparator_f32_i32_d1 : F .f32 × BitVec 32 → F .f32 × BitVec 32 → BitVec 1 :=
  fun l r =>
    let cst_23 := FloatOps.ofBits .f32 0x00000000#32
    let v136 := FloatOps.cmpf .oeq l.1 cst_23
    let cst_24 := FloatOps.ofBits .f32 0x00000000#32
    let v137 := Scalar.select v136 cst_24 l.1
    let v138 := FloatOps.cmpf .une l.1 l.1
    let cst_25 := FloatOps.ofBits .f32 0x7FC00000#32
    let v139 := Scalar.select v138 cst_25 v137
    let cst_26 := FloatOps.ofBits .f32 0x00000000#32
    let v140 := FloatOps.cmpf .oeq r.1 cst_26
    let cst_27 := FloatOps.ofBits .f32 0x00000000#32
    let v141 := Scalar.select v140 cst_27 r.1
    let v142 := FloatOps.cmpf .une r.1 r.1
    let cst_28 := FloatOps.ofBits .f32 0x7FC00000#32
    let v143 := Scalar.select v142 cst_28 v141
    let v144 := FloatOps.cmpfTotal .lt v139 v143
    v144

def fn_part6 {F : FTy → Type} [FloatOps F] (main_v9 : IVec S_ 1) (main_v15 : IVec S_ 1) (main_v21 : IVec S_ 1) (main_v112_0 : FVec F S16x8732 .f32) (main_v119 : IVec S16 32) (main_v120 : FVec F S16x8731 .f32) : IVec S_ 1 :=
  let main_v121 : FVec F S16x8731 .f32 := (extractStridedSlice S16x8731 ![0, 1] · slices_S16x8732_S16x8731_0_1) main_v112_0
  let main_v122 : IVec S16x8731 32 := iotaInDim S16x8731 32 1
  let main_c_20 : IVec S_ 32 := constantI S_ 32 1#32
  let main_v123 : IVec S16x8731 32 := broadcastInDim S16x8731 ![] bcast_S_S16x8731 main_c_20
  let main_v124 : IVec S16x8731 32 := addi main_v122 main_v123
  let main_v125 : IVec S16x8731 32 := broadcastInDim S16x8731 ![0] bcast_S16_S16x8731_0 main_v119
  let main_v126 : IVec S16x8731 1 := cmpi .eq main_v124 main_v125
  let main_v127 : FVec F S16x8731 .f32 := subf main_v121 main_v120
  let main_cst_21 : FVec F S_ .f32 := constant S_ .f32 0x2E000000#32
  let main_v128 : FVec F S16x8731 .f32 := broadcastInDim S16x8731 ![] bcast_S_S16x8731 main_cst_21
  let main_v129 : IVec S16x8731 1 := cmpf .oge main_v127 main_v128
  let main_v130 : IVec S16x8731 1 := noti main_v126
  let main_v131 : IVec S16x8731 1 := ori main_v129 main_v130
  let main_c_22 : IVec S_ 1 := constantI S_ 1 1#1
  let main_v132 : IVec S_ 1 := (fun x v => Host.reduce IntOp.andi x v reducesTo_S16x8731_S_d0_1 h_S_) main_v131 main_c_22
  let main_v133 : IVec S_ 1 := andi main_v9 main_v15
  let main_v134 : IVec S_ 1 := andi main_v133 main_v21
  let main_v135 : IVec S_ 1 := andi main_v134 main_v132
  main_v135

def fn_part5 {F : FTy → Type} [FloatOps F] (main_v2 : FVec F S16x8732x81 .f32) (main_v9 : IVec S_ 1) (main_v15 : IVec S_ 1) (main_v21 : IVec S_ 1) (main_v103 : IVec S16x24x8732 1) : IVec S_ 1 :=
  let main_c_14 : IVec S_ 1 := constantI S_ 1 0#1
  let main_v104 : IVec S16x8732 1 := (fun x v => Host.reduce IntOp.ori x v reducesTo_S16x24x8732_S16x8732_d1 h_S_) main_v103 main_c_14
  let main_v105 : FVec F S16x8732x81 .f32 := Host.exp main_v2
  let main_cst_15 : FVec F S_ .f32 := constant S_ .f32 0x00000000#32
  let main_v106 : FVec F S16x8732 .f32 := (fun x v => Host.reduceAdd x v reducesTo_S16x8732x81_S16x8732_d2 h_S_) main_v105 main_cst_15
  let main_v107 : FVec F S16x8732 .f32 := Host.log main_v106
  let main_cst_16 : FVec F S_ .f32 := constant S_ .f32 0xCE6E6B28#32
  let main_v108 : FVec F S16x8732 .f32 := broadcastInDim S16x8732 ![] bcast_S_S16x8732 main_cst_16
  let main_v109 : FVec F S16x8732 .f32 := select main_v104 main_v108 main_v107
  let main_v110 : IVec S16x8732 32 := iotaInDim S16x8732 32 1
  let main_v111 : FVec F S16x8732 .f32 := Host.negf main_v109
  let main_v112_0 : FVec F S16x8732 .f32 := (fun x y => (Host.sort2 S16x8732 1 comparator_f32_i32_d1 x y).1) main_v111 main_v110
  let main_v112_1 : IVec S16x8732 32 := (fun x y => (Host.sort2 S16x8732 1 comparator_f32_i32_d1 x y).2) main_v111 main_v110
  let main_v113 : IVec S16x8732 32 := (extui 32 · natLt_1_32) main_v104
  let main_c_17 : IVec S_ 32 := constantI S_ 32 0#32
  let main_v114 : IVec S16 32 := (fun x v => Host.reduce IntOp.addi x v reducesTo_S16x8732_S16_d1 h_S_) main_v113 main_c_17
  let main_c_18 : IVec S_ 32 := constantI S_ 32 7#32
  let main_v115 : IVec S16 32 := broadcastInDim S16 ![] bcast_S_S16 main_c_18
  let main_v116 : IVec S16 32 := muli main_v115 main_v114
  let main_c_19 : IVec S_ 32 := constantI S_ 32 8732#32
  let main_v117 : IVec S16 32 := broadcastInDim S16 ![] bcast_S_S16 main_c_19
  let main_v118 : IVec S16 32 := subi main_v117 main_v114
  let main_v119 : IVec S16 32 := minsi main_v116 main_v118
  let main_v120 : FVec F S16x8731 .f32 := (extractStridedSlice S16x8731 ![0, 0] · slices_S16x8732_S16x8731_0_0) main_v112_0
  fn_part6 (F := F) main_v9 main_v15 main_v21 main_v112_0 main_v119 main_v120

def fn_part4 {F : FTy → Type} [FloatOps F] (main_v2 : FVec F S16x8732x81 .f32) (main_v9 : IVec S_ 1) (main_v15 : IVec S_ 1) (main_v21 : IVec S_ 1) (main_v56 : FVec F S16x24x8732 .f32) (main_v71 : FVec F S16x24x8732 .f32) (main_v78 : FVec F S16x24x8732 .f32) (main_v81 : FVec F S16x24x8732 .f32) (main_v84 : FVec F S16x24x8732 .f32) : IVec S_ 1 :=
  let main_v85 : FVec F S16x24x8732 .f32 := subf main_v81 main_v84
  let main_v86 : FVec F S16x24x8732 .f32 := mulf main_v78 main_v85
  let main_v87 : FVec F S16x24x8732 .f32 := addf main_v71 main_v86
  let main_v88 : FVec F S16x24x8732 .f32 := subf main_v87 main_v56
  let main_cst_9 : FVec F S_ .f32 := constant S_ .f32 0x3089705F#32
  let main_v89 : FVec F S16x24x8732 .f32 := broadcastInDim S16x24x8732 ![] bcast_S_S16x24x8732 main_cst_9
  let main_v90 : FVec F S16x24x8732 .f32 := maximumf main_v88 main_v89
  let main_v91 : FVec F S16x24x8732 .f32 := Host.divf main_v56 main_v90
  let main_v92 : IVec S16x24x8732 32 := iotaInDim S16x24x8732 32 2
  let main_cst_10 : FVec F S_ .f32 := constant S_ .f32 0xFF800000#32
  let main_v93 : FVec F S16x24 .f32 := (fun x v => Host.reduce FloatOps.maximumf x v reducesTo_S16x24x8732_S16x24_d2 h_S_) main_v91 main_cst_10
  let main_v94 : FVec F S16x24x8732 .f32 := broadcastInDim S16x24x8732 ![0, 1] bcast_S16x24_S16x24x8732_0_1 main_v93
  let main_v95 : IVec S16x24x8732 1 := cmpf .oeq main_v91 main_v94
  let main_c_11 : IVec S_ 32 := constantI S_ 32 8732#32
  let main_v96 : IVec S16x24x8732 32 := broadcastInDim S16x24x8732 ![] bcast_S_S16x24x8732 main_c_11
  let main_v97 : IVec S16x24x8732 32 := select main_v95 main_v92 main_v96
  let main_c_12 : IVec S_ 32 := constantI S_ 32 2147483647#32
  let main_v98 : IVec S16x24 32 := (fun x v => Host.reduce IntOp.minsi x v reducesTo_S16x24x8732_S16x24_d2 h_S_) main_v97 main_c_12
  let main_v99 : IVec S16x24x8732 32 := broadcastInDim S16x24x8732 ![0, 1] bcast_S16x24_S16x24x8732_0_1 main_v98
  let main_cst_13 : FVec F S_ .f32 := constant S_ .f32 0x3EB33333#32
  let main_v100 : FVec F S16x24x8732 .f32 := broadcastInDim S16x24x8732 ![] bcast_S_S16x24x8732 main_cst_13
  let main_v101 : IVec S16x24x8732 1 := cmpf .ogt main_v91 main_v100
  let main_v102 : IVec S16x24x8732 1 := cmpi .eq main_v92 main_v99
  let main_v103 : IVec S16x24x8732 1 := ori main_v101 main_v102
  fn_part5 (F := F) main_v2 main_v9 main_v15 main_v21 main_v103

def fn_part3 {F : FTy → Type} [FloatOps F] (main_arg2 : FVec F S16x24x4 .f32) (main_arg3 : FVec F S8732x4 .f32) (main_v2 : FVec F S16x8732x81 .f32) (main_v9 : IVec S_ 1) (main_v15 : IVec S_ 1) (main_v21 : IVec S_ 1) (main_v56 : FVec F S16x24x8732 .f32) (main_v59 : FVec F S16x24x8732 .f32) (main_v60 : FVec F S16x24x1 .f32) : IVec S_ 1 :=
  let main_v61 : FVec F S16x24 .f32 := shapeCast S16x24 main_v60 shapeCasts_S16x24x1_S16x24
  let main_v62 : FVec F S16x24x8732 .f32 := broadcastInDim S16x24x8732 ![0, 1] bcast_S16x24_S16x24x8732_0_1 main_v61
  let main_v63 : FVec F S16x24x8732 .f32 := subf main_v59 main_v62
  let main_v64 : FVec F S16x24x1 .f32 := (extractStridedSlice S16x24x1 ![0, 0, 3] · slices_S16x24x4_S16x24x1_0_0_3) main_arg2
  let main_v65 : FVec F S16x24 .f32 := shapeCast S16x24 main_v64 shapeCasts_S16x24x1_S16x24
  let main_v66 : FVec F S16x24x8732 .f32 := broadcastInDim S16x24x8732 ![0, 1] bcast_S16x24_S16x24x8732_0_1 main_v65
  let main_v67 : FVec F S16x24x1 .f32 := (extractStridedSlice S16x24x1 ![0, 0, 1] · slices_S16x24x4_S16x24x1_0_0_1) main_arg2
  let main_v68 : FVec F S16x24 .f32 := shapeCast S16x24 main_v67 shapeCasts_S16x24x1_S16x24
  let main_v69 : FVec F S16x24x8732 .f32 := broadcastInDim S16x24x8732 ![0, 1] bcast_S16x24_S16x24x8732_0_1 main_v68
  let main_v70 : FVec F S16x24x8732 .f32 := subf main_v66 main_v69
  let main_v71 : FVec F S16x24x8732 .f32 := mulf main_v63 main_v70
  let main_v72 : FVec F S8732x1 .f32 := (extractStridedSlice S8732x1 ![0, 2] · slices_S8732x4_S8732x1_0_2) main_arg3
  let main_v73 : FVec F S8732 .f32 := shapeCast S8732 main_v72 shapeCasts_S8732x1_S8732
  let main_v74 : FVec F S16x24x8732 .f32 := broadcastInDim S16x24x8732 ![2] bcast_S8732_S16x24x8732_2 main_v73
  let main_v75 : FVec F S8732x1 .f32 := (extractStridedSlice S8732x1 ![0, 0] · slices_S8732x4_S8732x1_0_0) main_arg3
  let main_v76 : FVec F S8732 .f32 := shapeCast S8732 main_v75 shapeCasts_S8732x1_S8732
  let main_v77 : FVec F S16x24x8732 .f32 := broadcastInDim S16x24x8732 ![2] bcast_S8732_S16x24x8732_2 main_v76
  let main_v78 : FVec F S16x24x8732 .f32 := subf main_v74 main_v77
  let main_v79 : FVec F S8732x1 .f32 := (extractStridedSlice S8732x1 ![0, 3] · slices_S8732x4_S8732x1_0_3) main_arg3
  let main_v80 : FVec F S8732 .f32 := shapeCast S8732 main_v79 shapeCasts_S8732x1_S8732
  let main_v81 : FVec F S16x24x8732 .f32 := broadcastInDim S16x24x8732 ![2] bcast_S8732_S16x24x8732_2 main_v80
  let main_v82 : FVec F S8732x1 .f32 := (extractStridedSlice S8732x1 ![0, 1] · slices_S8732x4_S8732x1_0_1) main_arg3
  let main_v83 : FVec F S8732 .f32 := shapeCast S8732 main_v82 shapeCasts_S8732x1_S8732
  let main_v84 : FVec F S16x24x8732 .f32 := broadcastInDim S16x24x8732 ![2] bcast_S8732_S16x24x8732_2 main_v83
  fn_part4 (F := F) main_v2 main_v9 main_v15 main_v21 main_v56 main_v71 main_v78 main_v81 main_v84

def fn_part2 {F : FTy → Type} [FloatOps F] (main_arg2 : FVec F S16x24x4 .f32) (main_arg3 : FVec F S8732x4 .f32) (main_v2 : FVec F S16x8732x81 .f32) (main_v9 : IVec S_ 1) (main_v15 : IVec S_ 1) (main_v21 : IVec S_ 1) (main_v36 : FVec F S16x24x8732 .f32) (main_v37 : FVec F S16x24x8732 .f32) : IVec S_ 1 :=
  let main_v38 : FVec F S16x24x8732 .f32 := maximumf main_v36 main_v37
  let main_v39 : FVec F S16x24x1 .f32 := (extractStridedSlice S16x24x1 ![0, 0, 3] · slices_S16x24x4_S16x24x1_0_0_3) main_arg2
  let main_v40 : FVec F S16x24 .f32 := shapeCast S16x24 main_v39 shapeCasts_S16x24x1_S16x24
  let main_v41 : FVec F S16x24x8732 .f32 := broadcastInDim S16x24x8732 ![0, 1] bcast_S16x24_S16x24x8732_0_1 main_v40
  let main_v42 : FVec F S8732x1 .f32 := (extractStridedSlice S8732x1 ![0, 3] · slices_S8732x4_S8732x1_0_3) main_arg3
  let main_v43 : FVec F S8732 .f32 := shapeCast S8732 main_v42 shapeCasts_S8732x1_S8732
  let main_v44 : FVec F S16x24x8732 .f32 := broadcastInDim S16x24x8732 ![2] bcast_S8732_S16x24x8732_2 main_v43
  let main_v45 : FVec F S16x24x8732 .f32 := minimumf main_v41 main_v44
  let main_v46 : FVec F S16x24x1 .f32 := (extractStridedSlice S16x24x1 ![0, 0, 1] · slices_S16x24x4_S16x24x1_0_0_1) main_arg2
  let main_v47 : FVec F S16x24 .f32 := shapeCast S16x24 main_v46 shapeCasts_S16x24x1_S16x24
  let main_v48 : FVec F S16x24x8732 .f32 := broadcastInDim S16x24x8732 ![0, 1] bcast_S16x24_S16x24x8732_0_1 main_v47
  let main_v49 : FVec F S8732x1 .f32 := (extractStridedSlice S8732x1 ![0, 1] · slices_S8732x4_S8732x1_0_1) main_arg3
  let main_v50 : FVec F S8732 .f32 := shapeCast S8732 main_v49 shapeCasts_S8732x1_S8732
  let main_v51 : FVec F S16x24x8732 .f32 := broadcastInDim S16x24x8732 ![2] bcast_S8732_S16x24x8732_2 main_v50
  let main_v52 : FVec F S16x24x8732 .f32 := maximumf main_v48 main_v51
  let main_v53 : FVec F S16x24x8732 .f32 := subf main_v45 main_v52
  let main_cst_8 : FVec F S_ .f32 := constant S_ .f32 0x00000000#32
  let main_v54 : FVec F S16x24x8732 .f32 := broadcastInDim S16x24x8732 ![] bcast_S_S16x24x8732 main_cst_8
  let main_v55 : FVec F S16x24x8732 .f32 := maximumf main_v53 main_v54
  let main_v56 : FVec F S16x24x8732 .f32 := mulf main_v38 main_v55
  let main_v57 : FVec F S16x24x1 .f32 := (extractStridedSlice S16x24x1 ![0, 0, 2] · slices_S16x24x4_S16x24x1_0_0_2) main_arg2
  let main_v58 : FVec F S16x24 .f32 := shapeCast S16x24 main_v57 shapeCasts_S16x24x1_S16x24
  let main_v59 : FVec F S16x24x8732 .f32 := broadcastInDim S16x24x8732 ![0, 1] bcast_S16x24_S16x24x8732_0_1 main_v58
  let main_v60 : FVec F S16x24x1 .f32 := (extractStridedSlice S16x24x1 ![0, 0, 0] · slices_S16x24x4_S16x24x1_0_0_0) main_arg2
  fn_part3 (F := F) main_arg2 main_arg3 main_v2 main_v9 main_v15 main_v21 main_v56 main_v59 main_v60

def fn_part1 {F : FTy → Type} [FloatOps F] (main_arg2 : FVec F S16x24x4 .f32) (main_arg3 : FVec F S8732x4 .f32) (main_arg4 : IVec S16x24 32) (main_v2 : FVec F S16x8732x81 .f32) (main_v9 : IVec S_ 1) (main_v15 : IVec S_ 1) (main_v16 : IVec S16x24 32) : IVec S_ 1 :=
  let main_v17 : IVec S16x24 1 := cmpi .sge main_arg4 main_v16
  let main_c_5 : IVec S_ 32 := constantI S_ 32 81#32
  let main_v18 : IVec S16x24 32 := broadcastInDim S16x24 ![] bcast_S_S16x24 main_c_5
  let main_v19 : IVec S16x24 1 := cmpi .slt main_arg4 main_v18
  let main_v20 : IVec S16x24 1 := andi main_v17 main_v19
  let main_c_6 : IVec S_ 1 := constantI S_ 1 1#1
  let main_v21 : IVec S_ 1 := (fun x v => Host.reduce IntOp.andi x v reducesTo_S16x24_S_d0_1 h_S_) main_v20 main_c_6
  let main_v22 : FVec F S16x24x1 .f32 := (extractStridedSlice S16x24x1 ![0, 0, 2] · slices_S16x24x4_S16x24x1_0_0_2) main_arg2
  let main_v23 : FVec F S16x24 .f32 := shapeCast S16x24 main_v22 shapeCasts_S16x24x1_S16x24
  let main_v24 : FVec F S16x24x8732 .f32 := broadcastInDim S16x24x8732 ![0, 1] bcast_S16x24_S16x24x8732_0_1 main_v23
  let main_v25 : FVec F S8732x1 .f32 := (extractStridedSlice S8732x1 ![0, 2] · slices_S8732x4_S8732x1_0_2) main_arg3
  let main_v26 : FVec F S8732 .f32 := shapeCast S8732 main_v25 shapeCasts_S8732x1_S8732
  let main_v27 : FVec F S16x24x8732 .f32 := broadcastInDim S16x24x8732 ![2] bcast_S8732_S16x24x8732_2 main_v26
  let main_v28 : FVec F S16x24x8732 .f32 := minimumf main_v24 main_v27
  let main_v29 : FVec F S16x24x1 .f32 := (extractStridedSlice S16x24x1 ![0, 0, 0] · slices_S16x24x4_S16x24x1_0_0_0) main_arg2
  let main_v30 : FVec F S16x24 .f32 := shapeCast S16x24 main_v29 shapeCasts_S16x24x1_S16x24
  let main_v31 : FVec F S16x24x8732 .f32 := broadcastInDim S16x24x8732 ![0, 1] bcast_S16x24_S16x24x8732_0_1 main_v30
  let main_v32 : FVec F S8732x1 .f32 := (extractStridedSlice S8732x1 ![0, 0] · slices_S8732x4_S8732x1_0_0) main_arg3
  let main_v33 : FVec F S8732 .f32 := shapeCast S8732 main_v32 shapeCasts_S8732x1_S8732
  let main_v34 : FVec F S16x24x8732 .f32 := broadcastInDim S16x24x8732 ![2] bcast_S8732_S16x24x8732_2 main_v33
  let main_v35 : FVec F S16x24x8732 .f32 := maximumf main_v31 main_v34
  let main_v36 : FVec F S16x24x8732 .f32 := subf main_v28 main_v35
  let main_cst_7 : FVec F S_ .f32 := constant S_ .f32 0x00000000#32
  let main_v37 : FVec F S16x24x8732 .f32 := broadcastInDim S16x24x8732 ![] bcast_S_S16x24x8732 main_cst_7
  fn_part2 (F := F) main_arg2 main_arg3 main_v2 main_v9 main_v15 main_v21 main_v36 main_v37

def fn {F : FTy → Type} [FloatOps F] (main_arg0 : FVec F S16x8732x4 .f32) (main_arg1 : FVec F S16x8732x81 .f32) (main_arg2 : FVec F S16x24x4 .f32) (main_arg3 : FVec F S8732x4 .f32) (main_arg4 : IVec S16x24 32) : IVec S_ 1 :=
  let main_v0 : FVec F S16x8732x1 .f32 := (extractStridedSlice S16x8732x1 ![0, 0, 0] · slices_S16x8732x81_S16x8732x1_0_0_0) main_arg1
  let main_v1 : FVec F S16x8732x81 .f32 := broadcastInDim S16x8732x81 ![0, 1, 2] bcast_S16x8732x1_S16x8732x81_0_1_2 main_v0
  let main_v2 : FVec F S16x8732x81 .f32 := subf main_arg1 main_v1
  let main_v3 : FVec F S16x8732x81 .f32 := Host.absf main_arg1
  let main_cst : FVec F S_ .f32 := constant S_ .f32 0x7F800000#32
  let main_v4 : FVec F S16x8732x81 .f32 := broadcastInDim S16x8732x81 ![] bcast_S_S16x8732x81 main_cst
  let main_v5 : IVec S16x8732x81 1 := cmpf .olt main_v3 main_v4
  let main_cst_0 : FVec F S_ .f32 := constant S_ .f32 0x42A00000#32
  let main_v6 : FVec F S16x8732x81 .f32 := broadcastInDim S16x8732x81 ![] bcast_S_S16x8732x81 main_cst_0
  let main_v7 : IVec S16x8732x81 1 := cmpf .ole main_v2 main_v6
  let main_v8 : IVec S16x8732x81 1 := andi main_v5 main_v7
  let main_c : IVec S_ 1 := constantI S_ 1 1#1
  let main_v9 : IVec S_ 1 := (fun x v => Host.reduce IntOp.andi x v reducesTo_S16x8732x81_S_d0_1_2 h_S_) main_v8 main_c
  let main_cst_1 : FVec F S_ .f32 := constant S_ .f32 0x00000000#32
  let main_v10 : FVec F S8732x4 .f32 := broadcastInDim S8732x4 ![] bcast_S_S8732x4 main_cst_1
  let main_v11 : IVec S8732x4 1 := cmpf .oge main_arg3 main_v10
  let main_cst_2 : FVec F S_ .f32 := constant S_ .f32 0x3F800000#32
  let main_v12 : FVec F S8732x4 .f32 := broadcastInDim S8732x4 ![] bcast_S_S8732x4 main_cst_2
  let main_v13 : IVec S8732x4 1 := cmpf .ole main_arg3 main_v12
  let main_v14 : IVec S8732x4 1 := andi main_v11 main_v13
  let main_c_3 : IVec S_ 1 := constantI S_ 1 1#1
  let main_v15 : IVec S_ 1 := (fun x v => Host.reduce IntOp.andi x v reducesTo_S8732x4_S_d0_1 h_S_) main_v14 main_c_3
  let main_c_4 : IVec S_ 32 := constantI S_ 32 0#32
  let main_v16 : IVec S16x24 32 := broadcastInDim S16x24 ![] bcast_S_S16x24 main_c_4
  fn_part1 (F := F) main_arg2 main_arg3 main_arg4 main_v2 main_v9 main_v15 main_v16
-- ==== Kernel.lean ====
abbrev S16x8732x4 : Shape := ⟨3, ![16, 8732, 4]⟩
abbrev S16x8732x81 : Shape := ⟨3, ![16, 8732, 81]⟩
abbrev S16x24x4 : Shape := ⟨3, ![16, 24, 4]⟩
abbrev S8732x4 : Shape := ⟨2, ![8732, 4]⟩
abbrev S16x24 : Shape := ⟨2, ![16, 24]⟩
abbrev S81x16x8732 : Shape := ⟨3, ![81, 16, 8732]⟩
abbrev S16x4x8732 : Shape := ⟨3, ![16, 4, 8732]⟩
abbrev S4x8732 : Shape := ⟨2, ![4, 8732]⟩
abbrev S16x1x24 : Shape := ⟨3, ![16, 1, 24]⟩
abbrev S3 : Shape := ⟨1, ![3]⟩
abbrev S81x8x8732 : Shape := ⟨3, ![81, 8, 8732]⟩
abbrev S1x4x8732 : Shape := ⟨3, ![1, 4, 8732]⟩
abbrev S1x24x4 : Shape := ⟨3, ![1, 24, 4]⟩
abbrev S1x1x24 : Shape := ⟨3, ![1, 1, 24]⟩
abbrev S16x8732 : Shape := ⟨2, ![16, 8732]⟩
abbrev S16x128 : Shape := ⟨2, ![16, 128]⟩
abbrev S8x8732 : Shape := ⟨2, ![8, 8732]⟩
abbrev S4 : Shape := ⟨1, ![4]⟩
abbrev S1x8732 : Shape := ⟨2, ![1, 8732]⟩
abbrev S81x1x8732 : Shape := ⟨3, ![81, 1, 8732]⟩
abbrev S81x8732 : Shape := ⟨2, ![81, 8732]⟩
abbrev S24x4 : Shape := ⟨2, ![24, 4]⟩
abbrev S1x24 : Shape := ⟨2, ![1, 24]⟩
abbrev S24x1 : Shape := ⟨2, ![24, 1]⟩
abbrev S24x8732 : Shape := ⟨2, ![24, 8732]⟩
abbrev S24 : Shape := ⟨1, ![24]⟩
abbrev S8732 : Shape := ⟨1, ![8732]⟩
abbrev S1x1x8732 : Shape := ⟨3, ![1, 1, 8732]⟩
abbrev S1 : Shape := ⟨1, ![1]⟩
abbrev S1x1x1 : Shape := ⟨3, ![1, 1, 1]⟩
abbrev S81x24 : Shape := ⟨2, ![81, 24]⟩
abbrev S1x24x8732 : Shape := ⟨3, ![1, 24, 8732]⟩
abbrev S1x1 : Shape := ⟨2, ![1, 1]⟩
abbrev S16x1 : Shape := ⟨2, ![16, 1]⟩
abbrev S16 : Shape := ⟨1, ![16]⟩
abbrev S1x16x1 : Shape := ⟨3, ![1, 16, 1]⟩

abbrev nBuf : Space → Nat
  | .hbm => 10
  | .vmem => 12
  | .smem => 2
  | _ => 0

abbrev bufTy : (tb : Table) → Fin (tcTables nBuf tb) → BufTy
  | .hbm, ⟨0, _⟩ => ⟨S16x8732x4, .f32⟩
  | .hbm, ⟨1, _⟩ => ⟨S16x8732x81, .f32⟩
  | .hbm, ⟨2, _⟩ => ⟨S16x24x4, .f32⟩
  | .hbm, ⟨3, _⟩ => ⟨S8732x4, .f32⟩
  | .hbm, ⟨4, _⟩ => ⟨S16x24, .i32⟩
  | .hbm, ⟨5, _⟩ => ⟨S81x16x8732, .f32⟩
  | .hbm, ⟨6, _⟩ => ⟨S16x4x8732, .f32⟩
  | .hbm, ⟨7, _⟩ => ⟨S4x8732, .f32⟩
  | .hbm, ⟨8, _⟩ => ⟨S16x1x24, .i32⟩
  | .hbm, ⟨9, _⟩ => ⟨S3, .f32⟩
  | .local _ .vmem, ⟨0, _⟩ => ⟨S81x8x8732, .f32⟩
  | .local _ .vmem, ⟨1, _⟩ => ⟨S81x8x8732, .f32⟩
  | .local _ .vmem, ⟨2, _⟩ => ⟨S1x4x8732, .f32⟩
  | .local _ .vmem, ⟨3, _⟩ => ⟨S1x4x8732, .f32⟩
  | .local _ .vmem, ⟨4, _⟩ => ⟨S1x24x4, .f32⟩
  | .local _ .vmem, ⟨5, _⟩ => ⟨S1x24x4, .f32⟩
  | .local _ .vmem, ⟨6, _⟩ => ⟨S1x1x24, .i32⟩
  | .local _ .vmem, ⟨7, _⟩ => ⟨S1x1x24, .i32⟩
  | .local _ .vmem, ⟨8, _⟩ => ⟨S4x8732, .f32⟩
  | .local _ .vmem, ⟨9, _⟩ => ⟨S16x8732, .f32⟩
  | .local _ .vmem, ⟨10, _⟩ => ⟨S16x128, .f32⟩
  | .local _ .vmem, ⟨11, _⟩ => ⟨S8x8732, .f32⟩
  | .local _ .smem, ⟨0, _⟩ => ⟨S3, .f32⟩
  | .local _ .smem, ⟨1, _⟩ => ⟨S4, .f32⟩
  | _, _ => ⟨S16x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg5_0 : Ref sig .tc := ⟨.smem, 0, rfl⟩
abbrev cc0_scratch3 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_2 : Index := 0#32
  let arg0 : BitVec 32 := BitVec.ofNat 32 (i 0).val
  let c8_i32 : BitVec 32 := 8#32
  let v9 : BitVec 32 := Scalar.remsi arg0 c8_i32
  let v10 : Index := Scalar.indexCast v9
  let c0_3 : Index := 0#32
  ![0, v10.toNat, 0]
def k0_off2 (i : grid0.Coords) : Fin 2 → Nat :=
  let arg0 : BitVec 32 := BitVec.ofNat 32 (i 0).val
  let v113 : Index := Scalar.indexCast arg0
  let c0_29 : Index := 0#32
  ![v113.toNat, 0]
def k0_off3 (i : grid0.Coords) : Fin 2 → Nat :=
  let arg0 : BitVec 32 := BitVec.ofNat 32 (i 0).val
  let v118 : Index := Scalar.indexCast arg0
  let c0_30 : Index := 0#32
  ![v118.toNat, 0]
def k0_cond4 (i : grid0.Coords) : BitVec 1 :=
  let arg0 : BitVec 32 := BitVec.ofNat 32 (i 0).val
  let c15_i32 : BitVec 32 := 15#32
  let v222 : BitVec 1 := Scalar.cmpi .eq arg0 c15_i32
  let v223 : BitVec 32 := Scalar.extui v222
  let c0_i32_62 : BitVec 32 := 0#32
  let v224 : BitVec 1 := Scalar.cmpi .ne v223 c0_i32_62
  v224

@[reducible] def k0_t1_loop : Scf.Loop 32 :=
  let c0_i32_75 : BitVec 32 := 0#32
  let c42_i32 : BitVec 32 := 42#32
  let v245 : BitVec 32 := Scalar.addi c0_i32_75 c42_i32
  let c1_i32 : BitVec 32 := 1#32
  ⟨c0_i32_75, v245, c1_i32⟩
def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S81x8x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8732 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x24 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8732 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_var_s" => some ((67108864 / 13421773 : ℝ) : EReal)
  | _ => none
-- ==== ReferenceIdeal.lean ====
abbrev S16x8732x4 : Shape := ⟨3, ![16, 8732, 4]⟩
abbrev S16x8732x81 : Shape := ⟨3, ![16, 8732, 81]⟩
abbrev S16x24x4 : Shape := ⟨3, ![16, 24, 4]⟩
abbrev S8732x4 : Shape := ⟨2, ![8732, 4]⟩
abbrev S16x24 : Shape := ⟨2, ![16, 24]⟩
abbrev S16x24x2 : Shape := ⟨3, ![16, 24, 2]⟩
abbrev S16x24x1x2 : Shape := ⟨4, ![16, 24, 1, 2]⟩
abbrev S8732x2 : Shape := ⟨2, ![8732, 2]⟩
abbrev S1x1x8732x2 : Shape := ⟨4, ![1, 1, 8732, 2]⟩
abbrev S16x24x8732x2 : Shape := ⟨4, ![16, 24, 8732, 2]⟩
abbrev S_ : Shape := ⟨0, ![]⟩
abbrev S16x24x8732x1 : Shape := ⟨4, ![16, 24, 8732, 1]⟩
abbrev S16x24x8732 : Shape := ⟨3, ![16, 24, 8732]⟩
abbrev S16x24x1 : Shape := ⟨3, ![16, 24, 1]⟩
abbrev S8732x1 : Shape := ⟨2, ![8732, 1]⟩
abbrev S8732 : Shape := ⟨1, ![8732]⟩
abbrev S1x1x8732 : Shape := ⟨3, ![1, 1, 8732]⟩
abbrev S16 : Shape := ⟨1, ![16]⟩
abbrev S16x1 : Shape := ⟨2, ![16, 1]⟩
abbrev S24 : Shape := ⟨1, ![24]⟩
abbrev S1x24 : Shape := ⟨2, ![1, 24]⟩
abbrev S16x24x3 : Shape := ⟨3, ![16, 24, 3]⟩
abbrev S16x8732x24 : Shape := ⟨3, ![16, 8732, 24]⟩
abbrev S16x8732 : Shape := ⟨2, ![16, 8732]⟩
abbrev S16x8732x1 : Shape := ⟨3, ![16, 8732, 1]⟩
abbrev S16x1x24x4 : Shape := ⟨4, ![16, 1, 24, 4]⟩
abbrev S1x8732x1x4 : Shape := ⟨4, ![1, 8732, 1, 4]⟩
abbrev S16x1x24x2 : Shape := ⟨4, ![16, 1, 24, 2]⟩
abbrev S1x8732x1x2 : Shape := ⟨4, ![1, 8732, 1, 2]⟩
abbrev S16x8732x24x2 : Shape := ⟨4, ![16, 8732, 24, 2]⟩
abbrev S16x8732x24x4 : Shape := ⟨4, ![16, 8732, 24, 4]⟩
abbrev S16x8732x1x4 : Shape := ⟨4, ![16, 8732, 1, 4]⟩
abbrev S16x8732x24x1 : Shape := ⟨4, ![16, 8732, 24, 1]⟩
abbrev S16x1x24 : Shape := ⟨3, ![16, 1, 24]⟩
abbrev S1 : Shape := ⟨1, ![1]⟩
abbrev S1x1x1x1 : Shape := ⟨4, ![1, 1, 1, 1]⟩
abbrev S3 : Shape := ⟨1, ![3]⟩

abbrev nBuf : Space → Nat
  | .hbm => 281
  | .vmem => 0
  | .smem => 0
  | _ => 0

abbrev hbmTy0_0 (i : Nat) : BufTy := match i % 128 with
  | 0 => ⟨S16x8732x4, .f32⟩
  | 1 => ⟨S16x8732x81, .f32⟩
  | 2 => ⟨S16x24x4, .f32⟩
  | 3 => ⟨S8732x4, .f32⟩
  | 4 => ⟨S16x24, .i32⟩
  | 5 => ⟨S16x24x2, .f32⟩
  | 6 => ⟨S16x24x1x2, .f32⟩
  | 7 => ⟨S8732x2, .f32⟩
  | 8 => ⟨S1x1x8732x2, .f32⟩
  | 9 => ⟨S16x24x8732x2, .f32⟩
  | 10 => ⟨S16x24x8732x2, .f32⟩
  | 11 => ⟨S16x24x8732x2, .f32⟩
  | 12 => ⟨S16x24x2, .f32⟩
  | 13 => ⟨S16x24x1x2, .f32⟩
  | 14 => ⟨S8732x2, .f32⟩
  | 15 => ⟨S1x1x8732x2, .f32⟩
  | 16 => ⟨S16x24x8732x2, .f32⟩
  | 17 => ⟨S16x24x8732x2, .f32⟩
  | 18 => ⟨S16x24x8732x2, .f32⟩
  | 19 => ⟨S16x24x8732x2, .f32⟩
  | 20 => ⟨S_, .f32⟩
  | 21 => ⟨S_, .f32⟩
  | 22 => ⟨S16x24x8732x2, .f32⟩
  | 23 => ⟨S16x24x8732x2, .f32⟩
  | 24 => ⟨S16x24x8732x1, .f32⟩
  | 25 => ⟨S16x24x8732, .f32⟩
  | 26 => ⟨S16x24x8732x1, .f32⟩
  | 27 => ⟨S16x24x8732, .f32⟩
  | 28 => ⟨S16x24x8732, .f32⟩
  | 29 => ⟨S16x24x1, .f32⟩
  | 30 => ⟨S16x24, .f32⟩
  | 31 => ⟨S16x24x1, .f32⟩
  | 32 => ⟨S16x24, .f32⟩
  | 33 => ⟨S16x24, .f32⟩
  | 34 => ⟨S16x24x1, .f32⟩
  | 35 => ⟨S16x24, .f32⟩
  | 36 => ⟨S16x24x1, .f32⟩
  | 37 => ⟨S16x24, .f32⟩
  | 38 => ⟨S16x24, .f32⟩
  | 39 => ⟨S16x24, .f32⟩
  | 40 => ⟨S8732x1, .f32⟩
  | 41 => ⟨S8732, .f32⟩
  | 42 => ⟨S8732x1, .f32⟩
  | 43 => ⟨S8732, .f32⟩
  | 44 => ⟨S8732, .f32⟩
  | 45 => ⟨S8732x1, .f32⟩
  | 46 => ⟨S8732, .f32⟩
  | 47 => ⟨S8732x1, .f32⟩
  | 48 => ⟨S8732, .f32⟩
  | 49 => ⟨S8732, .f32⟩
  | 50 => ⟨S8732, .f32⟩
  | 51 => ⟨S16x24x1, .f32⟩
  | 52 => ⟨S1x1x8732, .f32⟩
  | 53 => ⟨S16x24x8732, .f32⟩
  | 54 => ⟨S16x24x8732, .f32⟩
  | 55 => ⟨S16x24x8732, .f32⟩
  | 56 => ⟨S16x24x8732, .f32⟩
  | 57 => ⟨S_, .f32⟩
  | 58 => ⟨S_, .f32⟩
  | 59 => ⟨S16x24x8732, .f32⟩
  | 60 => ⟨S16x24x8732, .f32⟩
  | 61 => ⟨S16x24x8732, .f32⟩
  | 62 => ⟨S_, .f32⟩
  | 63 => ⟨S16x24x8732, .f32⟩
  | 64 => ⟨S16x24x8732, .i1⟩
  | 65 => ⟨S16x24x8732, .i32⟩
  | 66 => ⟨S_, .f32⟩
  | 67 => ⟨S_, .i32⟩
  | 68 => ⟨S16x24, .f32⟩
  | 69 => ⟨S16x24, .i32⟩
  | 70 => ⟨S16, .i32⟩
  | 71 => ⟨S16x1, .i32⟩
  | 72 => ⟨S24, .i32⟩
  | 73 => ⟨S1x24, .i32⟩
  | 74 => ⟨S_, .i32⟩
  | 75 => ⟨S16x1, .i32⟩
  | 76 => ⟨S16x1, .i1⟩
  | 77 => ⟨S_, .i32⟩
  | 78 => ⟨S16x1, .i32⟩
  | 79 => ⟨S16x1, .i32⟩
  | 80 => ⟨S16x1, .i32⟩
  | 81 => ⟨S_, .i32⟩
  | 82 => ⟨S1x24, .i32⟩
  | 83 => ⟨S1x24, .i1⟩
  | 84 => ⟨S_, .i32⟩
  | 85 => ⟨S1x24, .i32⟩
  | 86 => ⟨S1x24, .i32⟩
  | 87 => ⟨S1x24, .i32⟩
  | 88 => ⟨S_, .i32⟩
  | 89 => ⟨S16x24, .i32⟩
  | 90 => ⟨S16x24, .i1⟩
  | 91 => ⟨S_, .i32⟩
  | 92 => ⟨S16x24, .i32⟩
  | 93 => ⟨S16x24, .i32⟩
  | 94 => ⟨S16x24, .i32⟩
  | 95 => ⟨S16x24, .i32⟩
  | 96 => ⟨S16x24, .i32⟩
  | 97 => ⟨S16x24x1, .i32⟩
  | 98 => ⟨S16x24x1, .i32⟩
  | 99 => ⟨S16x24x1, .i32⟩
  | 100 => ⟨S16x24x3, .i32⟩
  | 101 => ⟨S_, .i1⟩
  | 102 => ⟨S16x24, .i1⟩
  | 103 => ⟨S16x24x8732, .i1⟩
  | 104 => ⟨S16x8732x24, .i1⟩
  | 105 => ⟨S_, .i1⟩
  | 106 => ⟨S16x8732, .i1⟩
  | 107 => ⟨S_, .f32⟩
  | 108 => ⟨S16x8732, .f32⟩
  | 109 => ⟨S16x8732x1, .f32⟩
  | 110 => ⟨S16x8732x81, .f32⟩
  | 111 => ⟨S16x8732x81, .f32⟩
  | 112 => ⟨S16x8732x81, .f32⟩
  | 113 => ⟨S_, .f32⟩
  | 114 => ⟨S16x8732, .f32⟩
  | 115 => ⟨S16x8732, .f32⟩
  | 116 => ⟨S16x8732, .f32⟩
  | 117 => ⟨S16x8732x1, .f32⟩
  | 118 => ⟨S16x8732, .f32⟩
  | 119 => ⟨S16x8732, .f32⟩
  | 120 => ⟨S_, .f32⟩
  | 121 => ⟨S_, .f32⟩
  | 122 => ⟨S16x8732, .f32⟩
  | 123 => ⟨S16x8732, .f32⟩
  | 124 => ⟨S16x8732, .f32⟩
  | 125 => ⟨S16x8732, .i32⟩
  | 126 => ⟨S16x8732, .f32⟩
  | 127 => ⟨S16x8732, .i32⟩
  | _ => ⟨S16x8732x4, .f32⟩

abbrev hbmTy0_1 (i : Nat) : BufTy := match i % 128 with
  | 0 => ⟨S16x8732, .i32⟩
  | 1 => ⟨S16x8732, .i32⟩
  | 2 => ⟨S16x8732, .i32⟩
  | 3 => ⟨S16x8732, .i32⟩
  | 4 => ⟨S_, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S16x1, .i32⟩
  | 14 => ⟨S16x8732, .i32⟩
  | 15 => ⟨S16x8732, .i1⟩
  | 16 => ⟨S16x8732x24, .f32⟩
  | 17 => ⟨S16x8732, .f32⟩
  | 18 => ⟨S16x1x24x4, .f32⟩
  | 19 => ⟨S1x8732x1x4, .f32⟩
  | 20 => ⟨S16x1x24x2, .f32⟩
  | 21 => ⟨S16x1x24x2, .f32⟩
  | 22 => ⟨S16x1x24x2, .f32⟩
  | 23 => ⟨S_, .f32⟩
  | 24 => ⟨S16x1x24x2, .f32⟩
  | 25 => ⟨S16x1x24x2, .f32⟩
  | 26 => ⟨S16x1x24x2, .f32⟩
  | 27 => ⟨S16x1x24x2, .f32⟩
  | 28 => ⟨S16x1x24x2, .f32⟩
  | 29 => ⟨S_, .f32⟩
  | 30 => ⟨S_, .f32⟩
  | 31 => ⟨S16x1x24x2, .f32⟩
  | 32 => ⟨S16x1x24x2, .f32⟩
  | 33 => ⟨S1x8732x1x2, .f32⟩
  | 34 => ⟨S1x8732x1x2, .f32⟩
  | 35 => ⟨S1x8732x1x2, .f32⟩
  | 36 => ⟨S_, .f32⟩
  | 37 => ⟨S1x8732x1x2, .f32⟩
  | 38 => ⟨S1x8732x1x2, .f32⟩
  | 39 => ⟨S1x8732x1x2, .f32⟩
  | 40 => ⟨S1x8732x1x2, .f32⟩
  | 41 => ⟨S1x8732x1x2, .f32⟩
  | 42 => ⟨S_, .f32⟩
  | 43 => ⟨S_, .f32⟩
  | 44 => ⟨S1x8732x1x2, .f32⟩
  | 45 => ⟨S1x8732x1x2, .f32⟩
  | 46 => ⟨S16x8732x24x2, .f32⟩
  | 47 => ⟨S16x8732x24x2, .f32⟩
  | 48 => ⟨S16x8732x24x2, .f32⟩
  | 49 => ⟨S_, .f32⟩
  | 50 => ⟨S1x8732x1x2, .f32⟩
  | 51 => ⟨S1x8732x1x2, .f32⟩
  | 52 => ⟨S16x8732x24x2, .f32⟩
  | 53 => ⟨S16x8732x24x2, .f32⟩
  | 54 => ⟨S16x8732x24x2, .f32⟩
  | 55 => ⟨S16x8732x24x2, .f32⟩
  | 56 => ⟨S16x8732x24x2, .f32⟩
  | 57 => ⟨S_, .f32⟩
  | 58 => ⟨S_, .f32⟩
  | 59 => ⟨S16x8732x24x2, .f32⟩
  | 60 => ⟨S16x8732x24x2, .f32⟩
  | 61 => ⟨S16x8732x24x2, .f32⟩
  | 62 => ⟨S_, .f32⟩
  | 63 => ⟨S16x8732x24x2, .f32⟩
  | 64 => ⟨S16x8732x24x2, .f32⟩
  | 65 => ⟨S16x8732x24x4, .f32⟩
  | 66 => ⟨S16x8732x1x4, .f32⟩
  | 67 => ⟨S16x8732x24x4, .f32⟩
  | 68 => ⟨S16x8732x24x4, .f32⟩
  | 69 => ⟨S16x8732x24x4, .f32⟩
  | 70 => ⟨S_, .f32⟩
  | 71 => ⟨S16x8732x24x4, .f32⟩
  | 72 => ⟨S16x8732x24x4, .i1⟩
  | 73 => ⟨S_, .f32⟩
  | 74 => ⟨S16x8732x24x4, .f32⟩
  | 75 => ⟨S16x8732x24x4, .f32⟩
  | 76 => ⟨S16x8732x24x4, .f32⟩
  | 77 => ⟨S_, .f32⟩
  | 78 => ⟨S16x8732x24x4, .f32⟩
  | 79 => ⟨S16x8732x24x4, .f32⟩
  | 80 => ⟨S16x8732x24x4, .f32⟩
  | 81 => ⟨S_, .f32⟩
  | 82 => ⟨S_, .f32⟩
  | 83 => ⟨S_, .f32⟩
  | 84 => ⟨S_, .f32⟩
  | 85 => ⟨S_, .f32⟩
  | 86 => ⟨S16x8732x24x1, .f32⟩
  | 87 => ⟨S16x8732x24x4, .f32⟩
  | 88 => ⟨S16x8732x24x4, .f32⟩
  | 89 => ⟨S_, .f32⟩
  | 90 => ⟨S_, .f32⟩
  | 91 => ⟨S_, .f32⟩
  | 92 => ⟨S_, .f32⟩
  | 93 => ⟨S16x8732, .f32⟩
  | 94 => ⟨S16x8732x1, .f32⟩
  | 95 => ⟨S16x8732x81, .f32⟩
  | 96 => ⟨S16x8732x81, .f32⟩
  | 97 => ⟨S16x8732x81, .f32⟩
  | 98 => ⟨S_, .f32⟩
  | 99 => ⟨S16x8732, .f32⟩
  | 100 => ⟨S16x8732, .f32⟩
  | 101 => ⟨S16x8732, .f32⟩
  | 102 => ⟨S16x1x24, .i32⟩
  | 103 => ⟨S16x8732x24, .i32⟩
  | 104 => ⟨S_, .i32⟩
  | 105 => ⟨S16x8732x24, .i32⟩
  | 106 => ⟨S16x8732x24, .i1⟩
  | 107 => ⟨S_, .i32⟩
  | 108 => ⟨S16x8732x24, .i32⟩
  | 109 => ⟨S16x8732x24, .i32⟩
  | 110 => ⟨S16x8732x24, .i32⟩
  | 111 => ⟨S16x8732x24x1, .i32⟩
  | 112 => ⟨S1, .i32⟩
  | 113 => ⟨S_, .i32⟩
  | 114 => ⟨S16x8732x24x1, .i32⟩
  | 115 => ⟨S16x8732x24x1, .i1⟩
  | 116 => ⟨S1x1x1x1, .i32⟩
  | 117 => ⟨S16x8732x24x1, .i32⟩
  | 118 => ⟨S16x8732x24x1, .i1⟩
  | 119 => ⟨S16x8732x24x1, .i1⟩
  | 120 => ⟨S_, .i1⟩
  | 121 => ⟨S16x8732x24, .i1⟩
  | 122 => ⟨S16x8732x24, .f32⟩
  | 123 => ⟨S_, .f32⟩
  | 124 => ⟨S16x8732x24, .f32⟩
  | 125 => ⟨S16x8732x24, .f32⟩
  | 126 => ⟨S16x8732x1, .f32⟩
  | 127 => ⟨S16x8732x24, .f32⟩
  | _ => ⟨S16x8732x4, .f32⟩

abbrev hbmTy0_2 (i : Nat) : BufTy := match i % 128 with
  | 0 => ⟨S16x8732x24, .f32⟩
  | 1 => ⟨S16x8732x1, .f32⟩
  | 2 => ⟨S16x8732, .f32⟩
  | 3 => ⟨S16x8732, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S16x8732x24, .f32⟩
  | 13 => ⟨S_, .f32⟩
  | 14 => ⟨S_, .f32⟩
  | 15 => ⟨S16x8732, .f32⟩
  | 16 => ⟨S_, .f32⟩
  | 17 => ⟨S_, .f32⟩
  | 18 => ⟨S_, .f32⟩
  | 19 => ⟨S_, .f32⟩
  | 20 => ⟨S_, .f32⟩
  | 21 => ⟨S1, .f32⟩
  | 22 => ⟨S1, .f32⟩
  | 23 => ⟨S1, .f32⟩
  | 24 => ⟨S3, .f32⟩
  | _ => ⟨S16x8732x4, .f32⟩

abbrev hbmTy (i : Nat) : BufTy := match i / 128 with
  | 0 => hbmTy0_0 i
  | 1 => hbmTy0_1 i
  | 2 => hbmTy0_2 i
  | _ => ⟨S16x8732x4, .f32⟩

abbrev bufTy : (tb : Table) → Fin (tcTables nBuf tb) → BufTy
  | .hbm, ⟨i, _⟩ => hbmTy i
  | _, _ => ⟨S16x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_call1_v0 : Ref sig .tc := ⟨.hbm, 58, rfl⟩
abbrev main_call1_v1 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_call2_v0 : Ref sig .tc := ⟨.hbm, 65, rfl⟩
abbrev main_call2_cst : Ref sig .tc := ⟨.hbm, 66, rfl⟩
abbrev main_call2_c : Ref sig .tc := ⟨.hbm, 67, rfl⟩
abbrev main_call2_v1_0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c : Ref sig .tc := ⟨.hbm, 74, rfl⟩
abbrev main_v58 : Ref sig .tc := ⟨.hbm, 75, rfl⟩
abbrev main_v59 : Ref sig .tc := ⟨.hbm, 76, rfl⟩
abbrev main_c_2 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_3 : Ref sig .tc := ⟨.hbm, 81, rfl⟩
abbrev main_v63 : Ref sig .tc := ⟨.hbm, 82, rfl⟩
abbrev main_v64 : Ref sig .tc := ⟨.hbm, 83, rfl⟩
abbrev main_c_4 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_5 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_7 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_8 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_11 : Ref sig .tc := ⟨.hbm, 120, rfl⟩
abbrev main_call3_v0 : Ref sig .tc := ⟨.hbm, 121, rfl⟩
abbrev main_call3_v1 : Ref sig .tc := ⟨.hbm, 122, rfl⟩
abbrev main_v94 : Ref sig .tc := ⟨.hbm, 123, rfl⟩
abbrev main_v95 : Ref sig .tc := ⟨.hbm, 124, rfl⟩
abbrev main_call4_v0 : Ref sig .tc := ⟨.hbm, 125, rfl⟩
abbrev main_call4_v1_0 : Ref sig .tc := ⟨.hbm, 126, rfl⟩
abbrev main_v96 : Ref sig .tc := ⟨.hbm, 127, rfl⟩
abbrev main_call5_v0 : Ref sig .tc := ⟨.hbm, 128, rfl⟩
abbrev main_call5_v1_0 : Ref sig .tc := ⟨.hbm, 129, rfl⟩
abbrev main_v97 : Ref sig .tc := ⟨.hbm, 130, rfl⟩
abbrev main_v98 : Ref sig .tc := ⟨.hbm, 131, rfl⟩
abbrev main_c_12 : Ref sig .tc := ⟨.hbm, 132, rfl⟩
abbrev main_v99 : Ref sig .tc := ⟨.hbm, 133, rfl⟩
abbrev main_c_13 : Ref sig .tc := ⟨.hbm, 134, rfl⟩
abbrev main_v100 : Ref sig .tc := ⟨.hbm, 135, rfl⟩
abbrev main_v101 : Ref sig .tc := ⟨.hbm, 136, rfl⟩
abbrev main_c_14 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_15 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_16 : Ref sig .tc := ⟨.hbm, 157, rfl⟩
abbrev main_call6_v0 : Ref sig .tc := ⟨.hbm, 158, rfl⟩
abbrev main_call6_v1 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_17 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_18 : Ref sig .tc := ⟨.hbm, 170, rfl⟩
abbrev main_call7_v0 : Ref sig .tc := ⟨.hbm, 171, rfl⟩
abbrev main_call7_v1 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_19 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_20 : Ref sig .tc := ⟨.hbm, 185, rfl⟩
abbrev main_call8_v0 : Ref sig .tc := ⟨.hbm, 186, rfl⟩
abbrev main_call8_v1 : Ref sig .tc := ⟨.hbm, 187, rfl⟩
abbrev main_v140 : Ref sig .tc := ⟨.hbm, 188, rfl⟩
abbrev main_v141 : Ref sig .tc := ⟨.hbm, 189, rfl⟩
abbrev main_cst_21 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_22 : Ref sig .tc := ⟨.hbm, 198, rfl⟩
abbrev main_v149 : Ref sig .tc := ⟨.hbm, 199, rfl⟩
abbrev main_v150 : Ref sig .tc := ⟨.hbm, 200, rfl⟩
abbrev main_cst_23 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_24 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_25 : Ref sig .tc := ⟨.hbm, 209, rfl⟩
abbrev main_v157 : Ref sig .tc := ⟨.hbm, 210, rfl⟩
abbrev main_cst_26 : Ref sig .tc := ⟨.hbm, 211, rfl⟩
abbrev main_call10_v0 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_27 : Ref sig .tc := ⟨.hbm, 217, rfl⟩
abbrev main_v162 : Ref sig .tc := ⟨.hbm, 218, rfl⟩
abbrev main_v163 : Ref sig .tc := ⟨.hbm, 219, rfl⟩
abbrev main_cst_28 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_29 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_call11_c : Ref sig .tc := ⟨.hbm, 232, rfl⟩
abbrev main_call11_v0 : Ref sig .tc := ⟨.hbm, 233, rfl⟩
abbrev main_call11_v1 : Ref sig .tc := ⟨.hbm, 234, rfl⟩
abbrev main_call11_c_0 : Ref sig .tc := ⟨.hbm, 235, rfl⟩
abbrev main_call11_v2 : Ref sig .tc := ⟨.hbm, 236, rfl⟩
abbrev main_call11_v3 : Ref sig .tc := ⟨.hbm, 237, rfl⟩
abbrev main_call11_v4 : Ref sig .tc := ⟨.hbm, 238, rfl⟩
abbrev main_call11_v5 : Ref sig .tc := ⟨.hbm, 239, rfl⟩
abbrev main_call11_c_1 : Ref sig .tc := ⟨.hbm, 240, rfl⟩
abbrev main_call11_c_2 : Ref sig .tc := ⟨.hbm, 241, rfl⟩
abbrev main_call11_v6 : Ref sig .tc := ⟨.hbm, 242, rfl⟩
abbrev main_call11_v7 : Ref sig .tc := ⟨.hbm, 243, rfl⟩
abbrev main_call11_v8 : Ref sig .tc := ⟨.hbm, 244, rfl⟩
abbrev main_call11_v9 : Ref sig .tc := ⟨.hbm, 245, rfl⟩
abbrev main_call11_v10 : Ref sig .tc := ⟨.hbm, 246, rfl⟩
abbrev main_call11_v11 : Ref sig .tc := ⟨.hbm, 247, rfl⟩
abbrev main_call11_c_3 : Ref sig .tc := ⟨.hbm, 248, rfl⟩
abbrev main_call11_v12 : Ref sig .tc := ⟨.hbm, 249, rfl⟩
abbrev main_call11_v13 : Ref sig .tc := ⟨.hbm, 250, rfl⟩
abbrev main_call11_cst : Ref sig .tc := ⟨.hbm, 251, rfl⟩
abbrev main_call11_v14 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_cst_30 : Ref sig .tc := ⟨.hbm, 260, rfl⟩
abbrev main_v181 : Ref sig .tc := ⟨.hbm, 261, rfl⟩
abbrev main_cst_31 : Ref sig .tc := ⟨.hbm, 262, rfl⟩
abbrev main_v182 : Ref sig .tc := ⟨.hbm, 263, rfl⟩
abbrev main_v183 : Ref sig .tc := ⟨.hbm, 264, rfl⟩
abbrev main_cst_32 : Ref sig .tc := ⟨.hbm, 265, rfl⟩
abbrev main_call12_v0 : Ref sig .tc := ⟨.hbm, 266, rfl⟩
abbrev main_v184 : Ref sig .tc := ⟨.hbm, 267, rfl⟩
abbrev main_v185 : Ref sig .tc := ⟨.hbm, 268, rfl⟩
abbrev main_cst_33 : Ref sig .tc := ⟨.hbm, 269, rfl⟩
abbrev main_v186 : Ref sig .tc := ⟨.hbm, 270, rfl⟩
abbrev main_v187 : Ref sig .tc := ⟨.hbm, 271, rfl⟩
abbrev main_cst_34 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩

abbrev nD : Nat := 1
abbrev τ : Topo := Topo.v7x

variable {F : FTy → Type} [FloatOps F]
-- ==== Proof.KernelIdeal.Body.lean ====
/-
  The kernel's body, run once at symbolic operands: what it leaves in the output window and in its four scratch buffers, as
  functions of the blocks it reads and of the scratches it finds.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents type of memref `M`'s buffer on core `c`. -/
abbrev Held (c : Dev nD) {sp : Space} {S : Shape} {e : EltTy} (M : Memref sig .tc sp S e) : Type :=
  Buf (Elt F) (M.view.loc (c : Thread nD τ))

/-- Memref `M`'s buffer on core `c`, held whole at contents `f`. -/
abbrev pt (c : Dev nD) {sp : Space} {S : Shape} {e : EltTy} (M : Memref sig .tc sp S e) (f : Held (F := F) c M) : sProp 𝕄 :=
  M.view.loc (c : Thread nD τ) ↦{fullShare} f

/-- What one grid point leaves in the output window and the four scratches, with the proof that the kernel, from its input
    windows held at `f1 … f5`, the output window at `f6` and the scratches at `f7 … f10`, runs to its return handing the inputs
    back as they were and the other five buffers at these contents. -/
def kernelRun (c : Dev nD) (i : grid0.Coords)
    (arg1 : Memref sig .tc .vmem S81x8x8732 .f32) (harg1 : arg1.IsWhole) (arg2 : Memref sig .tc .vmem S1x4x8732 .f32) (harg2 : arg2.IsWhole)
    (arg3 : Memref sig .tc .vmem S1x24x4 .f32) (harg3 : arg3.IsWhole) (arg4 : Memref sig .tc .vmem S1x1x24 .i32) (harg4 : arg4.IsWhole)
    (arg5 : Memref sig .tc .vmem S4x8732 .f32) (harg5 : arg5.IsWhole) (arg6 : Memref sig .tc .smem S3 .f32) (harg6 : arg6.IsWhole)
    (arg7 : Memref sig .tc .vmem S16x8732 .f32) (harg7 : arg7.IsWhole) (arg8 : Memref sig .tc .vmem S16x128 .f32) (harg8 : arg8.IsWhole)
    (arg9 : Memref sig .tc .vmem S8x8732 .f32) (harg9 : arg9.IsWhole) (arg10 : Memref sig .tc .smem S4 .f32) (harg10 : arg10.IsWhole)
    (f1 : Held (F := F) c arg1) (f2 : Held (F := F) c arg2) (f3 : Held (F := F) c arg3) (f4 : Held (F := F) c arg4)
    (f5 : Held (F := F) c arg5) (f6 : Held (F := F) c arg6) (f7 : Held (F := F) c arg7) (f8 : Held (F := F) c arg8)
    (f9 : Held (F := F) c arg9) (f10 : Held (F := F) c arg10) :
    { W : Held (F := F) c arg6 × Held (F := F) c arg7 × Held (F := F) c arg8 × Held (F := F) c arg9 × Held (F := F) c arg10 //
      ∀ K : PUnit → sProp 𝕄,
        iprop(pt c arg1 f1 ∗ pt c arg2 f2 ∗ pt c arg3 f3 ∗ pt c arg4 f4 ∗ pt c arg5 f5 ∗ pt c arg6 f6 ∗ pt c arg7 f7
            ∗ pt c arg8 f8 ∗ pt c arg9 f9 ∗ pt c arg10 f10
            ∗ (iprop(pt c arg1 f1 ∗ pt c arg2 f2 ∗ pt c arg3 f3 ∗ pt c arg4 f4 ∗ pt c arg5 f5 ∗ pt c arg6 W.1 ∗ pt c arg7 W.2.1
                ∗ pt c arg8 W.2.2.1 ∗ pt c arg9 W.2.2.2.1 ∗ pt c arg10 W.2.2.2.2) -∗ K ⟨⟩))
          ⊢ wp frame (wpE (defs₀ (F := F)) Variants.none c none) Set.univ
              (cc0__loss_kernel i arg1 harg1 arg2 harg2 arg3 harg3 arg4 harg4 arg5 harg5 arg6 harg6 arg7 harg7 arg8 harg8 arg9 harg9
                arg10 harg10) K } := by
  refine ⟨⟨?_, ?_, ?_, ?_, ?_⟩, fun K => ?run⟩
  case run =>
    simp only [cc0__loss_kernel_eq_skeleton]; unfold cc0__loss_kernel_skel
    iintro ⟨H1, H2, H3, H4, H5, H6, H7, H8, H9, H10, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

omit [FloatOps F] in
/-- A whole buffer owned at the contents that read `X` is held at those contents. -/
theorem owns_whole_eq (c : Dev nD) {sp : Space} {S : Shape} {e : EltTy} (M : Memref sig .tc sp S e) (h : M.IsWhole) (X : S.Idx → Elt F e) :
    (owns (c : Thread nD τ) M fullShare X : sProp 𝕄) = pt c M (h.unread X) := by
  have h₁ : (owns (c : Thread nD τ) M fullShare X : sProp 𝕄) ⊢ pt c M (h.unread X) := by
    unfold owns
    rw [h.set_eq_univ]
    iintro ⟨%f, %hf, H⟩
    rw [h.eq_unread hf]; iexact H
  have h₂ : (pt c M (h.unread X) : sProp 𝕄) ⊢ owns (c : Thread nD τ) M fullShare X := by
    unfold owns
    rw [h.set_eq_univ]
    iintro H
    iexists _; isplitr; swap; · iexact H
    ipureintro; exact h.read_unread X
  exact BI.equiv_iff.mp ⟨h₁, h₂⟩

/-- What a point leaves, from the blocks `X1 … X5` its input windows hold, the output window at `X6` and the scratches. -/
def left (c : Dev nD) (i : grid0.Coords)
    (arg1 : Memref sig .tc .vmem S81x8x8732 .f32) (harg1 : arg1.IsWhole) (arg2 : Memref sig .tc .vmem S1x4x8732 .f32) (harg2 : arg2.IsWhole)
    (arg3 : Memref sig .tc .vmem S1x24x4 .f32) (harg3 : arg3.IsWhole) (arg4 : Memref sig .tc .vmem S1x1x24 .i32) (harg4 : arg4.IsWhole)
    (arg5 : Memref sig .tc .vmem S4x8732 .f32) (harg5 : arg5.IsWhole) (arg6 : Memref sig .tc .smem S3 .f32) (harg6 : arg6.IsWhole)
    (X1 : S81x8x8732.Idx → Elt F .f32) (X2 : S1x4x8732.Idx → Elt F .f32) (X3 : S1x24x4.Idx → Elt F .f32) (X4 : S1x1x24.Idx → Elt F .i32)
    (X5 : S4x8732.Idx → Elt F .f32) (X6 : S3.Idx → Elt F .f32)
    (f7 : Held (F := F) c (Memref.whole cc0_scratch0)) (f8 : Held (F := F) c (Memref.whole cc0_scratch1))
    (f9 : Held (F := F) c (Memref.whole cc0_scratch2)) (f10 : Held (F := F) c (Memref.whole cc0_scratch3)) :=
  kernelRun c i arg1 harg1 arg2 harg2 arg3 harg3 arg4 harg4 arg5 harg5 arg6 harg6
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (harg1.unread X1) (harg2.unread X2) (harg3.unread X3) (harg4.unread X4) (harg5.unread X5) (harg6.unread X6) f7 f8 f9 f10

/-- The body's triple over owned windows. -/
theorem kernelTriple (c : Dev nD) (i : grid0.Coords)
    (arg1 : Memref sig .tc .vmem S81x8x8732 .f32) (harg1 : arg1.IsWhole) (arg2 : Memref sig .tc .vmem S1x4x8732 .f32) (harg2 : arg2.IsWhole)
    (arg3 : Memref sig .tc .vmem S1x24x4 .f32) (harg3 : arg3.IsWhole) (arg4 : Memref sig .tc .vmem S1x1x24 .i32) (harg4 : arg4.IsWhole)
    (arg5 : Memref sig .tc .vmem S4x8732 .f32) (harg5 : arg5.IsWhole) (arg6 : Memref sig .tc .smem S3 .f32) (harg6 : arg6.IsWhole)
    (X1 : S81x8x8732.Idx → Elt F .f32) (X2 : S1x4x8732.Idx → Elt F .f32) (X3 : S1x24x4.Idx → Elt F .f32) (X4 : S1x1x24.Idx → Elt F .i32)
    (X5 : S4x8732.Idx → Elt F .f32) (X6 : S3.Idx → Elt F .f32)
    (f7 : Held (F := F) c (Memref.whole cc0_scratch0)) (f8 : Held (F := F) c (Memref.whole cc0_scratch1))
    (f9 : Held (F := F) c (Memref.whole cc0_scratch2)) (f10 : Held (F := F) c (Memref.whole cc0_scratch3)) (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ pt c (Memref.whole cc0_scratch0) f7 ∗ pt c (Memref.whole cc0_scratch1) f8 ∗ pt c (Memref.whole cc0_scratch2) f9
        ∗ pt c (Memref.whole cc0_scratch3) f10
        ∗ (iprop(owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5
            ∗ owns (c : Thread nD τ) arg6 fullShare (arg6.view.read (Elt F) (left c i arg1 harg1 arg2 harg2 arg3 harg3 arg4 harg4 arg5 harg5 arg6 harg6 X1 X2 X3 X4 X5 X6 f7 f8 f9 f10).1.1)
            ∗ pt c (Memref.whole cc0_scratch0) (left c i arg1 harg1 arg2 harg2 arg3 harg3 arg4 harg4 arg5 harg5 arg6 harg6 X1 X2 X3 X4 X5 X6 f7 f8 f9 f10).1.2.1
            ∗ pt c (Memref.whole cc0_scratch1) (left c i arg1 harg1 arg2 harg2 arg3 harg3 arg4 harg4 arg5 harg5 arg6 harg6 X1 X2 X3 X4 X5 X6 f7 f8 f9 f10).1.2.2.1
            ∗ pt c (Memref.whole cc0_scratch2) (left c i arg1 harg1 arg2 harg2 arg3 harg3 arg4 harg4 arg5 harg5 arg6 harg6 X1 X2 X3 X4 X5 X6 f7 f8 f9 f10).1.2.2.2.1
            ∗ pt c (Memref.whole cc0_scratch3) (left c i arg1 harg1 arg2 harg2 arg3 harg3 arg4 harg4 arg5 harg5 arg6 harg6 X1 X2 X3 X4 X5 X6 f7 f8 f9 f10).1.2.2.2.2) -∗ K ⟨⟩))
      ⊢ wp frame (wpE (defs₀ (F := F)) Variants.none c none) Set.univ
          (cc0__loss_kernel i arg1 harg1 arg2 harg2 arg3 harg3 arg4 harg4 arg5 harg5 arg6 harg6
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  rw [owns_whole_eq c arg1 harg1, owns_whole_eq c arg2 harg2, owns_whole_eq c arg3 harg3, owns_whole_eq c arg4 harg4,
    owns_whole_eq c arg5 harg5, owns_whole_eq c arg6 harg6, owns_whole_eq c arg6 harg6, harg6.unread_read]
  exact (left c i arg1 harg1 arg2 harg2 arg3 harg3 arg4 harg4 arg5 harg5 arg6 harg6 X1 X2 X3 X4 X5 X6 f7 f8 f9 f10).2 K

end Cert.KernelIdeal.Hand

end
-- ==== Proof.KernelIdeal.Frame.lean ====
/-
  The kernel's frame: the region's proof data with the output window left unnamed, the body obligation from the body's run, and
  the launch, which ends with every argument as it was and every semaphore counter at zero.
-/
module

public import proofs.«01_k».proof.Proof.KernelIdeal.Body
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window's contents are not followed. -/
def forgets : Fin 6 → Bool := fun w => w == 5

/-- What is held between grid points: the four scratches and the generator register, at anything. -/
def Held0 (c : Dev nD) : sProp 𝕄 :=
  iprop(((∃ f, pt c (Memref.whole cc0_scratch0) f) ∗ (∃ f, pt c (Memref.whole cc0_scratch1) f)
    ∗ (∃ f, pt c (Memref.whole cc0_scratch2) f) ∗ (∃ f, pt c (Memref.whole cc0_scratch3) f)) ∗ ∃ r, prngReg c r)

/-- The proof data on core `c`: arrays as the region finds them, the input windows left at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Held0 c
  q _ := fullShare
  owed _ := 0

theorem A_eq (c : Dev nD) (w : Fin cfg0.W) : (dats m 0 c).A w = V m c (Pipeline.arrRef spec0 w) := by dsimp only [dats]

/-- What a grid point finds in an input window is the block fetched there. -/
theorem before0 (c : Dev nD) (t : Fin cfg0.N) (d) : (dats m 0 c).before 0 t d = iblk m c 0 t :=
  before0_0_of m _ (A_eq m c 0) (fun _ => rfl) t d
theorem before1 (c : Dev nD) (t : Fin cfg0.N) (d) : (dats m 0 c).before 1 t d = iblk m c 1 t :=
  before0_1_of m _ (A_eq m c 1) (fun _ => rfl) t d
theorem before2 (c : Dev nD) (t : Fin cfg0.N) (d) : (dats m 0 c).before 2 t d = iblk m c 2 t :=
  before0_2_of m _ (A_eq m c 2) (fun _ => rfl) t d
theorem before3 (c : Dev nD) (t : Fin cfg0.N) (d) : (dats m 0 c).before 3 t d = iblk m c 3 t :=
  before0_3_of m _ (A_eq m c 3) (fun _ => rfl) t d
theorem before4 (c : Dev nD) (t : Fin cfg0.N) (d) : (dats m 0 c).before 4 t d = iblk m c 4 t :=
  before0_4_of m _ (A_eq m c 4) (fun _ => rfl) t d

/-- What the body is called with at point `t`. -/
def bodyPre (c : Dev nD) (t : Fin cfg0.N) : sProp 𝕄 :=
  iprop(Held0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- What the body returns at point `t`. -/
def bodyPost (c : Dev nD) (t : Fin cfg0.N) : sProp 𝕄 :=
  iprop(Held0 c ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, owns (c : Thread nD τ) (st0_5 t) fullShare X))

/-- The body at a point, from the body's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Held0
  simp only [before0, before1, before2, before3, before4]
  rw [show (dats m 0 c).owesAt () t.succ = (dats m 0 c).owesAt () t.castSucc from rfl]
  iintro ⟨⟨⟨⟨%f7, H7⟩, ⟨%f8, H8⟩, ⟨%f9, H9⟩, ⟨%f10, H10⟩⟩, Hg⟩, HO, ⟨%d1, H1⟩, ⟨%d2, H2⟩, ⟨%d3, H3⟩, ⟨%d4, H4⟩, ⟨%d5, H5⟩, ⟨%X6, H6⟩⟩
  iapply (kernelTriple c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (iblk m c 0 t) (iblk m c 1 t) (iblk m c 2 t) (iblk m c 3 t) (iblk m c 4 t) X6 f7 f8 f9 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  isplitl [H7 H8 H9 H10 Hg]
  · isplitl [H7 H8 H9 H10]
    · isplitl [H7]; · iexists _; iexact H7
      isplitl [H8]; · iexists _; iexact H8
      isplitl [H9]; · iexists _; iexact H9
      iexists _; iexact H10
    iexact Hg
  isplitl [HO]; · iexact HO
  isplitl [H1]; · iexact H1
  isplitl [H2]; · iexact H2
  isplitl [H3]; · iexact H3
  isplitl [H4]; · iexact H4
  isplitl [H5]; · iexact H5
  iexists _; iexact H6

/-- The body table's row at a point is the body as called there. -/
theorem defs₀_row (t : Fin cfg0.N) : defs₀ (F := F) .tc cfg0.body (cfg0.bodyArgs t (cfg0.slots t)) = bodyAt0 t := by
  unfold defs₀; rw [Defs.onTc_tc]

/-- The body obligation, the output window unnamed. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

theorem held0_eq (c : Dev nD) : (Pipeline.ΦA spec0 c : sProp 𝕄) = Held0 c := by
  unfold Pipeline.ΦA Held0; rw [scopedRest0_eq]

set_option backward.isDefEq.respectTransparency.types false in
/-- Every fair execution ends with the arrays that are not the output as the region found them and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => by rw [held0_eq]; exact .rfl) (hout := fun c => by rw [held0_eq]; exact .rfl)

/-- Every fair execution ends with the arguments unchanged and every counter at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((Pipeline.Dat.toRForget_arrAt_iff (dat := dats m 0 c) (w := 2) rfl _ _).mp ((h.1 c).1 2)).trans
        (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.KernelIdeal.Hand

end
-- ==== Proof.Loss.Spec.lean ====
/-
  The multi-box loss in the kernel's arrangement, over plain functions: one image's matches, its background losses, its
  smooth-L1 sum and its cross-entropy sum, the bisection for the hard negatives, and the three results over the batch.
-/
module

public import Idealize.ShloMosaic.PureOps.Ideal
public import Idealize.ShloMosaic.PureOps.Reduce
public import Mathlib.Data.Fintype.BigOperators

@[expose] public section

noncomputable section

namespace Cert.Loss

open Idealize.ShloMosaic
open scoped Classical

/-- The extended real a binary32 pattern denotes. -/
abbrev lit (w : BitVec 32) : EReal := Ideal.ofBits .f32 w

/-- A corner box: x0, y0, x1, y1. -/
abbrev Box := Fin 4 → EReal

def wid (t p : Box) : EReal := max 0 (min (t 2) (p 2) - max (t 0) (p 0))
def hei (t p : Box) : EReal := max 0 (min (t 3) (p 3) - max (t 1) (p 1))
def area (p : Box) : EReal := (p 2 - p 0) * (p 3 - p 1)

/-- Intersection over union of an object's box and a prior box. -/
def iou (t p : Box) : EReal :=
  Ideal.div (wid t p * hei t p) (max (lit 0x3089705F#32) (area t + area p - wid t p * hei t p))

/-- `a` is the first place of the greatest value. -/
def Best {n : ℕ} (f : Fin n → EReal) (a : Fin n) : Prop := (∀ j, f j ≤ f a) ∧ ∀ j, f j = f a → a ≤ j

/-- The object `t` matches anchor `a`. -/
def Pos (t : Box) (p : Fin 8732 → Box) (a : Fin 8732) : Prop :=
  lit 0x3EB33333#32 < iou t (p a) ∨ Best (fun j => iou t (p j)) a

def posf (t : Box) (p : Fin 8732 → Box) (a : Fin 8732) : EReal := if Pos t p a then 1 else 0

/-- Some object matches anchor `a`. -/
def Any (t : Fin 24 → Box) (p : Fin 8732 → Box) (a : Fin 8732) : Prop := ∃ o, Pos (t o) p a

/-- How many objects match anchor `a`. -/
def cnt (t : Fin 24 → Box) (p : Fin 8732 → Box) (a : Fin 8732) : EReal := ∑ o, posf (t o) p a

/-- The background loss of an anchor's logits. -/
def bg (l : Fin 81 → EReal) : EReal := Ideal.log (∑ c, Ideal.exp (min (l c - l 0) (lit 0x42A00000#32)))

/-- The background losses, the matched anchors masked. -/
def cand (t : Fin 24 → Box) (p : Fin 8732 → Box) (l : Fin 8732 → Fin 81 → EReal) (a : Fin 8732) : EReal :=
  if Any t p a then lit 0xCE6E6B28#32 else bg (l a)

/-- How many anchors some object matches. -/
def npos (t : Fin 24 → Box) (p : Fin 8732 → Box) : EReal := ∑ a, if Any t p a then 1 else 0

/-- How many pairs of an object and an anchor match. -/
def pairs (t : Fin 24 → Box) (p : Fin 8732 → Box) : EReal := ∑ a, cnt t p a

/-- The logit of class `g`, as a sum against the one-hot row. -/
def pick (g : BitVec 32) (l : Fin 81 → EReal) : EReal := ∑ c : Fin 81, (if BitVec.ofNat 32 c.val = g then 1 else 0) * l c

/-- The matched pairs' cross-entropy. -/
def cep (t : Fin 24 → Box) (p : Fin 8732 → Box) (l : Fin 8732 → Fin 81 → EReal) (g : Fin 24 → BitVec 32) : EReal :=
  (∑ a, cnt t p a * (bg (l a) + l a 0)) - ∑ o, ∑ a, posf (t o) p a * pick (g o) (l a)

/-- The reciprocal of the scale variance. -/
def kap : EReal := ((67108864 / 13421773 : ℝ) : EReal)

def rinv (lo hi : EReal) : EReal := Ideal.div 1 (max (lit 0x358637BD#32) (hi - lo) * lit 0x3DCCCCCD#32)

/-- The offset of a center coordinate: the prediction against an object's interval and a prior's. -/
def dc (q t0 t1 p0 p1 : EReal) : EReal :=
  q + (p0 + p1) * lit 0x3F000000#32 * rinv p0 p1 - (t0 + t1) * lit 0x3F000000#32 * rinv p0 p1

/-- The offset of a size. -/
def ds (q t0 t1 p0 p1 : EReal) : EReal :=
  q + Ideal.log (max (lit 0x358637BD#32) (p1 - p0)) * kap - Ideal.log (max (lit 0x358637BD#32) (t1 - t0)) * kap

/-- The smooth-L1 loss. -/
def sl1 (d : EReal) : EReal :=
  if max d (-d) < 1 then lit 0x3F000000#32 * d * d else max d (-d) - lit 0x3F000000#32

/-- The smooth-L1 loss of a prediction `q` against object `t` at prior `p`. -/
def box4 (q t p : Box) : EReal :=
  sl1 (dc (q 0) (t 0) (t 2) (p 0) (p 2)) + sl1 (dc (q 1) (t 1) (t 3) (p 1) (p 3)) + sl1 (ds (q 2) (t 0) (t 2) (p 0) (p 2))
    + sl1 (ds (q 3) (t 1) (t 3) (p 1) (p 3))

def box (q : Fin 8732 → Box) (t : Fin 24 → Box) (p : Fin 8732 → Box) : EReal :=
  ∑ o, ∑ a, box4 (q a) (t o) (p a) * posf (t o) p a

/-- How many hard negatives are mined. -/
def kk (n : EReal) : EReal := min (lit 0x40E00000#32 * n) (lit 0x46087000#32 - n)

/-- Where the bisection starts. -/
def lo0 (v : Fin 8732 → EReal) : EReal :=
  Finset.univ.fold min (lit 0x7F800000#32) (fun a => if v a < lit 0xCCBEBC20#32 then 0 else v a) - 1
def hi0 (v : Fin 8732 → EReal) : EReal := max (Finset.univ.fold max (lit 0xFF800000#32) v) (lo0 v + 1)

/-- How many losses exceed `x`. -/
def above (v : Fin 8732 → EReal) (x : EReal) : EReal := ∑ a, if x < v a then 1 else 0

/-- One bisection step. -/
def stepB (v : Fin 8732 → EReal) (k : EReal) (x : EReal × EReal) : EReal × EReal :=
  if k ≤ above v (lit 0x3F000000#32 * (x.1 + x.2)) then (lit 0x3F000000#32 * (x.1 + x.2), x.2)
  else (x.1, lit 0x3F000000#32 * (x.1 + x.2))

/-- The cut the bisection ends at. -/
def cut (v : Fin 8732 → EReal) (k : EReal) : EReal := ((stepB v k)^[42] (lo0 v, hi0 v)).1

/-- The hard negatives' loss. -/
def neg (v : Fin 8732 → EReal) (k : EReal) : EReal :=
  if lit 0x3F000000#32 < k then
    (∑ a, if cut v k < v a then v a else 0) - (above v (cut v k) - k) * cut v k
  else 0

/-- The five arguments, as functions of their indices. -/
structure In where
  q : Fin 16 → Fin 8732 → Box
  l : Fin 16 → Fin 8732 → Fin 81 → EReal
  t : Fin 16 → Fin 24 → Box
  p : Fin 8732 → Box
  g : Fin 16 → Fin 24 → BitVec 32

namespace In

variable (x : In)

def kOf (b : Fin 16) : EReal := kk (npos (x.t b) x.p)
def negOf (b : Fin 16) : EReal := neg (cand (x.t b) x.p (x.l b)) (x.kOf b)
def pairsTot : EReal := ∑ b, pairs (x.t b) x.p
def boxTot : EReal := ∑ b, box (x.q b) (x.t b) x.p
def cepTot : EReal := ∑ b, cep (x.t b) x.p (x.l b) (x.g b)

/-- The three results. -/
def boxLoss : EReal := Ideal.div x.boxTot (max x.pairsTot 1)
def clsLoss : EReal := Ideal.div (x.cepTot + ∑ b, x.negOf b) (max (x.pairsTot + ∑ b, x.kOf b) 1)
def out : Fin 3 → EReal := ![x.boxLoss, x.clsLoss, x.boxLoss + x.clsLoss]

end In

end Cert.Loss

end
-- ==== Proof.Loss.Words.lean ====
/- Small facts of words, bits and binary32 patterns at the extended reals. -/
module

public import proofs.«01_k».proof.Proof.Loss.Spec

@[expose] public section

noncomputable section

namespace Cert.Loss

open Idealize.ShloMosaic
open scoped Classical

theorem lit_half : lit 0x3F000000#32 = ((1 / 2 : ℝ) : EReal) := by
  simp [lit, Ideal.ofBits, Ideal.ieee, -EReal.coe_mul]; norm_num
theorem lit_80 : lit 0x42A00000#32 = ((80 : ℝ) : EReal) := by
  simp [lit, Ideal.ofBits, Ideal.ieee, -EReal.coe_mul]; norm_num
theorem lit_m1e8 : lit 0xCCBEBC20#32 = ((-100000000 : ℝ) : EReal) := by
  simp [lit, Ideal.ofBits, Ideal.ieee, -EReal.coe_mul, -EReal.coe_neg]; norm_num
theorem lit_m1e9 : lit 0xCE6E6B28#32 = ((-1000000000 : ℝ) : EReal) := by
  simp [lit, Ideal.ofBits, Ideal.ieee, -EReal.coe_mul, -EReal.coe_neg]; norm_num
theorem lit_7 : lit 0x40E00000#32 = ((7 : ℝ) : EReal) := by
  simp [lit, Ideal.ofBits, Ideal.ieee, -EReal.coe_mul]; norm_num
theorem lit_8732 : lit 0x46087000#32 = ((8732 : ℝ) : EReal) := by
  simp [lit, Ideal.ofBits, Ideal.ieee, -EReal.coe_mul]; norm_num
theorem lit_1 : lit 0x3F800000#32 = ((1 : ℝ) : EReal) := by
  simp [lit, Ideal.ofBits, Ideal.ieee, -EReal.coe_mul]; norm_num
theorem lit_2 : lit 0x40000000#32 = ((2 : ℝ) : EReal) := by
  simp [lit, Ideal.ofBits, Ideal.ieee, -EReal.coe_mul]; norm_num
theorem lit_bot : lit 0xFF800000#32 = ⊥ := by simp [lit, Ideal.ofBits, Ideal.ieee]
theorem lit_top : lit 0x7F800000#32 = ⊤ := by simp [lit, Ideal.ofBits, Ideal.ieee]
theorem lit_eps : lit 0x358637BD#32 = ((8796093 / 8796093022208 : ℝ) : EReal) := by
  simp [lit, Ideal.ofBits, Ideal.ieee, -EReal.coe_mul]; norm_num
theorem lit_tenth : lit 0x3DCCCCCD#32 = ((13421773 / 134217728 : ℝ) : EReal) := by
  simp [lit, Ideal.ofBits, Ideal.ieee, -EReal.coe_mul]; norm_num
theorem lit_fifth : lit 0x3E4CCCCD#32 = ((13421773 / 67108864 : ℝ) : EReal) := by
  simp [lit, Ideal.ofBits, Ideal.ieee, -EReal.coe_mul]; norm_num
theorem lit_gap : lit 0x2E000000#32 = ((1 / 2 ^ 35 : ℝ) : EReal) := by
  simp [lit, Ideal.ofBits, Ideal.ieee, -EReal.coe_mul]; norm_num

/-- A bit widened and converted is one or zero. -/
theorem sitofp_bit (b : BitVec 1) : (FloatOps.sitofp .f32 (BitVec.setWidth 32 b) : Ideal .f32) = if b = 1#1 then (1 : EReal) else 0 := by
  show (((BitVec.setWidth 32 b).toInt : ℝ) : EReal) = _
  rcases (show b = 0#1 ∨ b = 1#1 by revert b; decide) with rfl | rfl
  · rw [if_neg (by decide), show (BitVec.setWidth 32 0#1).toInt = 0 by decide]; simp
  · rw [if_pos rfl, show (BitVec.setWidth 32 1#1).toInt = 1 by decide]; simp

theorem uitofp_bit (b : BitVec 1) : (FloatOps.uitofp .f32 b : Ideal .f32) = if b = 1#1 then (1 : EReal) else 0 := by
  show ((b.toNat : ℝ) : EReal) = _
  rcases (show b = 0#1 ∨ b = 1#1 by revert b; decide) with rfl | rfl
  · rw [if_neg (by decide)]; simp
  · rw [if_pos rfl]; simp

theorem ofBool_one (b : Bool) : BitVec.ofBool b = 1#1 ↔ b = true := by cases b <;> decide

theorem ori_one (x y : BitVec 1) : IntOp.ori x y = 1#1 ↔ x = 1#1 ∨ y = 1#1 := by
  revert x y; decide

theorem cmpi_eq_one {w : ℕ} (x y : BitVec w) : IntOp.cmpi .eq x y = 1#1 ↔ x = y := by
  simp [IntOp.cmpi, ofBool_one]

/-- The least of small words is the word of the least number. -/
theorem fold_minsi {n : ℕ} (s : Finset (Fin n)) (f : Fin n → ℕ) (hf : ∀ i, f i < 2 ^ 31) (m : ℕ) (hm : m < 2 ^ 31) :
    s.fold IntOp.minsi (BitVec.ofNat 32 m) (fun i => BitVec.ofNat 32 (f i)) = BitVec.ofNat 32 (s.fold min m f)
      ∧ s.fold min m f < 2 ^ 31 := by
  induction s using Finset.induction_on with
  | empty => exact ⟨rfl, hm⟩
  | insert a s ha ih =>
    rw [Finset.fold_insert ha, Finset.fold_insert ha, ih.1]
    have h1 := hf a
    have h2 := ih.2
    refine ⟨?_, lt_of_le_of_lt (min_le_left _ _) h1⟩
    have e : ∀ k : ℕ, k < 2 ^ 31 → (BitVec.ofNat 32 k).toInt = k := fun k hk => by
      rw [BitVec.toInt_eq_toNat_of_lt (by rw [BitVec.toNat_ofNat, Nat.mod_eq_of_lt (by omega)]; omega), BitVec.toNat_ofNat,
        Nat.mod_eq_of_lt (by omega)]
    unfold IntOp.minsi
    rw [BitVec.slt_eq_decide, e _ h1, e _ h2]
    rcases lt_or_ge (f a) (s.fold min m f) with h | h
    · rw [if_pos (by simpa using h), min_eq_left h.le]
    · rw [if_neg (by simpa using h), min_eq_right h]

theorem fold_max_eq_sup {n : ℕ} (f : Fin n → EReal) : Finset.univ.fold max (lit 0xFF800000#32) f = Finset.univ.sup f := by
  rw [lit_bot]; rfl

/-- The least place that holds the greatest value, as the kernel finds it, is the first such place. -/
theorem best_iff (f : Fin 8732 → EReal) (a : Fin 8732) :
    BitVec.ofNat 32 a.val = Finset.univ.fold IntOp.minsi (2147483647#32)
        (fun x => if f x = Finset.univ.fold max (lit 0xFF800000#32) f then BitVec.ofNat 32 x.val else 8732#32) ↔ Best f a := by
  rw [fold_max_eq_sup]
  set M := Finset.univ.sup f with hM
  have hle : ∀ j, f j ≤ M := fun j => Finset.le_sup (Finset.mem_univ j)
  obtain ⟨j0, -, hj0⟩ := Finset.exists_mem_eq_sup (Finset.univ : Finset (Fin 8732)) ⟨0, Finset.mem_univ _⟩ f
  have e : (fun x : Fin 8732 => if f x = M then BitVec.ofNat 32 x.val else 8732#32)
      = fun x : Fin 8732 => BitVec.ofNat 32 (if f x = M then x.val else 8732) := by
    funext x; split_ifs <;> rfl
  rw [e]
  obtain ⟨e1, e2⟩ := fold_minsi Finset.univ (fun x : Fin 8732 => if f x = M then x.val else 8732)
    (fun i => by split_ifs <;> omega) 2147483647 (by norm_num)
  rw [e1]
  set N := Finset.univ.fold min 2147483647 (fun x : Fin 8732 => if f x = M then x.val else 8732) with hN
  have hmin : ∀ c : ℕ, c ≤ N ↔ c ≤ 2147483647 ∧ ∀ x : Fin 8732, c ≤ if f x = M then x.val else 8732 := fun c => by
    rw [hN, Finset.le_fold_min]; simp
  have hNj : ∀ x : Fin 8732, N ≤ if f x = M then x.val else 8732 := ((hmin N).1 le_rfl).2
  have heq : BitVec.ofNat 32 a.val = BitVec.ofNat 32 N ↔ a.val = N := by
    constructor
    · intro h
      have := congrArg BitVec.toNat h
      rw [BitVec.toNat_ofNat, BitVec.toNat_ofNat, Nat.mod_eq_of_lt (by omega), Nat.mod_eq_of_lt (by omega)] at this
      exact this
    · intro h; rw [h]
  rw [heq]
  constructor
  · intro h
    have ha : f a = M := by
      by_contra hne
      have h0 := hNj j0
      rw [if_pos (by rw [← hj0])] at h0
      -- every place of the greatest value is past `a`, so the least is not `a`
      have : a.val + 1 ≤ N := (hmin _).2 ⟨by omega, fun x => by
        split_ifs with hx
        · have h3 := hNj x
          rw [if_pos hx] at h3
          have : x ≠ a := fun hxa => hne (hxa ▸ hx)
          have : x.val ≠ a.val := fun hxa => this (Fin.ext hxa)
          omega
        · omega⟩
      omega
    refine ⟨fun j => ha ▸ hle j, fun j hj => ?_⟩
    have := hNj j
    rw [if_pos (hj.trans ha)] at this
    exact Fin.le_def.2 (by omega)
  · rintro ⟨h1, h2⟩
    have ha : f a = M := le_antisymm (hle a) (by rw [hM, hj0]; exact h1 j0)
    apply le_antisymm
    · refine (hmin _).2 ⟨by omega, fun x => ?_⟩
      split_ifs with hx
      · exact Fin.le_def.1 (h2 x (hx.trans ha.symm))
      · omega
    · have := hNj a
      rwa [if_pos ha] at this

theorem cnt_pos (t : Fin 24 → Box) (p : Fin 8732 → Box) (a : Fin 8732) : 0 < cnt t p a ↔ Any t p a := by
  have h0 : ∀ o, 0 ≤ posf (t o) p a := fun o => by unfold posf; split_ifs <;> norm_num
  unfold cnt Any
  constructor
  · intro h
    by_contra hn
    have : ∀ o, posf (t o) p a = 0 := fun o => if_neg fun ho => hn ⟨o, ho⟩
    simp [this] at h
  · rintro ⟨o, ho⟩
    refine lt_of_lt_of_le ?_ (Finset.single_le_sum (fun o _ => h0 o) (Finset.mem_univ o))
    rw [posf, if_pos ho]; norm_num

end Cert.Loss

end
-- ==== Proof.KernelIdeal.Pays.lean ====
/- The values the kernel's body computes at one grid point, read at an index over the extended reals. -/
module

public import proofs.«01_k».proof.Proof.Gen.KernelIdeal.Skeleton
public import proofs.«01_k».proof.Proof.Loss.Words
public import Idealize.ShloMosaic.Lib.Pointwise
public import Idealize.ShloMosaic.PureOps.IdealRules

@[expose] public section

set_option maxRecDepth 16384

noncomputable section

namespace Cert.KernelIdeal.Hand

open Cert.KernelIdeal Cert.KernelIdeal.Gen Idealize.ShloMosaic Idealize.ShloMosaic.TcCoe
open Cert.Loss
open scoped Classical

section Blocks

variable {F : FTy → Type} [FloatOps F] [Named F]

/-- The matches, from the true boxes, the priors and the row of prior areas. -/
def kPosf (T : Vec F S1x24x4 .f32) (P : Vec F S4x8732 .f32) (r6 : Vec F S1x8732 .f32) : FVec F S24x8732 .f32 :=
  k0_pay42 (k0_pay36 T) (k0_pay37 T) (k0_pay38 T) (k0_pay39 T) (k0_pay40 P T) (k0_pay41 P T) (Scalar.ofBits .f32 0x00000000#32) r6
def kCnt (T : Vec F S1x24x4 .f32) (P : Vec F S4x8732 .f32) (r6 : Vec F S1x8732 .f32) : FVec F S1x8732 .f32 :=
  k0_pay43 (k0_pay36 T) (k0_pay37 T) (k0_pay38 T) (k0_pay39 T) (k0_pay40 P T) (k0_pay41 P T) (Scalar.ofBits .f32 0x00000000#32) r6
def kAny (T : Vec F S1x24x4 .f32) (P : Vec F S4x8732 .f32) (r6 : Vec F S1x8732 .f32) : IVec S1x8732 1 :=
  k0_pay44 (k0_pay36 T) (k0_pay37 T) (k0_pay38 T) (k0_pay39 T) (k0_pay40 P T) (k0_pay41 P T) (Scalar.ofBits .f32 0x00000000#32) r6
def kNpos (T : Vec F S1x24x4 .f32) (P : Vec F S4x8732 .f32) (r6 : Vec F S1x8732 .f32) : F .f32 :=
  k0_pay45 (k0_pay36 T) (k0_pay37 T) (k0_pay38 T) (k0_pay39 T) (k0_pay40 P T) (k0_pay41 P T) (Scalar.ofBits .f32 0x00000000#32) r6
def kPairs (T : Vec F S1x24x4 .f32) (P : Vec F S4x8732 .f32) (r6 : Vec F S1x8732 .f32) : F .f32 :=
  k0_pay46 (k0_pay36 T) (k0_pay37 T) (k0_pay38 T) (k0_pay39 T) (k0_pay40 P T) (k0_pay41 P T) (Scalar.ofBits .f32 0x00000000#32) r6

/-- The masked background losses. -/
def kCand (T : Vec F S1x24x4 .f32) (P : Vec F S4x8732 .f32) (r6 : Vec F S1x8732 .f32) (L : Vec F S81x1x8732 .f32) : FVec F S1x8732 .f32 :=
  k0_pay52 (kAny T P r6) (k0_pay48 (k0_pay32 L)) k0_pay49

/-- The matched pairs' cross-entropy. -/
def kCep (T : Vec F S1x24x4 .f32) (P : Vec F S4x8732 .f32) (r6 : Vec F S1x8732 .f32) (L : Vec F S81x1x8732 .f32)
    (G : Vec F S1x1x24 .i32) : F .f32 :=
  k0_pay51 (k0_pay32 L) (k0_pay35 G) (kPosf T P r6) (kCnt T P r6) (k0_pay47 (k0_pay32 L)) (k0_pay48 (k0_pay32 L)) k0_pay49

/-- The matched pairs' smooth-L1 loss. -/
def kBox (Q : Vec F S1x4x8732 .f32) (T : Vec F S1x24x4 .f32) (P : Vec F S4x8732 .f32) (r0 r1 r2 r3 r4 r5 r6 : Vec F S1x8732 .f32) : F .f32 :=
  k0_pay65 (kPosf T P r6)
    (k0_pay58 (k0_pay37 T) (k0_pay39 T) r1 (k0_pay55 (k0_pay33 Q) r3))
    (k0_pay59 (k0_pay36 T) (k0_pay38 T) (k0_pay56 (k0_pay33 Q)) r4)
    (k0_pay60 (k0_pay33 Q) (k0_pay37 T) (k0_pay39 T) r5)
    (k0_pay62 (k0_pay36 T) (k0_pay38 T) r0 (k0_pay54 (k0_pay33 Q) r2))
    (k0_pay63 (k0_pay36 T) (k0_pay38 T) r0 (k0_pay54 (k0_pay33 Q) r2))
    (k0_pay64 (k0_pay36 T) (k0_pay38 T) r0 (k0_pay54 (k0_pay33 Q) r2))

/-- The rows the first point fills. -/
def kRow0 (P : Vec F S4x8732 .f32) : FVec F S1x8732 .f32 := k0_pay11 (k0_pay25 P) (k0_pay27 P)
def kRow1 (P : Vec F S4x8732 .f32) : FVec F S1x8732 .f32 := k0_pay12 (k0_pay26 P) (k0_pay28 P)
def kRow2 (P : Vec F S4x8732 .f32) : FVec F S1x8732 .f32 := k0_pay13 (k0_pay25 P) (k0_pay27 P)
def kRow3 (P : Vec F S4x8732 .f32) : FVec F S1x8732 .f32 := k0_pay14 (k0_pay26 P) (k0_pay28 P)
def kRow4 (P : Vec F S4x8732 .f32) : FVec F S1x8732 .f32 := k0_pay29 (k0_pay15 (k0_pay25 P) (k0_pay27 P))
def kRow5 (P : Vec F S4x8732 .f32) : FVec F S1x8732 .f32 := k0_pay30 (k0_pay8 (k0_pay26 P) (k0_pay28 P))
def kRow6 (P : Vec F S4x8732 .f32) : FVec F S1x8732 .f32 := k0_pay31 P

end Blocks

def tOf (T : Vec Ideal S1x24x4 .f32) (o : Fin 24) : Box := fun j => T (ix3 0 o j)
def pOf (P : Vec Ideal S4x8732 .f32) (a : Fin 8732) : Box := fun j => P (ix2 j a)
def qOf (Q : Vec Ideal S1x4x8732 .f32) (a : Fin 8732) : Box := fun j => Q (ix3 0 j a)
def lOf (L : Vec Ideal S81x1x8732 .f32) (a : Fin 8732) (c : Fin 81) : EReal := L (ix3 c 0 a)
def gOf (G : Vec Ideal S1x1x24 .i32) (o : Fin 24) : BitVec 32 := G (ix3 0 0 o)

variable (T : Vec Ideal S1x24x4 .f32) (P : Vec Ideal S4x8732 .f32) (Q : Vec Ideal S1x4x8732 .f32) (L : Vec Ideal S81x1x8732 .f32)
  (G : Vec Ideal S1x1x24 .i32) (r0 r1 r2 r3 r4 r5 r6 : Vec Ideal S1x8732 .f32)

theorem named_kap : (Named.named κ "inv_var_s" 0x40A00000#32 : Ideal .f32) = kap :=
  IdealRules.named_const.ideal_named_scalar _ _ _ _ rfl

theorem kRow0_apply (a : Fin 8732) : kRow0 P (ix2 0 a) = rinv (pOf P a 0) (pOf P a 2) := by
  unfold kRow0 rinv pOf; pointwise [k0_pay11, k0_pay9, k0_pay7, k0_pay25, k0_pay27, k0_pay24]
theorem kRow1_apply (a : Fin 8732) : kRow1 P (ix2 0 a) = rinv (pOf P a 1) (pOf P a 3) := by
  unfold kRow1 rinv pOf; pointwise [k0_pay12, k0_pay10, k0_pay8, k0_pay26, k0_pay28, k0_pay24]
theorem kRow2_apply (a : Fin 8732) : kRow2 P (ix2 0 a) = (pOf P a 0 + pOf P a 2) * lit 0x3F000000#32 * rinv (pOf P a 0) (pOf P a 2) := by
  unfold kRow2 rinv pOf; pointwise [k0_pay13, k0_pay9, k0_pay7, k0_pay25, k0_pay27, k0_pay24]
theorem kRow3_apply (a : Fin 8732) : kRow3 P (ix2 0 a) = (pOf P a 1 + pOf P a 3) * lit 0x3F000000#32 * rinv (pOf P a 1) (pOf P a 3) := by
  unfold kRow3 rinv pOf; pointwise [k0_pay14, k0_pay10, k0_pay8, k0_pay26, k0_pay28, k0_pay24]
theorem kRow4_apply (a : Fin 8732) : kRow4 P (ix2 0 a) = Ideal.log (max (lit 0x358637BD#32) (pOf P a 2 - pOf P a 0)) * kap := by
  rw [← named_kap]; unfold kRow4 pOf; pointwise [k0_pay29, k0_pay15, k0_pay7, k0_pay25, k0_pay27, k0_pay24]
theorem kRow5_apply (a : Fin 8732) : kRow5 P (ix2 0 a) = Ideal.log (max (lit 0x358637BD#32) (pOf P a 3 - pOf P a 1)) * kap := by
  rw [← named_kap]; unfold kRow5 pOf; pointwise [k0_pay30, k0_pay8, k0_pay26, k0_pay28, k0_pay24]
theorem kRow6_apply (a : Fin 8732) : kRow6 P (ix2 0 a) = area (pOf P a) := by
  unfold kRow6 area pOf; pointwise [k0_pay31, k0_pay25, k0_pay26, k0_pay27, k0_pay28, k0_pay24]

theorem pay40_apply (o : Fin 24) (a : Fin 8732) : k0_pay40 P T (ix2 o a) = wid (tOf T o) (pOf P a) := by
  unfold wid tOf pOf; pointwise [k0_pay40, k0_pay25, k0_pay27, k0_pay24, k0_pay36, k0_pay38, k0_pay34]
theorem pay41_apply (o : Fin 24) (a : Fin 8732) : max 0 (k0_pay41 P T (ix2 o a)) = hei (tOf T o) (pOf P a) := by
  unfold hei tOf pOf; pointwise [k0_pay41, k0_pay26, k0_pay28, k0_pay24, k0_pay37, k0_pay39, k0_pay34]
theorem pay36_apply (o : Fin 24) : k0_pay36 T (ix2 o 0) = tOf T o 0 := by
  unfold tOf; pointwise [k0_pay36, k0_pay34]
theorem pay37_apply (o : Fin 24) : k0_pay37 T (ix2 o 0) = tOf T o 1 := by
  unfold tOf; pointwise [k0_pay37, k0_pay34]
theorem pay38_apply (o : Fin 24) : k0_pay38 T (ix2 o 0) = tOf T o 2 := by
  unfold tOf; pointwise [k0_pay38, k0_pay34]
theorem pay39_apply (o : Fin 24) : k0_pay39 T (ix2 o 0) = tOf T o 3 := by
  unfold tOf; pointwise [k0_pay39, k0_pay34]

theorem zero_cst : (Scalar.ofBits .f32 0x00000000#32 : Ideal .f32) = (0 : EReal) := by
  show Ideal.ofBits .f32 0x00000000#32 = 0
  simp [Ideal.ofBits, Ideal.ieee]

theorem kPosf_apply (h6 : ∀ a, r6 (ix2 0 a) = area (pOf P a)) (o : Fin 24) (a : Fin 8732) :
    kPosf T P r6 (ix2 o a) = posf (tOf T o) (pOf P) a := by
  unfold kPosf
  pointwise [k0_pay42, pay40_apply, pay41_apply, pay36_apply, pay37_apply, pay38_apply, pay39_apply, h6]
  rw [sitofp_bit, posf]
  refine if_congr ?_ rfl rfl
  rw [Pos, ori_one, ofBool_one, decide_eq_true_iff, cmpi_eq_one]
  refine or_congr Iff.rfl ?_
  rw [← best_iff]
  exact Iff.rfl

theorem kCnt_apply (h6 : ∀ a, r6 (ix2 0 a) = area (pOf P a)) (a : Fin 8732) : kCnt T P r6 (ix2 0 a) = cnt (tOf T) (pOf P) a := by
  have e : ∀ o, kPosf T P r6 (ix2 o a) = posf (tOf T o) (pOf P) a := fun o => kPosf_apply T P r6 h6 o a
  unfold kPosf at e
  unfold kCnt cnt
  rw [zero_cst] at e ⊢
  pointwise [k0_pay43, e]

theorem kAny_apply (h6 : ∀ a, r6 (ix2 0 a) = area (pOf P a)) (a : Fin 8732) : kAny T P r6 (ix2 0 a) = 1#1 ↔ Any (tOf T) (pOf P) a := by
  have h := kCnt_apply T P r6 h6 a
  unfold kCnt at h
  unfold kAny
  rw [zero_cst] at h ⊢
  rw [← cnt_pos]
  pointwise [k0_pay44, h]
  rw [ofBool_one, decide_eq_true_iff]

theorem kNpos_eq (h6 : ∀ a, r6 (ix2 0 a) = area (pOf P a)) : kNpos T P r6 = npos (tOf T) (pOf P) := by
  have h : ∀ a, _ := fun a => kAny_apply T P r6 h6 a
  unfold kAny at h
  unfold kNpos npos
  rw [zero_cst] at h ⊢
  pointwise [k0_pay45, sitofp_bit, Fin.sum_univ_one]
  exact Finset.sum_congr rfl fun a _ => if_congr (h a) rfl rfl

theorem kPairs_eq (h6 : ∀ a, r6 (ix2 0 a) = area (pOf P a)) : kPairs T P r6 = pairs (tOf T) (pOf P) := by
  have h : ∀ a, _ := fun a => kCnt_apply T P r6 h6 a
  unfold kCnt at h
  unfold kPairs pairs
  rw [zero_cst] at h ⊢
  pointwise [k0_pay46, h, Fin.sum_univ_one]

theorem pay50_apply (a : Fin 8732) : k0_pay50 (k0_pay48 (k0_pay32 L)) k0_pay49 (ix2 0 a) = bg (lOf L a) := by
  unfold bg lOf
  pointwise [k0_pay50, k0_pay48, k0_pay49, k0_pay47, k0_pay32]

theorem kCand_apply (h6 : ∀ a, r6 (ix2 0 a) = area (pOf P a)) (a : Fin 8732) :
    kCand T P r6 L (ix2 0 a) = cand (tOf T) (pOf P) (lOf L) a := by
  unfold kCand cand
  rw [← pay50_apply L]
  pointwise [k0_pay52]
  exact if_congr (kAny_apply T P r6 h6 a) rfl rfl

theorem kCep_eq (h6 : ∀ a, r6 (ix2 0 a) = area (pOf P a)) : kCep T P r6 L G = cep (tOf T) (pOf P) (lOf L) (gOf G) := by
  unfold kCep cep pick
  pointwise [k0_pay51, kCnt_apply T P r6 h6, kPosf_apply T P r6 h6, pay50_apply, sitofp_bit, cmpi_eq_one]
  unfold lOf gOf
  pointwise [k0_pay32, k0_pay35, k0_pay47]
  rw [Fin.sum_univ_one]

theorem kBox_eq (h0 : r0 = kRow0 P) (h1 : r1 = kRow1 P) (h2 : r2 = kRow2 P) (h3 : r3 = kRow3 P) (h4 : r4 = kRow4 P) (h5 : r5 = kRow5 P)
    (h6 : r6 = kRow6 P) : kBox Q T P r0 r1 r2 r3 r4 r5 r6 = box (qOf Q) (tOf T) (pOf P) := by
  have h6' : ∀ a, r6 (ix2 0 a) = area (pOf P a) := fun a => h6 ▸ kRow6_apply P a
  subst h0 h1 h2 h3 h4 h5
  unfold kBox box box4
  pointwise [k0_pay65, k0_pay58, k0_pay59, k0_pay60, k0_pay62, k0_pay63, k0_pay64, k0_pay61, k0_pay57, k0_pay54, k0_pay55, k0_pay56, k0_pay33,
    kPosf_apply T P r6 h6', kRow0_apply, kRow1_apply, kRow2_apply, kRow3_apply, kRow4_apply, kRow5_apply,
    pay36_apply, pay37_apply, pay38_apply, pay39_apply]
  rw [named_kap]
  rfl

end Cert.KernelIdeal.Hand

end
-- ==== Proof.KernelIdeal.Step.lean ====
/- What one grid point leaves, as stores of the body's values over the contents it found. -/
module

public import proofs.«01_k».proof.Proof.KernelIdeal.Body
public import proofs.«01_k».proof.Proof.KernelIdeal.Pays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The grid's first point; a later point; as the body tests them. -/
def isFirst (i : grid0.Coords) : BitVec 1 := kernelRun.sl.v8 i
def isLater (i : grid0.Coords) : BitVec 1 := kernelRun.sl.v221 i

/-- The rows the first point stores. -/
def rowPieces (P : Vec F S4x8732 .f32) : List (View.Piece (Elt F) S8x8732 .f32) :=
  [⟨Rect.unit ![6, 0] S1x8732.size inb_S8x8732_S1x8732_6_0, kRow6 P⟩, ⟨Rect.unit ![5, 0] S1x8732.size inb_S8x8732_S1x8732_5_0, kRow5 P⟩,
    ⟨Rect.unit ![4, 0] S1x8732.size inb_S8x8732_S1x8732_4_0, kRow4 P⟩, ⟨Rect.unit ![3, 0] S1x8732.size inb_S8x8732_S1x8732_3_0, kRow3 P⟩,
    ⟨Rect.unit ![2, 0] S1x8732.size inb_S8x8732_S1x8732_2_0, kRow2 P⟩, ⟨Rect.unit ![1, 0] S1x8732.size inb_S8x8732_S1x8732_1_0, kRow1 P⟩,
    ⟨Rect.unit ![0, 0] S1x8732.size inb_S8x8732_S1x8732_0_0, kRow0 P⟩]

section Links

variable (c : Dev nD) (i : grid0.Coords)
  (arg1 : Memref sig .tc .vmem S81x8x8732 .f32) (harg1 : arg1.IsWhole) (arg2 : Memref sig .tc .vmem S1x4x8732 .f32) (harg2 : arg2.IsWhole)
  (arg3 : Memref sig .tc .vmem S1x24x4 .f32) (harg3 : arg3.IsWhole) (arg4 : Memref sig .tc .vmem S1x1x24 .i32) (harg4 : arg4.IsWhole)
  (arg5 : Memref sig .tc .vmem S4x8732 .f32) (harg5 : arg5.IsWhole) (arg6 : Memref sig .tc .smem S3 .f32) (harg6 : arg6.IsWhole)
  (arg7 : Memref sig .tc .vmem S16x8732 .f32) (harg7 : arg7.IsWhole) (arg8 : Memref sig .tc .vmem S16x128 .f32) (harg8 : arg8.IsWhole)
  (arg9 : Memref sig .tc .vmem S8x8732 .f32) (harg9 : arg9.IsWhole) (arg10 : Memref sig .tc .smem S4 .f32) (harg10 : arg10.IsWhole)
  (f1 : Held (F := F) c arg1) (f2 : Held (F := F) c arg2) (f3 : Held (F := F) c arg3) (f4 : Held (F := F) c arg4)
  (f5 : Held (F := F) c arg5) (f6 : Held (F := F) c arg6) (f7 : Held (F := F) c arg7) (f8 : Held (F := F) c arg8)
  (f9 : Held (F := F) c arg9) (f10 : Held (F := F) c arg10)

def rdL : Vec F S81x1x8732 .f32 := View.readAt (Elt F) arg1.view (Rect.unit (s := S81x8x8732) (k0_off1 i) S81x1x8732.size (k0_off1_inb i)).toLoadRect f1
def rdQ : Vec F S1x4x8732 .f32 := View.readAt (Elt F) arg2.view (Rect.unit (s := S1x4x8732) ![0, 0, 0] S1x4x8732.size inb_S1x4x8732_S1x4x8732_0_0_0).toLoadRect f2
def rdT : Vec F S1x24x4 .f32 := View.readAt (Elt F) arg3.view (Rect.unit (s := S1x24x4) ![0, 0, 0] S1x24x4.size inb_S1x24x4_S1x24x4_0_0_0).toLoadRect f3
def rdG : Vec F S1x1x24 .i32 := View.readAt (Elt F) arg4.view (Rect.unit (s := S1x1x24) ![0, 0, 0] S1x1x24.size inb_S1x1x24_S1x1x24_0_0_0).toLoadRect f4
def rdP : Vec F S4x8732 .f32 := View.readAt (Elt F) arg5.view (Rect.unit (s := S4x8732) ![0, 0] S4x8732.size inb_S4x8732_S4x8732_0_0).toLoadRect f5

/-- The row scratch after the point's first store. -/
def nine : Held (F := F) c arg9 := if hc : isFirst i = 1#1 then arg9.view.writes (Elt F) f9 (rowPieces (rdP c arg5 f5)) else f9

def rdRow (o : ℕ) (h : ∀ a : Fin 2, (![o, 0] : Fin 2 → ℕ) a + S1x8732.size a ≤ S8x8732.size a) : Vec F S1x8732 .f32 :=
  View.readAt (Elt F) arg9.view (Rect.unit (s := S8x8732) ![o, 0] S1x8732.size h).toLoadRect (nine c i arg5 arg9 f5 f9)

def g0 : Vec F S1x8732 .f32 := rdRow c i arg5 arg9 f5 f9 0 inb_S8x8732_S1x8732_0_0
def g1 : Vec F S1x8732 .f32 := rdRow c i arg5 arg9 f5 f9 1 inb_S8x8732_S1x8732_1_0
def g2 : Vec F S1x8732 .f32 := rdRow c i arg5 arg9 f5 f9 2 inb_S8x8732_S1x8732_2_0
def g3 : Vec F S1x8732 .f32 := rdRow c i arg5 arg9 f5 f9 3 inb_S8x8732_S1x8732_3_0
def g4 : Vec F S1x8732 .f32 := rdRow c i arg5 arg9 f5 f9 4 inb_S8x8732_S1x8732_4_0
def g5 : Vec F S1x8732 .f32 := rdRow c i arg5 arg9 f5 f9 5 inb_S8x8732_S1x8732_5_0
def g6 : Vec F S1x8732 .f32 := rdRow c i arg5 arg9 f5 f9 6 inb_S8x8732_S1x8732_6_0

def vPairs : F .f32 := kPairs (rdT c arg3 f3) (rdP c arg5 f5) (g6 c i arg5 arg9 f5 f9)
def vNpos : F .f32 := kNpos (rdT c arg3 f3) (rdP c arg5 f5) (g6 c i arg5 arg9 f5 f9)
def vCand : FVec F S1x8732 .f32 := kCand (rdT c arg3 f3) (rdP c arg5 f5) (g6 c i arg5 arg9 f5 f9) (rdL c i arg1 f1)
def vCep : F .f32 := kCep (rdT c arg3 f3) (rdP c arg5 f5) (g6 c i arg5 arg9 f5 f9) (rdL c i arg1 f1) (rdG c arg4 f4)
def vBox : F .f32 := kBox (rdQ c arg2 f2) (rdT c arg3 f3) (rdP c arg5 f5) (g0 c i arg5 arg9 f5 f9) (g1 c i arg5 arg9 f5 f9)
  (g2 c i arg5 arg9 f5 f9) (g3 c i arg5 arg9 f5 f9) (g4 c i arg5 arg9 f5 f9) (g5 c i arg5 arg9 f5 f9) (g6 c i arg5 arg9 f5 f9)

def seven : Held (F := F) c arg7 :=
  arg7.view.writes (Elt F) f7 [⟨Rect.unit (s := S16x8732) (k0_off2 i) S1x8732.size (k0_off2_inb i), vCand c i arg1 arg3 arg5 arg9 f1 f3 f5 f9⟩]
def eight : Held (F := F) c arg8 :=
  arg8.view.writes (Elt F) f8 [⟨Rect.unit (s := S16x128) (k0_off3 i) S1x1.size (k0_off3_inb i), k0_pay53 (vNpos c i arg3 arg5 arg9 f3 f5 f9)⟩]

/-- The accumulators after the first point's stores. -/
def ten0 : Held (F := F) c arg10 :=
  if hc : isFirst i = 1#1 then
    arg10.view.writes (Elt F) f10
      [⟨Rect.unit (s := S4) ![2] S1.size inb_S4_S1_2, fun _ => vCep c i arg1 arg3 arg4 arg5 arg9 f1 f3 f4 f5 f9⟩,
        ⟨Rect.unit (s := S4) ![1] S1.size inb_S4_S1_1, fun _ => vBox c i arg2 arg3 arg5 arg9 f2 f3 f5 f9⟩,
        ⟨Rect.unit (s := S4) ![0] S1.size inb_S4_S1_0, fun _ => vPairs c i arg3 arg5 arg9 f3 f5 f9⟩]
  else f10

def cell0 (g : Held (F := F) c arg10) : F .f32 :=
  View.readAt (Elt F) arg10.view (Rect.unit (s := S4) ![0] S1.size inb_S4_S1_0).toLoadRect g (Shape.Idx.first (s := S1) (by decide))
def cell1 (g : Held (F := F) c arg10) : F .f32 :=
  View.readAt (Elt F) arg10.view (Rect.unit (s := S4) ![1] S1.size inb_S4_S1_1).toLoadRect g (Shape.Idx.first (s := S1) (by decide))
def cell2 (g : Held (F := F) c arg10) : F .f32 :=
  View.readAt (Elt F) arg10.view (Rect.unit (s := S4) ![2] S1.size inb_S4_S1_2).toLoadRect g (Shape.Idx.first (s := S1) (by decide))

/-- The accumulators the point leaves. -/
def ten : Held (F := F) c arg10 :=
  if hc : isLater i = 1#1 then
    arg10.view.writes (Elt F) (ten0 c i arg1 arg2 arg3 arg4 arg5 arg9 arg10 f1 f2 f3 f4 f5 f9 f10)
      [⟨Rect.unit (s := S4) ![2] S1.size inb_S4_S1_2, fun _ => k0_pay3 (vCep c i arg1 arg3 arg4 arg5 arg9 f1 f3 f4 f5 f9) (cell2 c arg10 (ten0 c i arg1 arg2 arg3 arg4 arg5 arg9 arg10 f1 f2 f3 f4 f5 f9 f10))⟩,
        ⟨Rect.unit (s := S4) ![1] S1.size inb_S4_S1_1, fun _ => k0_pay2 (vBox c i arg2 arg3 arg5 arg9 f2 f3 f5 f9) (cell1 c arg10 (ten0 c i arg1 arg2 arg3 arg4 arg5 arg9 arg10 f1 f2 f3 f4 f5 f9 f10))⟩,
        ⟨Rect.unit (s := S4) ![0] S1.size inb_S4_S1_0, fun _ => k0_pay1 (vPairs c i arg3 arg5 arg9 f3 f5 f9) (cell0 c arg10 (ten0 c i arg1 arg2 arg3 arg4 arg5 arg9 arg10 f1 f2 f3 f4 f5 f9 f10))⟩]
  else ten0 c i arg1 arg2 arg3 arg4 arg5 arg9 arg10 f1 f2 f3 f4 f5 f9 f10

def rdV (g : Held (F := F) c arg7) : Vec F S16x8732 .f32 :=
  View.readAt (Elt F) arg7.view (Rect.unit (s := S16x8732) ![0, 0] S16x8732.size inb_S16x8732_S16x8732_0_0).toLoadRect g
def rdN (g : Held (F := F) c arg8) : Vec F S16x1 .f32 :=
  View.readAt (Elt F) arg8.view (Rect.unit (s := S16x128) ![0, 0] S16x1.size inb_S16x128_S16x1_0_0).toLoadRect g

/-- The bisection's interval. -/
def kCut (V : Vec F S16x8732 .f32) (N : Vec F S16x1 .f32) : FVec F S16x1 .f32 × FVec F S16x1 .f32 :=
  Scf.fold (n := 42) (fun _ x => (k0_pay21 V N x.1 x.2, k0_pay22 V N x.1 x.2)) (k0_pay17 V, k0_pay18 V)

def kNeg (V : Vec F S16x8732 .f32) (N : Vec F S16x1 .f32) : FVec F S16x1 .f32 := k0_pay23 V N (kCut V N).1

/-- The three results, from the scratches. -/
def outPieces (V : Vec F S16x8732 .f32) (N : Vec F S16x1 .f32) (a b d : F .f32) : List (View.Piece (Elt F) S3 .f32) :=
  [⟨Rect.unit (s := S3) ![2] S1.size inb_S3_S1_2, fun _ => k0_pay6 (k0_pay16 N) (kNeg V N) a b d⟩,
    ⟨Rect.unit (s := S3) ![1] S1.size inb_S3_S1_1, fun _ => k0_pay5 (k0_pay16 N) (kNeg V N) a d⟩,
    ⟨Rect.unit (s := S3) ![0] S1.size inb_S3_S1_0, fun _ => k0_pay4 a b⟩]

theorem l_g6 : kernelRun.sl.v46 c i arg5 arg9 f5 f9 = g6 c i arg5 arg9 f5 f9 := rfl

theorem l_v69 : kernelRun.sl.v69 c i arg3 arg5 arg9 f3 f5 f9 = kPosf (rdT c arg3 f3) (rdP c arg5 f5) (g6 c i arg5 arg9 f5 f9) := rfl

theorem l_v71 : kernelRun.sl.v71 c i arg3 arg5 arg9 f3 f5 f9 = kCnt (rdT c arg3 f3) (rdP c arg5 f5) (g6 c i arg5 arg9 f5 f9) := by
  unfold kernelRun.sl.v71 kernelRun.sl.v70
  rw [l_v69]
  rfl

theorem l_v73 : kernelRun.sl.v73 c i arg3 arg5 arg9 f3 f5 f9 = kAny (rdT c arg3 f3) (rdP c arg5 f5) (g6 c i arg5 arg9 f5 f9) := by
  unfold kernelRun.sl.v73
  rw [l_v71]
  rfl

theorem l_v92 : kernelRun.sl.v92 c i arg1 f1 = k0_pay50 (k0_pay48 (k0_pay32 (rdL c i arg1 f1))) k0_pay49 := rfl

theorem l_v83 : kernelRun.sl.v83 c i arg3 arg5 arg9 f3 f5 f9 = vPairs c i arg3 arg5 arg9 f3 f5 f9 := by
  unfold kernelRun.sl.v83 kernelRun.sl.v82 kernelRun.sl.v81 kernelRun.sl.v80
  rw [l_v71]
  rfl

theorem l_v116 : kernelRun.sl.v116 c i arg1 arg3 arg5 arg9 f1 f3 f5 f9 = vCand c i arg1 arg3 arg5 arg9 f1 f3 f5 f9 := by
  unfold kernelRun.sl.v116 kernelRun.sl.v112
  rw [l_v73, l_v92]
  rfl

theorem l_v104 : kernelRun.sl.v110 c i arg1 arg3 arg4 arg5 arg9 f1 f3 f4 f5 f9 = vCep c i arg1 arg3 arg4 arg5 arg9 f1 f3 f4 f5 f9 := by
  unfold kernelRun.sl.v110 kernelRun.sl.v104 kernelRun.sl.v103 kernelRun.sl.v102 kernelRun.sl.v101 kernelRun.sl.v100 kernelRun.sl.v99
    kernelRun.sl.v109 kernelRun.sl.v108 kernelRun.sl.v107 kernelRun.sl.v106 kernelRun.sl.v105
  rw [l_v71, l_v69, l_v92]
  rfl

theorem l_v215 : kernelRun.sl.v215 c i arg2 arg3 arg5 arg9 f2 f3 f5 f9 = vBox c i arg2 arg3 arg5 arg9 f2 f3 f5 f9 := by
  unfold kernelRun.sl.v215 kernelRun.sl.v214 kernelRun.sl.v213 kernelRun.sl.v212 kernelRun.sl.v211
  rw [l_v69]
  rfl

theorem l_seven : arg7.view.writes (Elt F) f7 (kernelRun.sl.H7_1 c i arg1 arg3 arg5 arg9 f1 f3 f5 f9)
    = seven c i arg1 arg3 arg5 arg7 arg9 f1 f3 f5 f7 f9 := by
  unfold kernelRun.sl.H7_1 seven
  rw [l_v116]

theorem l_eight : arg8.view.writes (Elt F) f8 (kernelRun.sl.H8_1 c i arg3 arg5 arg9 f3 f5 f9)
    = eight c i arg3 arg5 arg8 arg9 f3 f5 f8 f9 := by
  have e : kernelRun.sl.v121 c i arg3 arg5 arg9 f3 f5 f9 = k0_pay53 (vNpos c i arg3 arg5 arg9 f3 f5 f9) := by
    unfold kernelRun.sl.v121 kernelRun.sl.v117 kernelRun.sl.v79 kernelRun.sl.v78 kernelRun.sl.v77 kernelRun.sl.v76 kernelRun.sl.v75 kernelRun.sl.v74
    rw [l_v73]
    rfl
  unfold kernelRun.sl.H8_1 eight
  rw [e]

theorem l_v231 : kernelRun.sl.v231 c i arg3 arg5 arg8 arg9 f3 f5 f8 f9 = k0_pay16 (rdN c arg8 (eight c i arg3 arg5 arg8 arg9 f3 f5 f8 f9)) := by
  unfold kernelRun.sl.v231 kernelRun.sl.v228 kernelRun.sl.v230
  rw [l_eight]
  rfl

theorem l_v239 : kernelRun.sl.v239 c i arg1 arg3 arg5 arg7 arg9 f1 f3 f5 f7 f9 = k0_pay17 (rdV c arg7 (seven c i arg1 arg3 arg5 arg7 arg9 f1 f3 f5 f7 f9)) := by
  rw [← l_seven]
  rfl

theorem l_v244 : kernelRun.sl.v244 c i arg1 arg3 arg5 arg7 arg9 f1 f3 f5 f7 f9 = k0_pay18 (rdV c arg7 (seven c i arg1 arg3 arg5 arg7 arg9 f1 f3 f5 f7 f9)) := by
  rw [← l_seven]
  rfl

theorem l_r23 : kernelRun.sl.r_23 c i arg1 arg3 arg5 arg7 arg8 arg9 f1 f3 f5 f7 f8 f9
    = kCut (rdV c arg7 (seven c i arg1 arg3 arg5 arg7 arg9 f1 f3 f5 f7 f9)) (rdN c arg8 (eight c i arg3 arg5 arg8 arg9 f3 f5 f8 f9)) := by
  unfold kernelRun.sl.r_23
  rw [l_v239, l_v244, l_v231, l_seven]
  rfl

theorem l_v263 : kernelRun.sl.v263 c i arg1 arg3 arg5 arg7 arg8 arg9 f1 f3 f5 f7 f8 f9
    = kNeg (rdV c arg7 (seven c i arg1 arg3 arg5 arg7 arg9 f1 f3 f5 f7 f9)) (rdN c arg8 (eight c i arg3 arg5 arg8 arg9 f3 f5 f8 f9)) := by
  unfold kNeg
  rw [← l_r23, ← l_seven, ← l_eight]
  rfl

theorem l_ten0 : kernelRun.sl.f_2 c i arg1 arg2 arg3 arg4 arg5 arg9 arg10 f1 f2 f3 f4 f5 f9 f10 = View.readAt (Elt F) arg10.view (Rect.unit (s := S4) ![0] S1.size inb_S4_S1_0).toLoadRect (ten0 c i arg1 arg2 arg3 arg4 arg5 arg9 arg10 f1 f2 f3 f4 f5 f9 f10)
    ∧ kernelRun.sl.f_3 c i arg1 arg2 arg3 arg4 arg5 arg9 arg10 f1 f2 f3 f4 f5 f9 f10 = View.readAt (Elt F) arg10.view (Rect.unit (s := S4) ![1] S1.size inb_S4_S1_1).toLoadRect (ten0 c i arg1 arg2 arg3 arg4 arg5 arg9 arg10 f1 f2 f3 f4 f5 f9 f10)
    ∧ kernelRun.sl.f_4 c i arg1 arg2 arg3 arg4 arg5 arg9 arg10 f1 f2 f3 f4 f5 f9 f10 = View.readAt (Elt F) arg10.view (Rect.unit (s := S4) ![2] S1.size inb_S4_S1_2).toLoadRect (ten0 c i arg1 arg2 arg3 arg4 arg5 arg9 arg10 f1 f2 f3 f4 f5 f9 f10) := by
  refine ⟨?_, ?_, ?_⟩
  · unfold kernelRun.sl.f_2
    rw [l_v104, l_v215, l_v83]
    rfl
  · unfold kernelRun.sl.f_3
    rw [l_v104, l_v215, l_v83]
    rfl
  · unfold kernelRun.sl.f_4
    rw [l_v104, l_v215, l_v83]
    rfl

theorem l_r20 : kernelRun.sl.r_20 c i arg1 arg2 arg3 arg4 arg5 arg9 arg10 f1 f2 f3 f4 f5 f9 f10 = cell0 c arg10 (ten0 c i arg1 arg2 arg3 arg4 arg5 arg9 arg10 f1 f2 f3 f4 f5 f9 f10) := congrFun (l_ten0 c i arg1 arg2 arg3 arg4 arg5 arg9 arg10 f1 f2 f3 f4 f5 f9 f10).1 _
theorem l_r21 : kernelRun.sl.r_21 c i arg1 arg2 arg3 arg4 arg5 arg9 arg10 f1 f2 f3 f4 f5 f9 f10 = cell1 c arg10 (ten0 c i arg1 arg2 arg3 arg4 arg5 arg9 arg10 f1 f2 f3 f4 f5 f9 f10) := congrFun (l_ten0 c i arg1 arg2 arg3 arg4 arg5 arg9 arg10 f1 f2 f3 f4 f5 f9 f10).2.1 _
theorem l_r22 : kernelRun.sl.r_22 c i arg1 arg2 arg3 arg4 arg5 arg9 arg10 f1 f2 f3 f4 f5 f9 f10 = cell2 c arg10 (ten0 c i arg1 arg2 arg3 arg4 arg5 arg9 arg10 f1 f2 f3 f4 f5 f9 f10) := congrFun (l_ten0 c i arg1 arg2 arg3 arg4 arg5 arg9 arg10 f1 f2 f3 f4 f5 f9 f10).2.2 _

theorem l_ten : kernelRun.sl.f_5 c i arg1 arg2 arg3 arg4 arg5 arg9 arg10 f1 f2 f3 f4 f5 f9 f10 = View.readAt (Elt F) arg10.view (Rect.unit (s := S4) ![0] S1.size inb_S4_S1_0).toLoadRect (ten c i arg1 arg2 arg3 arg4 arg5 arg9 arg10 f1 f2 f3 f4 f5 f9 f10)
    ∧ kernelRun.sl.f_6 c i arg1 arg2 arg3 arg4 arg5 arg9 arg10 f1 f2 f3 f4 f5 f9 f10 = View.readAt (Elt F) arg10.view (Rect.unit (s := S4) ![1] S1.size inb_S4_S1_1).toLoadRect (ten c i arg1 arg2 arg3 arg4 arg5 arg9 arg10 f1 f2 f3 f4 f5 f9 f10)
    ∧ kernelRun.sl.f_7 c i arg1 arg2 arg3 arg4 arg5 arg9 arg10 f1 f2 f3 f4 f5 f9 f10 = View.readAt (Elt F) arg10.view (Rect.unit (s := S4) ![2] S1.size inb_S4_S1_2).toLoadRect (ten c i arg1 arg2 arg3 arg4 arg5 arg9 arg10 f1 f2 f3 f4 f5 f9 f10) := by
  refine ⟨?_, ?_, ?_⟩
  · unfold kernelRun.sl.f_5
    rw [l_r20, l_r21, l_r22, l_v104, l_v215, l_v83]
    rfl
  · unfold kernelRun.sl.f_6
    rw [l_r20, l_r21, l_r22, l_v104, l_v215, l_v83]
    rfl
  · unfold kernelRun.sl.f_7
    rw [l_r20, l_r21, l_r22, l_v104, l_v215, l_v83]
    rfl

theorem l_r24 : kernelRun.sl.r_24 c i arg1 arg2 arg3 arg4 arg5 arg9 arg10 f1 f2 f3 f4 f5 f9 f10 = cell0 c arg10 (ten c i arg1 arg2 arg3 arg4 arg5 arg9 arg10 f1 f2 f3 f4 f5 f9 f10) := congrFun (l_ten c i arg1 arg2 arg3 arg4 arg5 arg9 arg10 f1 f2 f3 f4 f5 f9 f10).1 _
theorem l_r25 : kernelRun.sl.r_25 c i arg1 arg2 arg3 arg4 arg5 arg9 arg10 f1 f2 f3 f4 f5 f9 f10 = cell1 c arg10 (ten c i arg1 arg2 arg3 arg4 arg5 arg9 arg10 f1 f2 f3 f4 f5 f9 f10) := congrFun (l_ten c i arg1 arg2 arg3 arg4 arg5 arg9 arg10 f1 f2 f3 f4 f5 f9 f10).2.1 _
theorem l_r26 : kernelRun.sl.r_26 c i arg1 arg2 arg3 arg4 arg5 arg9 arg10 f1 f2 f3 f4 f5 f9 f10 = cell2 c arg10 (ten c i arg1 arg2 arg3 arg4 arg5 arg9 arg10 f1 f2 f3 f4 f5 f9 f10) := congrFun (l_ten c i arg1 arg2 arg3 arg4 arg5 arg9 arg10 f1 f2 f3 f4 f5 f9 f10).2.2 _

abbrev theRun := kernelRun c i arg1 harg1 arg2 harg2 arg3 harg3 arg4 harg4 arg5 harg5 arg6 harg6 arg7 harg7 arg8 harg8 arg9 harg9 arg10 harg10
  f1 f2 f3 f4 f5 f6 f7 f8 f9 f10

theorem run9 : (theRun c i arg1 harg1 arg2 harg2 arg3 harg3 arg4 harg4 arg5 harg5 arg6 harg6 arg7 harg7 arg8 harg8 arg9 harg9 arg10 harg10
    f1 f2 f3 f4 f5 f6 f7 f8 f9 f10).1.2.2.2.1 = nine c i arg5 arg9 f5 f9 := rfl

theorem run7 : (theRun c i arg1 harg1 arg2 harg2 arg3 harg3 arg4 harg4 arg5 harg5 arg6 harg6 arg7 harg7 arg8 harg8 arg9 harg9 arg10 harg10
    f1 f2 f3 f4 f5 f6 f7 f8 f9 f10).1.2.1 = seven c i arg1 arg3 arg5 arg7 arg9 f1 f3 f5 f7 f9 := by
  unfold theRun kernelRun
  dsimp only
  exact l_seven c i arg1 arg3 arg5 arg7 arg9 f1 f3 f5 f7 f9

theorem run8 : (theRun c i arg1 harg1 arg2 harg2 arg3 harg3 arg4 harg4 arg5 harg5 arg6 harg6 arg7 harg7 arg8 harg8 arg9 harg9 arg10 harg10
    f1 f2 f3 f4 f5 f6 f7 f8 f9 f10).1.2.2.1 = eight c i arg3 arg5 arg8 arg9 f3 f5 f8 f9 := by
  unfold theRun kernelRun
  exact l_eight c i arg3 arg5 arg8 arg9 f3 f5 f8 f9

theorem run10 : (theRun c i arg1 harg1 arg2 harg2 arg3 harg3 arg4 harg4 arg5 harg5 arg6 harg6 arg7 harg7 arg8 harg8 arg9 harg9 arg10 harg10
    f1 f2 f3 f4 f5 f6 f7 f8 f9 f10).1.2.2.2.2 = ten c i arg1 arg2 arg3 arg4 arg5 arg9 arg10 f1 f2 f3 f4 f5 f9 f10 := by
  unfold ten ten0
  change _ = (if hc : isLater i = 1#1 then arg10.view.writes (Elt F) (if hc : isFirst i = 1#1 then _ else _) _ else _)
  rw [← ten0]
  rw [← l_r20, ← l_r21, ← l_r22, ← l_v104, ← l_v215, ← l_v83]
  rfl

theorem run6 : (theRun c i arg1 harg1 arg2 harg2 arg3 harg3 arg4 harg4 arg5 harg5 arg6 harg6 arg7 harg7 arg8 harg8 arg9 harg9 arg10 harg10
    f1 f2 f3 f4 f5 f6 f7 f8 f9 f10).1.1 = (if hc : k0_cond4 i = 1#1 then
      arg6.view.writes (Elt F) f6 (outPieces (rdV c arg7 (seven c i arg1 arg3 arg5 arg7 arg9 f1 f3 f5 f7 f9)) (rdN c arg8 (eight c i arg3 arg5 arg8 arg9 f3 f5 f8 f9))
        (cell0 c arg10 (ten c i arg1 arg2 arg3 arg4 arg5 arg9 arg10 f1 f2 f3 f4 f5 f9 f10))
        (cell1 c arg10 (ten c i arg1 arg2 arg3 arg4 arg5 arg9 arg10 f1 f2 f3 f4 f5 f9 f10))
        (cell2 c arg10 (ten c i arg1 arg2 arg3 arg4 arg5 arg9 arg10 f1 f2 f3 f4 f5 f9 f10)))
    else f6) := by
  unfold outPieces
  rw [← l_v263, ← l_v231, ← l_r24, ← l_r25, ← l_r26]
  rfl

end Links

end Cert.KernelIdeal.Hand

end
-- ==== Proof.KernelIdeal.Fin.lean ====
/- The last point's values, read over the extended reals: the bisection and the three results. -/
module

public import proofs.«01_k».proof.Proof.KernelIdeal.Step
public import Idealize.ShloMosaic.Lib.Exec.Context

@[expose] public section

set_option maxRecDepth 16384

noncomputable section

namespace Cert.KernelIdeal.Hand

open Cert.KernelIdeal Cert.KernelIdeal.Gen Idealize.ShloMosaic Idealize.ShloMosaic.TcCoe
open Cert.Loss
open scoped Classical

variable (V : Vec Ideal S16x8732 .f32) (N : Vec Ideal S16x1 .f32) (x y : FVec Ideal S16x1 .f32)

def vRow (b : Fin 16) (a : Fin 8732) : EReal := V (ix2 b a)

theorem pay16_apply (b : Fin 16) : k0_pay16 N (ix2 b 0) = kk (N (ix2 b 0)) := by
  unfold kk; pointwise [k0_pay16]

theorem pay17_apply (b : Fin 16) : k0_pay17 V (ix2 b 0) = lo0 (vRow V b) := by
  unfold lo0 vRow
  pointwise [k0_pay17]

theorem pay18_apply (b : Fin 16) : k0_pay18 V (ix2 b 0) = hi0 (vRow V b) := by
  unfold hi0
  rw [← pay17_apply]
  unfold vRow
  pointwise [k0_pay18]

theorem pay19_apply (b : Fin 16) : k0_pay19 x y (ix2 b 0) = lit 0x3F000000#32 * (x (ix2 b 0) + y (ix2 b 0)) := by
  pointwise [k0_pay19]

theorem pay20_apply (b : Fin 16) : k0_pay20 V N x y (ix2 b 0) = 1#1
    ↔ kk (N (ix2 b 0)) ≤ above (vRow V b) (lit 0x3F000000#32 * (x (ix2 b 0) + y (ix2 b 0))) := by
  unfold above vRow
  pointwise [k0_pay20, pay16_apply, pay19_apply, sitofp_bit]
  simp only [ofBool_one, decide_eq_true_iff]

theorem step_apply (b : Fin 16) : (k0_pay21 V N x y (ix2 b 0), k0_pay22 V N x y (ix2 b 0))
    = stepB (vRow V b) (kk (N (ix2 b 0))) (x (ix2 b 0), y (ix2 b 0)) := by
  have h := pay20_apply V N x y b
  unfold stepB
  have e1 : k0_pay21 V N x y (ix2 b 0) = if k0_pay20 V N x y (ix2 b 0) = 1#1 then k0_pay19 x y (ix2 b 0) else x (ix2 b 0) := by
    pointwise [k0_pay21]
    rfl
  have e2 : k0_pay22 V N x y (ix2 b 0) = if k0_pay20 V N x y (ix2 b 0) = 1#1 then y (ix2 b 0) else k0_pay19 x y (ix2 b 0) := by
    pointwise [k0_pay22]
    rfl
  rw [e1, e2, pay19_apply]
  by_cases hk : k0_pay20 V N x y (ix2 b 0) = 1#1
  · rw [if_pos hk, if_pos hk, if_pos (h.mp hk)]
  · rw [if_neg hk, if_neg hk, if_neg (fun h' => hk (h.mpr h'))]

theorem kCut_apply (b : Fin 16) : (kCut V N).1 (ix2 b 0) = cut (vRow V b) (kk (N (ix2 b 0))) := by
  have key : ∀ (l : List (Fin 42)) (s : FVec Ideal S16x1 .f32 × FVec Ideal S16x1 .f32),
      ((l.foldl (fun acc (_ : Fin 42) => (k0_pay21 V N acc.1 acc.2, k0_pay22 V N acc.1 acc.2)) s).1 (ix2 b 0),
        (l.foldl (fun acc (_ : Fin 42) => (k0_pay21 V N acc.1 acc.2, k0_pay22 V N acc.1 acc.2)) s).2 (ix2 b 0))
      = (stepB (vRow V b) (kk (N (ix2 b 0))))^[l.length] (s.1 (ix2 b 0), s.2 (ix2 b 0)) := by
    intro l
    induction l with
    | nil => intro s; rfl
    | cons k l ih =>
      intro s
      rw [List.foldl_cons, ih, List.length_cons, Function.iterate_succ_apply, step_apply]
  unfold kCut cut
  rw [Scf.fold_eq]
  have := key (List.finRange 42) (k0_pay17 V, k0_pay18 V)
  rw [List.length_finRange] at this
  rw [← pay17_apply, ← pay18_apply, ← this]

theorem pay23_apply (b : Fin 16) : k0_pay23 V N x (ix2 b 0) = if lit 0x3F000000#32 < kk (N (ix2 b 0)) then
    (∑ a, if x (ix2 b 0) < vRow V b a then vRow V b a else 0) - (above (vRow V b) (x (ix2 b 0)) - kk (N (ix2 b 0))) * x (ix2 b 0) else 0 := by
  unfold above vRow
  pointwise [k0_pay23, pay16_apply, sitofp_bit]
  simp only [ofBool_one, decide_eq_true_iff]

theorem kNeg_apply (b : Fin 16) : kNeg V N (ix2 b 0) = neg (vRow V b) (kk (N (ix2 b 0))) := by
  unfold kNeg neg
  rw [pay23_apply, kCut_apply]

variable (p q r : EReal)

theorem lit_one : lit 0x3F800000#32 = 1 := by rw [lit_1]; rfl

theorem pay4_eq : k0_pay4 (F := Ideal) p q = Ideal.div q (max p 1) := by
  rw [← lit_one]; rfl

theorem pay5_eq : k0_pay5 (F := Ideal) x y p r = Ideal.div (r + ∑ b : Fin 16, y (ix2 b 0)) (max (p + ∑ b : Fin 16, x (ix2 b 0)) 1) := by
  pointwise [k0_pay5]
  simp only [Fin.sum_univ_one]

theorem pay6_eq : k0_pay6 (F := Ideal) x y p q r = k0_pay4 (F := Ideal) p q + k0_pay5 (F := Ideal) x y p r := rfl

end Cert.KernelIdeal.Hand

end
-- ==== Proof.KernelIdeal.Blocks.lean ====
/- The blocks the kernel's windows hold at a grid point, over the extended reals, as the launched arguments' values. -/
module

public import proofs.«01_k».proof.Proof.KernelIdeal.Frame
public import proofs.«01_k».proof.Proof.Loss.Spec
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe
open Cert.Loss

variable (m : (ℓ : Loc nD τ sig) → Buf (Elt Ideal) ℓ) (c : Dev nD)

/-- The launched arguments, as functions of their indices. -/
def inp : In where
  q b a j := (m ((c : Thread nD τ).loc main_arg0) : Vec Ideal S16x8732x4 .f32) (ix3 b a j)
  l b a j := (m ((c : Thread nD τ).loc main_arg1) : Vec Ideal S16x8732x81 .f32) (ix3 b a j)
  t b o j := (m ((c : Thread nD τ).loc main_arg2) : Vec Ideal S16x24x4 .f32) (ix3 b o j)
  p a j := (m ((c : Thread nD τ).loc main_arg3) : Vec Ideal S8732x4 .f32) (ix2 a j)
  g b o := (m ((c : Thread nD τ).loc main_arg4) : Vec Ideal S16x24 .i32) (ix2 b o)

theorem V_v0 : V m c main_v0 = (transpose S81x16x8732 [2, 0, 1] (m ((c : Thread nD τ).loc main_arg1) : Vec Ideal S16x8732x81 .f32) transposes_S16x8732x81_S81x16x8732_2_0_1 : Vec Ideal S81x16x8732 .f32) := by
  rfl
theorem V_v1 : V m c main_v1 = (transpose S16x4x8732 [0, 2, 1] (m ((c : Thread nD τ).loc main_arg0) : Vec Ideal S16x8732x4 .f32) transposes_S16x8732x4_S16x4x8732_0_2_1 : Vec Ideal S16x4x8732 .f32) := by
  rfl
theorem V_v2 : V m c main_v2 = (transpose S4x8732 [1, 0] (m ((c : Thread nD τ).loc main_arg3) : Vec Ideal S8732x4 .f32) transposes_S8732x4_S4x8732_1_0 : Vec Ideal S4x8732 .f32) := by
  rfl
theorem V_v3 : V m c main_v3 = (shapeCast S16x1x24 (m ((c : Thread nD τ).loc main_arg4) : Vec Ideal S16x24 .i32) shapeCasts_S16x24_S16x1x24 : Vec Ideal S16x1x24 .i32) := by
  rfl

def im (t : Fin cfg0.N) : Fin 16 := ⟨(grid0.coords t 0).val, (grid0.coords t 0).isLt⟩

theorem coords_val : ∀ t : Fin cfg0.N, (grid0.coords t 0).val = t.val := by decide +kernel
theorem tr0_val : ∀ t : Fin cfg0.N, cc0_transform_0 (grid0.coords t) = ![0, t.val / 8, 0] := by decide +kernel
theorem tr1_val : ∀ t : Fin cfg0.N, cc0_transform_1 (grid0.coords t) = ![t.val, 0, 0] := by decide +kernel
theorem tr2_val : ∀ t : Fin cfg0.N, cc0_transform_2 (grid0.coords t) = ![t.val, 0, 0] := by decide +kernel
theorem tr3_val : ∀ t : Fin cfg0.N, cc0_transform_3 (grid0.coords t) = ![t.val, 0, 0] := by decide +kernel
theorem tr4_val : ∀ t : Fin cfg0.N, cc0_transform_4 (grid0.coords t) = ![0, 0] := by decide +kernel

theorem im_val (t : Fin cfg0.N) : (im t).val = t.val := coords_val t

theorem blk0 (t : Fin cfg0.N) (k : Fin 81) (r : Fin 8) (a : Fin 8732) (b : Fin 16) (hb : b.val = t.val / 8 * 8 + r.val) :
    (iblk m c 0 t : Vec Ideal S81x8x8732 .f32) (ix3 k r a) = (inp m c).l b a k := by
  have e : (iblk m c 0 t : Vec Ideal S81x8x8732 .f32) (ix3 k r a) = (V m c main_v0 : Vec Ideal S81x16x8732 .f32) (ix3 k b a) := by
    show (V m c main_v0 : Vec Ideal S81x16x8732 .f32) _ = _
    congr 1
    funext x
    refine Fin.ext ?_
    fin_cases x
    · show cc0_transform_0 (grid0.coords t) 0 * 81 + 1 * k.val = k.val
      rw [tr0_val t]; simp
    · show cc0_transform_0 (grid0.coords t) 1 * 8 + 1 * r.val = b.val
      rw [tr0_val t]; rw [hb, Nat.one_mul]; rfl
    · show cc0_transform_0 (grid0.coords t) 2 * 8732 + 1 * a.val = a.val
      rw [tr0_val t]; simp
  rw [e, V_v0]
  unfold inp
  pointwise []

theorem blk1 (t : Fin cfg0.N) (j : Fin 4) (a : Fin 8732) :
    (iblk m c 1 t : Vec Ideal S1x4x8732 .f32) (ix3 0 j a) = (inp m c).q (im t) a j := by
  have e : (iblk m c 1 t : Vec Ideal S1x4x8732 .f32) (ix3 0 j a) = (V m c main_v1 : Vec Ideal S16x4x8732 .f32) (ix3 (im t) j a) := by
    show (V m c main_v1 : Vec Ideal S16x4x8732 .f32) _ = _
    congr 1
    funext x
    refine Fin.ext ?_
    fin_cases x
    · show cc0_transform_1 (grid0.coords t) 0 * 1 + 1 * 0 = (im t).val
      rw [tr1_val t]; rw [im_val, Nat.mul_one]; rfl
    · show cc0_transform_1 (grid0.coords t) 1 * 4 + 1 * j.val = j.val
      rw [tr1_val t]; simp
    · show cc0_transform_1 (grid0.coords t) 2 * 8732 + 1 * a.val = a.val
      rw [tr1_val t]; simp
  rw [e, V_v1]
  unfold inp
  pointwise []

theorem blk2 (t : Fin cfg0.N) (o : Fin 24) (j : Fin 4) :
    (iblk m c 2 t : Vec Ideal S1x24x4 .f32) (ix3 0 o j) = (inp m c).t (im t) o j := by
  have e : (iblk m c 2 t : Vec Ideal S1x24x4 .f32) (ix3 0 o j) = (V m c main_arg2 : Vec Ideal S16x24x4 .f32) (ix3 (im t) o j) := by
    show (V m c main_arg2 : Vec Ideal S16x24x4 .f32) _ = _
    congr 1
    funext x
    refine Fin.ext ?_
    fin_cases x
    · show cc0_transform_2 (grid0.coords t) 0 * 1 + 1 * 0 = (im t).val
      rw [tr2_val t]; rw [im_val, Nat.mul_one]; rfl
    · show cc0_transform_2 (grid0.coords t) 1 * 24 + 1 * o.val = o.val
      rw [tr2_val t]; simp
    · show cc0_transform_2 (grid0.coords t) 2 * 4 + 1 * j.val = j.val
      rw [tr2_val t]; simp
  rw [e, V_main_arg2]
  unfold inp
  pointwise []

theorem blk3 (t : Fin cfg0.N) (o : Fin 24) :
    (iblk m c 3 t : Vec Ideal S1x1x24 .i32) (ix3 0 0 o) = (inp m c).g (im t) o := by
  have e : (iblk m c 3 t : Vec Ideal S1x1x24 .i32) (ix3 0 0 o) = (V m c main_v3 : Vec Ideal S16x1x24 .i32) (ix3 (im t) 0 o) := by
    show (V m c main_v3 : Vec Ideal S16x1x24 .i32) _ = _
    congr 1
    funext x
    refine Fin.ext ?_
    fin_cases x
    · show cc0_transform_3 (grid0.coords t) 0 * 1 + 1 * 0 = (im t).val
      rw [tr3_val t]; rw [im_val, Nat.mul_one]; rfl
    · show cc0_transform_3 (grid0.coords t) 1 * 1 + 1 * 0 = 0
      rw [tr3_val t]; simp
    · show cc0_transform_3 (grid0.coords t) 2 * 24 + 1 * o.val = o.val
      rw [tr3_val t]; simp
  rw [e, V_v3]
  unfold inp
  pointwise []

theorem blk4 (t : Fin cfg0.N) (j : Fin 4) (a : Fin 8732) :
    (iblk m c 4 t : Vec Ideal S4x8732 .f32) (ix2 j a) = (inp m c).p a j := by
  have e : (iblk m c 4 t : Vec Ideal S4x8732 .f32) (ix2 j a) = (V m c main_v2 : Vec Ideal S4x8732 .f32) (ix2 j a) := by
    show (V m c main_v2 : Vec Ideal S4x8732 .f32) _ = _
    congr 1
    funext x
    refine Fin.ext ?_
    fin_cases x
    · show cc0_transform_4 (grid0.coords t) 0 * 4 + 1 * j.val = j.val
      rw [tr4_val t]; simp
    · show cc0_transform_4 (grid0.coords t) 1 * 8732 + 1 * a.val = a.val
      rw [tr4_val t]; simp
  rw [e, V_v2]
  unfold inp
  pointwise []

end Cert.KernelIdeal.Hand

end
-- ==== Proof.KernelIdeal.Point.lean ====
/- What one grid point leaves in the scratches, over the extended reals: the invariant of the sixteen points. -/
module

public import proofs.«01_k».proof.Proof.KernelIdeal.Fin
public import proofs.«01_k».proof.Proof.KernelIdeal.Blocks
public import Idealize.ShloMosaic.Lib.VecWindow
public import Idealize.ShloMosaic.Lib.CellWrites
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Loss

theorem first_iff : ∀ t : Fin cfg0.N, isFirst (grid0.coords t) = 1#1 ↔ t.val = 0 := by decide +kernel
theorem later_iff : ∀ t : Fin cfg0.N, isLater (grid0.coords t) = 1#1 ↔ t.val ≠ 0 := by decide +kernel
theorem last_iff : ∀ t : Fin cfg0.N, k0_cond4 (grid0.coords t) = 1#1 ↔ t.val = 15 := by decide +kernel
theorem off1_eq : ∀ t : Fin cfg0.N, k0_off1 (grid0.coords t) = ![0, t.val % 8, 0] := by decide +kernel
theorem off2_eq : ∀ t : Fin cfg0.N, k0_off2 (grid0.coords t) = ![t.val, 0] := by decide +kernel
theorem off3_eq : ∀ t : Fin cfg0.N, k0_off3 (grid0.coords t) = ![t.val, 0] := by decide +kernel

/-- A sum over the images below `n`. -/
def upTo (f : Fin 16 → EReal) (n : ℕ) : EReal := ∑ b : Fin 16, if b.val < n then f b else 0

theorem upTo_zero (f : Fin 16 → EReal) : upTo f 0 = 0 := by simp [upTo]
theorem upTo_all (f : Fin 16 → EReal) : upTo f 16 = ∑ b, f b := Finset.sum_congr rfl fun b _ => if_pos b.isLt
theorem upTo_succ (f : Fin 16 → EReal) (b : Fin 16) : upTo f (b.val + 1) = upTo f b.val + f b := by
  unfold upTo
  have e : f b = ∑ b' : Fin 16, if b' = b then f b' else 0 := by simp
  rw [e, ← Finset.sum_add_distrib]
  refine Finset.sum_congr rfl fun b' _ => ?_
  by_cases h : b' = b
  · subst h; simp
  · have h' : b'.val ≠ b.val := fun e => h (Fin.ext e)
    by_cases h2 : b'.val < b.val
    · rw [if_pos h2, if_pos (by omega), if_neg h, add_zero]
    · rw [if_neg h2, if_neg (by omega), if_neg h, add_zero]

section Rows

variable (c : Dev nD) (arg9 : Memref sig .tc .vmem S8x8732 .f32) (arg10 : Memref sig .tc .smem S4 .f32)
  (f9 : Held (F := Ideal) c arg9) (f10 : Held (F := Ideal) c arg10) (P : Vec Ideal S4x8732 .f32)

def rowAt (o : ℕ) (h : ∀ a : Fin 2, (![o, 0] : Fin 2 → ℕ) a + S1x8732.size a ≤ S8x8732.size a) (g : Held (F := Ideal) c arg9) : Vec Ideal S1x8732 .f32 :=
  View.readAt (Elt Ideal) arg9.view (Rect.unit (s := S8x8732) ![o, 0] S1x8732.size h).toLoadRect g

/-- The row scratch holds the priors' rows. -/
structure Rows (g : Held (F := Ideal) c arg9) : Prop where
  r0 : rowAt c arg9 0 inb_S8x8732_S1x8732_0_0 g = kRow0 P
  r1 : rowAt c arg9 1 inb_S8x8732_S1x8732_1_0 g = kRow1 P
  r2 : rowAt c arg9 2 inb_S8x8732_S1x8732_2_0 g = kRow2 P
  r3 : rowAt c arg9 3 inb_S8x8732_S1x8732_3_0 g = kRow3 P
  r4 : rowAt c arg9 4 inb_S8x8732_S1x8732_4_0 g = kRow4 P
  r5 : rowAt c arg9 5 inb_S8x8732_S1x8732_5_0 g = kRow5 P
  r6 : rowAt c arg9 6 inb_S8x8732_S1x8732_6_0 g = kRow6 P

theorem row_hit (o : ℕ) (h h' : ∀ a : Fin 2, (![o, 0] : Fin 2 → ℕ) a + S1x8732.size a ≤ S8x8732.size a) (w : FVec Ideal S1x8732 .f32)
    (L : List (View.Piece (Elt Ideal) S8x8732 .f32)) :
    rowAt c arg9 o h (arg9.view.writes (Elt Ideal) f9 (⟨Rect.unit (s := S8x8732) ![o, 0] S1x8732.size h', w⟩ :: L)) = w := by
  unfold rowAt
  rw [View.readAt_unit arg9.view _ h rfl h, View.read_writes_cons_put arg9.view f9 h' w L rfl]
  exact VecWindow.window_put_same (s := S8x8732) _ _ _ h w

theorem row_miss (o o' : ℕ) (h : ∀ a : Fin 2, (![o, 0] : Fin 2 → ℕ) a + S1x8732.size a ≤ S8x8732.size a)
    (h' : ∀ a : Fin 2, (![o', 0] : Fin 2 → ℕ) a + S1x8732.size a ≤ S8x8732.size a) (hne : o ≠ o') (w : FVec Ideal S1x8732 .f32)
    (L : List (View.Piece (Elt Ideal) S8x8732 .f32)) :
    rowAt c arg9 o h (arg9.view.writes (Elt Ideal) f9 (⟨Rect.unit (s := S8x8732) ![o', 0] S1x8732.size h', w⟩ :: L))
      = rowAt c arg9 o h (arg9.view.writes (Elt Ideal) f9 L) := by
  unfold rowAt
  rw [View.readAt_unit arg9.view _ h rfl h, View.readAt_unit arg9.view _ h rfl h, View.read_writes_cons_put arg9.view f9 h' w L rfl]
  refine VecWindow.window_put_of_disjoint (s := S8x8732) _ _ _ _ _ h w 0 ?_
  show o + 1 ≤ o' ∨ o' + 1 ≤ o
  omega

theorem rows_first : Rows c arg9 P (arg9.view.writes (Elt Ideal) f9 (rowPieces P)) where
  r0 := by
    unfold rowPieces
    rw [row_miss _ _ _ _ _ _ _ (by decide), row_miss _ _ _ _ _ _ _ (by decide), row_miss _ _ _ _ _ _ _ (by decide),
      row_miss _ _ _ _ _ _ _ (by decide), row_miss _ _ _ _ _ _ _ (by decide), row_miss _ _ _ _ _ _ _ (by decide), row_hit]
  r1 := by
    unfold rowPieces
    rw [row_miss _ _ _ _ _ _ _ (by decide), row_miss _ _ _ _ _ _ _ (by decide), row_miss _ _ _ _ _ _ _ (by decide),
      row_miss _ _ _ _ _ _ _ (by decide), row_miss _ _ _ _ _ _ _ (by decide), row_hit]
  r2 := by
    unfold rowPieces
    rw [row_miss _ _ _ _ _ _ _ (by decide), row_miss _ _ _ _ _ _ _ (by decide), row_miss _ _ _ _ _ _ _ (by decide),
      row_miss _ _ _ _ _ _ _ (by decide), row_hit]
  r3 := by
    unfold rowPieces
    rw [row_miss _ _ _ _ _ _ _ (by decide), row_miss _ _ _ _ _ _ _ (by decide), row_miss _ _ _ _ _ _ _ (by decide), row_hit]
  r4 := by
    unfold rowPieces
    rw [row_miss _ _ _ _ _ _ _ (by decide), row_miss _ _ _ _ _ _ _ (by decide), row_hit]
  r5 := by
    unfold rowPieces
    rw [row_miss _ _ _ _ _ _ _ (by decide), row_hit]
  r6 := by
    unfold rowPieces
    rw [row_hit]

/-- A cell of the accumulators, through the stores of three cells. -/
theorem cell_three (p q r : EReal) :
    cell0 c arg10 (arg10.view.writes (Elt Ideal) f10 [⟨Rect.unit (s := S4) ![2] S1.size inb_S4_S1_2, fun _ => r⟩,
        ⟨Rect.unit (s := S4) ![1] S1.size inb_S4_S1_1, fun _ => q⟩, ⟨Rect.unit (s := S4) ![0] S1.size inb_S4_S1_0, fun _ => p⟩]) = p
    ∧ cell1 c arg10 (arg10.view.writes (Elt Ideal) f10 [⟨Rect.unit (s := S4) ![2] S1.size inb_S4_S1_2, fun _ => r⟩,
        ⟨Rect.unit (s := S4) ![1] S1.size inb_S4_S1_1, fun _ => q⟩, ⟨Rect.unit (s := S4) ![0] S1.size inb_S4_S1_0, fun _ => p⟩]) = q
    ∧ cell2 c arg10 (arg10.view.writes (Elt Ideal) f10 [⟨Rect.unit (s := S4) ![2] S1.size inb_S4_S1_2, fun _ => r⟩,
        ⟨Rect.unit (s := S4) ![1] S1.size inb_S4_S1_1, fun _ => q⟩, ⟨Rect.unit (s := S4) ![0] S1.size inb_S4_S1_0, fun _ => p⟩]) = r := by
  have e : ∀ y, arg10.view.read (Elt Ideal) (arg10.view.writes (Elt Ideal) f10 [⟨Rect.unit (s := S4) ![2] S1.size inb_S4_S1_2, fun _ => r⟩,
        ⟨Rect.unit (s := S4) ![1] S1.size inb_S4_S1_1, fun _ => q⟩, ⟨Rect.unit (s := S4) ![0] S1.size inb_S4_S1_0, fun _ => p⟩]) y
      = if (y 0).val = 2 then r else if (y 0).val = 1 then q else if (y 0).val = 0 then p else arg10.view.read (Elt Ideal) f10 y := fun y => by
    refine (View.read_writes_cons_cell (Val := Elt Ideal) (e := .f32) (d := ![4]) arg10.view f10 inb_S4_S1_2 r _ y).trans (if_congr Iff.rfl rfl ?_)
    refine (View.read_writes_cons_cell (Val := Elt Ideal) (e := .f32) (d := ![4]) arg10.view f10 inb_S4_S1_1 q _ y).trans (if_congr Iff.rfl rfl ?_)
    exact (View.read_writes_cons_cell (Val := Elt Ideal) (e := .f32) (d := ![4]) arg10.view f10 inb_S4_S1_0 p _ y).trans (if_congr Iff.rfl rfl rfl)
  exact ⟨(e _).trans rfl, (e _).trans rfl, (e _).trans rfl⟩

theorem put_row16 (x : Vec Ideal S16x8732 .f32) (o : ℕ) (w : FVec Ideal S1x8732 .f32) (b : Fin 16) (a : Fin 8732) :
    VecWindow.put (s := S16x8732) x ![o, 0] S1x8732.size w (ix2 b a) = if b.val = o then w (ix2 0 a) else x (ix2 b a) := by
  unfold VecWindow.put
  by_cases h : b.val = o
  · have hm : ∀ x : Fin 2, (![o, 0] : Fin 2 → ℕ) x ≤ ((ix2 b a : S16x8732.Idx) x).val ∧ ((ix2 b a : S16x8732.Idx) x).val < (![o, 0] : Fin 2 → ℕ) x + S1x8732.size x := by
      intro x
      fin_cases x
      · show o ≤ b.val ∧ b.val < o + 1
        omega
      · show 0 ≤ a.val ∧ a.val < 0 + 8732
        have := a.isLt
        omega
    rw [if_pos h]
    refine (dif_pos hm).trans (congrArg w ?_)
    funext x
    refine Fin.ext ?_
    fin_cases x
    · show b.val - o = 0
      omega
    · show a.val - 0 = a.val
      omega
  · rw [if_neg h]
    refine dif_neg fun hm => h ?_
    have : o ≤ b.val ∧ b.val < o + 1 := hm 0
    omega

theorem put_cell16 (x : Vec Ideal S16x128 .f32) (o : ℕ) (w : FVec Ideal S1x1 .f32) (b : Fin 16) :
    VecWindow.put (s := S16x128) x ![o, 0] S1x1.size w (ix2 b 0) = if b.val = o then w (ix2 0 0) else x (ix2 b 0) := by
  unfold VecWindow.put
  by_cases h : b.val = o
  · have hm : ∀ x : Fin 2, (![o, 0] : Fin 2 → ℕ) x ≤ ((ix2 b 0 : S16x128.Idx) x).val ∧ ((ix2 b 0 : S16x128.Idx) x).val < (![o, 0] : Fin 2 → ℕ) x + S1x1.size x := by
      intro x
      fin_cases x
      · show o ≤ b.val ∧ b.val < o + 1
        omega
      · show 0 ≤ 0 ∧ 0 < 0 + 1
        omega
    rw [if_pos h]
    refine (dif_pos hm).trans (congrArg w ?_)
    funext x
    refine Fin.ext ?_
    fin_cases x
    · show b.val - o = 0
      omega
    · rfl
  · rw [if_neg h]
    refine dif_neg fun hm => h ?_
    have : o ≤ b.val ∧ b.val < o + 1 := hm 0
    omega

end Rows

section Step

variable (c : Dev nD) (t : Fin cfg0.N)
  (arg1 : Memref sig .tc .vmem S81x8x8732 .f32) (harg1 : arg1.IsWhole) (arg2 : Memref sig .tc .vmem S1x4x8732 .f32) (harg2 : arg2.IsWhole)
  (arg3 : Memref sig .tc .vmem S1x24x4 .f32) (harg3 : arg3.IsWhole) (arg4 : Memref sig .tc .vmem S1x1x24 .i32) (harg4 : arg4.IsWhole)
  (arg5 : Memref sig .tc .vmem S4x8732 .f32) (harg5 : arg5.IsWhole) (arg6 : Memref sig .tc .smem S3 .f32) (harg6 : arg6.IsWhole)
  (arg7 : Memref sig .tc .vmem S16x8732 .f32) (arg8 : Memref sig .tc .vmem S16x128 .f32)
  (arg9 : Memref sig .tc .vmem S8x8732 .f32) (arg10 : Memref sig .tc .smem S4 .f32)
  (X1 : S81x8x8732.Idx → Elt Ideal .f32) (X2 : S1x4x8732.Idx → Elt Ideal .f32) (X3 : S1x24x4.Idx → Elt Ideal .f32) (X4 : S1x1x24.Idx → Elt Ideal .i32)
  (X5 : S4x8732.Idx → Elt Ideal .f32) (f6 : Held (F := Ideal) c arg6)
  (f7 : Held (F := Ideal) c arg7) (f8 : Held (F := Ideal) c arg8) (f9 : Held (F := Ideal) c arg9) (f10 : Held (F := Ideal) c arg10)
  (x : In) (P : Vec Ideal S4x8732 .f32) (b : Fin 16)

/-- What the scratches hold before image `n`. -/
structure Inv (n : ℕ) (f7 : Held (F := Ideal) c arg7) (f8 : Held (F := Ideal) c arg8) (f9 : Held (F := Ideal) c arg9) (f10 : Held (F := Ideal) c arg10) : Prop where
  losses : ∀ (b : Fin 16) (a : Fin 8732), b.val < n → rdV c arg7 f7 (ix2 b a) = cand (x.t b) x.p (x.l b) a
  counts : ∀ b : Fin 16, b.val < n → rdN c arg8 f8 (ix2 b 0) = npos (x.t b) x.p
  rows : n ≠ 0 → Rows c arg9 P f9
  pairs : n ≠ 0 → cell0 c arg10 f10 = upTo (fun b => Cert.Loss.pairs (x.t b) x.p) n
  box : n ≠ 0 → cell1 c arg10 f10 = upTo (fun b => Cert.Loss.box (x.q b) (x.t b) x.p) n
  cep : n ≠ 0 → cell2 c arg10 f10 = upTo (fun b => Cert.Loss.cep (x.t b) x.p (x.l b) (x.g b)) n

/-- What the input windows hold at image `b`. -/
structure Sees : Prop where
  img : b.val = t.val
  hP : X5 = P
  p : pOf P = x.p
  T : tOf X3 = x.t b
  Q : qOf X2 = x.q b
  G : gOf X4 = x.g b
  L : ∀ a k, X1 (ix3 k ⟨t.val % 8, Nat.mod_lt _ (by decide)⟩ a) = x.l b a k

variable (hS : Sees t X1 X2 X3 X4 X5 x P b)

include hS

theorem rdP_eq : rdP c arg5 (harg5.unread X5) = P := by
  unfold rdP
  rw [View.readAt_full, harg5.read_unread, hS.hP]
theorem rdT_eq : tOf (rdT c arg3 (harg3.unread X3)) = x.t b := by
  unfold rdT
  rw [View.readAt_full, harg3.read_unread, hS.T]
theorem rdQ_eq : qOf (rdQ c arg2 (harg2.unread X2)) = x.q b := by
  unfold rdQ
  rw [View.readAt_full, harg2.read_unread, hS.Q]
theorem rdG_eq : gOf (rdG c arg4 (harg4.unread X4)) = x.g b := by
  unfold rdG
  rw [View.readAt_full, harg4.read_unread, hS.G]
theorem rdL_eq : lOf (rdL c (grid0.coords t) arg1 (harg1.unread X1)) = x.l b := by
  funext a k
  refine Eq.trans ?_ (hS.L a k)
  unfold lOf rdL
  rw [harg1.readAt_unread]
  congr 1
  funext z
  refine Fin.ext ?_
  have h := off1_eq t
  fin_cases z
  · show k0_off1 (grid0.coords t) 0 + 1 * k.val = k.val
    rw [h]; simp
  · show k0_off1 (grid0.coords t) 1 + 1 * 0 = t.val % 8
    rw [h]; simp
  · show k0_off1 (grid0.coords t) 2 + 1 * a.val = a.val
    rw [h]; simp

theorem nine_rows (h : t.val ≠ 0 → Rows c arg9 P f9) : Rows c arg9 P (nine c (grid0.coords t) arg5 arg9 (harg5.unread X5) f9) := by
  unfold nine
  by_cases h0 : isFirst (grid0.coords t) = 1#1
  · rw [dif_pos h0, rdP_eq c t arg5 harg5 X1 X2 X3 X4 X5 x P b hS]
    exact rows_first ..
  · rw [dif_neg h0]
    exact h fun e => h0 ((first_iff t).mpr e)

variable (hR : Rows c arg9 P (nine c (grid0.coords t) arg5 arg9 (harg5.unread X5) f9))

include hR

theorem area_eq : ∀ a, g6 c (grid0.coords t) arg5 arg9 (harg5.unread X5) f9 (ix2 0 a) = area (pOf (rdP c arg5 (harg5.unread X5)) a) := fun a => by
  rw [rdP_eq c t arg5 harg5 X1 X2 X3 X4 X5 x P b hS, ← kRow6_apply]
  exact congrFun hR.r6 _

theorem vPairs_eq : vPairs c (grid0.coords t) arg3 arg5 arg9 (harg3.unread X3) (harg5.unread X5) f9 = Cert.Loss.pairs (x.t b) x.p := by
  unfold vPairs
  rw [kPairs_eq _ _ _ (area_eq c t arg5 harg5 arg9 X1 X2 X3 X4 X5 f9 x P b hS hR), rdT_eq c t arg3 harg3 X1 X2 X3 X4 X5 x P b hS,
    rdP_eq c t arg5 harg5 X1 X2 X3 X4 X5 x P b hS, hS.p]
theorem vNpos_eq : vNpos c (grid0.coords t) arg3 arg5 arg9 (harg3.unread X3) (harg5.unread X5) f9 = npos (x.t b) x.p := by
  unfold vNpos
  rw [kNpos_eq _ _ _ (area_eq c t arg5 harg5 arg9 X1 X2 X3 X4 X5 f9 x P b hS hR), rdT_eq c t arg3 harg3 X1 X2 X3 X4 X5 x P b hS,
    rdP_eq c t arg5 harg5 X1 X2 X3 X4 X5 x P b hS, hS.p]
theorem vCand_eq (a : Fin 8732) : vCand c (grid0.coords t) arg1 arg3 arg5 arg9 (harg1.unread X1) (harg3.unread X3) (harg5.unread X5) f9 (ix2 0 a)
    = cand (x.t b) x.p (x.l b) a := by
  unfold vCand
  rw [kCand_apply _ _ _ _ (area_eq c t arg5 harg5 arg9 X1 X2 X3 X4 X5 f9 x P b hS hR), rdT_eq c t arg3 harg3 X1 X2 X3 X4 X5 x P b hS,
    rdP_eq c t arg5 harg5 X1 X2 X3 X4 X5 x P b hS, hS.p, rdL_eq c t arg1 harg1 X1 X2 X3 X4 X5 x P b hS]
theorem vCep_eq : vCep c (grid0.coords t) arg1 arg3 arg4 arg5 arg9 (harg1.unread X1) (harg3.unread X3) (harg4.unread X4) (harg5.unread X5) f9
    = Cert.Loss.cep (x.t b) x.p (x.l b) (x.g b) := by
  unfold vCep
  rw [kCep_eq _ _ _ _ _ (area_eq c t arg5 harg5 arg9 X1 X2 X3 X4 X5 f9 x P b hS hR), rdT_eq c t arg3 harg3 X1 X2 X3 X4 X5 x P b hS,
    rdP_eq c t arg5 harg5 X1 X2 X3 X4 X5 x P b hS, hS.p, rdL_eq c t arg1 harg1 X1 X2 X3 X4 X5 x P b hS, rdG_eq c t arg4 harg4 X1 X2 X3 X4 X5 x P b hS]
theorem vBox_eq : vBox c (grid0.coords t) arg2 arg3 arg5 arg9 (harg2.unread X2) (harg3.unread X3) (harg5.unread X5) f9
    = Cert.Loss.box (x.q b) (x.t b) x.p := by
  have hp := rdP_eq c t arg5 harg5 X1 X2 X3 X4 X5 x P b hS
  unfold vBox
  rw [kBox_eq _ _ _ _ _ _ _ _ _ _ (hp.symm ▸ hR.r0) (hp.symm ▸ hR.r1) (hp.symm ▸ hR.r2) (hp.symm ▸ hR.r3) (hp.symm ▸ hR.r4) (hp.symm ▸ hR.r5)
    (hp.symm ▸ hR.r6), rdT_eq c t arg3 harg3 X1 X2 X3 X4 X5 x P b hS, hp, hS.p, rdQ_eq c t arg2 harg2 X1 X2 X3 X4 X5 x P b hS]

omit hR in
theorem seven_apply (b' : Fin 16) (a : Fin 8732) (w : FVec Ideal S1x8732 .f32) :
    rdV c arg7 (arg7.view.writes (Elt Ideal) f7 [⟨Rect.unit (s := S16x8732) (k0_off2 (grid0.coords t)) S1x8732.size (k0_off2_inb (grid0.coords t)), w⟩]) (ix2 b' a)
      = if b'.val = b.val then w (ix2 0 a) else rdV c arg7 f7 (ix2 b' a) := by
  unfold rdV
  rw [View.readAt_full, View.readAt_full, View.read_writes_cons_put arg7.view f7 (k0_off2_inb (grid0.coords t)) w [] (off2_eq t), put_row16, hS.img]
  rfl

omit hR in
theorem eight_apply (b' : Fin 16) (w : FVec Ideal S1x1 .f32) :
    rdN c arg8 (arg8.view.writes (Elt Ideal) f8 [⟨Rect.unit (s := S16x128) (k0_off3 (grid0.coords t)) S1x1.size (k0_off3_inb (grid0.coords t)), w⟩]) (ix2 b' 0)
      = if b'.val = b.val then w (ix2 0 0) else rdN c arg8 f8 (ix2 b' 0) := by
  have e : ∀ g : Held (F := Ideal) c arg8, rdN c arg8 g (ix2 b' 0) = arg8.view.read (Elt Ideal) g (ix2 b' 0) := fun g => by
    unfold rdN
    show arg8.view.read (Elt Ideal) g _ = _
    congr 1
    funext z
    refine Fin.ext ?_
    fin_cases z
    · show 0 + 1 * b'.val = b'.val
      omega
    · rfl
  rw [e, e, View.read_writes_cons_put arg8.view f8 (k0_off3_inb (grid0.coords t)) w [] (off3_eq t), put_cell16, hS.img]
  rfl

omit hR in
include hR in
/-- The invariant's step. -/
theorem inv_step (hI : Inv c arg7 arg8 arg9 arg10 x P b.val f7 f8 f9 f10) :
    Inv c arg7 arg8 arg9 arg10 x P (b.val + 1)
      (seven c (grid0.coords t) arg1 arg3 arg5 arg7 arg9 (harg1.unread X1) (harg3.unread X3) (harg5.unread X5) f7 f9)
      (eight c (grid0.coords t) arg3 arg5 arg8 arg9 (harg3.unread X3) (harg5.unread X5) f8 f9)
      (nine c (grid0.coords t) arg5 arg9 (harg5.unread X5) f9)
      (ten c (grid0.coords t) arg1 arg2 arg3 arg4 arg5 arg9 arg10 (harg1.unread X1) (harg2.unread X2) (harg3.unread X3) (harg4.unread X4)
        (harg5.unread X5) f9 f10) := by
  have hp := vPairs_eq c t arg3 harg3 arg5 harg5 arg9 X1 X2 X3 X4 X5 f9 x P b hS hR
  have hb := vBox_eq c t arg2 harg2 arg3 harg3 arg5 harg5 arg9 X1 X2 X3 X4 X5 f9 x P b hS hR
  have hc := vCep_eq c t arg1 harg1 arg3 harg3 arg4 harg4 arg5 harg5 arg9 X1 X2 X3 X4 X5 f9 x P b hS hR
  have cells : cell0 c arg10 (ten c (grid0.coords t) arg1 arg2 arg3 arg4 arg5 arg9 arg10 (harg1.unread X1) (harg2.unread X2) (harg3.unread X3) (harg4.unread X4)
        (harg5.unread X5) f9 f10) = upTo (fun b => Cert.Loss.pairs (x.t b) x.p) (b.val + 1)
      ∧ cell1 c arg10 (ten c (grid0.coords t) arg1 arg2 arg3 arg4 arg5 arg9 arg10 (harg1.unread X1) (harg2.unread X2) (harg3.unread X3) (harg4.unread X4)
        (harg5.unread X5) f9 f10) = upTo (fun b => Cert.Loss.box (x.q b) (x.t b) x.p) (b.val + 1)
      ∧ cell2 c arg10 (ten c (grid0.coords t) arg1 arg2 arg3 arg4 arg5 arg9 arg10 (harg1.unread X1) (harg2.unread X2) (harg3.unread X3) (harg4.unread X4)
        (harg5.unread X5) f9 f10) = upTo (fun b => Cert.Loss.cep (x.t b) x.p (x.l b) (x.g b)) (b.val + 1) := by
    unfold ten ten0
    rw [hp, hb, hc, upTo_succ, upTo_succ, upTo_succ]
    by_cases h0 : b.val = 0
    · have hl : ¬ isLater (grid0.coords t) = 1#1 := fun e => (later_iff t).mp e (hS.img ▸ h0)
      have hf : isFirst (grid0.coords t) = 1#1 := (first_iff t).mpr (hS.img ▸ h0)
      rw [dif_neg hl, dif_pos hf, h0, upTo_zero, upTo_zero, upTo_zero, zero_add, zero_add, zero_add]
      exact cell_three c arg10 f10 _ _ _
    · have hl : isLater (grid0.coords t) = 1#1 := (later_iff t).mpr (fun e => h0 (hS.img.trans e))
      have hf : ¬ isFirst (grid0.coords t) = 1#1 := fun e => h0 (hS.img.trans ((first_iff t).mp e))
      rw [dif_pos hl, dif_neg hf, hI.pairs h0, hI.box h0, hI.cep h0]
      exact cell_three c arg10 f10 _ _ _
  refine ⟨fun b' a hb' => ?_, fun b' hb' => ?_, fun _ => hR, fun _ => cells.1, fun _ => cells.2.1, fun _ => cells.2.2⟩
  · unfold seven
    rw [seven_apply c t arg7 X1 X2 X3 X4 X5 f7 x P b hS]
    by_cases h : b'.val = b.val
    · rw [if_pos h, vCand_eq c t arg1 harg1 arg3 harg3 arg5 harg5 arg9 X1 X2 X3 X4 X5 f9 x P b hS hR, Fin.ext h]
    · rw [if_neg h]
      exact hI.losses b' a (by omega)
  · unfold eight
    rw [eight_apply c t arg8 X1 X2 X3 X4 X5 f8 x P b hS]
    by_cases h : b'.val = b.val
    · rw [if_pos h, vNpos_eq c t arg3 harg3 arg5 harg5 arg9 X1 X2 X3 X4 X5 f9 x P b hS hR, Fin.ext h]
      rfl
    · rw [if_neg h]
      exact hI.counts b' (by omega)

omit hS hR in
/-- The three results, from the invariant after the last image. -/
theorem out_apply (hI : Inv c arg7 arg8 arg9 arg10 x P 16 f7 f8 f9 f10) :
    arg6.view.read (Elt Ideal) (arg6.view.writes (Elt Ideal) f6 (outPieces (rdV c arg7 f7) (rdN c arg8 f8) (cell0 c arg10 f10) (cell1 c arg10 f10)
      (cell2 c arg10 f10))) = fun y : S3.Idx => x.out (y 0) := by
  have hk : ∀ b, k0_pay16 (rdN c arg8 f8) (ix2 b 0) = x.kOf b := fun b => by
    rw [pay16_apply, hI.counts b b.isLt]; rfl
  have hv : ∀ b, vRow (rdV c arg7 f7) b = cand (x.t b) x.p (x.l b) := fun b => funext fun a => hI.losses b a b.isLt
  have hn : ∀ b, kNeg (rdV c arg7 f7) (rdN c arg8 f8) (ix2 b 0) = x.negOf b := fun b => by
    rw [kNeg_apply, hv, hI.counts b b.isLt]; rfl
  have h4 : k0_pay4 (F := Ideal) (cell0 c arg10 f10) (cell1 c arg10 f10) = x.boxLoss := by
    rw [pay4_eq, hI.pairs (by decide), hI.box (by decide), upTo_all, upTo_all]; rfl
  have h5 : k0_pay5 (F := Ideal) (k0_pay16 (rdN c arg8 f8)) (kNeg (rdV c arg7 f7) (rdN c arg8 f8)) (cell0 c arg10 f10) (cell2 c arg10 f10) = x.clsLoss := by
    rw [pay5_eq, hI.pairs (by decide), hI.cep (by decide), upTo_all, upTo_all]
    simp only [hk, hn]
    rfl
  funext y
  unfold outPieces
  rw [pay6_eq, h4, h5]
  refine (View.read_writes_cons_cell (Val := Elt Ideal) (e := .f32) (d := ![3]) arg6.view f6 inb_S3_S1_2 _ _ y).trans ?_
  by_cases h2 : (y 0).val = 2
  · rw [if_pos (by simpa using h2), show y 0 = (2 : Fin 3) from Fin.ext h2]; rfl
  rw [if_neg (by simpa using h2)]
  refine (View.read_writes_cons_cell (Val := Elt Ideal) (e := .f32) (d := ![3]) arg6.view f6 inb_S3_S1_1 _ _ y).trans ?_
  by_cases h1 : (y 0).val = 1
  · rw [if_pos (by simpa using h1), show y 0 = (1 : Fin 3) from Fin.ext h1]; rfl
  rw [if_neg (by simpa using h1)]
  refine (View.read_writes_cons_cell (Val := Elt Ideal) (e := .f32) (d := ![3]) arg6.view f6 inb_S3_S1_0 _ _ y).trans ?_
  have h0 : (y 0).val = 0 := by have : (y 0).val < 3 := (y 0).isLt; omega
  rw [if_pos (by simpa using h0), show y 0 = (0 : Fin 3) from Fin.ext h0]; rfl

end Step

end Cert.KernelIdeal.Hand

end
-- ==== Proof.KernelIdeal.Run.lean ====
/- The kernel's run over the extended reals: the sixteen points keep the invariant, and the result array ends at the three losses. -/
module

public import proofs.«01_k».proof.Proof.KernelIdeal.Point
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Loss

local notation "𝕄" => MT nD τ sig Unit (Elt Ideal) ℕ (UR sig nD τ) ℕ

variable (m : (ℓ : Loc nD τ sig) → Buf (Elt Ideal) ℓ) (ρ : Dev nD → PrngReg)

/-- The priors as the kernel's window holds them. -/
def priors (c : Dev nD) : Vec Ideal S4x8732 .f32 := fun z => (inp m c).p (z 1) (z 0)

theorem sees (c : Dev nD) (t : Fin cfg0.N) :
    Sees t (iblk m c 0 t) (iblk m c 1 t) (iblk m c 2 t) (iblk m c 3 t) (iblk m c 4 t) (inp m c) (priors m c) (im t) where
  img := im_val t
  hP := funext fun z => by
    have e : z = (ix2 (z 0) (z 1) : S4x8732.Idx) := by funext w; fin_cases w <;> rfl
    rw [e]
    exact blk4 m c t (z 0) (z 1)
  p := rfl
  T := funext fun o => funext fun j => blk2 m c t o j
  Q := funext fun a => funext fun j => blk1 m c t j a
  G := funext fun o => blk3 m c t o
  L a k := blk0 m c t k _ a (im t) (by
    rw [im_val]
    show t.val = t.val / 8 * 8 + t.val % 8
    omega)

/-- The scratches between grid points, at the invariant. -/
def Track (c : Dev nD) (n : ℕ) : sProp 𝕄 :=
  iprop((∃ f7, ∃ f8, ∃ f9, ∃ f10, ⌜Inv c (Memref.whole cc0_scratch0) (Memref.whole cc0_scratch1) (Memref.whole cc0_scratch2) (Memref.whole cc0_scratch3)
      (inp m c) (priors m c) n f7 f8 f9 f10⌝ ∗ pt c (Memref.whole cc0_scratch0) f7 ∗ pt c (Memref.whole cc0_scratch1) f8
    ∗ pt c (Memref.whole cc0_scratch2) f9 ∗ pt c (Memref.whole cc0_scratch3) f10) ∗ ∃ r, prngReg c r)

/-- What the last point leaves in the output window. -/
def outV (c : Dev nD) : S3.Idx → EReal := fun y => (inp m c).out (y 0)

/-- The proof data on core `c`. -/
def tdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV m c
  Φ t := Track m c t.val
  q _ := fullShare
  owed _ := 0

theorem tA_eq (c : Dev nD) (w : Fin cfg0.W) : (tdats m 0 c).A w = V m c (Pipeline.arrRef spec0 w) := by dsimp only [tdats]

theorem tbefore0 (c : Dev nD) (t : Fin cfg0.N) (d) : (tdats m 0 c).before 0 t d = iblk m c 0 t :=
  before0_0_of m _ (tA_eq m c 0) (fun _ => rfl) t d
theorem tbefore1 (c : Dev nD) (t : Fin cfg0.N) (d) : (tdats m 0 c).before 1 t d = iblk m c 1 t :=
  before0_1_of m _ (tA_eq m c 1) (fun _ => rfl) t d
theorem tbefore2 (c : Dev nD) (t : Fin cfg0.N) (d) : (tdats m 0 c).before 2 t d = iblk m c 2 t :=
  before0_2_of m _ (tA_eq m c 2) (fun _ => rfl) t d
theorem tbefore3 (c : Dev nD) (t : Fin cfg0.N) (d) : (tdats m 0 c).before 3 t d = iblk m c 3 t :=
  before0_3_of m _ (tA_eq m c 3) (fun _ => rfl) t d
theorem tbefore4 (c : Dev nD) (t : Fin cfg0.N) (d) : (tdats m 0 c).before 4 t d = iblk m c 4 t :=
  before0_4_of m _ (tA_eq m c 4) (fun _ => rfl) t d

/-- What a point leaves of the output window. -/
def leaves5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((tdats m 0 c).before 5 t d))
    | true => owns (c : Thread nD τ) (st0_5 t) fullShare ((tdats m 0 c).after 5 t)
  | false => owns (c : Thread nD τ) (st0_5 t) fullShare ((tdats m 0 c).after 5 t)

theorem leaves5_last (c : Dev nD) (t : Fin cfg0.N) (h : t.val = 15) :
    leaves5 m c t = owns (c : Thread nD τ) (st0_5 t) fullShare (outV m c) := by
  have hi : cfg0.idle 5 (cfg0.grid.coords t) = false := by
    show (!(k0_cond4 (grid0.coords t) == 1#1)) = false
    rw [(last_iff t).mpr h]; rfl
  unfold leaves5
  rw [hi]
  rfl

theorem leaves5_rest (c : Dev nD) (t : Fin cfg0.N) (h : t.val ≠ 15) :
    leaves5 m c t = iprop(∃ d, owns (c : Thread nD τ) (st0_5 t) fullShare ((tdats m 0 c).before 5 t d)) := by
  have hi : cfg0.idle 5 (cfg0.grid.coords t) = true := by
    show (!(k0_cond4 (grid0.coords t) == 1#1)) = true
    have : (k0_cond4 (grid0.coords t) == 1#1) = false := beq_false_of_ne fun e => h ((last_iff t).mp e)
    rw [this]; rfl
  have hf : (cfg0.win 5).flush t = false := by
    rcases hb : (cfg0.win 5).flush t with _ | _
    · rfl
    · have := (flush0_5 t).mp hb
      have ht : t.val < 16 := t.isLt
      omega
  unfold leaves5
  rw [hi, hf]

/-- What a point leaves, from the invariant it found. -/
theorem left_step (c : Dev nD) (t : Fin cfg0.N) (X6 : S3.Idx → Elt Ideal .f32)
    (f7 : Held (F := Ideal) c (Memref.whole cc0_scratch0)) (f8 : Held (F := Ideal) c (Memref.whole cc0_scratch1))
    (f9 : Held (F := Ideal) c (Memref.whole cc0_scratch2)) (f10 : Held (F := Ideal) c (Memref.whole cc0_scratch3))
    (arg1 : Memref sig .tc .vmem S81x8x8732 .f32) (harg1 : arg1.IsWhole) (arg2 : Memref sig .tc .vmem S1x4x8732 .f32) (harg2 : arg2.IsWhole)
    (arg3 : Memref sig .tc .vmem S1x24x4 .f32) (harg3 : arg3.IsWhole) (arg4 : Memref sig .tc .vmem S1x1x24 .i32) (harg4 : arg4.IsWhole)
    (arg5 : Memref sig .tc .vmem S4x8732 .f32) (harg5 : arg5.IsWhole) (arg6 : Memref sig .tc .smem S3 .f32) (harg6 : arg6.IsWhole)
    (hI : Inv c (Memref.whole cc0_scratch0) (Memref.whole cc0_scratch1) (Memref.whole cc0_scratch2) (Memref.whole cc0_scratch3)
      (inp m c) (priors m c) t.val f7 f8 f9 f10) :
    Inv c (Memref.whole cc0_scratch0) (Memref.whole cc0_scratch1) (Memref.whole cc0_scratch2) (Memref.whole cc0_scratch3)
      (inp m c) (priors m c) (t.val + 1)
      (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.2.1
      (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.2.2.1
      (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.2.2.2.1
      (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.2.2.2.2
    ∧ (t.val ≠ 15 → arg6.view.read (Elt Ideal) (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.1 = X6)
    ∧ (t.val = 15 → arg6.view.read (Elt Ideal) (left c (grid0.coords t) arg1 harg1 arg2 harg2 arg3 harg3 arg4 harg4 arg5 harg5 arg6 harg6 (iblk m c 0 t) (iblk m c 1 t) (iblk m c 2 t) (iblk m c 3 t) (iblk m c 4 t) X6 f7 f8 f9 f10).1.1 = outV m c) := by
  have hS := sees m c t
  have hR := nine_rows c t arg5 harg5 (Memref.whole cc0_scratch2) _ _ _ _ _ f9 _ _ _ hS hI.rows
  have hI' := inv_step c t arg1 harg1 arg2 harg2 arg3 harg3 arg4 harg4 arg5 harg5 (Memref.whole cc0_scratch0) (Memref.whole cc0_scratch1)
    (Memref.whole cc0_scratch2) (Memref.whole cc0_scratch3) _ _ _ _ _ f7 f8 f9 f10 _ _ _ hS hR (by rw [im_val]; exact hI)
  rw [im_val] at hI'
  unfold left
  rw [run6, run7, run8, run9, run10]
  refine ⟨hI', fun h => ?_, fun h => ?_⟩
  · rw [dif_neg (fun e => h ((last_iff t).mp e)), harg6.read_unread]
  · rw [dif_pos ((last_iff t).mpr h)]
    rw [h] at hI'
    exact out_apply c arg6 _ _ _ _ _ _ _ _ _ _ _ hI'

/-- What the body is called with at point `t`. -/
def tPre (c : Dev nD) (t : Fin cfg0.N) : sProp 𝕄 :=
  iprop(Track m c t.val ∗ (tdats m 0 c).owesAt () t.castSucc
    ∗ (∃ d, owns (c : Thread nD τ) (st0_0 t) fullShare ((tdats m 0 c).before 0 t d))
    ∗ (∃ d, owns (c : Thread nD τ) (st0_1 t) fullShare ((tdats m 0 c).before 1 t d))
    ∗ (∃ d, owns (c : Thread nD τ) (st0_2 t) fullShare ((tdats m 0 c).before 2 t d))
    ∗ (∃ d, owns (c : Thread nD τ) (st0_3 t) fullShare ((tdats m 0 c).before 3 t d))
    ∗ (∃ d, owns (c : Thread nD τ) (st0_4 t) fullShare ((tdats m 0 c).before 4 t d))
    ∗ (∃ d, owns (c : Thread nD τ) (st0_5 t) fullShare ((tdats m 0 c).before 5 t d)))

/-- What the body returns at point `t`. -/
def tPost (c : Dev nD) (t : Fin cfg0.N) : sProp 𝕄 :=
  iprop(Track m c (t.val + 1) ∗ (tdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ leaves5 m c t)

/-- The body at a point keeps the invariant. -/
theorem track_body (c : Dev nD) (t : Fin cfg0.N) :
    tPre m c t ⊢ wp frame (wpE (defs₀ (F := Ideal)) Variants.none c none) Set.univ (bodyAt0 t) (fun _ => tPost m c t) := by
  unfold tPre tPost bodyAt0 Track
  simp only [tbefore0, tbefore1, tbefore2, tbefore3, tbefore4]
  rw [show (tdats m 0 c).owesAt () t.succ = (tdats m 0 c).owesAt () t.castSucc from rfl]
  iintro ⟨⟨⟨%f7, %f8, %f9, %f10, %hI, H7, H8, H9, H10⟩, Hg⟩, HO, ⟨%d1, H1⟩, ⟨%d2, H2⟩, ⟨%d3, H3⟩, ⟨%d4, H4⟩, ⟨%d5, H5⟩, ⟨%d6, H6⟩⟩
  obtain ⟨hI', hrest, hlast⟩ := left_step m c t ((tdats m 0 c).before 5 t d6) f7 f8 f9 f10
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) hI
  iapply (kernelTriple c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (iblk m c 0 t) (iblk m c 1 t) (iblk m c 2 t) (iblk m c 3 t) (iblk m c 4 t) ((tdats m 0 c).before 5 t d6) f7 f8 f9 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  isplitl [H7 H8 H9 H10 Hg]
  · isplitl [H7 H8 H9 H10]
    · iexists _; iexists _; iexists _; iexists _
      isplitr
      · ipureintro; exact hI'
      isplitl [H7]; · iexact H7
      isplitl [H8]; · iexact H8
      isplitl [H9]; · iexact H9
      iexact H10
    iexact Hg
  isplitl [HO]; · iexact HO
  isplitl [H1]; · iexact H1
  isplitl [H2]; · iexact H2
  isplitl [H3]; · iexact H3
  isplitl [H4]; · iexact H4
  isplitl [H5]; · iexact H5
  by_cases h : t.val = 15
  · rw [leaves5_last m c t h, hlast h]
    iexact H6
  · rw [leaves5_rest m c t h, hrest h]
    iexists _; iexact H6

/-- The body obligation. -/
theorem track_obligation (c : Dev nD) : BodyObligation (tdats m 0 c) (defs₀ (F := Ideal)) Variants.none () Set.univ := fun t => by
  rw [bigSep_W0, bigSep_W0, defs₀_row]
  exact triple_restated (track_body m c t) rfl .rfl fun _ => .rfl

theorem track_in (c : Dev nD) : (Pipeline.ΦA spec0 c : sProp 𝕄) ⊢ Track m c 0 := by
  rw [held0_eq]
  unfold Held0 Track
  iintro ⟨⟨⟨%f7, H7⟩, ⟨%f8, H8⟩, ⟨%f9, H9⟩, ⟨%f10, H10⟩⟩, Hg⟩
  isplitl [H7 H8 H9 H10]
  · iexists f7; iexists f8; iexists f9; iexists f10
    isplitr
    · ipureintro
      exact ⟨fun _ _ h => absurd h (Nat.not_lt_zero _), fun _ h => absurd h (Nat.not_lt_zero _), fun h => absurd rfl h, fun h => absurd rfl h,
        fun h => absurd rfl h, fun h => absurd rfl h⟩
    isplitl [H7]; · iexact H7
    isplitl [H8]; · iexact H8
    isplitl [H9]; · iexact H9
    iexact H10
  iexact Hg

theorem track_out (c : Dev nD) (n : ℕ) : Track m c n ⊢ (Pipeline.ΦA spec0 c : sProp 𝕄) := by
  rw [held0_eq]
  unfold Held0 Track
  iintro ⟨⟨%f7, %f8, %f9, %f10, %hI, H7, H8, H9, H10⟩, Hg⟩
  isplitl [H7 H8 H9 H10]
  · isplitl [H7]; · iexists _; iexact H7
    isplitl [H8]; · iexists _; iexact H8
    isplitl [H9]; · iexists _; iexact H9
    iexists _; iexact H10
  iexact Hg

set_option backward.isDefEq.respectTransparency.types false in
/-- Every fair execution ends with the arrays at the proof data's contents and every counter at zero. -/
theorem run_track :
    θ_run defs (onTc (τ := τ) (main (F := Ideal))) (s₀ m ρ)
      (fun r => Pipeline.FramePost cfgs (tdats m) 0 (V m) r ∧ r.2.sem = fun _ => 0) :=
  Pipeline.θ_run_frame_track (Q' := _) cfgs (tdats m) (0 : Fin 1) launch0 defs₀ Variants.none m ρ main
    (hbody := fun c => (track_obligation m c).loose) (hshare := fun c => (tdats m 0 c).share_full fun _ => rfl)
    (howed := fun _ _ => rfl) (V := V m) (hmain := hmain m Variants.none) (hA := tA_eq m)
    (hin := fun c => track_in m c) (hout := fun c => track_out m c _)

theorem arr5 (c : Dev nD) : (tdats m 0 c).arrAt 5 cfg0.N = (outV m c : Vec Ideal S3 .f32) := by
  have hfl : (cfg0.win 5).flush ⟨15, by decide⟩ = true := (flush0_5 _).mpr rfl
  have hemb : ∀ (t : Fin cfg0.N) (y : S3.Idx), ((cfg0.win 5).blk t).view.emb y = y := fun t y => by
    funext x
    refine Fin.ext ?_
    have h : cc0_transform_5 (grid0.coords t) = ![0] := rfl
    fin_cases x
    show cc0_transform_5 (grid0.coords t) 0 * 3 + 1 * (y 0).val = (y 0).val
    rw [h]; simp
  refine Dat.arrAt_eq_of_cover (dat := tdats m 0 c) 5 (outV m c) (fun t _ => ?_) (fun i => ⟨⟨15, by decide⟩, hfl, ?_⟩)
  · funext y
    show outV m c _ = outV m c _
    exact congrArg (outV m c) (hemb t y).symm
  · have := ((cfg0.win 5).blk ⟨15, by decide⟩).view.emb_mem_set i
    rwa [hemb] at this

end Cert.KernelIdeal.Hand

end
-- ==== Proof.KernelIdeal.End.lean ====
/- The kernel's run at its end: the result array holds the three losses, and the arguments are unchanged. -/
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem run_out :
    θ_run (defs (F := Ideal)) (onTc (τ := τ) (main (F := Ideal))) ⟨m, fun _ => 0, ρ⟩ (fun r => ∀ c : Dev nD,
      r.2.mem ((c.tc : Thread nD τ).loc main_v4) = (outV m c : Vec Ideal S3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 5).trans (arr5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((tdats m 0 c).arrAt_in 2 rfl _).trans ((tA_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_track m ρ)

end Cert.KernelIdeal.Hand

end
-- ==== Proof.ReferenceIdeal.Line.lean ====
/- A straight line of host operations whose results are numbered one after the other, read as equations: at the end of
   the line each result is its operation's function of what its operands hold at the end of the line. -/
module

public import Idealize.ShloMosaic.Lib.StableHlo.Run

@[expose] public section

noncomputable section

namespace Cert.Line

open Idealize.ShloMosaic Idealize.ShloMosaic.TcCoe Idealize.SL.Sem Idealize.ShloMosaic.StableHlo

variable {τ : Topo} {sig : RefSig} {Val : EltTy → Type}

/-- The number of a buffer in its memory space. -/
abbrev key (r : Ref sig .tc) : ℕ := r.idx.val

/-- The operations of the line touch buffers of the TensorCore, determine what they write, and write one buffer each,
    numbered `n`, `n + 1`, … . -/
def Numbered : ℕ → List (HloOp τ sig Val) → Prop
  | _, [] => True
  | n, op :: l => (op.bufs ⊆ tcRefs τ sig ∧ op.fresh = ∅ ∧ ∃ r : Ref sig .tc, op.writes = {Proc.devRef .tc r} ∧ key r = n)
      ∧ Numbered (n + 1) l

theorem Numbered.append {n : ℕ} {l l' : List (HloOp τ sig Val)} (h : Numbered n l) (h' : Numbered (n + l.length) l') :
    Numbered n (l ++ l') := by
  induction l generalizing n with
  | nil => exact h'
  | cons op l ih =>
    refine ⟨h.1, ih h.2 ?_⟩
    rw [List.length_cons, Nat.add_comm l.length 1, ← Nat.add_assoc] at h'
    exact h'

theorem Numbered.sub {n : ℕ} {l : List (HloOp τ sig Val)} (h : Numbered n l) : l.Forall fun op => op.bufs ⊆ tcRefs τ sig := by
  induction l generalizing n with
  | nil => trivial
  | cons op l ih => exact (List.forall_cons _ _ _).mpr ⟨h.1.1, ih h.2⟩

theorem Numbered.fresh {n : ℕ} {l : List (HloOp τ sig Val)} (h : Numbered n l) : ∀ op ∈ l, op.fresh = ∅ := by
  induction l generalizing n with
  | nil => intro _ hm; exact nomatch hm
  | cons op l ih =>
    intro o ho
    rcases List.mem_cons.mp ho with rfl | ho
    · exact h.1.2.1
    · exact ih h.2 o ho

/-- A buffer numbered below the line's first result keeps its contents. -/
theorem Numbered.keep {n : ℕ} {l : List (HloOp τ sig Val)} (h : Numbered n l) {x : Ref sig .tc} (hx : key x < n)
    (V : Valuation τ sig Val) : after l V (Proc.devRef .tc x) = V (Proc.devRef .tc x) := by
  induction l generalizing n V with
  | nil => rfl
  | cons op l ih =>
    obtain ⟨⟨-, -, r, hr, hk⟩, hl⟩ := h
    rw [after_cons, ih hl (Nat.lt_succ_of_lt hx)]
    refine result_of_writes_ne op V r x hr ?_
    rintro rfl
    omega

/-- What an operation of the line leaves in the buffer it writes, of operands numbered below it. -/
theorem Numbered.read {n : ℕ} {l : List (HloOp τ sig Val)} (h : Numbered n l) {op : HloOp τ sig Val} (hop : op ∈ l)
    {y : Ref sig .tc} (hy : op.writes = {Proc.devRef .tc y}) (V : Valuation τ sig Val) :
    ∃ V' : Valuation τ sig Val, after l V (Proc.devRef .tc y) = op.result V' (Proc.devRef .tc y)
      ∧ ∀ x : Ref sig .tc, key x < key y → V' (Proc.devRef .tc x) = after l V (Proc.devRef .tc x) := by
  induction l generalizing n V with
  | nil => exact nomatch hop
  | cons o l ih =>
    obtain ⟨⟨hs, hf, r, hr, hk⟩, hl⟩ := h
    rcases List.mem_cons.mp hop with rfl | ho
    · have e : y = r := by
        have := Finset.singleton_injective (hy.symm.trans hr)
        exact Proc.devRef_injective _ this
      subst e
      refine ⟨V, by rw [after_cons, hl.keep (by omega)], fun x hx => ?_⟩
      exact ((show Numbered n (op :: l) from ⟨⟨hs, hf, y, hr, hk⟩, hl⟩).keep (hk ▸ hx) V).symm
    · exact ih hl ho (o.result V)

section Reads

variable {n : ℕ} {l : List (HloOp τ sig Val)} (h : Numbered n l) (V : Valuation τ sig Val)
include h

theorem Numbered.nullary {y : Ref sig .tc} {v : y.ty.Contents Val} {hy} (hop : nullary y v hy ∈ l) :
    after l V (Proc.devRef .tc y) = v := by
  obtain ⟨V', e, -⟩ := h.read hop rfl V
  exact e.trans (nullary_result ..)

theorem Numbered.unary {x y : Ref sig .tc} {f : x.ty.Contents Val → y.ty.Contents Val} {hx hy}
    (hop : unary x y f hx hy ∈ l) (k : key x < key y) :
    after l V (Proc.devRef .tc y) = f (after l V (Proc.devRef .tc x)) := by
  obtain ⟨V', e, he⟩ := h.read hop rfl V
  exact e.trans ((unary_result ..).trans (congrArg f (he x k)))

theorem Numbered.binary {a b y : Ref sig .tc} {f : a.ty.Contents Val → b.ty.Contents Val → y.ty.Contents Val} {ha hb hy}
    (hop : binary a b y f ha hb hy ∈ l) (ka : key a < key y) (kb : key b < key y) :
    after l V (Proc.devRef .tc y) = f (after l V (Proc.devRef .tc a)) (after l V (Proc.devRef .tc b)) := by
  obtain ⟨V', e, he⟩ := h.read hop rfl V
  exact e.trans ((binary_result ..).trans (congrArg₂ f (he a ka) (he b kb)))

theorem Numbered.ternary {c a b y : Ref sig .tc}
    {f : c.ty.Contents Val → a.ty.Contents Val → b.ty.Contents Val → y.ty.Contents Val} {hc ha hb hy}
    (hop : ternary c a b y f hc ha hb hy ∈ l) (kc : key c < key y) (ka : key a < key y) (kb : key b < key y) :
    after l V (Proc.devRef .tc y)
      = f (after l V (Proc.devRef .tc c)) (after l V (Proc.devRef .tc a)) (after l V (Proc.devRef .tc b)) := by
  obtain ⟨V', e, he⟩ := h.read hop rfl V
  refine e.trans ((ternary_result ..).trans ?_)
  rw [he c kc, he a ka, he b kb]

theorem Numbered.quaternary {a b c d y : Ref sig .tc}
    {f : a.ty.Contents Val → b.ty.Contents Val → c.ty.Contents Val → d.ty.Contents Val → y.ty.Contents Val} {ha hb hc hd hy}
    (hop : quaternary a b c d y f ha hb hc hd hy ∈ l) (ka : key a < key y) (kb : key b < key y) (kc : key c < key y)
    (kd : key d < key y) :
    after l V (Proc.devRef .tc y) = f (after l V (Proc.devRef .tc a)) (after l V (Proc.devRef .tc b))
      (after l V (Proc.devRef .tc c)) (after l V (Proc.devRef .tc d)) := by
  obtain ⟨V', e, he⟩ := h.read hop rfl V
  refine e.trans ((quaternary_result ..).trans ?_)
  rw [he a ka, he b kb, he c kc, he d kd]

theorem Numbered.nary {k : ℕ} {xs : Fin k → Ref sig .tc} {y : Ref sig .tc}
    {f : ((i : Fin k) → (xs i).ty.Contents Val) → y.ty.Contents Val} {hxs hy}
    (hop : nary xs y f hxs hy ∈ l) (hk : ∀ i, key (xs i) < key y) :
    after l V (Proc.devRef .tc y) = f fun i => after l V (Proc.devRef .tc (xs i)) := by
  obtain ⟨V', e, he⟩ := h.read hop rfl V
  exact e.trans ((nary_result ..).trans (congrArg f (funext fun i => he (xs i) (hk i))))

theorem Numbered.reshape {x y : Ref sig .tc} {he hn hx hy} (hop : reshape x y he hn hx hy ∈ l) (k : key x < key y) :
    after l V (Proc.devRef .tc y) = fun i => he ▸ shapeCast y.ty.shape (after l V (Proc.devRef .tc x)) hn i := by
  obtain ⟨V', e, h'⟩ := h.read hop rfl V
  refine e.trans ((reshape_result ..).trans ?_)
  rw [h' x k]

end Reads

end Cert.Line

end
-- ==== Proof.ReferenceIdeal.Ops.lean ====
/- The reference as a list of its host operations, and its run: it ends, and every buffer then holds what the list leaves. -/
module

public import proofs.«01_k».proof.Proof.Gen.ReferenceIdeal
public import proofs.«01_k».proof.Proof.ReferenceIdeal.Line
public import Idealize.ShloMosaic.Lib.Quiescent

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Line

variable {F : FTy → Type} [FloatOps F]

/-- The pieces of `main_v78` side by side. -/
def join_v78 : (main_v75 : Ref sig .tc).ty.Contents (Elt F) → (main_v76 : Ref sig .tc).ty.Contents (Elt F) → (main_v77 : Ref sig .tc).ty.Contents (Elt F) → (main_v78 : Ref sig .tc).ty.Contents (Elt F) :=
  (fun u0 u1 u2 => (concatenate S16x24x3 2 [⟨S16x24x1, (u0 : (⟨S16x24x1, .i32⟩ : BufTy).Contents (Elt F))⟩, ⟨S16x24x1, (u1 : (⟨S16x24x1, .i32⟩ : BufTy).Contents (Elt F))⟩, ⟨S16x24x1, (u2 : (⟨S16x24x1, .i32⟩ : BufTy).Contents (Elt F))⟩] concatenates_S16x24x1_S16x24x1_S16x24x1_S16x24x3_d2 : (⟨S16x24x3, .i32⟩ : BufTy).Contents (Elt F)))

/-- The pieces of `main_v144` side by side. -/
def join_v144 : (⟨S16x8732x24x2, .f32⟩ : BufTy).Contents (Elt F) → (⟨S16x8732x24x2, .f32⟩ : BufTy).Contents (Elt F) → (⟨S16x8732x24x4, .f32⟩ : BufTy).Contents (Elt F) :=
  (fun a b => concatenate S16x8732x24x4 3 [⟨S16x8732x24x2, a⟩, ⟨S16x8732x24x2, b⟩] concatenates_S16x8732x24x2_S16x8732x24x2_S16x8732x24x4_d3)

/-- The pieces of `main_v195` side by side. -/
def join_v195 : (main_v192 : Ref sig .tc).ty.Contents (Elt F) → (main_v193 : Ref sig .tc).ty.Contents (Elt F) → (main_v194 : Ref sig .tc).ty.Contents (Elt F) → (main_v195 : Ref sig .tc).ty.Contents (Elt F) :=
  (fun u0 u1 u2 => (concatenate S3 0 [⟨S1, (u0 : (⟨S1, .f32⟩ : BufTy).Contents (Elt F))⟩, ⟨S1, (u1 : (⟨S1, .f32⟩ : BufTy).Contents (Elt F))⟩, ⟨S1, (u2 : (⟨S1, .f32⟩ : BufTy).Contents (Elt F))⟩] concatenates_S1_S1_S1_S3_d0 : (⟨S3, .f32⟩ : BufTy).Contents (Elt F)))

/-- Operations 0 to 29. -/
abbrev line0_0 : List (HloOp τ sig (Elt F)) :=
  [ unary main_arg2 main_v0 ((extractStridedSlice S16x24x2 ![0, 0, 0] · slices_S16x24x4_S16x24x2_0_0_0) : (⟨S16x24x4, .f32⟩ : BufTy).Contents (Elt F) → (⟨S16x24x2, .f32⟩ : BufTy).Contents (Elt F)),
    unary main_v0 main_v1 (broadcastInDim S16x24x1x2 ![0, 1, 3] bcast_S16x24x2_S16x24x1x2_0_1_3 : (⟨S16x24x2, .f32⟩ : BufTy).Contents (Elt F) → (⟨S16x24x1x2, .f32⟩ : BufTy).Contents (Elt F)),
    unary main_arg3 main_v2 ((extractStridedSlice S8732x2 ![0, 0] · slices_S8732x4_S8732x2_0_0) : (⟨S8732x4, .f32⟩ : BufTy).Contents (Elt F) → (⟨S8732x2, .f32⟩ : BufTy).Contents (Elt F)),
    unary main_v2 main_v3 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v1 main_v4 (broadcastInDim S16x24x8732x2 ![0, 1, 2, 3] bcast_S16x24x1x2_S16x24x8732x2_0_1_2_3 : (⟨S16x24x1x2, .f32⟩ : BufTy).Contents (Elt F) → (⟨S16x24x8732x2, .f32⟩ : BufTy).Contents (Elt F)),
    unary main_v3 main_v5 (broadcastInDim S16x24x8732x2 ![0, 1, 2, 3] bcast_S1x1x8732x2_S16x24x8732x2_0_1_2_3 : (⟨S1x1x8732x2, .f32⟩ : BufTy).Contents (Elt F) → (⟨S16x24x8732x2, .f32⟩ : BufTy).Contents (Elt F)),
    binary main_v4 main_v5 main_v6 (maximumf : (⟨S16x24x8732x2, .f32⟩ : BufTy).Contents (Elt F) → (⟨S16x24x8732x2, .f32⟩ : BufTy).Contents (Elt F) → (⟨S16x24x8732x2, .f32⟩ : BufTy).Contents (Elt F)),
    unary main_arg2 main_v7 ((extractStridedSlice S16x24x2 ![0, 0, 2] · slices_S16x24x4_S16x24x2_0_0_2) : (⟨S16x24x4, .f32⟩ : BufTy).Contents (Elt F) → (⟨S16x24x2, .f32⟩ : BufTy).Contents (Elt F)),
    unary main_v7 main_v8 (broadcastInDim S16x24x1x2 ![0, 1, 3] bcast_S16x24x2_S16x24x1x2_0_1_3 : (⟨S16x24x2, .f32⟩ : BufTy).Contents (Elt F) → (⟨S16x24x1x2, .f32⟩ : BufTy).Contents (Elt F)),
    unary main_arg3 main_v9 ((extractStridedSlice S8732x2 ![0, 2] · slices_S8732x4_S8732x2_0_2) : (⟨S8732x4, .f32⟩ : BufTy).Contents (Elt F) → (⟨S8732x2, .f32⟩ : BufTy).Contents (Elt F)),
    unary main_v9 main_v10 (broadcastInDim S1x1x8732x2 ![2, 3] bcast_S8732x2_S1x1x8732x2_2_3 : (⟨S8732x2, .f32⟩ : BufTy).Contents (Elt F) → (⟨S1x1x8732x2, .f32⟩ : BufTy).Contents (Elt F)),
    unary main_v8 main_v11 (broadcastInDim S16x24x8732x2 ![0, 1, 2, 3] bcast_S16x24x1x2_S16x24x8732x2_0_1_2_3 : (⟨S16x24x1x2, .f32⟩ : BufTy).Contents (Elt F) → (⟨S16x24x8732x2, .f32⟩ : BufTy).Contents (Elt F)),
    unary main_v10 main_v12 (broadcastInDim S16x24x8732x2 ![0, 1, 2, 3] bcast_S1x1x8732x2_S16x24x8732x2_0_1_2_3 : (⟨S1x1x8732x2, .f32⟩ : BufTy).Contents (Elt F) → (⟨S16x24x8732x2, .f32⟩ : BufTy).Contents (Elt F)),
    binary main_v11 main_v12 main_v13 (minimumf : (⟨S16x24x8732x2, .f32⟩ : BufTy).Contents (Elt F) → (⟨S16x24x8732x2, .f32⟩ : BufTy).Contents (Elt F) → (⟨S16x24x8732x2, .f32⟩ : BufTy).Contents (Elt F)),
    binary main_v13 main_v6 main_v14 (subf : (⟨S16x24x8732x2, .f32⟩ : BufTy).Contents (Elt F) → (⟨S16x24x8732x2, .f32⟩ : BufTy).Contents (Elt F) → (⟨S16x24x8732x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S16x24x8732x2, .f32⟩) main_call0_v1) (broadcastInDim S16x24x8732x2 ![] bcast_S_S16x24x8732x2),
    TRef.binary (TRef.of (T := ⟨S16x24x8732x2, .f32⟩) main_call0_v1) (TRef.of (T := ⟨S16x24x8732x2, .f32⟩) main_v14) (TRef.of (T := ⟨S16x24x8732x2, .f32⟩) main_v15) maximumf,
    unary main_v15 main_v16 ((extractStridedSlice S16x24x8732x1 ![0, 0, 0, 0] · slices_S16x24x8732x2_S16x24x8732x1_0_0_0_0) : (⟨S16x24x8732x2, .f32⟩ : BufTy).Contents (Elt F) → (⟨S16x24x8732x1, .f32⟩ : BufTy).Contents (Elt F)),
    reshape main_v16 main_v17 (rfl : (.f32 : EltTy) = .f32) shapeCasts_S16x24x8732x1_S16x24x8732,
    unary main_v15 main_v18 ((extractStridedSlice S16x24x8732x1 ![0, 0, 0, 1] · slices_S16x24x8732x2_S16x24x8732x1_0_0_0_1) : (⟨S16x24x8732x2, .f32⟩ : BufTy).Contents (Elt F) → (⟨S16x24x8732x1, .f32⟩ : BufTy).Contents (Elt F)),
    reshape main_v18 main_v19 (rfl : (.f32 : EltTy) = .f32) shapeCasts_S16x24x8732x1_S16x24x8732,
    binary main_v17 main_v19 main_v20 (mulf : (⟨S16x24x8732, .f32⟩ : BufTy).Contents (Elt F) → (⟨S16x24x8732, .f32⟩ : BufTy).Contents (Elt F) → (⟨S16x24x8732, .f32⟩ : BufTy).Contents (Elt F)),
    unary main_arg2 main_v21 ((extractStridedSlice S16x24x1 ![0, 0, 2] · slices_S16x24x4_S16x24x1_0_0_2) : (⟨S16x24x4, .f32⟩ : BufTy).Contents (Elt F) → (⟨S16x24x1, .f32⟩ : BufTy).Contents (Elt F)),
    reshape main_v21 main_v22 (rfl : (.f32 : EltTy) = .f32) shapeCasts_S16x24x1_S16x24,
    unary main_arg2 main_v23 ((extractStridedSlice S16x24x1 ![0, 0, 0] · slices_S16x24x4_S16x24x1_0_0_0) : (⟨S16x24x4, .f32⟩ : BufTy).Contents (Elt F) → (⟨S16x24x1, .f32⟩ : BufTy).Contents (Elt F)),
    reshape main_v23 main_v24 (rfl : (.f32 : EltTy) = .f32) shapeCasts_S16x24x1_S16x24,
    binary main_v22 main_v24 main_v25 (subf : (⟨S16x24, .f32⟩ : BufTy).Contents (Elt F) → (⟨S16x24, .f32⟩ : BufTy).Contents (Elt F) → (⟨S16x24, .f32⟩ : BufTy).Contents (Elt F)),
    unary main_arg2 main_v26 ((extractStridedSlice S16x24x1 ![0, 0, 3] · slices_S16x24x4_S16x24x1_0_0_3) : (⟨S16x24x4, .f32⟩ : BufTy).Contents (Elt F) → (⟨S16x24x1, .f32⟩ : BufTy).Contents (Elt F))]

/-- Operations 30 to 59. -/
abbrev line0_1 : List (HloOp τ sig (Elt F)) :=
  [ reshape main_v26 main_v27 (rfl : (.f32 : EltTy) = .f32) shapeCasts_S16x24x1_S16x24,
    unary main_arg2 main_v28 ((extractStridedSlice S16x24x1 ![0, 0, 1] · slices_S16x24x4_S16x24x1_0_0_1) : (⟨S16x24x4, .f32⟩ : BufTy).Contents (Elt F) → (⟨S16x24x1, .f32⟩ : BufTy).Contents (Elt F)),
    reshape main_v28 main_v29 (rfl : (.f32 : EltTy) = .f32) shapeCasts_S16x24x1_S16x24,
    binary main_v27 main_v29 main_v30 (subf : (⟨S16x24, .f32⟩ : BufTy).Contents (Elt F) → (⟨S16x24, .f32⟩ : BufTy).Contents (Elt F) → (⟨S16x24, .f32⟩ : BufTy).Contents (Elt F)),
    binary main_v25 main_v30 main_v31 (mulf : (⟨S16x24, .f32⟩ : BufTy).Contents (Elt F) → (⟨S16x24, .f32⟩ : BufTy).Contents (Elt F) → (⟨S16x24, .f32⟩ : BufTy).Contents (Elt F)),
    unary main_arg3 main_v32 ((extractStridedSlice S8732x1 ![0, 2] · slices_S8732x4_S8732x1_0_2) : (⟨S8732x4, .f32⟩ : BufTy).Contents (Elt F) → (⟨S8732x1, .f32⟩ : BufTy).Contents (Elt F)),
    reshape main_v32 main_v33 (rfl : (.f32 : EltTy) = .f32) shapeCasts_S8732x1_S8732,
    unary main_arg3 main_v34 ((extractStridedSlice S8732x1 ![0, 0] · slices_S8732x4_S8732x1_0_0) : (⟨S8732x4, .f32⟩ : BufTy).Contents (Elt F) → (⟨S8732x1, .f32⟩ : BufTy).Contents (Elt F)),
    reshape main_v34 main_v35 (rfl : (.f32 : EltTy) = .f32) shapeCasts_S8732x1_S8732,
    binary main_v33 main_v35 main_v36 (subf : (⟨S8732, .f32⟩ : BufTy).Contents (Elt F) → (⟨S8732, .f32⟩ : BufTy).Contents (Elt F) → (⟨S8732, .f32⟩ : BufTy).Contents (Elt F)),
    unary main_arg3 main_v37 ((extractStridedSlice S8732x1 ![0, 3] · slices_S8732x4_S8732x1_0_3) : (⟨S8732x4, .f32⟩ : BufTy).Contents (Elt F) → (⟨S8732x1, .f32⟩ : BufTy).Contents (Elt F)),
    reshape main_v37 main_v38 (rfl : (.f32 : EltTy) = .f32) shapeCasts_S8732x1_S8732,
    unary main_arg3 main_v39 ((extractStridedSlice S8732x1 ![0, 1] · slices_S8732x4_S8732x1_0_1) : (⟨S8732x4, .f32⟩ : BufTy).Contents (Elt F) → (⟨S8732x1, .f32⟩ : BufTy).Contents (Elt F)),
    reshape main_v39 main_v40 (rfl : (.f32 : EltTy) = .f32) shapeCasts_S8732x1_S8732,
    binary main_v38 main_v40 main_v41 (subf : (⟨S8732, .f32⟩ : BufTy).Contents (Elt F) → (⟨S8732, .f32⟩ : BufTy).Contents (Elt F) → (⟨S8732, .f32⟩ : BufTy).Contents (Elt F)),
    binary main_v36 main_v41 main_v42 (mulf : (⟨S8732, .f32⟩ : BufTy).Contents (Elt F) → (⟨S8732, .f32⟩ : BufTy).Contents (Elt F) → (⟨S8732, .f32⟩ : BufTy).Contents (Elt F)),
    unary main_v31 main_v43 (broadcastInDim S16x24x1 ![0, 1] bcast_S16x24_S16x24x1_0_1 : (⟨S16x24, .f32⟩ : BufTy).Contents (Elt F) → (⟨S16x24x1, .f32⟩ : BufTy).Contents (Elt F)),
    unary main_v42 main_v44 (broadcastInDim S1x1x8732 ![2] bcast_S8732_S1x1x8732_2 : (⟨S8732, .f32⟩ : BufTy).Contents (Elt F) → (⟨S1x1x8732, .f32⟩ : BufTy).Contents (Elt F)),
    unary main_v43 main_v45 (broadcastInDim S16x24x8732 ![0, 1, 2] bcast_S16x24x1_S16x24x8732_0_1_2 : (⟨S16x24x1, .f32⟩ : BufTy).Contents (Elt F) → (⟨S16x24x8732, .f32⟩ : BufTy).Contents (Elt F)),
    unary main_v44 main_v46 (broadcastInDim S16x24x8732 ![0, 1, 2] bcast_S1x1x8732_S16x24x8732_0_1_2 : (⟨S1x1x8732, .f32⟩ : BufTy).Contents (Elt F) → (⟨S16x24x8732, .f32⟩ : BufTy).Contents (Elt F)),
    binary main_v45 main_v46 main_v47 (addf : (⟨S16x24x8732, .f32⟩ : BufTy).Contents (Elt F) → (⟨S16x24x8732, .f32⟩ : BufTy).Contents (Elt F) → (⟨S16x24x8732, .f32⟩ : BufTy).Contents (Elt F)),
    binary main_v47 main_v20 main_v48 (subf : (⟨S16x24x8732, .f32⟩ : BufTy).Contents (Elt F) → (⟨S16x24x8732, .f32⟩ : BufTy).Contents (Elt F) → (⟨S16x24x8732, .f32⟩ : BufTy).Contents (Elt F)),
    nullary main_cst_0 (constant S_ .f32 0x3089705F#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S16x24x8732, .f32⟩) main_call1_v1) (broadcastInDim S16x24x8732 ![] bcast_S_S16x24x8732),
    TRef.binary (TRef.of (T := ⟨S16x24x8732, .f32⟩) main_call1_v1) (TRef.of (T := ⟨S16x24x8732, .f32⟩) main_v48) (TRef.of (T := ⟨S16x24x8732, .f32⟩) main_v49) maximumf,
    binary main_v20 main_v49 main_v50 (Host.divf : (⟨S16x24x8732, .f32⟩ : BufTy).Contents (Elt F) → (⟨S16x24x8732, .f32⟩ : BufTy).Contents (Elt F) → (⟨S16x24x8732, .f32⟩ : BufTy).Contents (Elt F)),
    nullary main_cst_1 (constant S_ .f32 0x3EB33333#32),
    unary main_cst_1 main_v51 (broadcastInDim S16x24x8732 ![] bcast_S_S16x24x8732 : (⟨S_, .f32⟩ : BufTy).Contents (Elt F) → (⟨S16x24x8732, .f32⟩ : BufTy).Contents (Elt F)),
    binary main_v50 main_v51 main_v52 (cmpf .ogt : (⟨S16x24x8732, .f32⟩ : BufTy).Contents (Elt F) → (⟨S16x24x8732, .f32⟩ : BufTy).Contents (Elt F) → (⟨S16x24x8732, .i1⟩ : BufTy).Contents (Elt F))]

/-- Operations 60 to 67. -/
abbrev line0_2 : List (HloOp τ sig (Elt F)) :=
  [ TRef.nullary (TRef.of (T := ⟨S16x24x8732, .i32⟩) main_call2_v0) (iotaInDim S16x24x8732 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x24x8732, .f32⟩) main_v50) (TRef.of (T := ⟨S16x24x8732, .i32⟩) main_call2_v0) (TRef.of (T := ⟨S_, .f32⟩) main_call2_cst) (TRef.of (T := ⟨S_, .i32⟩) main_call2_c) (TRef.of (T := ⟨S16x24, .f32⟩) main_call2_v1_0) (fun x y u v j => (Host.argReduce reducer_argmax_f32_i32 x y u v reducesTo_S16x24x8732_S16x24_d2 h_S_ j).1),
    TRef.quaternary (TRef.of (T := ⟨S16x24x8732, .f32⟩) main_v50) (TRef.of (T := ⟨S16x24x8732, .i32⟩) main_call2_v0) (TRef.of (T := ⟨S_, .f32⟩) main_call2_cst) (TRef.of (T := ⟨S_, .i32⟩) main_call2_c) (TRef.of (T := ⟨S16x24, .i32⟩) main_v53) (fun x y u v j => (Host.argReduce reducer_argmax_f32_i32 x y u v reducesTo_S16x24x8732_S16x24_d2 h_S_ j).2),
    nullary main_v54 (iotaInDim S16 32 0),
    unary main_v54 main_v55 (broadcastInDim S16x1 ![0] bcast_S16_S16x1_0 : (⟨S16, .i32⟩ : BufTy).Contents (Elt F) → (⟨S16x1, .i32⟩ : BufTy).Contents (Elt F)),
    nullary main_v56 (iotaInDim S24 32 0)]

/-- Operations 68 to 97. -/
abbrev line1_0 : List (HloOp τ sig (Elt F)) :=
  [ unary main_v56 main_v57 (broadcastInDim S1x24 ![1] bcast_S24_S1x24_1 : (⟨S24, .i32⟩ : BufTy).Contents (Elt F) → (⟨S1x24, .i32⟩ : BufTy).Contents (Elt F)),
    nullary main_c (constantI S_ 32 0#32),
    unary main_c main_v58 (broadcastInDim S16x1 ![] bcast_S_S16x1 : (⟨S_, .i32⟩ : BufTy).Contents (Elt F) → (⟨S16x1, .i32⟩ : BufTy).Contents (Elt F)),
    binary main_v55 main_v58 main_v59 (cmpi .slt : (⟨S16x1, .i32⟩ : BufTy).Contents (Elt F) → (⟨S16x1, .i32⟩ : BufTy).Contents (Elt F) → (⟨S16x1, .i1⟩ : BufTy).Contents (Elt F)),
    nullary main_c_2 (constantI S_ 32 16#32),
    unary main_c_2 main_v60 (broadcastInDim S16x1 ![] bcast_S_S16x1 : (⟨S_, .i32⟩ : BufTy).Contents (Elt F) → (⟨S16x1, .i32⟩ : BufTy).Contents (Elt F)),
    binary main_v55 main_v60 main_v61 (addi : (⟨S16x1, .i32⟩ : BufTy).Contents (Elt F) → (⟨S16x1, .i32⟩ : BufTy).Contents (Elt F) → (⟨S16x1, .i32⟩ : BufTy).Contents (Elt F)),
    ternary main_v59 main_v61 main_v55 main_v62 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_3 (constantI S_ 32 0#32),
    unary main_c_3 main_v63 (broadcastInDim S1x24 ![] bcast_S_S1x24 : (⟨S_, .i32⟩ : BufTy).Contents (Elt F) → (⟨S1x24, .i32⟩ : BufTy).Contents (Elt F)),
    binary main_v57 main_v63 main_v64 (cmpi .slt : (⟨S1x24, .i32⟩ : BufTy).Contents (Elt F) → (⟨S1x24, .i32⟩ : BufTy).Contents (Elt F) → (⟨S1x24, .i1⟩ : BufTy).Contents (Elt F)),
    nullary main_c_4 (constantI S_ 32 24#32),
    unary main_c_4 main_v65 (broadcastInDim S1x24 ![] bcast_S_S1x24 : (⟨S_, .i32⟩ : BufTy).Contents (Elt F) → (⟨S1x24, .i32⟩ : BufTy).Contents (Elt F)),
    binary main_v57 main_v65 main_v66 (addi : (⟨S1x24, .i32⟩ : BufTy).Contents (Elt F) → (⟨S1x24, .i32⟩ : BufTy).Contents (Elt F) → (⟨S1x24, .i32⟩ : BufTy).Contents (Elt F)),
    ternary main_v64 main_v66 main_v57 main_v67 (select : (⟨S1x24, .i1⟩ : BufTy).Contents (Elt F) → (⟨S1x24, .i32⟩ : BufTy).Contents (Elt F) → (⟨S1x24, .i32⟩ : BufTy).Contents (Elt F) → (⟨S1x24, .i32⟩ : BufTy).Contents (Elt F)),
    nullary main_c_5 (constantI S_ 32 0#32),
    unary main_c_5 main_v68 (broadcastInDim S16x24 ![] bcast_S_S16x24 : (⟨S_, .i32⟩ : BufTy).Contents (Elt F) → (⟨S16x24, .i32⟩ : BufTy).Contents (Elt F)),
    binary main_v53 main_v68 main_v69 (cmpi .slt : (⟨S16x24, .i32⟩ : BufTy).Contents (Elt F) → (⟨S16x24, .i32⟩ : BufTy).Contents (Elt F) → (⟨S16x24, .i1⟩ : BufTy).Contents (Elt F)),
    nullary main_c_6 (constantI S_ 32 8732#32),
    unary main_c_6 main_v70 (broadcastInDim S16x24 ![] bcast_S_S16x24 : (⟨S_, .i32⟩ : BufTy).Contents (Elt F) → (⟨S16x24, .i32⟩ : BufTy).Contents (Elt F)),
    binary main_v53 main_v70 main_v71 (addi : (⟨S16x24, .i32⟩ : BufTy).Contents (Elt F) → (⟨S16x24, .i32⟩ : BufTy).Contents (Elt F) → (⟨S16x24, .i32⟩ : BufTy).Contents (Elt F)),
    ternary main_v69 main_v71 main_v53 main_v72 (select : (⟨S16x24, .i1⟩ : BufTy).Contents (Elt F) → (⟨S16x24, .i32⟩ : BufTy).Contents (Elt F) → (⟨S16x24, .i32⟩ : BufTy).Contents (Elt F) → (⟨S16x24, .i32⟩ : BufTy).Contents (Elt F)),
    unary main_v62 main_v73 (broadcastInDim S16x24 ![0, 1] bcast_S16x1_S16x24_0_1 : (⟨S16x1, .i32⟩ : BufTy).Contents (Elt F) → (⟨S16x24, .i32⟩ : BufTy).Contents (Elt F)),
    unary main_v67 main_v74 (broadcastInDim S16x24 ![0, 1] bcast_S1x24_S16x24_0_1 : (⟨S1x24, .i32⟩ : BufTy).Contents (Elt F) → (⟨S16x24, .i32⟩ : BufTy).Contents (Elt F)),
    unary main_v73 main_v75 (broadcastInDim S16x24x1 ![0, 1] bcast_S16x24_S16x24x1_0_1 : (⟨S16x24, .i32⟩ : BufTy).Contents (Elt F) → (⟨S16x24x1, .i32⟩ : BufTy).Contents (Elt F)),
    unary main_v74 main_v76 (broadcastInDim S16x24x1 ![0, 1] bcast_S16x24_S16x24x1_0_1 : (⟨S16x24, .i32⟩ : BufTy).Contents (Elt F) → (⟨S16x24x1, .i32⟩ : BufTy).Contents (Elt F)),
    unary main_v72 main_v77 (broadcastInDim S16x24x1 ![0, 1] bcast_S16x24_S16x24x1_0_1 : (⟨S16x24, .i32⟩ : BufTy).Contents (Elt F) → (⟨S16x24x1, .i32⟩ : BufTy).Contents (Elt F)),
    nary ![main_v75, main_v76, main_v77] main_v78 (fun u => join_v78 (u 0) (u 1) (u 2)),
    nullary main_c_7 (constantI S_ 1 1#1),
    unary main_c_7 main_v79 (broadcastInDim S16x24 ![] bcast_S_S16x24 : (⟨S_, .i1⟩ : BufTy).Contents (Elt F) → (⟨S16x24, .i1⟩ : BufTy).Contents (Elt F))]

/-- Operations 98 to 127. -/
abbrev line1_1 : List (HloOp τ sig (Elt F)) :=
  [ ternary main_v52 main_v78 main_v79 main_v80 ((fun x i u => Host.scatter scatter_S16x24x8732_S16x24x3_S16x24_n_012_012_2 (fun _ b => b) x i u) : (⟨S16x24x8732, .i1⟩ : BufTy).Contents (Elt F) → (⟨S16x24x3, .i32⟩ : BufTy).Contents (Elt F) → (⟨S16x24, .i1⟩ : BufTy).Contents (Elt F) → (⟨S16x24x8732, .i1⟩ : BufTy).Contents (Elt F)),
    unary main_v80 main_v81 ((transpose S16x8732x24 [0, 2, 1] · transposes_S16x24x8732_S16x8732x24_0_2_1) : (⟨S16x24x8732, .i1⟩ : BufTy).Contents (Elt F) → (⟨S16x8732x24, .i1⟩ : BufTy).Contents (Elt F)),
    nullary main_c_8 (constantI S_ 1 0#1),
    binary main_v81 main_c_8 main_v82 ((fun x v => Host.reduce IntOp.ori x v reducesTo_S16x8732x24_S16x8732_d2 h_S_) : (⟨S16x8732x24, .i1⟩ : BufTy).Contents (Elt F) → (⟨S_, .i1⟩ : BufTy).Contents (Elt F) → (⟨S16x8732, .i1⟩ : BufTy).Contents (Elt F)),
    nullary main_cst_9 (constant S_ .f32 0xFF800000#32),
    binary main_arg1 main_cst_9 main_v83 ((fun x v => Host.reduce FloatOps.maximumf x v reducesTo_S16x8732x81_S16x8732_d2 h_S_) : (⟨S16x8732x81, .f32⟩ : BufTy).Contents (Elt F) → (⟨S_, .f32⟩ : BufTy).Contents (Elt F) → (⟨S16x8732, .f32⟩ : BufTy).Contents (Elt F)),
    unary main_v83 main_v84 (broadcastInDim S16x8732x1 ![0, 1] bcast_S16x8732_S16x8732x1_0_1 : (⟨S16x8732, .f32⟩ : BufTy).Contents (Elt F) → (⟨S16x8732x1, .f32⟩ : BufTy).Contents (Elt F)),
    unary main_v84 main_v85 (broadcastInDim S16x8732x81 ![0, 1, 2] bcast_S16x8732x1_S16x8732x81_0_1_2 : (⟨S16x8732x1, .f32⟩ : BufTy).Contents (Elt F) → (⟨S16x8732x81, .f32⟩ : BufTy).Contents (Elt F)),
    binary main_arg1 main_v85 main_v86 (subf : (⟨S16x8732x81, .f32⟩ : BufTy).Contents (Elt F) → (⟨S16x8732x81, .f32⟩ : BufTy).Contents (Elt F) → (⟨S16x8732x81, .f32⟩ : BufTy).Contents (Elt F)),
    unary main_v86 main_v87 (Host.exp : (⟨S16x8732x81, .f32⟩ : BufTy).Contents (Elt F) → (⟨S16x8732x81, .f32⟩ : BufTy).Contents (Elt F)),
    nullary main_cst_10 (constant S_ .f32 0x00000000#32),
    binary main_v87 main_cst_10 main_v88 ((fun x v => Host.reduceAdd x v reducesTo_S16x8732x81_S16x8732_d2 h_S_) : (⟨S16x8732x81, .f32⟩ : BufTy).Contents (Elt F) → (⟨S_, .f32⟩ : BufTy).Contents (Elt F) → (⟨S16x8732, .f32⟩ : BufTy).Contents (Elt F)),
    unary main_v88 main_v89 (Host.log : (⟨S16x8732, .f32⟩ : BufTy).Contents (Elt F) → (⟨S16x8732, .f32⟩ : BufTy).Contents (Elt F)),
    binary main_v89 main_v83 main_v90 (addf : (⟨S16x8732, .f32⟩ : BufTy).Contents (Elt F) → (⟨S16x8732, .f32⟩ : BufTy).Contents (Elt F) → (⟨S16x8732, .f32⟩ : BufTy).Contents (Elt F)),
    unary main_arg1 main_v91 ((extractStridedSlice S16x8732x1 ![0, 0, 0] · slices_S16x8732x81_S16x8732x1_0_0_0) : (⟨S16x8732x81, .f32⟩ : BufTy).Contents (Elt F) → (⟨S16x8732x1, .f32⟩ : BufTy).Contents (Elt F)),
    reshape main_v91 main_v92 (rfl : (.f32 : EltTy) = .f32) shapeCasts_S16x8732x1_S16x8732,
    binary main_v90 main_v92 main_v93 (subf : (⟨S16x8732, .f32⟩ : BufTy).Contents (Elt F) → (⟨S16x8732, .f32⟩ : BufTy).Contents (Elt F) → (⟨S16x8732, .f32⟩ : BufTy).Contents (Elt F)),
    nullary main_cst_11 (constant S_ .f32 0xCE6E6B28#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S16x8732, .f32⟩) main_call3_v1) (broadcastInDim S16x8732 ![] bcast_S_S16x8732),
    TRef.ternary (TRef.of (T := ⟨S16x8732, .i1⟩) main_v82) (TRef.of (T := ⟨S16x8732, .f32⟩) main_call3_v1) (TRef.of (T := ⟨S16x8732, .f32⟩) main_v93) (TRef.of (T := ⟨S16x8732, .f32⟩) main_v94) select,
    unary main_v94 main_v95 (Host.negf : (⟨S16x8732, .f32⟩ : BufTy).Contents (Elt F) → (⟨S16x8732, .f32⟩ : BufTy).Contents (Elt F)),
    TRef.nullary (TRef.of (T := ⟨S16x8732, .i32⟩) main_call4_v0) (iotaInDim S16x8732 32 1),
    TRef.binary (TRef.of (T := ⟨S16x8732, .f32⟩) main_v95) (TRef.of (T := ⟨S16x8732, .i32⟩) main_call4_v0) (TRef.of (T := ⟨S16x8732, .f32⟩) main_call4_v1_0) (fun x y => (Host.sort2 S16x8732 1 comparator_f32_i32_d1 x y).1),
    TRef.binary (TRef.of (T := ⟨S16x8732, .f32⟩) main_v95) (TRef.of (T := ⟨S16x8732, .i32⟩) main_call4_v0) (TRef.of (T := ⟨S16x8732, .i32⟩) main_v96) (fun x y => (Host.sort2 S16x8732 1 comparator_f32_i32_d1 x y).2),
    TRef.nullary (TRef.of (T := ⟨S16x8732, .i32⟩) main_call5_v0) (iotaInDim S16x8732 32 1),
    TRef.binary (TRef.of (T := ⟨S16x8732, .i32⟩) main_v96) (TRef.of (T := ⟨S16x8732, .i32⟩) main_call5_v0) (TRef.of (T := ⟨S16x8732, .i32⟩) main_call5_v1_0) (fun x y => (Host.sort2 S16x8732 1 comparator_i32_i32_d1 x y).1),
    TRef.binary (TRef.of (T := ⟨S16x8732, .i32⟩) main_v96) (TRef.of (T := ⟨S16x8732, .i32⟩) main_call5_v0) (TRef.of (T := ⟨S16x8732, .i32⟩) main_v97) (fun x y => (Host.sort2 S16x8732 1 comparator_i32_i32_d1 x y).2),
    unary main_v82 main_v98 ((extui 32 · natLt_1_32) : (⟨S16x8732, .i1⟩ : BufTy).Contents (Elt F) → (⟨S16x8732, .i32⟩ : BufTy).Contents (Elt F)),
    nullary main_c_12 (constantI S_ 32 0#32)]

/-- Operations 128 to 133. -/
abbrev line1_2 : List (HloOp τ sig (Elt F)) :=
  [ binary main_v98 main_c_12 main_v99 ((fun x v => Host.reduce IntOp.addi x v reducesTo_S16x8732_S16_d1 h_S_) : (⟨S16x8732, .i32⟩ : BufTy).Contents (Elt F) → (⟨S_, .i32⟩ : BufTy).Contents (Elt F) → (⟨S16, .i32⟩ : BufTy).Contents (Elt F)),
    nullary main_c_13 (constantI S_ 32 7#32),
    unary main_c_13 main_v100 (broadcastInDim S16 ![] bcast_S_S16 : (⟨S_, .i32⟩ : BufTy).Contents (Elt F) → (⟨S16, .i32⟩ : BufTy).Contents (Elt F)),
    binary main_v100 main_v99 main_v101 (muli : (⟨S16, .i32⟩ : BufTy).Contents (Elt F) → (⟨S16, .i32⟩ : BufTy).Contents (Elt F) → (⟨S16, .i32⟩ : BufTy).Contents (Elt F)),
    nullary main_c_14 (constantI S_ 32 8732#32),
    unary main_c_14 main_v102 (broadcastInDim S16 ![] bcast_S_S16 : (⟨S_, .i32⟩ : BufTy).Contents (Elt F) → (⟨S16, .i32⟩ : BufTy).Contents (Elt F))]

/-- Operations 134 to 163. -/
abbrev line2_0 : List (HloOp τ sig (Elt F)) :=
  [ binary main_v102 main_v99 main_v103 (subi : (⟨S16, .i32⟩ : BufTy).Contents (Elt F) → (⟨S16, .i32⟩ : BufTy).Contents (Elt F) → (⟨S16, .i32⟩ : BufTy).Contents (Elt F)),
    binary main_v101 main_v103 main_v104 (minsi : (⟨S16, .i32⟩ : BufTy).Contents (Elt F) → (⟨S16, .i32⟩ : BufTy).Contents (Elt F) → (⟨S16, .i32⟩ : BufTy).Contents (Elt F)),
    unary main_v104 main_v105 (broadcastInDim S16x1 ![0] bcast_S16_S16x1_0 : (⟨S16, .i32⟩ : BufTy).Contents (Elt F) → (⟨S16x1, .i32⟩ : BufTy).Contents (Elt F)),
    unary main_v105 main_v106 (broadcastInDim S16x8732 ![0, 1] bcast_S16x1_S16x8732_0_1 : (⟨S16x1, .i32⟩ : BufTy).Contents (Elt F) → (⟨S16x8732, .i32⟩ : BufTy).Contents (Elt F)),
    binary main_v97 main_v106 main_v107 (cmpi .slt : (⟨S16x8732, .i32⟩ : BufTy).Contents (Elt F) → (⟨S16x8732, .i32⟩ : BufTy).Contents (Elt F) → (⟨S16x8732, .i1⟩ : BufTy).Contents (Elt F)),
    unary main_v81 main_v108 (uitofp .f32 : (⟨S16x8732x24, .i1⟩ : BufTy).Contents (Elt F) → (⟨S16x8732x24, .f32⟩ : BufTy).Contents (Elt F)),
    unary main_v107 main_v109 (uitofp .f32 : (⟨S16x8732, .i1⟩ : BufTy).Contents (Elt F) → (⟨S16x8732, .f32⟩ : BufTy).Contents (Elt F)),
    unary main_arg2 main_v110 (broadcastInDim S16x1x24x4 ![0, 2, 3] bcast_S16x24x4_S16x1x24x4_0_2_3 : (⟨S16x24x4, .f32⟩ : BufTy).Contents (Elt F) → (⟨S16x1x24x4, .f32⟩ : BufTy).Contents (Elt F)),
    unary main_arg3 main_v111 (broadcastInDim S1x8732x1x4 ![1, 3] bcast_S8732x4_S1x8732x1x4_1_3 : (⟨S8732x4, .f32⟩ : BufTy).Contents (Elt F) → (⟨S1x8732x1x4, .f32⟩ : BufTy).Contents (Elt F)),
    unary main_v110 main_v112 ((extractStridedSlice S16x1x24x2 ![0, 0, 0, 0] · slices_S16x1x24x4_S16x1x24x2_0_0_0_0) : (⟨S16x1x24x4, .f32⟩ : BufTy).Contents (Elt F) → (⟨S16x1x24x2, .f32⟩ : BufTy).Contents (Elt F)),
    unary main_v110 main_v113 ((extractStridedSlice S16x1x24x2 ![0, 0, 0, 2] · slices_S16x1x24x4_S16x1x24x2_0_0_0_2) : (⟨S16x1x24x4, .f32⟩ : BufTy).Contents (Elt F) → (⟨S16x1x24x2, .f32⟩ : BufTy).Contents (Elt F)),
    binary main_v112 main_v113 main_v114 (addf : (⟨S16x1x24x2, .f32⟩ : BufTy).Contents (Elt F) → (⟨S16x1x24x2, .f32⟩ : BufTy).Contents (Elt F) → (⟨S16x1x24x2, .f32⟩ : BufTy).Contents (Elt F)),
    nullary main_cst_15 (constant S_ .f32 0x40000000#32),
    unary main_cst_15 main_v115 (broadcastInDim S16x1x24x2 ![] bcast_S_S16x1x24x2 : (⟨S_, .f32⟩ : BufTy).Contents (Elt F) → (⟨S16x1x24x2, .f32⟩ : BufTy).Contents (Elt F)),
    binary main_v114 main_v115 main_v116 (Host.divf : (⟨S16x1x24x2, .f32⟩ : BufTy).Contents (Elt F) → (⟨S16x1x24x2, .f32⟩ : BufTy).Contents (Elt F) → (⟨S16x1x24x2, .f32⟩ : BufTy).Contents (Elt F)),
    unary main_v110 main_v117 ((extractStridedSlice S16x1x24x2 ![0, 0, 0, 2] · slices_S16x1x24x4_S16x1x24x2_0_0_0_2) : (⟨S16x1x24x4, .f32⟩ : BufTy).Contents (Elt F) → (⟨S16x1x24x2, .f32⟩ : BufTy).Contents (Elt F)),
    unary main_v110 main_v118 ((extractStridedSlice S16x1x24x2 ![0, 0, 0, 0] · slices_S16x1x24x4_S16x1x24x2_0_0_0_0) : (⟨S16x1x24x4, .f32⟩ : BufTy).Contents (Elt F) → (⟨S16x1x24x2, .f32⟩ : BufTy).Contents (Elt F)),
    binary main_v117 main_v118 main_v119 (subf : (⟨S16x1x24x2, .f32⟩ : BufTy).Contents (Elt F) → (⟨S16x1x24x2, .f32⟩ : BufTy).Contents (Elt F) → (⟨S16x1x24x2, .f32⟩ : BufTy).Contents (Elt F)),
    nullary main_cst_16 (constant S_ .f32 0x358637BD#32),
    TRef.unary (TRef.of (T := ⟨S_, .f32⟩) main_cst_16) (TRef.of (T := ⟨S_, .f32⟩) main_call6_v0) id,
    TRef.unary (TRef.of (T := ⟨S_, .f32⟩) main_call6_v0) (TRef.of (T := ⟨S16x1x24x2, .f32⟩) main_call6_v1) (broadcastInDim S16x1x24x2 ![] bcast_S_S16x1x24x2),
    TRef.binary (TRef.of (T := ⟨S16x1x24x2, .f32⟩) main_call6_v1) (TRef.of (T := ⟨S16x1x24x2, .f32⟩) main_v119) (TRef.of (T := ⟨S16x1x24x2, .f32⟩) main_v120) maximumf,
    unary main_v111 main_v121 ((extractStridedSlice S1x8732x1x2 ![0, 0, 0, 0] · slices_S1x8732x1x4_S1x8732x1x2_0_0_0_0) : (⟨S1x8732x1x4, .f32⟩ : BufTy).Contents (Elt F) → (⟨S1x8732x1x2, .f32⟩ : BufTy).Contents (Elt F)),
    unary main_v111 main_v122 ((extractStridedSlice S1x8732x1x2 ![0, 0, 0, 2] · slices_S1x8732x1x4_S1x8732x1x2_0_0_0_2) : (⟨S1x8732x1x4, .f32⟩ : BufTy).Contents (Elt F) → (⟨S1x8732x1x2, .f32⟩ : BufTy).Contents (Elt F)),
    binary main_v121 main_v122 main_v123 (addf : (⟨S1x8732x1x2, .f32⟩ : BufTy).Contents (Elt F) → (⟨S1x8732x1x2, .f32⟩ : BufTy).Contents (Elt F) → (⟨S1x8732x1x2, .f32⟩ : BufTy).Contents (Elt F)),
    nullary main_cst_17 (constant S_ .f32 0x40000000#32),
    unary main_cst_17 main_v124 (broadcastInDim S1x8732x1x2 ![] bcast_S_S1x8732x1x2 : (⟨S_, .f32⟩ : BufTy).Contents (Elt F) → (⟨S1x8732x1x2, .f32⟩ : BufTy).Contents (Elt F)),
    binary main_v123 main_v124 main_v125 (Host.divf : (⟨S1x8732x1x2, .f32⟩ : BufTy).Contents (Elt F) → (⟨S1x8732x1x2, .f32⟩ : BufTy).Contents (Elt F) → (⟨S1x8732x1x2, .f32⟩ : BufTy).Contents (Elt F)),
    unary main_v111 main_v126 ((extractStridedSlice S1x8732x1x2 ![0, 0, 0, 2] · slices_S1x8732x1x4_S1x8732x1x2_0_0_0_2) : (⟨S1x8732x1x4, .f32⟩ : BufTy).Contents (Elt F) → (⟨S1x8732x1x2, .f32⟩ : BufTy).Contents (Elt F)),
    unary main_v111 main_v127 ((extractStridedSlice S1x8732x1x2 ![0, 0, 0, 0] · slices_S1x8732x1x4_S1x8732x1x2_0_0_0_0) : (⟨S1x8732x1x4, .f32⟩ : BufTy).Contents (Elt F) → (⟨S1x8732x1x2, .f32⟩ : BufTy).Contents (Elt F))]

/-- Operations 164 to 193. -/
abbrev line2_1 : List (HloOp τ sig (Elt F)) :=
  [ binary main_v126 main_v127 main_v128 (subf : (⟨S1x8732x1x2, .f32⟩ : BufTy).Contents (Elt F) → (⟨S1x8732x1x2, .f32⟩ : BufTy).Contents (Elt F) → (⟨S1x8732x1x2, .f32⟩ : BufTy).Contents (Elt F)),
    nullary main_cst_18 (constant S_ .f32 0x358637BD#32),
    TRef.unary (TRef.of (T := ⟨S_, .f32⟩) main_cst_18) (TRef.of (T := ⟨S_, .f32⟩) main_call7_v0) id,
    TRef.unary (TRef.of (T := ⟨S_, .f32⟩) main_call7_v0) (TRef.of (T := ⟨S1x8732x1x2, .f32⟩) main_call7_v1) (broadcastInDim S1x8732x1x2 ![] bcast_S_S1x8732x1x2),
    TRef.binary (TRef.of (T := ⟨S1x8732x1x2, .f32⟩) main_call7_v1) (TRef.of (T := ⟨S1x8732x1x2, .f32⟩) main_v128) (TRef.of (T := ⟨S1x8732x1x2, .f32⟩) main_v129) maximumf,
    unary main_v116 main_v130 (broadcastInDim S16x8732x24x2 ![0, 1, 2, 3] bcast_S16x1x24x2_S16x8732x24x2_0_1_2_3 : (⟨S16x1x24x2, .f32⟩ : BufTy).Contents (Elt F) → (⟨S16x8732x24x2, .f32⟩ : BufTy).Contents (Elt F)),
    unary main_v125 main_v131 (broadcastInDim S16x8732x24x2 ![0, 1, 2, 3] bcast_S1x8732x1x2_S16x8732x24x2_0_1_2_3 : (⟨S1x8732x1x2, .f32⟩ : BufTy).Contents (Elt F) → (⟨S16x8732x24x2, .f32⟩ : BufTy).Contents (Elt F)),
    binary main_v130 main_v131 main_v132 (subf : (⟨S16x8732x24x2, .f32⟩ : BufTy).Contents (Elt F) → (⟨S16x8732x24x2, .f32⟩ : BufTy).Contents (Elt F) → (⟨S16x8732x24x2, .f32⟩ : BufTy).Contents (Elt F)),
    nullary main_cst_19 (constant S_ .f32 0x3DCCCCCD#32),
    unary main_cst_19 main_v133 (broadcastInDim S1x8732x1x2 ![] bcast_S_S1x8732x1x2 : (⟨S_, .f32⟩ : BufTy).Contents (Elt F) → (⟨S1x8732x1x2, .f32⟩ : BufTy).Contents (Elt F)),
    binary main_v129 main_v133 main_v134 (mulf : (⟨S1x8732x1x2, .f32⟩ : BufTy).Contents (Elt F) → (⟨S1x8732x1x2, .f32⟩ : BufTy).Contents (Elt F) → (⟨S1x8732x1x2, .f32⟩ : BufTy).Contents (Elt F)),
    unary main_v134 main_v135 (broadcastInDim S16x8732x24x2 ![0, 1, 2, 3] bcast_S1x8732x1x2_S16x8732x24x2_0_1_2_3 : (⟨S1x8732x1x2, .f32⟩ : BufTy).Contents (Elt F) → (⟨S16x8732x24x2, .f32⟩ : BufTy).Contents (Elt F)),
    binary main_v132 main_v135 main_v136 (Host.divf : (⟨S16x8732x24x2, .f32⟩ : BufTy).Contents (Elt F) → (⟨S16x8732x24x2, .f32⟩ : BufTy).Contents (Elt F) → (⟨S16x8732x24x2, .f32⟩ : BufTy).Contents (Elt F)),
    unary main_v120 main_v137 (broadcastInDim S16x8732x24x2 ![0, 1, 2, 3] bcast_S16x1x24x2_S16x8732x24x2_0_1_2_3 : (⟨S16x1x24x2, .f32⟩ : BufTy).Contents (Elt F) → (⟨S16x8732x24x2, .f32⟩ : BufTy).Contents (Elt F)),
    unary main_v129 main_v138 (broadcastInDim S16x8732x24x2 ![0, 1, 2, 3] bcast_S1x8732x1x2_S16x8732x24x2_0_1_2_3 : (⟨S1x8732x1x2, .f32⟩ : BufTy).Contents (Elt F) → (⟨S16x8732x24x2, .f32⟩ : BufTy).Contents (Elt F)),
    binary main_v137 main_v138 main_v139 (Host.divf : (⟨S16x8732x24x2, .f32⟩ : BufTy).Contents (Elt F) → (⟨S16x8732x24x2, .f32⟩ : BufTy).Contents (Elt F) → (⟨S16x8732x24x2, .f32⟩ : BufTy).Contents (Elt F)),
    nullary main_cst_20 (constant S_ .f32 0x358637BD#32),
    TRef.unary (TRef.of (T := ⟨S_, .f32⟩) main_cst_20) (TRef.of (T := ⟨S_, .f32⟩) main_call8_v0) id,
    TRef.unary (TRef.of (T := ⟨S_, .f32⟩) main_call8_v0) (TRef.of (T := ⟨S16x8732x24x2, .f32⟩) main_call8_v1) (broadcastInDim S16x8732x24x2 ![] bcast_S_S16x8732x24x2),
    TRef.binary (TRef.of (T := ⟨S16x8732x24x2, .f32⟩) main_call8_v1) (TRef.of (T := ⟨S16x8732x24x2, .f32⟩) main_v139) (TRef.of (T := ⟨S16x8732x24x2, .f32⟩) main_v140) maximumf,
    unary main_v140 main_v141 (Host.log : (⟨S16x8732x24x2, .f32⟩ : BufTy).Contents (Elt F) → (⟨S16x8732x24x2, .f32⟩ : BufTy).Contents (Elt F)),
    nullary main_cst_21 (constant S_ .f32 0x3E4CCCCD#32),
    unary main_cst_21 main_v142 (broadcastInDim S16x8732x24x2 ![] bcast_S_S16x8732x24x2 : (⟨S_, .f32⟩ : BufTy).Contents (Elt F) → (⟨S16x8732x24x2, .f32⟩ : BufTy).Contents (Elt F)),
    binary main_v141 main_v142 main_v143 (Host.divf : (⟨S16x8732x24x2, .f32⟩ : BufTy).Contents (Elt F) → (⟨S16x8732x24x2, .f32⟩ : BufTy).Contents (Elt F) → (⟨S16x8732x24x2, .f32⟩ : BufTy).Contents (Elt F)),
    binary main_v136 main_v143 main_v144 (join_v144 (F := F)),
    unary main_arg0 main_v145 (broadcastInDim S16x8732x1x4 ![0, 1, 3] bcast_S16x8732x4_S16x8732x1x4_0_1_3 : (⟨S16x8732x4, .f32⟩ : BufTy).Contents (Elt F) → (⟨S16x8732x1x4, .f32⟩ : BufTy).Contents (Elt F)),
    unary main_v145 main_v146 (broadcastInDim S16x8732x24x4 ![0, 1, 2, 3] bcast_S16x8732x1x4_S16x8732x24x4_0_1_2_3 : (⟨S16x8732x1x4, .f32⟩ : BufTy).Contents (Elt F) → (⟨S16x8732x24x4, .f32⟩ : BufTy).Contents (Elt F)),
    binary main_v146 main_v144 main_v147 (subf : (⟨S16x8732x24x4, .f32⟩ : BufTy).Contents (Elt F) → (⟨S16x8732x24x4, .f32⟩ : BufTy).Contents (Elt F) → (⟨S16x8732x24x4, .f32⟩ : BufTy).Contents (Elt F)),
    unary main_v147 main_v148 (Host.absf : (⟨S16x8732x24x4, .f32⟩ : BufTy).Contents (Elt F) → (⟨S16x8732x24x4, .f32⟩ : BufTy).Contents (Elt F)),
    nullary main_cst_22 (constant S_ .f32 0x3F800000#32)]

/-- Operations 194 to 199. -/
abbrev line2_2 : List (HloOp τ sig (Elt F)) :=
  [ unary main_cst_22 main_v149 (broadcastInDim S16x8732x24x4 ![] bcast_S_S16x8732x24x4 : (⟨S_, .f32⟩ : BufTy).Contents (Elt F) → (⟨S16x8732x24x4, .f32⟩ : BufTy).Contents (Elt F)),
    binary main_v148 main_v149 main_v150 (cmpf .olt : (⟨S16x8732x24x4, .f32⟩ : BufTy).Contents (Elt F) → (⟨S16x8732x24x4, .f32⟩ : BufTy).Contents (Elt F) → (⟨S16x8732x24x4, .i1⟩ : BufTy).Contents (Elt F)),
    nullary main_cst_23 (constant S_ .f32 0x3F000000#32),
    unary main_cst_23 main_v151 (broadcastInDim S16x8732x24x4 ![] bcast_S_S16x8732x24x4 : (⟨S_, .f32⟩ : BufTy).Contents (Elt F) → (⟨S16x8732x24x4, .f32⟩ : BufTy).Contents (Elt F)),
    binary main_v151 main_v147 main_v152 (mulf : (⟨S16x8732x24x4, .f32⟩ : BufTy).Contents (Elt F) → (⟨S16x8732x24x4, .f32⟩ : BufTy).Contents (Elt F) → (⟨S16x8732x24x4, .f32⟩ : BufTy).Contents (Elt F)),
    binary main_v152 main_v147 main_v153 (mulf : (⟨S16x8732x24x4, .f32⟩ : BufTy).Contents (Elt F) → (⟨S16x8732x24x4, .f32⟩ : BufTy).Contents (Elt F) → (⟨S16x8732x24x4, .f32⟩ : BufTy).Contents (Elt F))]

/-- Operations 200 to 229. -/
abbrev line3_0 : List (HloOp τ sig (Elt F)) :=
  [ nullary main_cst_24 (constant S_ .f32 0x3F000000#32),
    unary main_cst_24 main_v154 (broadcastInDim S16x8732x24x4 ![] bcast_S_S16x8732x24x4 : (⟨S_, .f32⟩ : BufTy).Contents (Elt F) → (⟨S16x8732x24x4, .f32⟩ : BufTy).Contents (Elt F)),
    binary main_v148 main_v154 main_v155 (subf : (⟨S16x8732x24x4, .f32⟩ : BufTy).Contents (Elt F) → (⟨S16x8732x24x4, .f32⟩ : BufTy).Contents (Elt F) → (⟨S16x8732x24x4, .f32⟩ : BufTy).Contents (Elt F)),
    TRef.ternary (TRef.of (T := ⟨S16x8732x24x4, .i1⟩) main_v150) (TRef.of (T := ⟨S16x8732x24x4, .f32⟩) main_v153) (TRef.of (T := ⟨S16x8732x24x4, .f32⟩) main_v155) (TRef.of (T := ⟨S16x8732x24x4, .f32⟩) main_v156) select,
    nullary main_cst_25 (constant S_ .f32 0x00000000#32),
    binary main_v108 main_cst_25 main_v157 ((fun x v => Host.reduceAdd x v reducesTo_S16x8732x24_S_d0_1_2 h_S_) : (⟨S16x8732x24, .f32⟩ : BufTy).Contents (Elt F) → (⟨S_, .f32⟩ : BufTy).Contents (Elt F) → (⟨S_, .f32⟩ : BufTy).Contents (Elt F)),
    nullary main_cst_26 (constant S_ .f32 0x3F800000#32),
    TRef.unary (TRef.of (T := ⟨S_, .f32⟩) main_cst_26) (TRef.of (T := ⟨S_, .f32⟩) main_call10_v0) id,
    TRef.binary (TRef.of (T := ⟨S_, .f32⟩) main_call10_v0) (TRef.of (T := ⟨S_, .f32⟩) main_v157) (TRef.of (T := ⟨S_, .f32⟩) main_v158) maximumf,
    unary main_v108 main_v159 (broadcastInDim S16x8732x24x1 ![0, 1, 2] bcast_S16x8732x24_S16x8732x24x1_0_1_2 : (⟨S16x8732x24, .f32⟩ : BufTy).Contents (Elt F) → (⟨S16x8732x24x1, .f32⟩ : BufTy).Contents (Elt F)),
    unary main_v159 main_v160 (broadcastInDim S16x8732x24x4 ![0, 1, 2, 3] bcast_S16x8732x24x1_S16x8732x24x4_0_1_2_3 : (⟨S16x8732x24x1, .f32⟩ : BufTy).Contents (Elt F) → (⟨S16x8732x24x4, .f32⟩ : BufTy).Contents (Elt F)),
    binary main_v156 main_v160 main_v161 (mulf : (⟨S16x8732x24x4, .f32⟩ : BufTy).Contents (Elt F) → (⟨S16x8732x24x4, .f32⟩ : BufTy).Contents (Elt F) → (⟨S16x8732x24x4, .f32⟩ : BufTy).Contents (Elt F)),
    nullary main_cst_27 (constant S_ .f32 0x00000000#32),
    binary main_v161 main_cst_27 main_v162 ((fun x v => Host.reduceAdd x v reducesTo_S16x8732x24x4_S_d0_1_2_3 h_S_) : (⟨S16x8732x24x4, .f32⟩ : BufTy).Contents (Elt F) → (⟨S_, .f32⟩ : BufTy).Contents (Elt F) → (⟨S_, .f32⟩ : BufTy).Contents (Elt F)),
    binary main_v162 main_v158 main_v163 (Host.divf : (⟨S_, .f32⟩ : BufTy).Contents (Elt F) → (⟨S_, .f32⟩ : BufTy).Contents (Elt F) → (⟨S_, .f32⟩ : BufTy).Contents (Elt F)),
    nullary main_cst_28 (constant S_ .f32 0xFF800000#32),
    binary main_arg1 main_cst_28 main_v164 ((fun x v => Host.reduce FloatOps.maximumf x v reducesTo_S16x8732x81_S16x8732_d2 h_S_) : (⟨S16x8732x81, .f32⟩ : BufTy).Contents (Elt F) → (⟨S_, .f32⟩ : BufTy).Contents (Elt F) → (⟨S16x8732, .f32⟩ : BufTy).Contents (Elt F)),
    unary main_v164 main_v165 (broadcastInDim S16x8732x1 ![0, 1] bcast_S16x8732_S16x8732x1_0_1 : (⟨S16x8732, .f32⟩ : BufTy).Contents (Elt F) → (⟨S16x8732x1, .f32⟩ : BufTy).Contents (Elt F)),
    unary main_v165 main_v166 (broadcastInDim S16x8732x81 ![0, 1, 2] bcast_S16x8732x1_S16x8732x81_0_1_2 : (⟨S16x8732x1, .f32⟩ : BufTy).Contents (Elt F) → (⟨S16x8732x81, .f32⟩ : BufTy).Contents (Elt F)),
    binary main_arg1 main_v166 main_v167 (subf : (⟨S16x8732x81, .f32⟩ : BufTy).Contents (Elt F) → (⟨S16x8732x81, .f32⟩ : BufTy).Contents (Elt F) → (⟨S16x8732x81, .f32⟩ : BufTy).Contents (Elt F)),
    unary main_v167 main_v168 (Host.exp : (⟨S16x8732x81, .f32⟩ : BufTy).Contents (Elt F) → (⟨S16x8732x81, .f32⟩ : BufTy).Contents (Elt F)),
    nullary main_cst_29 (constant S_ .f32 0x00000000#32),
    binary main_v168 main_cst_29 main_v169 ((fun x v => Host.reduceAdd x v reducesTo_S16x8732x81_S16x8732_d2 h_S_) : (⟨S16x8732x81, .f32⟩ : BufTy).Contents (Elt F) → (⟨S_, .f32⟩ : BufTy).Contents (Elt F) → (⟨S16x8732, .f32⟩ : BufTy).Contents (Elt F)),
    unary main_v169 main_v170 (Host.log : (⟨S16x8732, .f32⟩ : BufTy).Contents (Elt F) → (⟨S16x8732, .f32⟩ : BufTy).Contents (Elt F)),
    binary main_v170 main_v164 main_v171 (addf : (⟨S16x8732, .f32⟩ : BufTy).Contents (Elt F) → (⟨S16x8732, .f32⟩ : BufTy).Contents (Elt F) → (⟨S16x8732, .f32⟩ : BufTy).Contents (Elt F)),
    unary main_arg4 main_v172 (broadcastInDim S16x1x24 ![0, 2] bcast_S16x24_S16x1x24_0_2 : (⟨S16x24, .i32⟩ : BufTy).Contents (Elt F) → (⟨S16x1x24, .i32⟩ : BufTy).Contents (Elt F)),
    unary main_v172 main_v173 (broadcastInDim S16x8732x24 ![0, 1, 2] bcast_S16x1x24_S16x8732x24_0_1_2 : (⟨S16x1x24, .i32⟩ : BufTy).Contents (Elt F) → (⟨S16x8732x24, .i32⟩ : BufTy).Contents (Elt F)),
    TRef.nullary (TRef.of (T := ⟨S_, .i32⟩) main_call11_c) (constantI S_ 32 0#32),
    TRef.unary (TRef.of (T := ⟨S_, .i32⟩) main_call11_c) (TRef.of (T := ⟨S16x8732x24, .i32⟩) main_call11_v0) (broadcastInDim S16x8732x24 ![] bcast_S_S16x8732x24),
    TRef.binary (TRef.of (T := ⟨S16x8732x24, .i32⟩) main_v173) (TRef.of (T := ⟨S16x8732x24, .i32⟩) main_call11_v0) (TRef.of (T := ⟨S16x8732x24, .i1⟩) main_call11_v1) (cmpi .slt)]

/-- Operations 230 to 259. -/
abbrev line3_1 : List (HloOp τ sig (Elt F)) :=
  [ TRef.nullary (TRef.of (T := ⟨S_, .i32⟩) main_call11_c_0) (constantI S_ 32 81#32),
    TRef.unary (TRef.of (T := ⟨S_, .i32⟩) main_call11_c_0) (TRef.of (T := ⟨S16x8732x24, .i32⟩) main_call11_v2) (broadcastInDim S16x8732x24 ![] bcast_S_S16x8732x24),
    TRef.binary (TRef.of (T := ⟨S16x8732x24, .i32⟩) main_v173) (TRef.of (T := ⟨S16x8732x24, .i32⟩) main_call11_v2) (TRef.of (T := ⟨S16x8732x24, .i32⟩) main_call11_v3) addi,
    TRef.ternary (TRef.of (T := ⟨S16x8732x24, .i1⟩) main_call11_v1) (TRef.of (T := ⟨S16x8732x24, .i32⟩) main_call11_v3) (TRef.of (T := ⟨S16x8732x24, .i32⟩) main_v173) (TRef.of (T := ⟨S16x8732x24, .i32⟩) main_call11_v4) select,
    TRef.reshape (TRef.of (T := ⟨S16x8732x24, .i32⟩) main_call11_v4) (TRef.of (T := ⟨S16x8732x24x1, .i32⟩) main_call11_v5) (rfl : (.i32 : EltTy) = .i32) shapeCasts_S16x8732x24_S16x8732x24x1,
    TRef.nullary (TRef.of (T := ⟨S1, .i32⟩) main_call11_c_1) (constantI S1 32 80#32),
    TRef.nullary (TRef.of (T := ⟨S_, .i32⟩) main_call11_c_2) (constantI S_ 32 0#32),
    TRef.unary (TRef.of (T := ⟨S_, .i32⟩) main_call11_c_2) (TRef.of (T := ⟨S16x8732x24x1, .i32⟩) main_call11_v6) (broadcastInDim S16x8732x24x1 ![] bcast_S_S16x8732x24x1),
    TRef.binary (TRef.of (T := ⟨S16x8732x24x1, .i32⟩) main_call11_v5) (TRef.of (T := ⟨S16x8732x24x1, .i32⟩) main_call11_v6) (TRef.of (T := ⟨S16x8732x24x1, .i1⟩) main_call11_v7) (cmpi .sge),
    TRef.unary (TRef.of (T := ⟨S1, .i32⟩) main_call11_c_1) (TRef.of (T := ⟨S1x1x1x1, .i32⟩) main_call11_v8) (broadcastInDim S1x1x1x1 ![3] bcast_S1_S1x1x1x1_3),
    TRef.unary (TRef.of (T := ⟨S1x1x1x1, .i32⟩) main_call11_v8) (TRef.of (T := ⟨S16x8732x24x1, .i32⟩) main_call11_v9) (broadcastInDim S16x8732x24x1 ![0, 1, 2, 3] bcast_S1x1x1x1_S16x8732x24x1_0_1_2_3),
    TRef.binary (TRef.of (T := ⟨S16x8732x24x1, .i32⟩) main_call11_v5) (TRef.of (T := ⟨S16x8732x24x1, .i32⟩) main_call11_v9) (TRef.of (T := ⟨S16x8732x24x1, .i1⟩) main_call11_v10) (cmpi .sle),
    TRef.binary (TRef.of (T := ⟨S16x8732x24x1, .i1⟩) main_call11_v7) (TRef.of (T := ⟨S16x8732x24x1, .i1⟩) main_call11_v10) (TRef.of (T := ⟨S16x8732x24x1, .i1⟩) main_call11_v11) andi,
    TRef.nullary (TRef.of (T := ⟨S_, .i1⟩) main_call11_c_3) (constantI S_ 1 1#1),
    TRef.binary (TRef.of (T := ⟨S16x8732x24x1, .i1⟩) main_call11_v11) (TRef.of (T := ⟨S_, .i1⟩) main_call11_c_3) (TRef.of (T := ⟨S16x8732x24, .i1⟩) main_call11_v12) (fun x v => Host.reduce IntOp.andi x v reducesTo_S16x8732x24x1_S16x8732x24_d3 h_S_),
    TRef.binary (TRef.of (T := ⟨S16x8732x81, .f32⟩) main_arg1) (TRef.of (T := ⟨S16x8732x24x1, .i32⟩) main_call11_v5) (TRef.of (T := ⟨S16x8732x24, .f32⟩) main_call11_v13) (fun x i => Host.gather gather_S16x8732x81_S16x8732x24x1_S16x8732x24_n_2_01_01_2_3_111 x i),
    TRef.nullary (TRef.of (T := ⟨S_, .f32⟩) main_call11_cst) (constant S_ .f32 0x7FC00000#32),
    TRef.unary (TRef.of (T := ⟨S_, .f32⟩) main_call11_cst) (TRef.of (T := ⟨S16x8732x24, .f32⟩) main_call11_v14) (broadcastInDim S16x8732x24 ![] bcast_S_S16x8732x24),
    TRef.ternary (TRef.of (T := ⟨S16x8732x24, .i1⟩) main_call11_v12) (TRef.of (T := ⟨S16x8732x24, .f32⟩) main_call11_v13) (TRef.of (T := ⟨S16x8732x24, .f32⟩) main_call11_v14) (TRef.of (T := ⟨S16x8732x24, .f32⟩) main_v174) select,
    unary main_v171 main_v175 (broadcastInDim S16x8732x1 ![0, 1] bcast_S16x8732_S16x8732x1_0_1 : (⟨S16x8732, .f32⟩ : BufTy).Contents (Elt F) → (⟨S16x8732x1, .f32⟩ : BufTy).Contents (Elt F)),
    unary main_v175 main_v176 (broadcastInDim S16x8732x24 ![0, 1, 2] bcast_S16x8732x1_S16x8732x24_0_1_2 : (⟨S16x8732x1, .f32⟩ : BufTy).Contents (Elt F) → (⟨S16x8732x24, .f32⟩ : BufTy).Contents (Elt F)),
    binary main_v176 main_v174 main_v177 (subf : (⟨S16x8732x24, .f32⟩ : BufTy).Contents (Elt F) → (⟨S16x8732x24, .f32⟩ : BufTy).Contents (Elt F) → (⟨S16x8732x24, .f32⟩ : BufTy).Contents (Elt F)),
    unary main_arg1 main_v178 ((extractStridedSlice S16x8732x1 ![0, 0, 0] · slices_S16x8732x81_S16x8732x1_0_0_0) : (⟨S16x8732x81, .f32⟩ : BufTy).Contents (Elt F) → (⟨S16x8732x1, .f32⟩ : BufTy).Contents (Elt F)),
    reshape main_v178 main_v179 (rfl : (.f32 : EltTy) = .f32) shapeCasts_S16x8732x1_S16x8732,
    binary main_v171 main_v179 main_v180 (subf : (⟨S16x8732, .f32⟩ : BufTy).Contents (Elt F) → (⟨S16x8732, .f32⟩ : BufTy).Contents (Elt F) → (⟨S16x8732, .f32⟩ : BufTy).Contents (Elt F)),
    nullary main_cst_30 (constant S_ .f32 0x00000000#32),
    binary main_v108 main_cst_30 main_v181 ((fun x v => Host.reduceAdd x v reducesTo_S16x8732x24_S_d0_1_2 h_S_) : (⟨S16x8732x24, .f32⟩ : BufTy).Contents (Elt F) → (⟨S_, .f32⟩ : BufTy).Contents (Elt F) → (⟨S_, .f32⟩ : BufTy).Contents (Elt F)),
    nullary main_cst_31 (constant S_ .f32 0x00000000#32),
    binary main_v109 main_cst_31 main_v182 ((fun x v => Host.reduceAdd x v reducesTo_S16x8732_S_d0_1 h_S_) : (⟨S16x8732, .f32⟩ : BufTy).Contents (Elt F) → (⟨S_, .f32⟩ : BufTy).Contents (Elt F) → (⟨S_, .f32⟩ : BufTy).Contents (Elt F)),
    binary main_v181 main_v182 main_v183 (addf : (⟨S_, .f32⟩ : BufTy).Contents (Elt F) → (⟨S_, .f32⟩ : BufTy).Contents (Elt F) → (⟨S_, .f32⟩ : BufTy).Contents (Elt F))]

/-- Operations 260 to 275. -/
abbrev line3_2 : List (HloOp τ sig (Elt F)) :=
  [ nullary main_cst_32 (constant S_ .f32 0x3F800000#32),
    TRef.unary (TRef.of (T := ⟨S_, .f32⟩) main_cst_32) (TRef.of (T := ⟨S_, .f32⟩) main_call12_v0) id,
    TRef.binary (TRef.of (T := ⟨S_, .f32⟩) main_call12_v0) (TRef.of (T := ⟨S_, .f32⟩) main_v183) (TRef.of (T := ⟨S_, .f32⟩) main_v184) maximumf,
    binary main_v177 main_v108 main_v185 (mulf : (⟨S16x8732x24, .f32⟩ : BufTy).Contents (Elt F) → (⟨S16x8732x24, .f32⟩ : BufTy).Contents (Elt F) → (⟨S16x8732x24, .f32⟩ : BufTy).Contents (Elt F)),
    nullary main_cst_33 (constant S_ .f32 0x00000000#32),
    binary main_v185 main_cst_33 main_v186 ((fun x v => Host.reduceAdd x v reducesTo_S16x8732x24_S_d0_1_2 h_S_) : (⟨S16x8732x24, .f32⟩ : BufTy).Contents (Elt F) → (⟨S_, .f32⟩ : BufTy).Contents (Elt F) → (⟨S_, .f32⟩ : BufTy).Contents (Elt F)),
    binary main_v180 main_v109 main_v187 (mulf : (⟨S16x8732, .f32⟩ : BufTy).Contents (Elt F) → (⟨S16x8732, .f32⟩ : BufTy).Contents (Elt F) → (⟨S16x8732, .f32⟩ : BufTy).Contents (Elt F)),
    nullary main_cst_34 (constant S_ .f32 0x00000000#32),
    binary main_v187 main_cst_34 main_v188 ((fun x v => Host.reduceAdd x v reducesTo_S16x8732_S_d0_1 h_S_) : (⟨S16x8732, .f32⟩ : BufTy).Contents (Elt F) → (⟨S_, .f32⟩ : BufTy).Contents (Elt F) → (⟨S_, .f32⟩ : BufTy).Contents (Elt F)),
    binary main_v186 main_v188 main_v189 (addf : (⟨S_, .f32⟩ : BufTy).Contents (Elt F) → (⟨S_, .f32⟩ : BufTy).Contents (Elt F) → (⟨S_, .f32⟩ : BufTy).Contents (Elt F)),
    binary main_v189 main_v184 main_v190 (Host.divf : (⟨S_, .f32⟩ : BufTy).Contents (Elt F) → (⟨S_, .f32⟩ : BufTy).Contents (Elt F) → (⟨S_, .f32⟩ : BufTy).Contents (Elt F)),
    binary main_v163 main_v190 main_v191 (addf : (⟨S_, .f32⟩ : BufTy).Contents (Elt F) → (⟨S_, .f32⟩ : BufTy).Contents (Elt F) → (⟨S_, .f32⟩ : BufTy).Contents (Elt F)),
    unary main_v163 main_v192 (broadcastInDim S1 ![] bcast_S_S1 : (⟨S_, .f32⟩ : BufTy).Contents (Elt F) → (⟨S1, .f32⟩ : BufTy).Contents (Elt F)),
    unary main_v190 main_v193 (broadcastInDim S1 ![] bcast_S_S1 : (⟨S_, .f32⟩ : BufTy).Contents (Elt F) → (⟨S1, .f32⟩ : BufTy).Contents (Elt F)),
    unary main_v191 main_v194 (broadcastInDim S1 ![] bcast_S_S1 : (⟨S_, .f32⟩ : BufTy).Contents (Elt F) → (⟨S1, .f32⟩ : BufTy).Contents (Elt F)),
    nary ![main_v192, main_v193, main_v194] main_v195 (fun u => join_v195 (u 0) (u 1) (u 2))]

/-- The operations of `main_part0`. -/
def part0 : List (HloOp τ sig (Elt F)) := line0_0 ++ (line0_1 ++ line0_2)

/-- The operations of `main_part1`. -/
def part1 : List (HloOp τ sig (Elt F)) := line1_0 ++ (line1_1 ++ line1_2)

/-- The operations of `main_part2`. -/
def part2 : List (HloOp τ sig (Elt F)) := line2_0 ++ (line2_1 ++ line2_2)

/-- The operations of `main_part3`. -/
def part3 : List (HloOp τ sig (Elt F)) := line3_0 ++ (line3_1 ++ line3_2)

/-- The operations of the reference. -/
def ops : List (HloOp τ sig (Elt F)) := part0 ++ (part1 ++ (part2 ++ part3))

set_option maxRecDepth 8192 in
set_option maxHeartbeats 4000000 in
theorem main_part0_eq (c : Dev nD) : main_part0 (F := F) c = seq part0 := rfl

set_option maxRecDepth 8192 in
set_option maxHeartbeats 4000000 in
theorem main_part1_eq (c : Dev nD) : main_part1 (F := F) c = seq part1 := rfl

set_option maxRecDepth 8192 in
set_option maxHeartbeats 4000000 in
theorem main_part2_eq (c : Dev nD) : main_part2 (F := F) c = seq part2 := rfl

set_option maxRecDepth 8192 in
set_option maxHeartbeats 4000000 in
theorem main_part3_eq (c : Dev nD) : main_part3 (F := F) c = seq part3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem line0_0_numbered : Numbered 5 (line0_0 : List (HloOp τ sig (Elt F))) :=
  ⟨⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨unary_bufs_sub .., rfl, _, rfl, rfl⟩, trivial⟩

set_option maxRecDepth 8192 in
theorem line0_1_numbered : Numbered 35 (line0_1 : List (HloOp τ sig (Elt F))) :=
  ⟨⟨reshape_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, trivial⟩

set_option maxRecDepth 8192 in
theorem line0_2_numbered : Numbered 65 (line0_2 : List (HloOp τ sig (Elt F))) :=
  ⟨⟨nullary_bufs_sub .., rfl, _, rfl, rfl⟩, ⟨nullary_bufs_sub .., rfl, _, rfl, rfl⟩, ⟨nullary_bufs_sub .., rfl, _, rfl, rfl⟩, ⟨quaternary_bufs_sub .., rfl, _, rfl, rfl⟩, ⟨quaternary_bufs_sub .., rfl, _, rfl, rfl⟩, ⟨nullary_bufs_sub .., rfl, _, rfl, rfl⟩, ⟨unary_bufs_sub .., rfl, _, rfl, rfl⟩, ⟨nullary_bufs_sub .., rfl, _, rfl, rfl⟩, trivial⟩

set_option maxRecDepth 8192 in
theorem line1_0_numbered : Numbered 73 (line1_0 : List (HloOp τ sig (Elt F))) :=
  ⟨⟨unary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨ternary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨ternary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨ternary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨nary_bufs_sub .., rfl, _, rfl, rfl⟩, ⟨nullary_bufs_sub .., rfl, _, rfl, rfl⟩, ⟨unary_bufs_sub .., rfl, _, rfl, rfl⟩, trivial⟩

set_option maxRecDepth 8192 in
theorem line1_1_numbered : Numbered 103 (line1_1 : List (HloOp τ sig (Elt F))) :=
  ⟨⟨ternary_bufs_sub .., rfl, _, rfl, rfl⟩, ⟨unary_bufs_sub .., rfl, _, rfl, rfl⟩, ⟨nullary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨nullary_bufs_sub .., rfl, _, rfl, rfl⟩, ⟨binary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨ternary_bufs_sub .., rfl, _, rfl, rfl⟩, ⟨unary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨unary_bufs_sub .., rfl, _, rfl, rfl⟩, ⟨nullary_bufs_sub .., rfl, _, rfl, rfl⟩, trivial⟩

set_option maxRecDepth 8192 in
theorem line1_2_numbered : Numbered 133 (line1_2 : List (HloOp τ sig (Elt F))) :=
  ⟨⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, trivial⟩

set_option maxRecDepth 8192 in
theorem line2_0_numbered : Numbered 139 (line2_0 : List (HloOp τ sig (Elt F))) :=
  ⟨⟨binary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, trivial⟩

set_option maxRecDepth 8192 in
theorem line2_1_numbered : Numbered 169 (line2_1 : List (HloOp τ sig (Elt F))) :=
  ⟨⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨nullary_bufs_sub .., rfl, _, rfl, rfl⟩, trivial⟩

set_option maxRecDepth 8192 in
theorem line2_2_numbered : Numbered 199 (line2_2 : List (HloOp τ sig (Elt F))) :=
  ⟨⟨unary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨binary_bufs_sub .., rfl, _, rfl, rfl⟩, trivial⟩

set_option maxRecDepth 8192 in
theorem line3_0_numbered : Numbered 205 (line3_0 : List (HloOp τ sig (Elt F))) :=
  ⟨⟨nullary_bufs_sub .., rfl, _, rfl, rfl⟩, ⟨unary_bufs_sub .., rfl, _, rfl, rfl⟩, ⟨binary_bufs_sub .., rfl, _, rfl, rfl⟩, ⟨ternary_bufs_sub .., rfl, _, rfl, rfl⟩, ⟨nullary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨nullary_bufs_sub .., rfl, _, rfl, rfl⟩, ⟨binary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨nullary_bufs_sub .., rfl, _, rfl, rfl⟩, ⟨unary_bufs_sub .., rfl, _, rfl, rfl⟩, ⟨binary_bufs_sub .., rfl, _, rfl, rfl⟩, trivial⟩

set_option maxRecDepth 8192 in
theorem line3_1_numbered : Numbered 235 (line3_1 : List (HloOp τ sig (Elt F))) :=
  ⟨⟨nullary_bufs_sub .., rfl, _, rfl, rfl⟩, ⟨unary_bufs_sub .., rfl, _, rfl, rfl⟩, ⟨binary_bufs_sub .., rfl, _, rfl, rfl⟩, ⟨ternary_bufs_sub .., rfl, _, rfl, rfl⟩, ⟨reshape_bufs_sub .., rfl, _, rfl, rfl⟩, ⟨nullary_bufs_sub .., rfl, _, rfl, rfl⟩, ⟨nullary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨unary_bufs_sub .., rfl, _, rfl, rfl⟩, ⟨ternary_bufs_sub .., rfl, _, rfl, rfl⟩, ⟨unary_bufs_sub .., rfl, _, rfl, rfl⟩, ⟨unary_bufs_sub .., rfl, _, rfl, rfl⟩, ⟨binary_bufs_sub .., rfl, _, rfl, rfl⟩, ⟨unary_bufs_sub .., rfl, _, rfl, rfl⟩, ⟨reshape_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, trivial⟩

set_option maxRecDepth 8192 in
theorem line3_2_numbered : Numbered 265 (line3_2 : List (HloOp τ sig (Elt F))) :=
  ⟨⟨nullary_bufs_sub .., rfl, _, rfl, rfl⟩, ⟨unary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨nullary_bufs_sub .., rfl, _, rfl, rfl⟩, ⟨binary_bufs_sub .., rfl, _, rfl, rfl⟩, ⟨binary_bufs_sub .., rfl, _, rfl, rfl⟩, ⟨binary_bufs_sub .., rfl, _, rfl, rfl⟩, ⟨binary_bufs_sub .., rfl, _, rfl, rfl⟩, ⟨unary_bufs_sub .., rfl, _, rfl, rfl⟩, ⟨unary_bufs_sub .., rfl, _, rfl, rfl⟩, ⟨unary_bufs_sub .., rfl, _, rfl, rfl⟩, ⟨nary_bufs_sub .., rfl, _, rfl, rfl⟩, trivial⟩

theorem ops_numbered : Numbered 5 (ops : List (HloOp τ sig (Elt F))) :=
  Numbered.append (l := part0) (Numbered.append line0_0_numbered (Numbered.append line0_1_numbered line0_2_numbered)) (Numbered.append (l := part1) (Numbered.append line1_0_numbered (Numbered.append line1_1_numbered line1_2_numbered)) (Numbered.append (l := part2) (Numbered.append line2_0_numbered (Numbered.append line2_1_numbered line2_2_numbered)) (Numbered.append line3_0_numbered (Numbered.append line3_1_numbered line3_2_numbered))))

theorem mem_line0_0 {op : HloOp τ sig (Elt F)} (h : op ∈ (line0_0 : List (HloOp τ sig (Elt F)))) : op ∈ (ops : List (HloOp τ sig (Elt F))) :=
  List.mem_append_left _ (List.mem_append_left _ h)

theorem mem_line0_1 {op : HloOp τ sig (Elt F)} (h : op ∈ (line0_1 : List (HloOp τ sig (Elt F)))) : op ∈ (ops : List (HloOp τ sig (Elt F))) :=
  List.mem_append_left _ (List.mem_append_right _ (List.mem_append_left _ h))

theorem mem_line0_2 {op : HloOp τ sig (Elt F)} (h : op ∈ (line0_2 : List (HloOp τ sig (Elt F)))) : op ∈ (ops : List (HloOp τ sig (Elt F))) :=
  List.mem_append_left _ (List.mem_append_right _ (List.mem_append_right _ h))

theorem mem_line1_0 {op : HloOp τ sig (Elt F)} (h : op ∈ (line1_0 : List (HloOp τ sig (Elt F)))) : op ∈ (ops : List (HloOp τ sig (Elt F))) :=
  List.mem_append_right _ (List.mem_append_left _ (List.mem_append_left _ h))

theorem mem_line1_1 {op : HloOp τ sig (Elt F)} (h : op ∈ (line1_1 : List (HloOp τ sig (Elt F)))) : op ∈ (ops : List (HloOp τ sig (Elt F))) :=
  List.mem_append_right _ (List.mem_append_left _ (List.mem_append_right _ (List.mem_append_left _ h)))

theorem mem_line1_2 {op : HloOp τ sig (Elt F)} (h : op ∈ (line1_2 : List (HloOp τ sig (Elt F)))) : op ∈ (ops : List (HloOp τ sig (Elt F))) :=
  List.mem_append_right _ (List.mem_append_left _ (List.mem_append_right _ (List.mem_append_right _ h)))

theorem mem_line2_0 {op : HloOp τ sig (Elt F)} (h : op ∈ (line2_0 : List (HloOp τ sig (Elt F)))) : op ∈ (ops : List (HloOp τ sig (Elt F))) :=
  List.mem_append_right _ (List.mem_append_right _ (List.mem_append_left _ (List.mem_append_left _ h)))

theorem mem_line2_1 {op : HloOp τ sig (Elt F)} (h : op ∈ (line2_1 : List (HloOp τ sig (Elt F)))) : op ∈ (ops : List (HloOp τ sig (Elt F))) :=
  List.mem_append_right _ (List.mem_append_right _ (List.mem_append_left _ (List.mem_append_right _ (List.mem_append_left _ h))))

theorem mem_line2_2 {op : HloOp τ sig (Elt F)} (h : op ∈ (line2_2 : List (HloOp τ sig (Elt F)))) : op ∈ (ops : List (HloOp τ sig (Elt F))) :=
  List.mem_append_right _ (List.mem_append_right _ (List.mem_append_left _ (List.mem_append_right _ (List.mem_append_right _ h))))

theorem mem_line3_0 {op : HloOp τ sig (Elt F)} (h : op ∈ (line3_0 : List (HloOp τ sig (Elt F)))) : op ∈ (ops : List (HloOp τ sig (Elt F))) :=
  List.mem_append_right _ (List.mem_append_right _ (List.mem_append_right _ (List.mem_append_left _ h)))

theorem mem_line3_1 {op : HloOp τ sig (Elt F)} (h : op ∈ (line3_1 : List (HloOp τ sig (Elt F)))) : op ∈ (ops : List (HloOp τ sig (Elt F))) :=
  List.mem_append_right _ (List.mem_append_right _ (List.mem_append_right _ (List.mem_append_right _ (List.mem_append_left _ h))))

theorem mem_line3_2 {op : HloOp τ sig (Elt F)} (h : op ∈ (line3_2 : List (HloOp τ sig (Elt F)))) : op ∈ (ops : List (HloOp τ sig (Elt F))) :=
  List.mem_append_right _ (List.mem_append_right _ (List.mem_append_right _ (List.mem_append_right _ (List.mem_append_right _ h))))

/-- What each buffer holds after the run from contents `V`. -/
def W (V : Valuation τ sig (Elt F)) (r : Ref sig .tc) : r.ty.Contents (Elt F) := after ops V (Proc.devRef .tc r)

/-- An argument keeps its contents. -/
theorem W_arg (V : Valuation τ sig (Elt F)) (r : Ref sig .tc) (h : key r < 5) : W V r = V (Proc.devRef .tc r) :=
  ops_numbered.keep h V

/-- The reference runs to its end, with every buffer at `W` of the launch's contents and no counter left up. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ (c : Dev nD) (b : Ref sig .tc), r.2.mem ((c.tc : Thread nD τ).loc b) = W (launchContents m c) b)
        ∧ r.2.sem = fun _ => 0) :=
  (θ_run defs _ _).mono (fun r h => ⟨h, sem_eq_zero_of_no_sems rfl r.2⟩)
    (run_seq scopedRefs_eq scopedSems_eq defs main (fun _ => ops) main_eq (fun _ => ops_numbered.sub) m ρ
      fun _ => ops_numbered.fresh)

/-- The arguments are what they were. -/
theorem run_frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v195) = W (launchContents m c) main_v195
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨fun c => ⟨h.1 c _,
    (h.1 c _).trans (W_arg _ main_arg0 (by decide)), (h.1 c _).trans (W_arg _ main_arg1 (by decide)),
    (h.1 c _).trans (W_arg _ main_arg2 (by decide)), (h.1 c _).trans (W_arg _ main_arg3 (by decide)),
    (h.1 c _).trans (W_arg _ main_arg4 (by decide))⟩, h.2⟩) (run m ρ)

end Cert.ReferenceIdeal.Hand

end
-- ==== Proof.ReferenceIdeal.Values.lean ====
/- The reference's values, one definition per operation, over its five arguments: the program's own operations at plain types. -/
module

public import proofs.«01_k».proof.Proof.Gen.ReferenceIdeal
public import Idealize.ShloMosaic.PureOps.Ideal

@[expose] public section

noncomputable section

namespace Cert.ReferenceIdeal.Hand

open Cert.ReferenceIdeal Cert.ReferenceIdeal.Gen Idealize.ShloMosaic Idealize.ShloMosaic.TcCoe Idealize.ShloMosaic.StableHlo

/-- The five arguments. -/
structure Args where
  a0 : FVec Ideal S16x8732x4 .f32
  a1 : FVec Ideal S16x8732x81 .f32
  a2 : FVec Ideal S16x24x4 .f32
  a3 : FVec Ideal S8732x4 .f32
  a4 : IVec S16x24 32

def v0 (x : Args) : FVec Ideal S16x24x2 .f32 := extractStridedSlice S16x24x2 ![0, 0, 0] x.a2 slices_S16x24x4_S16x24x2_0_0_0
def v1 (x : Args) : FVec Ideal S16x24x1x2 .f32 := broadcastInDim S16x24x1x2 ![0, 1, 3] bcast_S16x24x2_S16x24x1x2_0_1_3 (v0 x)
def v2 (x : Args) : FVec Ideal S8732x2 .f32 := extractStridedSlice S8732x2 ![0, 0] x.a3 slices_S8732x4_S8732x2_0_0
def v3 (x : Args) : FVec Ideal S1x1x8732x2 .f32 := broadcastInDim S1x1x8732x2 ![2, 3] bcast_S8732x2_S1x1x8732x2_2_3 (v2 x)
def v4 (x : Args) : FVec Ideal S16x24x8732x2 .f32 := broadcastInDim S16x24x8732x2 ![0, 1, 2, 3] bcast_S16x24x1x2_S16x24x8732x2_0_1_2_3 (v1 x)
def v5 (x : Args) : FVec Ideal S16x24x8732x2 .f32 := broadcastInDim S16x24x8732x2 ![0, 1, 2, 3] bcast_S1x1x8732x2_S16x24x8732x2_0_1_2_3 (v3 x)
def v6 (x : Args) : FVec Ideal S16x24x8732x2 .f32 := maximumf (v4 x) (v5 x)
def v7 (x : Args) : FVec Ideal S16x24x2 .f32 := extractStridedSlice S16x24x2 ![0, 0, 2] x.a2 slices_S16x24x4_S16x24x2_0_0_2
def v8 (x : Args) : FVec Ideal S16x24x1x2 .f32 := broadcastInDim S16x24x1x2 ![0, 1, 3] bcast_S16x24x2_S16x24x1x2_0_1_3 (v7 x)
def v9 (x : Args) : FVec Ideal S8732x2 .f32 := extractStridedSlice S8732x2 ![0, 2] x.a3 slices_S8732x4_S8732x2_0_2
def v10 (x : Args) : FVec Ideal S1x1x8732x2 .f32 := broadcastInDim S1x1x8732x2 ![2, 3] bcast_S8732x2_S1x1x8732x2_2_3 (v9 x)
def v11 (x : Args) : FVec Ideal S16x24x8732x2 .f32 := broadcastInDim S16x24x8732x2 ![0, 1, 2, 3] bcast_S16x24x1x2_S16x24x8732x2_0_1_2_3 (v8 x)
def v12 (x : Args) : FVec Ideal S16x24x8732x2 .f32 := broadcastInDim S16x24x8732x2 ![0, 1, 2, 3] bcast_S1x1x8732x2_S16x24x8732x2_0_1_2_3 (v10 x)
def v13 (x : Args) : FVec Ideal S16x24x8732x2 .f32 := minimumf (v11 x) (v12 x)
def v14 (x : Args) : FVec Ideal S16x24x8732x2 .f32 := subf (v13 x) (v6 x)
def cst (x : Args) : FVec Ideal S_ .f32 := constant S_ .f32 0x00000000#32
def call0_v0 (x : Args) : FVec Ideal S_ .f32 := cst x
def call0_v1 (x : Args) : FVec Ideal S16x24x8732x2 .f32 := broadcastInDim S16x24x8732x2 ![] bcast_S_S16x24x8732x2 (call0_v0 x)
def v15 (x : Args) : FVec Ideal S16x24x8732x2 .f32 := maximumf (call0_v1 x) (v14 x)
def v16 (x : Args) : FVec Ideal S16x24x8732x1 .f32 := extractStridedSlice S16x24x8732x1 ![0, 0, 0, 0] (v15 x) slices_S16x24x8732x2_S16x24x8732x1_0_0_0_0
def v17 (x : Args) : FVec Ideal S16x24x8732 .f32 := shapeCast S16x24x8732 (v16 x) shapeCasts_S16x24x8732x1_S16x24x8732
def v18 (x : Args) : FVec Ideal S16x24x8732x1 .f32 := extractStridedSlice S16x24x8732x1 ![0, 0, 0, 1] (v15 x) slices_S16x24x8732x2_S16x24x8732x1_0_0_0_1
def v19 (x : Args) : FVec Ideal S16x24x8732 .f32 := shapeCast S16x24x8732 (v18 x) shapeCasts_S16x24x8732x1_S16x24x8732
def v20 (x : Args) : FVec Ideal S16x24x8732 .f32 := mulf (v17 x) (v19 x)
def v21 (x : Args) : FVec Ideal S16x24x1 .f32 := extractStridedSlice S16x24x1 ![0, 0, 2] x.a2 slices_S16x24x4_S16x24x1_0_0_2
def v22 (x : Args) : FVec Ideal S16x24 .f32 := shapeCast S16x24 (v21 x) shapeCasts_S16x24x1_S16x24
def v23 (x : Args) : FVec Ideal S16x24x1 .f32 := extractStridedSlice S16x24x1 ![0, 0, 0] x.a2 slices_S16x24x4_S16x24x1_0_0_0
def v24 (x : Args) : FVec Ideal S16x24 .f32 := shapeCast S16x24 (v23 x) shapeCasts_S16x24x1_S16x24
def v25 (x : Args) : FVec Ideal S16x24 .f32 := subf (v22 x) (v24 x)
def v26 (x : Args) : FVec Ideal S16x24x1 .f32 := extractStridedSlice S16x24x1 ![0, 0, 3] x.a2 slices_S16x24x4_S16x24x1_0_0_3
def v27 (x : Args) : FVec Ideal S16x24 .f32 := shapeCast S16x24 (v26 x) shapeCasts_S16x24x1_S16x24
def v28 (x : Args) : FVec Ideal S16x24x1 .f32 := extractStridedSlice S16x24x1 ![0, 0, 1] x.a2 slices_S16x24x4_S16x24x1_0_0_1
def v29 (x : Args) : FVec Ideal S16x24 .f32 := shapeCast S16x24 (v28 x) shapeCasts_S16x24x1_S16x24
def v30 (x : Args) : FVec Ideal S16x24 .f32 := subf (v27 x) (v29 x)
def v31 (x : Args) : FVec Ideal S16x24 .f32 := mulf (v25 x) (v30 x)
def v32 (x : Args) : FVec Ideal S8732x1 .f32 := extractStridedSlice S8732x1 ![0, 2] x.a3 slices_S8732x4_S8732x1_0_2
def v33 (x : Args) : FVec Ideal S8732 .f32 := shapeCast S8732 (v32 x) shapeCasts_S8732x1_S8732
def v34 (x : Args) : FVec Ideal S8732x1 .f32 := extractStridedSlice S8732x1 ![0, 0] x.a3 slices_S8732x4_S8732x1_0_0
def v35 (x : Args) : FVec Ideal S8732 .f32 := shapeCast S8732 (v34 x) shapeCasts_S8732x1_S8732
def v36 (x : Args) : FVec Ideal S8732 .f32 := subf (v33 x) (v35 x)
def v37 (x : Args) : FVec Ideal S8732x1 .f32 := extractStridedSlice S8732x1 ![0, 3] x.a3 slices_S8732x4_S8732x1_0_3
def v38 (x : Args) : FVec Ideal S8732 .f32 := shapeCast S8732 (v37 x) shapeCasts_S8732x1_S8732
def v39 (x : Args) : FVec Ideal S8732x1 .f32 := extractStridedSlice S8732x1 ![0, 1] x.a3 slices_S8732x4_S8732x1_0_1
def v40 (x : Args) : FVec Ideal S8732 .f32 := shapeCast S8732 (v39 x) shapeCasts_S8732x1_S8732
def v41 (x : Args) : FVec Ideal S8732 .f32 := subf (v38 x) (v40 x)
def v42 (x : Args) : FVec Ideal S8732 .f32 := mulf (v36 x) (v41 x)
def v43 (x : Args) : FVec Ideal S16x24x1 .f32 := broadcastInDim S16x24x1 ![0, 1] bcast_S16x24_S16x24x1_0_1 (v31 x)
def v44 (x : Args) : FVec Ideal S1x1x8732 .f32 := broadcastInDim S1x1x8732 ![2] bcast_S8732_S1x1x8732_2 (v42 x)
def v45 (x : Args) : FVec Ideal S16x24x8732 .f32 := broadcastInDim S16x24x8732 ![0, 1, 2] bcast_S16x24x1_S16x24x8732_0_1_2 (v43 x)
def v46 (x : Args) : FVec Ideal S16x24x8732 .f32 := broadcastInDim S16x24x8732 ![0, 1, 2] bcast_S1x1x8732_S16x24x8732_0_1_2 (v44 x)
def v47 (x : Args) : FVec Ideal S16x24x8732 .f32 := addf (v45 x) (v46 x)
def v48 (x : Args) : FVec Ideal S16x24x8732 .f32 := subf (v47 x) (v20 x)
def cst_0 (x : Args) : FVec Ideal S_ .f32 := constant S_ .f32 0x3089705F#32
def call1_v0 (x : Args) : FVec Ideal S_ .f32 := cst_0 x
def call1_v1 (x : Args) : FVec Ideal S16x24x8732 .f32 := broadcastInDim S16x24x8732 ![] bcast_S_S16x24x8732 (call1_v0 x)
def v49 (x : Args) : FVec Ideal S16x24x8732 .f32 := maximumf (call1_v1 x) (v48 x)
def v50 (x : Args) : FVec Ideal S16x24x8732 .f32 := Host.divf (v20 x) (v49 x)
def cst_1 (x : Args) : FVec Ideal S_ .f32 := constant S_ .f32 0x3EB33333#32
def v51 (x : Args) : FVec Ideal S16x24x8732 .f32 := broadcastInDim S16x24x8732 ![] bcast_S_S16x24x8732 (cst_1 x)
def v52 (x : Args) : IVec S16x24x8732 1 := cmpf .ogt (v50 x) (v51 x)
def call2_v0 (x : Args) : IVec S16x24x8732 32 := iotaInDim S16x24x8732 32 2
def call2_cst (x : Args) : FVec Ideal S_ .f32 := constant S_ .f32 0xFF800000#32
def call2_c (x : Args) : IVec S_ 32 := constantI S_ 32 0#32
def call2_v1_0 (x : Args) : FVec Ideal S16x24 .f32 := fun j => (Host.argReduce reducer_argmax_f32_i32 (v50 x) (call2_v0 x) (call2_cst x) (call2_c x) reducesTo_S16x24x8732_S16x24_d2 h_S_ j).1
def v53 (x : Args) : IVec S16x24 32 := fun j => (Host.argReduce reducer_argmax_f32_i32 (v50 x) (call2_v0 x) (call2_cst x) (call2_c x) reducesTo_S16x24x8732_S16x24_d2 h_S_ j).2
def v54 (x : Args) : IVec S16 32 := iotaInDim S16 32 0
def v55 (x : Args) : IVec S16x1 32 := broadcastInDim S16x1 ![0] bcast_S16_S16x1_0 (v54 x)
def v56 (x : Args) : IVec S24 32 := iotaInDim S24 32 0
def v57 (x : Args) : IVec S1x24 32 := broadcastInDim S1x24 ![1] bcast_S24_S1x24_1 (v56 x)
def c (x : Args) : IVec S_ 32 := constantI S_ 32 0#32
def v58 (x : Args) : IVec S16x1 32 := broadcastInDim S16x1 ![] bcast_S_S16x1 (c x)
def v59 (x : Args) : IVec S16x1 1 := cmpi .slt (v55 x) (v58 x)
def c_2 (x : Args) : IVec S_ 32 := constantI S_ 32 16#32
def v60 (x : Args) : IVec S16x1 32 := broadcastInDim S16x1 ![] bcast_S_S16x1 (c_2 x)
def v61 (x : Args) : IVec S16x1 32 := addi (v55 x) (v60 x)
def v62 (x : Args) : IVec S16x1 32 := select (v59 x) (v61 x) (v55 x)
def c_3 (x : Args) : IVec S_ 32 := constantI S_ 32 0#32
def v63 (x : Args) : IVec S1x24 32 := broadcastInDim S1x24 ![] bcast_S_S1x24 (c_3 x)
def v64 (x : Args) : IVec S1x24 1 := cmpi .slt (v57 x) (v63 x)
def c_4 (x : Args) : IVec S_ 32 := constantI S_ 32 24#32
def v65 (x : Args) : IVec S1x24 32 := broadcastInDim S1x24 ![] bcast_S_S1x24 (c_4 x)
def v66 (x : Args) : IVec S1x24 32 := addi (v57 x) (v65 x)
def v67 (x : Args) : IVec S1x24 32 := select (v64 x) (v66 x) (v57 x)
def c_5 (x : Args) : IVec S_ 32 := constantI S_ 32 0#32
def v68 (x : Args) : IVec S16x24 32 := broadcastInDim S16x24 ![] bcast_S_S16x24 (c_5 x)
def v69 (x : Args) : IVec S16x24 1 := cmpi .slt (v53 x) (v68 x)
def c_6 (x : Args) : IVec S_ 32 := constantI S_ 32 8732#32
def v70 (x : Args) : IVec S16x24 32 := broadcastInDim S16x24 ![] bcast_S_S16x24 (c_6 x)
def v71 (x : Args) : IVec S16x24 32 := addi (v53 x) (v70 x)
def v72 (x : Args) : IVec S16x24 32 := select (v69 x) (v71 x) (v53 x)
def v73 (x : Args) : IVec S16x24 32 := broadcastInDim S16x24 ![0, 1] bcast_S16x1_S16x24_0_1 (v62 x)
def v74 (x : Args) : IVec S16x24 32 := broadcastInDim S16x24 ![0, 1] bcast_S1x24_S16x24_0_1 (v67 x)
def v75 (x : Args) : IVec S16x24x1 32 := broadcastInDim S16x24x1 ![0, 1] bcast_S16x24_S16x24x1_0_1 (v73 x)
def v76 (x : Args) : IVec S16x24x1 32 := broadcastInDim S16x24x1 ![0, 1] bcast_S16x24_S16x24x1_0_1 (v74 x)
def v77 (x : Args) : IVec S16x24x1 32 := broadcastInDim S16x24x1 ![0, 1] bcast_S16x24_S16x24x1_0_1 (v72 x)
def v78 (x : Args) : IVec S16x24x3 32 := concatenate S16x24x3 2 [⟨S16x24x1, v75 x⟩, ⟨S16x24x1, v76 x⟩, ⟨S16x24x1, v77 x⟩] concatenates_S16x24x1_S16x24x1_S16x24x1_S16x24x3_d2
def c_7 (x : Args) : IVec S_ 1 := constantI S_ 1 1#1
def v79 (x : Args) : IVec S16x24 1 := broadcastInDim S16x24 ![] bcast_S_S16x24 (c_7 x)
def v80 (x : Args) : IVec S16x24x8732 1 := Host.scatter scatter_S16x24x8732_S16x24x3_S16x24_n_012_012_2 (fun _ b => b) (v52 x) (v78 x) (v79 x)
def v81 (x : Args) : IVec S16x8732x24 1 := transpose S16x8732x24 [0, 2, 1] (v80 x) transposes_S16x24x8732_S16x8732x24_0_2_1
def c_8 (x : Args) : IVec S_ 1 := constantI S_ 1 0#1
def v82 (x : Args) : IVec S16x8732 1 := Host.reduce IntOp.ori (v81 x) (c_8 x) reducesTo_S16x8732x24_S16x8732_d2 h_S_
def cst_9 (x : Args) : FVec Ideal S_ .f32 := constant S_ .f32 0xFF800000#32
def v83 (x : Args) : FVec Ideal S16x8732 .f32 := Host.reduce FloatOps.maximumf x.a1 (cst_9 x) reducesTo_S16x8732x81_S16x8732_d2 h_S_
def v84 (x : Args) : FVec Ideal S16x8732x1 .f32 := broadcastInDim S16x8732x1 ![0, 1] bcast_S16x8732_S16x8732x1_0_1 (v83 x)
def v85 (x : Args) : FVec Ideal S16x8732x81 .f32 := broadcastInDim S16x8732x81 ![0, 1, 2] bcast_S16x8732x1_S16x8732x81_0_1_2 (v84 x)
def v86 (x : Args) : FVec Ideal S16x8732x81 .f32 := subf x.a1 (v85 x)
def v87 (x : Args) : FVec Ideal S16x8732x81 .f32 := Host.exp (v86 x)
def cst_10 (x : Args) : FVec Ideal S_ .f32 := constant S_ .f32 0x00000000#32
def v88 (x : Args) : FVec Ideal S16x8732 .f32 := Host.reduceAdd (v87 x) (cst_10 x) reducesTo_S16x8732x81_S16x8732_d2 h_S_
def v89 (x : Args) : FVec Ideal S16x8732 .f32 := Host.log (v88 x)
def v90 (x : Args) : FVec Ideal S16x8732 .f32 := addf (v89 x) (v83 x)
def v91 (x : Args) : FVec Ideal S16x8732x1 .f32 := extractStridedSlice S16x8732x1 ![0, 0, 0] x.a1 slices_S16x8732x81_S16x8732x1_0_0_0
def v92 (x : Args) : FVec Ideal S16x8732 .f32 := shapeCast S16x8732 (v91 x) shapeCasts_S16x8732x1_S16x8732
def v93 (x : Args) : FVec Ideal S16x8732 .f32 := subf (v90 x) (v92 x)
def cst_11 (x : Args) : FVec Ideal S_ .f32 := constant S_ .f32 0xCE6E6B28#32
def call3_v0 (x : Args) : FVec Ideal S_ .f32 := cst_11 x
def call3_v1 (x : Args) : FVec Ideal S16x8732 .f32 := broadcastInDim S16x8732 ![] bcast_S_S16x8732 (call3_v0 x)
def v94 (x : Args) : FVec Ideal S16x8732 .f32 := select (v82 x) (call3_v1 x) (v93 x)
def v95 (x : Args) : FVec Ideal S16x8732 .f32 := Host.negf (v94 x)
def call4_v0 (x : Args) : IVec S16x8732 32 := iotaInDim S16x8732 32 1
def call4_v1_0 (x : Args) : FVec Ideal S16x8732 .f32 := (Host.sort2 S16x8732 1 comparator_f32_i32_d1 (v95 x) (call4_v0 x)).1
def v96 (x : Args) : IVec S16x8732 32 := (Host.sort2 S16x8732 1 comparator_f32_i32_d1 (v95 x) (call4_v0 x)).2
def call5_v0 (x : Args) : IVec S16x8732 32 := iotaInDim S16x8732 32 1
def call5_v1_0 (x : Args) : IVec S16x8732 32 := (Host.sort2 S16x8732 1 comparator_i32_i32_d1 (v96 x) (call5_v0 x)).1
def v97 (x : Args) : IVec S16x8732 32 := (Host.sort2 S16x8732 1 comparator_i32_i32_d1 (v96 x) (call5_v0 x)).2
def v98 (x : Args) : IVec S16x8732 32 := extui 32 (v82 x) natLt_1_32
def c_12 (x : Args) : IVec S_ 32 := constantI S_ 32 0#32
def v99 (x : Args) : IVec S16 32 := Host.reduce IntOp.addi (v98 x) (c_12 x) reducesTo_S16x8732_S16_d1 h_S_
def c_13 (x : Args) : IVec S_ 32 := constantI S_ 32 7#32
def v100 (x : Args) : IVec S16 32 := broadcastInDim S16 ![] bcast_S_S16 (c_13 x)
def v101 (x : Args) : IVec S16 32 := muli (v100 x) (v99 x)
def c_14 (x : Args) : IVec S_ 32 := constantI S_ 32 8732#32
def v102 (x : Args) : IVec S16 32 := broadcastInDim S16 ![] bcast_S_S16 (c_14 x)
def v103 (x : Args) : IVec S16 32 := subi (v102 x) (v99 x)
def v104 (x : Args) : IVec S16 32 := minsi (v101 x) (v103 x)
def v105 (x : Args) : IVec S16x1 32 := broadcastInDim S16x1 ![0] bcast_S16_S16x1_0 (v104 x)
def v106 (x : Args) : IVec S16x8732 32 := broadcastInDim S16x8732 ![0, 1] bcast_S16x1_S16x8732_0_1 (v105 x)
def v107 (x : Args) : IVec S16x8732 1 := cmpi .slt (v97 x) (v106 x)
def v108 (x : Args) : FVec Ideal S16x8732x24 .f32 := uitofp .f32 (v81 x)
def v109 (x : Args) : FVec Ideal S16x8732 .f32 := uitofp .f32 (v107 x)
def v110 (x : Args) : FVec Ideal S16x1x24x4 .f32 := broadcastInDim S16x1x24x4 ![0, 2, 3] bcast_S16x24x4_S16x1x24x4_0_2_3 x.a2
def v111 (x : Args) : FVec Ideal S1x8732x1x4 .f32 := broadcastInDim S1x8732x1x4 ![1, 3] bcast_S8732x4_S1x8732x1x4_1_3 x.a3
def v112 (x : Args) : FVec Ideal S16x1x24x2 .f32 := extractStridedSlice S16x1x24x2 ![0, 0, 0, 0] (v110 x) slices_S16x1x24x4_S16x1x24x2_0_0_0_0
def v113 (x : Args) : FVec Ideal S16x1x24x2 .f32 := extractStridedSlice S16x1x24x2 ![0, 0, 0, 2] (v110 x) slices_S16x1x24x4_S16x1x24x2_0_0_0_2
def v114 (x : Args) : FVec Ideal S16x1x24x2 .f32 := addf (v112 x) (v113 x)
def cst_15 (x : Args) : FVec Ideal S_ .f32 := constant S_ .f32 0x40000000#32
def v115 (x : Args) : FVec Ideal S16x1x24x2 .f32 := broadcastInDim S16x1x24x2 ![] bcast_S_S16x1x24x2 (cst_15 x)
def v116 (x : Args) : FVec Ideal S16x1x24x2 .f32 := Host.divf (v114 x) (v115 x)
def v117 (x : Args) : FVec Ideal S16x1x24x2 .f32 := extractStridedSlice S16x1x24x2 ![0, 0, 0, 2] (v110 x) slices_S16x1x24x4_S16x1x24x2_0_0_0_2
def v118 (x : Args) : FVec Ideal S16x1x24x2 .f32 := extractStridedSlice S16x1x24x2 ![0, 0, 0, 0] (v110 x) slices_S16x1x24x4_S16x1x24x2_0_0_0_0
def v119 (x : Args) : FVec Ideal S16x1x24x2 .f32 := subf (v117 x) (v118 x)
def cst_16 (x : Args) : FVec Ideal S_ .f32 := constant S_ .f32 0x358637BD#32
def call6_v0 (x : Args) : FVec Ideal S_ .f32 := cst_16 x
def call6_v1 (x : Args) : FVec Ideal S16x1x24x2 .f32 := broadcastInDim S16x1x24x2 ![] bcast_S_S16x1x24x2 (call6_v0 x)
def v120 (x : Args) : FVec Ideal S16x1x24x2 .f32 := maximumf (call6_v1 x) (v119 x)
def v121 (x : Args) : FVec Ideal S1x8732x1x2 .f32 := extractStridedSlice S1x8732x1x2 ![0, 0, 0, 0] (v111 x) slices_S1x8732x1x4_S1x8732x1x2_0_0_0_0
def v122 (x : Args) : FVec Ideal S1x8732x1x2 .f32 := extractStridedSlice S1x8732x1x2 ![0, 0, 0, 2] (v111 x) slices_S1x8732x1x4_S1x8732x1x2_0_0_0_2
def v123 (x : Args) : FVec Ideal S1x8732x1x2 .f32 := addf (v121 x) (v122 x)
def cst_17 (x : Args) : FVec Ideal S_ .f32 := constant S_ .f32 0x40000000#32
def v124 (x : Args) : FVec Ideal S1x8732x1x2 .f32 := broadcastInDim S1x8732x1x2 ![] bcast_S_S1x8732x1x2 (cst_17 x)
def v125 (x : Args) : FVec Ideal S1x8732x1x2 .f32 := Host.divf (v123 x) (v124 x)
def v126 (x : Args) : FVec Ideal S1x8732x1x2 .f32 := extractStridedSlice S1x8732x1x2 ![0, 0, 0, 2] (v111 x) slices_S1x8732x1x4_S1x8732x1x2_0_0_0_2
def v127 (x : Args) : FVec Ideal S1x8732x1x2 .f32 := extractStridedSlice S1x8732x1x2 ![0, 0, 0, 0] (v111 x) slices_S1x8732x1x4_S1x8732x1x2_0_0_0_0
def v128 (x : Args) : FVec Ideal S1x8732x1x2 .f32 := subf (v126 x) (v127 x)
def cst_18 (x : Args) : FVec Ideal S_ .f32 := constant S_ .f32 0x358637BD#32
def call7_v0 (x : Args) : FVec Ideal S_ .f32 := cst_18 x
def call7_v1 (x : Args) : FVec Ideal S1x8732x1x2 .f32 := broadcastInDim S1x8732x1x2 ![] bcast_S_S1x8732x1x2 (call7_v0 x)
def v129 (x : Args) : FVec Ideal S1x8732x1x2 .f32 := maximumf (call7_v1 x) (v128 x)
def v130 (x : Args) : FVec Ideal S16x8732x24x2 .f32 := broadcastInDim S16x8732x24x2 ![0, 1, 2, 3] bcast_S16x1x24x2_S16x8732x24x2_0_1_2_3 (v116 x)
def v131 (x : Args) : FVec Ideal S16x8732x24x2 .f32 := broadcastInDim S16x8732x24x2 ![0, 1, 2, 3] bcast_S1x8732x1x2_S16x8732x24x2_0_1_2_3 (v125 x)
def v132 (x : Args) : FVec Ideal S16x8732x24x2 .f32 := subf (v130 x) (v131 x)
def cst_19 (x : Args) : FVec Ideal S_ .f32 := constant S_ .f32 0x3DCCCCCD#32
def v133 (x : Args) : FVec Ideal S1x8732x1x2 .f32 := broadcastInDim S1x8732x1x2 ![] bcast_S_S1x8732x1x2 (cst_19 x)
def v134 (x : Args) : FVec Ideal S1x8732x1x2 .f32 := mulf (v129 x) (v133 x)
def v135 (x : Args) : FVec Ideal S16x8732x24x2 .f32 := broadcastInDim S16x8732x24x2 ![0, 1, 2, 3] bcast_S1x8732x1x2_S16x8732x24x2_0_1_2_3 (v134 x)
def v136 (x : Args) : FVec Ideal S16x8732x24x2 .f32 := Host.divf (v132 x) (v135 x)
def v137 (x : Args) : FVec Ideal S16x8732x24x2 .f32 := broadcastInDim S16x8732x24x2 ![0, 1, 2, 3] bcast_S16x1x24x2_S16x8732x24x2_0_1_2_3 (v120 x)
def v138 (x : Args) : FVec Ideal S16x8732x24x2 .f32 := broadcastInDim S16x8732x24x2 ![0, 1, 2, 3] bcast_S1x8732x1x2_S16x8732x24x2_0_1_2_3 (v129 x)
def v139 (x : Args) : FVec Ideal S16x8732x24x2 .f32 := Host.divf (v137 x) (v138 x)
def cst_20 (x : Args) : FVec Ideal S_ .f32 := constant S_ .f32 0x358637BD#32
def call8_v0 (x : Args) : FVec Ideal S_ .f32 := cst_20 x
def call8_v1 (x : Args) : FVec Ideal S16x8732x24x2 .f32 := broadcastInDim S16x8732x24x2 ![] bcast_S_S16x8732x24x2 (call8_v0 x)
def v140 (x : Args) : FVec Ideal S16x8732x24x2 .f32 := maximumf (call8_v1 x) (v139 x)
def v141 (x : Args) : FVec Ideal S16x8732x24x2 .f32 := Host.log (v140 x)
def cst_21 (x : Args) : FVec Ideal S_ .f32 := constant S_ .f32 0x3E4CCCCD#32
def v142 (x : Args) : FVec Ideal S16x8732x24x2 .f32 := broadcastInDim S16x8732x24x2 ![] bcast_S_S16x8732x24x2 (cst_21 x)
def v143 (x : Args) : FVec Ideal S16x8732x24x2 .f32 := Host.divf (v141 x) (v142 x)
def v144 (x : Args) : FVec Ideal S16x8732x24x4 .f32 := concatenate S16x8732x24x4 3 [⟨S16x8732x24x2, (v136 x)⟩, ⟨S16x8732x24x2, (v143 x)⟩] concatenates_S16x8732x24x2_S16x8732x24x2_S16x8732x24x4_d3
def v145 (x : Args) : FVec Ideal S16x8732x1x4 .f32 := broadcastInDim S16x8732x1x4 ![0, 1, 3] bcast_S16x8732x4_S16x8732x1x4_0_1_3 x.a0
def v146 (x : Args) : FVec Ideal S16x8732x24x4 .f32 := broadcastInDim S16x8732x24x4 ![0, 1, 2, 3] bcast_S16x8732x1x4_S16x8732x24x4_0_1_2_3 (v145 x)
def v147 (x : Args) : FVec Ideal S16x8732x24x4 .f32 := subf (v146 x) (v144 x)
def v148 (x : Args) : FVec Ideal S16x8732x24x4 .f32 := Host.absf (v147 x)
def cst_22 (x : Args) : FVec Ideal S_ .f32 := constant S_ .f32 0x3F800000#32
def v149 (x : Args) : FVec Ideal S16x8732x24x4 .f32 := broadcastInDim S16x8732x24x4 ![] bcast_S_S16x8732x24x4 (cst_22 x)
def v150 (x : Args) : IVec S16x8732x24x4 1 := cmpf .olt (v148 x) (v149 x)
def cst_23 (x : Args) : FVec Ideal S_ .f32 := constant S_ .f32 0x3F000000#32
def v151 (x : Args) : FVec Ideal S16x8732x24x4 .f32 := broadcastInDim S16x8732x24x4 ![] bcast_S_S16x8732x24x4 (cst_23 x)
def v152 (x : Args) : FVec Ideal S16x8732x24x4 .f32 := mulf (v151 x) (v147 x)
def v153 (x : Args) : FVec Ideal S16x8732x24x4 .f32 := mulf (v152 x) (v147 x)
def cst_24 (x : Args) : FVec Ideal S_ .f32 := constant S_ .f32 0x3F000000#32
def v154 (x : Args) : FVec Ideal S16x8732x24x4 .f32 := broadcastInDim S16x8732x24x4 ![] bcast_S_S16x8732x24x4 (cst_24 x)
def v155 (x : Args) : FVec Ideal S16x8732x24x4 .f32 := subf (v148 x) (v154 x)
def v156 (x : Args) : FVec Ideal S16x8732x24x4 .f32 := select (v150 x) (v153 x) (v155 x)
def cst_25 (x : Args) : FVec Ideal S_ .f32 := constant S_ .f32 0x00000000#32
def v157 (x : Args) : FVec Ideal S_ .f32 := Host.reduceAdd (v108 x) (cst_25 x) reducesTo_S16x8732x24_S_d0_1_2 h_S_
def cst_26 (x : Args) : FVec Ideal S_ .f32 := constant S_ .f32 0x3F800000#32
def call10_v0 (x : Args) : FVec Ideal S_ .f32 := cst_26 x
def v158 (x : Args) : FVec Ideal S_ .f32 := maximumf (call10_v0 x) (v157 x)
def v159 (x : Args) : FVec Ideal S16x8732x24x1 .f32 := broadcastInDim S16x8732x24x1 ![0, 1, 2] bcast_S16x8732x24_S16x8732x24x1_0_1_2 (v108 x)
def v160 (x : Args) : FVec Ideal S16x8732x24x4 .f32 := broadcastInDim S16x8732x24x4 ![0, 1, 2, 3] bcast_S16x8732x24x1_S16x8732x24x4_0_1_2_3 (v159 x)
def v161 (x : Args) : FVec Ideal S16x8732x24x4 .f32 := mulf (v156 x) (v160 x)
def cst_27 (x : Args) : FVec Ideal S_ .f32 := constant S_ .f32 0x00000000#32
def v162 (x : Args) : FVec Ideal S_ .f32 := Host.reduceAdd (v161 x) (cst_27 x) reducesTo_S16x8732x24x4_S_d0_1_2_3 h_S_
def v163 (x : Args) : FVec Ideal S_ .f32 := Host.divf (v162 x) (v158 x)
def cst_28 (x : Args) : FVec Ideal S_ .f32 := constant S_ .f32 0xFF800000#32
def v164 (x : Args) : FVec Ideal S16x8732 .f32 := Host.reduce FloatOps.maximumf x.a1 (cst_28 x) reducesTo_S16x8732x81_S16x8732_d2 h_S_
def v165 (x : Args) : FVec Ideal S16x8732x1 .f32 := broadcastInDim S16x8732x1 ![0, 1] bcast_S16x8732_S16x8732x1_0_1 (v164 x)
def v166 (x : Args) : FVec Ideal S16x8732x81 .f32 := broadcastInDim S16x8732x81 ![0, 1, 2] bcast_S16x8732x1_S16x8732x81_0_1_2 (v165 x)
def v167 (x : Args) : FVec Ideal S16x8732x81 .f32 := subf x.a1 (v166 x)
def v168 (x : Args) : FVec Ideal S16x8732x81 .f32 := Host.exp (v167 x)
def cst_29 (x : Args) : FVec Ideal S_ .f32 := constant S_ .f32 0x00000000#32
def v169 (x : Args) : FVec Ideal S16x8732 .f32 := Host.reduceAdd (v168 x) (cst_29 x) reducesTo_S16x8732x81_S16x8732_d2 h_S_
def v170 (x : Args) : FVec Ideal S16x8732 .f32 := Host.log (v169 x)
def v171 (x : Args) : FVec Ideal S16x8732 .f32 := addf (v170 x) (v164 x)
def v172 (x : Args) : IVec S16x1x24 32 := broadcastInDim S16x1x24 ![0, 2] bcast_S16x24_S16x1x24_0_2 x.a4
def v173 (x : Args) : IVec S16x8732x24 32 := broadcastInDim S16x8732x24 ![0, 1, 2] bcast_S16x1x24_S16x8732x24_0_1_2 (v172 x)
def call11_c (x : Args) : IVec S_ 32 := constantI S_ 32 0#32
def call11_v0 (x : Args) : IVec S16x8732x24 32 := broadcastInDim S16x8732x24 ![] bcast_S_S16x8732x24 (call11_c x)
def call11_v1 (x : Args) : IVec S16x8732x24 1 := cmpi .slt (v173 x) (call11_v0 x)
def call11_c_0 (x : Args) : IVec S_ 32 := constantI S_ 32 81#32
def call11_v2 (x : Args) : IVec S16x8732x24 32 := broadcastInDim S16x8732x24 ![] bcast_S_S16x8732x24 (call11_c_0 x)
def call11_v3 (x : Args) : IVec S16x8732x24 32 := addi (v173 x) (call11_v2 x)
def call11_v4 (x : Args) : IVec S16x8732x24 32 := select (call11_v1 x) (call11_v3 x) (v173 x)
def call11_v5 (x : Args) : IVec S16x8732x24x1 32 := shapeCast S16x8732x24x1 (call11_v4 x) shapeCasts_S16x8732x24_S16x8732x24x1
def call11_c_1 (x : Args) : IVec S1 32 := constantI S1 32 80#32
def call11_c_2 (x : Args) : IVec S_ 32 := constantI S_ 32 0#32
def call11_v6 (x : Args) : IVec S16x8732x24x1 32 := broadcastInDim S16x8732x24x1 ![] bcast_S_S16x8732x24x1 (call11_c_2 x)
def call11_v7 (x : Args) : IVec S16x8732x24x1 1 := cmpi .sge (call11_v5 x) (call11_v6 x)
def call11_v8 (x : Args) : IVec S1x1x1x1 32 := broadcastInDim S1x1x1x1 ![3] bcast_S1_S1x1x1x1_3 (call11_c_1 x)
def call11_v9 (x : Args) : IVec S16x8732x24x1 32 := broadcastInDim S16x8732x24x1 ![0, 1, 2, 3] bcast_S1x1x1x1_S16x8732x24x1_0_1_2_3 (call11_v8 x)
def call11_v10 (x : Args) : IVec S16x8732x24x1 1 := cmpi .sle (call11_v5 x) (call11_v9 x)
def call11_v11 (x : Args) : IVec S16x8732x24x1 1 := andi (call11_v7 x) (call11_v10 x)
def call11_c_3 (x : Args) : IVec S_ 1 := constantI S_ 1 1#1
def call11_v12 (x : Args) : IVec S16x8732x24 1 := Host.reduce IntOp.andi (call11_v11 x) (call11_c_3 x) reducesTo_S16x8732x24x1_S16x8732x24_d3 h_S_
def call11_v13 (x : Args) : FVec Ideal S16x8732x24 .f32 := Host.gather gather_S16x8732x81_S16x8732x24x1_S16x8732x24_n_2_01_01_2_3_111 x.a1 (call11_v5 x)
def call11_cst (x : Args) : FVec Ideal S_ .f32 := constant S_ .f32 0x7FC00000#32
def call11_v14 (x : Args) : FVec Ideal S16x8732x24 .f32 := broadcastInDim S16x8732x24 ![] bcast_S_S16x8732x24 (call11_cst x)
def v174 (x : Args) : FVec Ideal S16x8732x24 .f32 := select (call11_v12 x) (call11_v13 x) (call11_v14 x)
def v175 (x : Args) : FVec Ideal S16x8732x1 .f32 := broadcastInDim S16x8732x1 ![0, 1] bcast_S16x8732_S16x8732x1_0_1 (v171 x)
def v176 (x : Args) : FVec Ideal S16x8732x24 .f32 := broadcastInDim S16x8732x24 ![0, 1, 2] bcast_S16x8732x1_S16x8732x24_0_1_2 (v175 x)
def v177 (x : Args) : FVec Ideal S16x8732x24 .f32 := subf (v176 x) (v174 x)
def v178 (x : Args) : FVec Ideal S16x8732x1 .f32 := extractStridedSlice S16x8732x1 ![0, 0, 0] x.a1 slices_S16x8732x81_S16x8732x1_0_0_0
def v179 (x : Args) : FVec Ideal S16x8732 .f32 := shapeCast S16x8732 (v178 x) shapeCasts_S16x8732x1_S16x8732
def v180 (x : Args) : FVec Ideal S16x8732 .f32 := subf (v171 x) (v179 x)
def cst_30 (x : Args) : FVec Ideal S_ .f32 := constant S_ .f32 0x00000000#32
def v181 (x : Args) : FVec Ideal S_ .f32 := Host.reduceAdd (v108 x) (cst_30 x) reducesTo_S16x8732x24_S_d0_1_2 h_S_
def cst_31 (x : Args) : FVec Ideal S_ .f32 := constant S_ .f32 0x00000000#32
def v182 (x : Args) : FVec Ideal S_ .f32 := Host.reduceAdd (v109 x) (cst_31 x) reducesTo_S16x8732_S_d0_1 h_S_
def v183 (x : Args) : FVec Ideal S_ .f32 := addf (v181 x) (v182 x)
def cst_32 (x : Args) : FVec Ideal S_ .f32 := constant S_ .f32 0x3F800000#32
def call12_v0 (x : Args) : FVec Ideal S_ .f32 := cst_32 x
def v184 (x : Args) : FVec Ideal S_ .f32 := maximumf (call12_v0 x) (v183 x)
def v185 (x : Args) : FVec Ideal S16x8732x24 .f32 := mulf (v177 x) (v108 x)
def cst_33 (x : Args) : FVec Ideal S_ .f32 := constant S_ .f32 0x00000000#32
def v186 (x : Args) : FVec Ideal S_ .f32 := Host.reduceAdd (v185 x) (cst_33 x) reducesTo_S16x8732x24_S_d0_1_2 h_S_
def v187 (x : Args) : FVec Ideal S16x8732 .f32 := mulf (v180 x) (v109 x)
def cst_34 (x : Args) : FVec Ideal S_ .f32 := constant S_ .f32 0x00000000#32
def v188 (x : Args) : FVec Ideal S_ .f32 := Host.reduceAdd (v187 x) (cst_34 x) reducesTo_S16x8732_S_d0_1 h_S_
def v189 (x : Args) : FVec Ideal S_ .f32 := addf (v186 x) (v188 x)
def v190 (x : Args) : FVec Ideal S_ .f32 := Host.divf (v189 x) (v184 x)
def v191 (x : Args) : FVec Ideal S_ .f32 := addf (v163 x) (v190 x)
def v192 (x : Args) : FVec Ideal S1 .f32 := broadcastInDim S1 ![] bcast_S_S1 (v163 x)
def v193 (x : Args) : FVec Ideal S1 .f32 := broadcastInDim S1 ![] bcast_S_S1 (v190 x)
def v194 (x : Args) : FVec Ideal S1 .f32 := broadcastInDim S1 ![] bcast_S_S1 (v191 x)
def v195 (x : Args) : FVec Ideal S3 .f32 := concatenate S3 0 [⟨S1, v192 x⟩, ⟨S1, v193 x⟩, ⟨S1, v194 x⟩] concatenates_S1_S1_S1_S3_d0

end Cert.ReferenceIdeal.Hand

end
-- ==== Proof.ReferenceIdeal.Ends1.lean ====
/- Each buffer of the reference ends at its value: part 1 of 4. -/
module

public import proofs.«01_k».proof.Proof.ReferenceIdeal.Ops
public import proofs.«01_k».proof.Proof.ReferenceIdeal.Values

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Line

/-- The arguments a valuation holds. -/
def argsOf (V : Valuation τ sig (Elt Ideal)) : Args where
  a0 := V (Proc.devRef .tc main_arg0)
  a1 := V (Proc.devRef .tc main_arg1)
  a2 := V (Proc.devRef .tc main_arg2)
  a3 := V (Proc.devRef .tc main_arg3)
  a4 := V (Proc.devRef .tc main_arg4)

variable (V : Valuation τ sig (Elt Ideal))

theorem W_a0 : W V main_arg0 = (argsOf V).a0 := W_arg V main_arg0 (by decide)
theorem W_a1 : W V main_arg1 = (argsOf V).a1 := W_arg V main_arg1 (by decide)
theorem W_a2 : W V main_arg2 = (argsOf V).a2 := W_arg V main_arg2 (by decide)
theorem W_a3 : W V main_arg3 = (argsOf V).a3 := W_arg V main_arg3 (by decide)
theorem W_a4 : W V main_arg4 = (argsOf V).a4 := W_arg V main_arg4 (by decide)
theorem W_of_nullary {y : Ref sig .tc} {v : y.ty.Contents (Elt Ideal)} {hy} (hop : nullary y v hy ∈ ops (F := Ideal)) : W V y = v :=
  ops_numbered.nullary V hop
theorem W_of_unary {x y : Ref sig .tc} {f : x.ty.Contents (Elt Ideal) → y.ty.Contents (Elt Ideal)} {hx hy}
    (hop : unary x y f hx hy ∈ ops (F := Ideal)) (k : key x < key y) : W V y = f (W V x) := ops_numbered.unary V hop k
theorem W_of_binary {a b y : Ref sig .tc} {f : a.ty.Contents (Elt Ideal) → b.ty.Contents (Elt Ideal) → y.ty.Contents (Elt Ideal)} {ha hb hy}
    (hop : binary a b y f ha hb hy ∈ ops (F := Ideal)) (ka : key a < key y) (kb : key b < key y) : W V y = f (W V a) (W V b) :=
  ops_numbered.binary V hop ka kb
theorem W_of_ternary {c a b y : Ref sig .tc}
    {f : c.ty.Contents (Elt Ideal) → a.ty.Contents (Elt Ideal) → b.ty.Contents (Elt Ideal) → y.ty.Contents (Elt Ideal)} {hc ha hb hy}
    (hop : ternary c a b y f hc ha hb hy ∈ ops (F := Ideal)) (kc : key c < key y) (ka : key a < key y) (kb : key b < key y) :
    W V y = f (W V c) (W V a) (W V b) := ops_numbered.ternary V hop kc ka kb
theorem W_of_quaternary {a b c d y : Ref sig .tc}
    {f : a.ty.Contents (Elt Ideal) → b.ty.Contents (Elt Ideal) → c.ty.Contents (Elt Ideal) → d.ty.Contents (Elt Ideal) → y.ty.Contents (Elt Ideal)}
    {ha hb hc hd hy} (hop : quaternary a b c d y f ha hb hc hd hy ∈ ops (F := Ideal)) (ka : key a < key y) (kb : key b < key y)
    (kc : key c < key y) (kd : key d < key y) : W V y = f (W V a) (W V b) (W V c) (W V d) := ops_numbered.quaternary V hop ka kb kc kd
theorem W_of_nary {k : ℕ} {xs : Fin k → Ref sig .tc} {y : Ref sig .tc}
    {f : ((i : Fin k) → (xs i).ty.Contents (Elt Ideal)) → y.ty.Contents (Elt Ideal)} {hxs hy}
    (hop : nary xs y f hxs hy ∈ ops (F := Ideal)) (hk : ∀ i, key (xs i) < key y) : W V y = f fun i => W V (xs i) := ops_numbered.nary V hop hk
theorem W_of_reshape {x y : Ref sig .tc} {he hn hx hy} (hop : reshape x y he hn hx hy ∈ ops (F := Ideal)) (k : key x < key y) :
    W V y = fun i => he ▸ shapeCast y.ty.shape (W V x) hn i := ops_numbered.reshape V hop k

attribute [local irreducible] W

theorem W_v0 : W V main_v0 = v0 (argsOf V) := by
  have e := W_of_unary (x := main_arg2) (y := main_v0) (f := (fun (p : FVec Ideal S16x24x4 .f32) => (extractStridedSlice S16x24x2 ![0, 0, 0] p slices_S16x24x4_S16x24x2_0_0_0 : FVec Ideal S16x24x2 .f32))) V (mem_line0_0 (List.mem_of_getElem? (i := 0) rfl)) (by decide)
  exact e.trans (congrArg (fun (p : FVec Ideal S16x24x4 .f32) => (extractStridedSlice S16x24x2 ![0, 0, 0] p slices_S16x24x4_S16x24x2_0_0_0 : FVec Ideal S16x24x2 .f32)) (W_a2 V))
theorem W_v1 : W V main_v1 = v1 (argsOf V) := by
  have e := W_of_unary (x := main_v0) (y := main_v1) (f := (fun (p : FVec Ideal S16x24x2 .f32) => (broadcastInDim S16x24x1x2 ![0, 1, 3] bcast_S16x24x2_S16x24x1x2_0_1_3 p : FVec Ideal S16x24x1x2 .f32))) V (mem_line0_0 (List.mem_of_getElem? (i := 1) rfl)) (by decide)
  exact e.trans (congrArg (fun (p : FVec Ideal S16x24x2 .f32) => (broadcastInDim S16x24x1x2 ![0, 1, 3] bcast_S16x24x2_S16x24x1x2_0_1_3 p : FVec Ideal S16x24x1x2 .f32)) (W_v0 V))
theorem W_v2 : W V main_v2 = v2 (argsOf V) := by
  have e := W_of_unary (x := main_arg3) (y := main_v2) (f := (fun (p : FVec Ideal S8732x4 .f32) => (extractStridedSlice S8732x2 ![0, 0] p slices_S8732x4_S8732x2_0_0 : FVec Ideal S8732x2 .f32))) V (mem_line0_0 (List.mem_of_getElem? (i := 2) rfl)) (by decide)
  exact e.trans (congrArg (fun (p : FVec Ideal S8732x4 .f32) => (extractStridedSlice S8732x2 ![0, 0] p slices_S8732x4_S8732x2_0_0 : FVec Ideal S8732x2 .f32)) (W_a3 V))
theorem W_v3 : W V main_v3 = v3 (argsOf V) := by
  have e := W_of_unary (x := main_v2) (y := main_v3) (f := (fun (p : FVec Ideal S8732x2 .f32) => (broadcastInDim S1x1x8732x2 ![2, 3] bcast_S8732x2_S1x1x8732x2_2_3 p : FVec Ideal S1x1x8732x2 .f32))) V (mem_line0_0 (List.mem_of_getElem? (i := 3) rfl)) (by decide)
  exact e.trans (congrArg (fun (p : FVec Ideal S8732x2 .f32) => (broadcastInDim S1x1x8732x2 ![2, 3] bcast_S8732x2_S1x1x8732x2_2_3 p : FVec Ideal S1x1x8732x2 .f32)) (W_v2 V))
theorem W_v4 : W V main_v4 = v4 (argsOf V) := by
  have e := W_of_unary (x := main_v1) (y := main_v4) (f := (fun (p : FVec Ideal S16x24x1x2 .f32) => (broadcastInDim S16x24x8732x2 ![0, 1, 2, 3] bcast_S16x24x1x2_S16x24x8732x2_0_1_2_3 p : FVec Ideal S16x24x8732x2 .f32))) V (mem_line0_0 (List.mem_of_getElem? (i := 4) rfl)) (by decide)
  exact e.trans (congrArg (fun (p : FVec Ideal S16x24x1x2 .f32) => (broadcastInDim S16x24x8732x2 ![0, 1, 2, 3] bcast_S16x24x1x2_S16x24x8732x2_0_1_2_3 p : FVec Ideal S16x24x8732x2 .f32)) (W_v1 V))
theorem W_v5 : W V main_v5 = v5 (argsOf V) := by
  have e := W_of_unary (x := main_v3) (y := main_v5) (f := (fun (p : FVec Ideal S1x1x8732x2 .f32) => (broadcastInDim S16x24x8732x2 ![0, 1, 2, 3] bcast_S1x1x8732x2_S16x24x8732x2_0_1_2_3 p : FVec Ideal S16x24x8732x2 .f32))) V (mem_line0_0 (List.mem_of_getElem? (i := 5) rfl)) (by decide)
  exact e.trans (congrArg (fun (p : FVec Ideal S1x1x8732x2 .f32) => (broadcastInDim S16x24x8732x2 ![0, 1, 2, 3] bcast_S1x1x8732x2_S16x24x8732x2_0_1_2_3 p : FVec Ideal S16x24x8732x2 .f32)) (W_v3 V))
theorem W_v6 : W V main_v6 = v6 (argsOf V) := by
  have e := W_of_binary (a := main_v4) (b := main_v5) (y := main_v6) (f := (fun (p : FVec Ideal S16x24x8732x2 .f32) (q : FVec Ideal S16x24x8732x2 .f32) => (maximumf p q : FVec Ideal S16x24x8732x2 .f32))) V (mem_line0_0 (List.mem_of_getElem? (i := 6) rfl)) (by decide) (by decide)
  exact e.trans (congrArg₂ (fun (p : FVec Ideal S16x24x8732x2 .f32) (q : FVec Ideal S16x24x8732x2 .f32) => (maximumf p q : FVec Ideal S16x24x8732x2 .f32)) (W_v4 V) (W_v5 V))
theorem W_v7 : W V main_v7 = v7 (argsOf V) := by
  have e := W_of_unary (x := main_arg2) (y := main_v7) (f := (fun (p : FVec Ideal S16x24x4 .f32) => (extractStridedSlice S16x24x2 ![0, 0, 2] p slices_S16x24x4_S16x24x2_0_0_2 : FVec Ideal S16x24x2 .f32))) V (mem_line0_0 (List.mem_of_getElem? (i := 7) rfl)) (by decide)
  exact e.trans (congrArg (fun (p : FVec Ideal S16x24x4 .f32) => (extractStridedSlice S16x24x2 ![0, 0, 2] p slices_S16x24x4_S16x24x2_0_0_2 : FVec Ideal S16x24x2 .f32)) (W_a2 V))
theorem W_v8 : W V main_v8 = v8 (argsOf V) := by
  have e := W_of_unary (x := main_v7) (y := main_v8) (f := (fun (p : FVec Ideal S16x24x2 .f32) => (broadcastInDim S16x24x1x2 ![0, 1, 3] bcast_S16x24x2_S16x24x1x2_0_1_3 p : FVec Ideal S16x24x1x2 .f32))) V (mem_line0_0 (List.mem_of_getElem? (i := 8) rfl)) (by decide)
  exact e.trans (congrArg (fun (p : FVec Ideal S16x24x2 .f32) => (broadcastInDim S16x24x1x2 ![0, 1, 3] bcast_S16x24x2_S16x24x1x2_0_1_3 p : FVec Ideal S16x24x1x2 .f32)) (W_v7 V))
theorem W_v9 : W V main_v9 = v9 (argsOf V) := by
  have e := W_of_unary (x := main_arg3) (y := main_v9) (f := (fun (p : FVec Ideal S8732x4 .f32) => (extractStridedSlice S8732x2 ![0, 2] p slices_S8732x4_S8732x2_0_2 : FVec Ideal S8732x2 .f32))) V (mem_line0_0 (List.mem_of_getElem? (i := 9) rfl)) (by decide)
  exact e.trans (congrArg (fun (p : FVec Ideal S8732x4 .f32) => (extractStridedSlice S8732x2 ![0, 2] p slices_S8732x4_S8732x2_0_2 : FVec Ideal S8732x2 .f32)) (W_a3 V))
theorem W_v10 : W V main_v10 = v10 (argsOf V) := by
  have e := W_of_unary (x := main_v9) (y := main_v10) (f := (fun (p : FVec Ideal S8732x2 .f32) => (broadcastInDim S1x1x8732x2 ![2, 3] bcast_S8732x2_S1x1x8732x2_2_3 p : FVec Ideal S1x1x8732x2 .f32))) V (mem_line0_0 (List.mem_of_getElem? (i := 10) rfl)) (by decide)
  exact e.trans (congrArg (fun (p : FVec Ideal S8732x2 .f32) => (broadcastInDim S1x1x8732x2 ![2, 3] bcast_S8732x2_S1x1x8732x2_2_3 p : FVec Ideal S1x1x8732x2 .f32)) (W_v9 V))
theorem W_v11 : W V main_v11 = v11 (argsOf V) := by
  have e := W_of_unary (x := main_v8) (y := main_v11) (f := (fun (p : FVec Ideal S16x24x1x2 .f32) => (broadcastInDim S16x24x8732x2 ![0, 1, 2, 3] bcast_S16x24x1x2_S16x24x8732x2_0_1_2_3 p : FVec Ideal S16x24x8732x2 .f32))) V (mem_line0_0 (List.mem_of_getElem? (i := 11) rfl)) (by decide)
  exact e.trans (congrArg (fun (p : FVec Ideal S16x24x1x2 .f32) => (broadcastInDim S16x24x8732x2 ![0, 1, 2, 3] bcast_S16x24x1x2_S16x24x8732x2_0_1_2_3 p : FVec Ideal S16x24x8732x2 .f32)) (W_v8 V))
theorem W_v12 : W V main_v12 = v12 (argsOf V) := by
  have e := W_of_unary (x := main_v10) (y := main_v12) (f := (fun (p : FVec Ideal S1x1x8732x2 .f32) => (broadcastInDim S16x24x8732x2 ![0, 1, 2, 3] bcast_S1x1x8732x2_S16x24x8732x2_0_1_2_3 p : FVec Ideal S16x24x8732x2 .f32))) V (mem_line0_0 (List.mem_of_getElem? (i := 12) rfl)) (by decide)
  exact e.trans (congrArg (fun (p : FVec Ideal S1x1x8732x2 .f32) => (broadcastInDim S16x24x8732x2 ![0, 1, 2, 3] bcast_S1x1x8732x2_S16x24x8732x2_0_1_2_3 p : FVec Ideal S16x24x8732x2 .f32)) (W_v10 V))
theorem W_v13 : W V main_v13 = v13 (argsOf V) := by
  have e := W_of_binary (a := main_v11) (b := main_v12) (y := main_v13) (f := (fun (p : FVec Ideal S16x24x8732x2 .f32) (q : FVec Ideal S16x24x8732x2 .f32) => (minimumf p q : FVec Ideal S16x24x8732x2 .f32))) V (mem_line0_0 (List.mem_of_getElem? (i := 13) rfl)) (by decide) (by decide)
  exact e.trans (congrArg₂ (fun (p : FVec Ideal S16x24x8732x2 .f32) (q : FVec Ideal S16x24x8732x2 .f32) => (minimumf p q : FVec Ideal S16x24x8732x2 .f32)) (W_v11 V) (W_v12 V))
theorem W_v14 : W V main_v14 = v14 (argsOf V) := by
  have e := W_of_binary (a := main_v13) (b := main_v6) (y := main_v14) (f := (fun (p : FVec Ideal S16x24x8732x2 .f32) (q : FVec Ideal S16x24x8732x2 .f32) => (subf p q : FVec Ideal S16x24x8732x2 .f32))) V (mem_line0_0 (List.mem_of_getElem? (i := 14) rfl)) (by decide) (by decide)
  exact e.trans (congrArg₂ (fun (p : FVec Ideal S16x24x8732x2 .f32) (q : FVec Ideal S16x24x8732x2 .f32) => (subf p q : FVec Ideal S16x24x8732x2 .f32)) (W_v13 V) (W_v6 V))
theorem W_cst : W V main_cst = cst (argsOf V) :=
  W_of_nullary (y := main_cst) (v := (constant S_ .f32 0x00000000#32 : FVec Ideal S_ .f32)) V (mem_line0_0 (List.mem_of_getElem? (i := 15) rfl))
theorem W_call0_v0 : W V main_call0_v0 = call0_v0 (argsOf V) := by
  have e := W_of_unary (x := main_cst) (y := main_call0_v0) (f := (fun (p : FVec Ideal S_ .f32) => (p : FVec Ideal S_ .f32))) V (mem_line0_0 (List.mem_of_getElem? (i := 16) rfl)) (by decide)
  exact e.trans (congrArg (fun (p : FVec Ideal S_ .f32) => (p : FVec Ideal S_ .f32)) (W_cst V))
theorem W_call0_v1 : W V main_call0_v1 = call0_v1 (argsOf V) := by
  have e := W_of_unary (x := main_call0_v0) (y := main_call0_v1) (f := (fun (p : FVec Ideal S_ .f32) => (broadcastInDim S16x24x8732x2 ![] bcast_S_S16x24x8732x2 p : FVec Ideal S16x24x8732x2 .f32))) V (mem_line0_0 (List.mem_of_getElem? (i := 17) rfl)) (by decide)
  exact e.trans (congrArg (fun (p : FVec Ideal S_ .f32) => (broadcastInDim S16x24x8732x2 ![] bcast_S_S16x24x8732x2 p : FVec Ideal S16x24x8732x2 .f32)) (W_call0_v0 V))
theorem W_v15 : W V main_v15 = v15 (argsOf V) := by
  have e := W_of_binary (a := main_call0_v1) (b := main_v14) (y := main_v15) (f := (fun (p : FVec Ideal S16x24x8732x2 .f32) (q : FVec Ideal S16x24x8732x2 .f32) => (maximumf p q : FVec Ideal S16x24x8732x2 .f32))) V (mem_line0_0 (List.mem_of_getElem? (i := 18) rfl)) (by decide) (by decide)
  exact e.trans (congrArg₂ (fun (p : FVec Ideal S16x24x8732x2 .f32) (q : FVec Ideal S16x24x8732x2 .f32) => (maximumf p q : FVec Ideal S16x24x8732x2 .f32)) (W_call0_v1 V) (W_v14 V))
theorem W_v16 : W V main_v16 = v16 (argsOf V) := by
  have e := W_of_unary (x := main_v15) (y := main_v16) (f := (fun (p : FVec Ideal S16x24x8732x2 .f32) => (extractStridedSlice S16x24x8732x1 ![0, 0, 0, 0] p slices_S16x24x8732x2_S16x24x8732x1_0_0_0_0 : FVec Ideal S16x24x8732x1 .f32))) V (mem_line0_0 (List.mem_of_getElem? (i := 19) rfl)) (by decide)
  exact e.trans (congrArg (fun (p : FVec Ideal S16x24x8732x2 .f32) => (extractStridedSlice S16x24x8732x1 ![0, 0, 0, 0] p slices_S16x24x8732x2_S16x24x8732x1_0_0_0_0 : FVec Ideal S16x24x8732x1 .f32)) (W_v15 V))
theorem W_v17 : W V main_v17 = v17 (argsOf V) :=
  (W_of_reshape (x := main_v16) (y := main_v17) V (mem_line0_0 (List.mem_of_getElem? (i := 20) rfl)) (by decide)).trans (by
    show shapeCast _ (W V main_v16) _ = _
    rw [W_v16]; rfl)
theorem W_v18 : W V main_v18 = v18 (argsOf V) := by
  have e := W_of_unary (x := main_v15) (y := main_v18) (f := (fun (p : FVec Ideal S16x24x8732x2 .f32) => (extractStridedSlice S16x24x8732x1 ![0, 0, 0, 1] p slices_S16x24x8732x2_S16x24x8732x1_0_0_0_1 : FVec Ideal S16x24x8732x1 .f32))) V (mem_line0_0 (List.mem_of_getElem? (i := 21) rfl)) (by decide)
  exact e.trans (congrArg (fun (p : FVec Ideal S16x24x8732x2 .f32) => (extractStridedSlice S16x24x8732x1 ![0, 0, 0, 1] p slices_S16x24x8732x2_S16x24x8732x1_0_0_0_1 : FVec Ideal S16x24x8732x1 .f32)) (W_v15 V))
theorem W_v19 : W V main_v19 = v19 (argsOf V) :=
  (W_of_reshape (x := main_v18) (y := main_v19) V (mem_line0_0 (List.mem_of_getElem? (i := 22) rfl)) (by decide)).trans (by
    show shapeCast _ (W V main_v18) _ = _
    rw [W_v18]; rfl)
theorem W_v20 : W V main_v20 = v20 (argsOf V) := by
  have e := W_of_binary (a := main_v17) (b := main_v19) (y := main_v20) (f := (fun (p : FVec Ideal S16x24x8732 .f32) (q : FVec Ideal S16x24x8732 .f32) => (mulf p q : FVec Ideal S16x24x8732 .f32))) V (mem_line0_0 (List.mem_of_getElem? (i := 23) rfl)) (by decide) (by decide)
  exact e.trans (congrArg₂ (fun (p : FVec Ideal S16x24x8732 .f32) (q : FVec Ideal S16x24x8732 .f32) => (mulf p q : FVec Ideal S16x24x8732 .f32)) (W_v17 V) (W_v19 V))
theorem W_v21 : W V main_v21 = v21 (argsOf V) := by
  have e := W_of_unary (x := main_arg2) (y := main_v21) (f := (fun (p : FVec Ideal S16x24x4 .f32) => (extractStridedSlice S16x24x1 ![0, 0, 2] p slices_S16x24x4_S16x24x1_0_0_2 : FVec Ideal S16x24x1 .f32))) V (mem_line0_0 (List.mem_of_getElem? (i := 24) rfl)) (by decide)
  exact e.trans (congrArg (fun (p : FVec Ideal S16x24x4 .f32) => (extractStridedSlice S16x24x1 ![0, 0, 2] p slices_S16x24x4_S16x24x1_0_0_2 : FVec Ideal S16x24x1 .f32)) (W_a2 V))
theorem W_v22 : W V main_v22 = v22 (argsOf V) :=
  (W_of_reshape (x := main_v21) (y := main_v22) V (mem_line0_0 (List.mem_of_getElem? (i := 25) rfl)) (by decide)).trans (by
    show shapeCast _ (W V main_v21) _ = _
    rw [W_v21]; rfl)
theorem W_v23 : W V main_v23 = v23 (argsOf V) := by
  have e := W_of_unary (x := main_arg2) (y := main_v23) (f := (fun (p : FVec Ideal S16x24x4 .f32) => (extractStridedSlice S16x24x1 ![0, 0, 0] p slices_S16x24x4_S16x24x1_0_0_0 : FVec Ideal S16x24x1 .f32))) V (mem_line0_0 (List.mem_of_getElem? (i := 26) rfl)) (by decide)
  exact e.trans (congrArg (fun (p : FVec Ideal S16x24x4 .f32) => (extractStridedSlice S16x24x1 ![0, 0, 0] p slices_S16x24x4_S16x24x1_0_0_0 : FVec Ideal S16x24x1 .f32)) (W_a2 V))
theorem W_v24 : W V main_v24 = v24 (argsOf V) :=
  (W_of_reshape (x := main_v23) (y := main_v24) V (mem_line0_0 (List.mem_of_getElem? (i := 27) rfl)) (by decide)).trans (by
    show shapeCast _ (W V main_v23) _ = _
    rw [W_v23]; rfl)
theorem W_v25 : W V main_v25 = v25 (argsOf V) := by
  have e := W_of_binary (a := main_v22) (b := main_v24) (y := main_v25) (f := (fun (p : FVec Ideal S16x24 .f32) (q : FVec Ideal S16x24 .f32) => (subf p q : FVec Ideal S16x24 .f32))) V (mem_line0_0 (List.mem_of_getElem? (i := 28) rfl)) (by decide) (by decide)
  exact e.trans (congrArg₂ (fun (p : FVec Ideal S16x24 .f32) (q : FVec Ideal S16x24 .f32) => (subf p q : FVec Ideal S16x24 .f32)) (W_v22 V) (W_v24 V))
theorem W_v26 : W V main_v26 = v26 (argsOf V) := by
  have e := W_of_unary (x := main_arg2) (y := main_v26) (f := (fun (p : FVec Ideal S16x24x4 .f32) => (extractStridedSlice S16x24x1 ![0, 0, 3] p slices_S16x24x4_S16x24x1_0_0_3 : FVec Ideal S16x24x1 .f32))) V (mem_line0_0 (List.mem_of_getElem? (i := 29) rfl)) (by decide)
  exact e.trans (congrArg (fun (p : FVec Ideal S16x24x4 .f32) => (extractStridedSlice S16x24x1 ![0, 0, 3] p slices_S16x24x4_S16x24x1_0_0_3 : FVec Ideal S16x24x1 .f32)) (W_a2 V))
theorem W_v27 : W V main_v27 = v27 (argsOf V) :=
  (W_of_reshape (x := main_v26) (y := main_v27) V (mem_line0_1 (List.mem_of_getElem? (i := 0) rfl)) (by decide)).trans (by
    show shapeCast _ (W V main_v26) _ = _
    rw [W_v26]; rfl)
theorem W_v28 : W V main_v28 = v28 (argsOf V) := by
  have e := W_of_unary (x := main_arg2) (y := main_v28) (f := (fun (p : FVec Ideal S16x24x4 .f32) => (extractStridedSlice S16x24x1 ![0, 0, 1] p slices_S16x24x4_S16x24x1_0_0_1 : FVec Ideal S16x24x1 .f32))) V (mem_line0_1 (List.mem_of_getElem? (i := 1) rfl)) (by decide)
  exact e.trans (congrArg (fun (p : FVec Ideal S16x24x4 .f32) => (extractStridedSlice S16x24x1 ![0, 0, 1] p slices_S16x24x4_S16x24x1_0_0_1 : FVec Ideal S16x24x1 .f32)) (W_a2 V))
theorem W_v29 : W V main_v29 = v29 (argsOf V) :=
  (W_of_reshape (x := main_v28) (y := main_v29) V (mem_line0_1 (List.mem_of_getElem? (i := 2) rfl)) (by decide)).trans (by
    show shapeCast _ (W V main_v28) _ = _
    rw [W_v28]; rfl)
theorem W_v30 : W V main_v30 = v30 (argsOf V) := by
  have e := W_of_binary (a := main_v27) (b := main_v29) (y := main_v30) (f := (fun (p : FVec Ideal S16x24 .f32) (q : FVec Ideal S16x24 .f32) => (subf p q : FVec Ideal S16x24 .f32))) V (mem_line0_1 (List.mem_of_getElem? (i := 3) rfl)) (by decide) (by decide)
  exact e.trans (congrArg₂ (fun (p : FVec Ideal S16x24 .f32) (q : FVec Ideal S16x24 .f32) => (subf p q : FVec Ideal S16x24 .f32)) (W_v27 V) (W_v29 V))
theorem W_v31 : W V main_v31 = v31 (argsOf V) := by
  have e := W_of_binary (a := main_v25) (b := main_v30) (y := main_v31) (f := (fun (p : FVec Ideal S16x24 .f32) (q : FVec Ideal S16x24 .f32) => (mulf p q : FVec Ideal S16x24 .f32))) V (mem_line0_1 (List.mem_of_getElem? (i := 4) rfl)) (by decide) (by decide)
  exact e.trans (congrArg₂ (fun (p : FVec Ideal S16x24 .f32) (q : FVec Ideal S16x24 .f32) => (mulf p q : FVec Ideal S16x24 .f32)) (W_v25 V) (W_v30 V))
theorem W_v32 : W V main_v32 = v32 (argsOf V) := by
  have e := W_of_unary (x := main_arg3) (y := main_v32) (f := (fun (p : FVec Ideal S8732x4 .f32) => (extractStridedSlice S8732x1 ![0, 2] p slices_S8732x4_S8732x1_0_2 : FVec Ideal S8732x1 .f32))) V (mem_line0_1 (List.mem_of_getElem? (i := 5) rfl)) (by decide)
  exact e.trans (congrArg (fun (p : FVec Ideal S8732x4 .f32) => (extractStridedSlice S8732x1 ![0, 2] p slices_S8732x4_S8732x1_0_2 : FVec Ideal S8732x1 .f32)) (W_a3 V))
theorem W_v33 : W V main_v33 = v33 (argsOf V) :=
  (W_of_reshape (x := main_v32) (y := main_v33) V (mem_line0_1 (List.mem_of_getElem? (i := 6) rfl)) (by decide)).trans (by
    show shapeCast _ (W V main_v32) _ = _
    rw [W_v32]; rfl)
theorem W_v34 : W V main_v34 = v34 (argsOf V) := by
  have e := W_of_unary (x := main_arg3) (y := main_v34) (f := (fun (p : FVec Ideal S8732x4 .f32) => (extractStridedSlice S8732x1 ![0, 0] p slices_S8732x4_S8732x1_0_0 : FVec Ideal S8732x1 .f32))) V (mem_line0_1 (List.mem_of_getElem? (i := 7) rfl)) (by decide)
  exact e.trans (congrArg (fun (p : FVec Ideal S8732x4 .f32) => (extractStridedSlice S8732x1 ![0, 0] p slices_S8732x4_S8732x1_0_0 : FVec Ideal S8732x1 .f32)) (W_a3 V))
theorem W_v35 : W V main_v35 = v35 (argsOf V) :=
  (W_of_reshape (x := main_v34) (y := main_v35) V (mem_line0_1 (List.mem_of_getElem? (i := 8) rfl)) (by decide)).trans (by
    show shapeCast _ (W V main_v34) _ = _
    rw [W_v34]; rfl)
theorem W_v36 : W V main_v36 = v36 (argsOf V) := by
  have e := W_of_binary (a := main_v33) (b := main_v35) (y := main_v36) (f := (fun (p : FVec Ideal S8732 .f32) (q : FVec Ideal S8732 .f32) => (subf p q : FVec Ideal S8732 .f32))) V (mem_line0_1 (List.mem_of_getElem? (i := 9) rfl)) (by decide) (by decide)
  exact e.trans (congrArg₂ (fun (p : FVec Ideal S8732 .f32) (q : FVec Ideal S8732 .f32) => (subf p q : FVec Ideal S8732 .f32)) (W_v33 V) (W_v35 V))
theorem W_v37 : W V main_v37 = v37 (argsOf V) := by
  have e := W_of_unary (x := main_arg3) (y := main_v37) (f := (fun (p : FVec Ideal S8732x4 .f32) => (extractStridedSlice S8732x1 ![0, 3] p slices_S8732x4_S8732x1_0_3 : FVec Ideal S8732x1 .f32))) V (mem_line0_1 (List.mem_of_getElem? (i := 10) rfl)) (by decide)
  exact e.trans (congrArg (fun (p : FVec Ideal S8732x4 .f32) => (extractStridedSlice S8732x1 ![0, 3] p slices_S8732x4_S8732x1_0_3 : FVec Ideal S8732x1 .f32)) (W_a3 V))
theorem W_v38 : W V main_v38 = v38 (argsOf V) :=
  (W_of_reshape (x := main_v37) (y := main_v38) V (mem_line0_1 (List.mem_of_getElem? (i := 11) rfl)) (by decide)).trans (by
    show shapeCast _ (W V main_v37) _ = _
    rw [W_v37]; rfl)
theorem W_v39 : W V main_v39 = v39 (argsOf V) := by
  have e := W_of_unary (x := main_arg3) (y := main_v39) (f := (fun (p : FVec Ideal S8732x4 .f32) => (extractStridedSlice S8732x1 ![0, 1] p slices_S8732x4_S8732x1_0_1 : FVec Ideal S8732x1 .f32))) V (mem_line0_1 (List.mem_of_getElem? (i := 12) rfl)) (by decide)
  exact e.trans (congrArg (fun (p : FVec Ideal S8732x4 .f32) => (extractStridedSlice S8732x1 ![0, 1] p slices_S8732x4_S8732x1_0_1 : FVec Ideal S8732x1 .f32)) (W_a3 V))
theorem W_v40 : W V main_v40 = v40 (argsOf V) :=
  (W_of_reshape (x := main_v39) (y := main_v40) V (mem_line0_1 (List.mem_of_getElem? (i := 13) rfl)) (by decide)).trans (by
    show shapeCast _ (W V main_v39) _ = _
    rw [W_v39]; rfl)
theorem W_v41 : W V main_v41 = v41 (argsOf V) := by
  have e := W_of_binary (a := main_v38) (b := main_v40) (y := main_v41) (f := (fun (p : FVec Ideal S8732 .f32) (q : FVec Ideal S8732 .f32) => (subf p q : FVec Ideal S8732 .f32))) V (mem_line0_1 (List.mem_of_getElem? (i := 14) rfl)) (by decide) (by decide)
  exact e.trans (congrArg₂ (fun (p : FVec Ideal S8732 .f32) (q : FVec Ideal S8732 .f32) => (subf p q : FVec Ideal S8732 .f32)) (W_v38 V) (W_v40 V))
theorem W_v42 : W V main_v42 = v42 (argsOf V) := by
  have e := W_of_binary (a := main_v36) (b := main_v41) (y := main_v42) (f := (fun (p : FVec Ideal S8732 .f32) (q : FVec Ideal S8732 .f32) => (mulf p q : FVec Ideal S8732 .f32))) V (mem_line0_1 (List.mem_of_getElem? (i := 15) rfl)) (by decide) (by decide)
  exact e.trans (congrArg₂ (fun (p : FVec Ideal S8732 .f32) (q : FVec Ideal S8732 .f32) => (mulf p q : FVec Ideal S8732 .f32)) (W_v36 V) (W_v41 V))
theorem W_v43 : W V main_v43 = v43 (argsOf V) := by
  have e := W_of_unary (x := main_v31) (y := main_v43) (f := (fun (p : FVec Ideal S16x24 .f32) => (broadcastInDim S16x24x1 ![0, 1] bcast_S16x24_S16x24x1_0_1 p : FVec Ideal S16x24x1 .f32))) V (mem_line0_1 (List.mem_of_getElem? (i := 16) rfl)) (by decide)
  exact e.trans (congrArg (fun (p : FVec Ideal S16x24 .f32) => (broadcastInDim S16x24x1 ![0, 1] bcast_S16x24_S16x24x1_0_1 p : FVec Ideal S16x24x1 .f32)) (W_v31 V))
theorem W_v44 : W V main_v44 = v44 (argsOf V) := by
  have e := W_of_unary (x := main_v42) (y := main_v44) (f := (fun (p : FVec Ideal S8732 .f32) => (broadcastInDim S1x1x8732 ![2] bcast_S8732_S1x1x8732_2 p : FVec Ideal S1x1x8732 .f32))) V (mem_line0_1 (List.mem_of_getElem? (i := 17) rfl)) (by decide)
  exact e.trans (congrArg (fun (p : FVec Ideal S8732 .f32) => (broadcastInDim S1x1x8732 ![2] bcast_S8732_S1x1x8732_2 p : FVec Ideal S1x1x8732 .f32)) (W_v42 V))
theorem W_v45 : W V main_v45 = v45 (argsOf V) := by
  have e := W_of_unary (x := main_v43) (y := main_v45) (f := (fun (p : FVec Ideal S16x24x1 .f32) => (broadcastInDim S16x24x8732 ![0, 1, 2] bcast_S16x24x1_S16x24x8732_0_1_2 p : FVec Ideal S16x24x8732 .f32))) V (mem_line0_1 (List.mem_of_getElem? (i := 18) rfl)) (by decide)
  exact e.trans (congrArg (fun (p : FVec Ideal S16x24x1 .f32) => (broadcastInDim S16x24x8732 ![0, 1, 2] bcast_S16x24x1_S16x24x8732_0_1_2 p : FVec Ideal S16x24x8732 .f32)) (W_v43 V))
theorem W_v46 : W V main_v46 = v46 (argsOf V) := by
  have e := W_of_unary (x := main_v44) (y := main_v46) (f := (fun (p : FVec Ideal S1x1x8732 .f32) => (broadcastInDim S16x24x8732 ![0, 1, 2] bcast_S1x1x8732_S16x24x8732_0_1_2 p : FVec Ideal S16x24x8732 .f32))) V (mem_line0_1 (List.mem_of_getElem? (i := 19) rfl)) (by decide)
  exact e.trans (congrArg (fun (p : FVec Ideal S1x1x8732 .f32) => (broadcastInDim S16x24x8732 ![0, 1, 2] bcast_S1x1x8732_S16x24x8732_0_1_2 p : FVec Ideal S16x24x8732 .f32)) (W_v44 V))
theorem W_v47 : W V main_v47 = v47 (argsOf V) := by
  have e := W_of_binary (a := main_v45) (b := main_v46) (y := main_v47) (f := (fun (p : FVec Ideal S16x24x8732 .f32) (q : FVec Ideal S16x24x8732 .f32) => (addf p q : FVec Ideal S16x24x8732 .f32))) V (mem_line0_1 (List.mem_of_getElem? (i := 20) rfl)) (by decide) (by decide)
  exact e.trans (congrArg₂ (fun (p : FVec Ideal S16x24x8732 .f32) (q : FVec Ideal S16x24x8732 .f32) => (addf p q : FVec Ideal S16x24x8732 .f32)) (W_v45 V) (W_v46 V))
theorem W_v48 : W V main_v48 = v48 (argsOf V) := by
  have e := W_of_binary (a := main_v47) (b := main_v20) (y := main_v48) (f := (fun (p : FVec Ideal S16x24x8732 .f32) (q : FVec Ideal S16x24x8732 .f32) => (subf p q : FVec Ideal S16x24x8732 .f32))) V (mem_line0_1 (List.mem_of_getElem? (i := 21) rfl)) (by decide) (by decide)
  exact e.trans (congrArg₂ (fun (p : FVec Ideal S16x24x8732 .f32) (q : FVec Ideal S16x24x8732 .f32) => (subf p q : FVec Ideal S16x24x8732 .f32)) (W_v47 V) (W_v20 V))
theorem W_cst_0 : W V main_cst_0 = cst_0 (argsOf V) :=
  W_of_nullary (y := main_cst_0) (v := (constant S_ .f32 0x3089705F#32 : FVec Ideal S_ .f32)) V (mem_line0_1 (List.mem_of_getElem? (i := 22) rfl))
theorem W_call1_v0 : W V main_call1_v0 = call1_v0 (argsOf V) := by
  have e := W_of_unary (x := main_cst_0) (y := main_call1_v0) (f := (fun (p : FVec Ideal S_ .f32) => (p : FVec Ideal S_ .f32))) V (mem_line0_1 (List.mem_of_getElem? (i := 23) rfl)) (by decide)
  exact e.trans (congrArg (fun (p : FVec Ideal S_ .f32) => (p : FVec Ideal S_ .f32)) (W_cst_0 V))
theorem W_call1_v1 : W V main_call1_v1 = call1_v1 (argsOf V) := by
  have e := W_of_unary (x := main_call1_v0) (y := main_call1_v1) (f := (fun (p : FVec Ideal S_ .f32) => (broadcastInDim S16x24x8732 ![] bcast_S_S16x24x8732 p : FVec Ideal S16x24x8732 .f32))) V (mem_line0_1 (List.mem_of_getElem? (i := 24) rfl)) (by decide)
  exact e.trans (congrArg (fun (p : FVec Ideal S_ .f32) => (broadcastInDim S16x24x8732 ![] bcast_S_S16x24x8732 p : FVec Ideal S16x24x8732 .f32)) (W_call1_v0 V))
theorem W_v49 : W V main_v49 = v49 (argsOf V) := by
  have e := W_of_binary (a := main_call1_v1) (b := main_v48) (y := main_v49) (f := (fun (p : FVec Ideal S16x24x8732 .f32) (q : FVec Ideal S16x24x8732 .f32) => (maximumf p q : FVec Ideal S16x24x8732 .f32))) V (mem_line0_1 (List.mem_of_getElem? (i := 25) rfl)) (by decide) (by decide)
  exact e.trans (congrArg₂ (fun (p : FVec Ideal S16x24x8732 .f32) (q : FVec Ideal S16x24x8732 .f32) => (maximumf p q : FVec Ideal S16x24x8732 .f32)) (W_call1_v1 V) (W_v48 V))
theorem W_v50 : W V main_v50 = v50 (argsOf V) := by
  have e := W_of_binary (a := main_v20) (b := main_v49) (y := main_v50) (f := (fun (p : FVec Ideal S16x24x8732 .f32) (q : FVec Ideal S16x24x8732 .f32) => (Host.divf p q : FVec Ideal S16x24x8732 .f32))) V (mem_line0_1 (List.mem_of_getElem? (i := 26) rfl)) (by decide) (by decide)
  exact e.trans (congrArg₂ (fun (p : FVec Ideal S16x24x8732 .f32) (q : FVec Ideal S16x24x8732 .f32) => (Host.divf p q : FVec Ideal S16x24x8732 .f32)) (W_v20 V) (W_v49 V))
theorem W_cst_1 : W V main_cst_1 = cst_1 (argsOf V) :=
  W_of_nullary (y := main_cst_1) (v := (constant S_ .f32 0x3EB33333#32 : FVec Ideal S_ .f32)) V (mem_line0_1 (List.mem_of_getElem? (i := 27) rfl))
theorem W_v51 : W V main_v51 = v51 (argsOf V) := by
  have e := W_of_unary (x := main_cst_1) (y := main_v51) (f := (fun (p : FVec Ideal S_ .f32) => (broadcastInDim S16x24x8732 ![] bcast_S_S16x24x8732 p : FVec Ideal S16x24x8732 .f32))) V (mem_line0_1 (List.mem_of_getElem? (i := 28) rfl)) (by decide)
  exact e.trans (congrArg (fun (p : FVec Ideal S_ .f32) => (broadcastInDim S16x24x8732 ![] bcast_S_S16x24x8732 p : FVec Ideal S16x24x8732 .f32)) (W_cst_1 V))
theorem W_v52 : W V main_v52 = v52 (argsOf V) := by
  have e := W_of_binary (a := main_v50) (b := main_v51) (y := main_v52) (f := (fun (p : FVec Ideal S16x24x8732 .f32) (q : FVec Ideal S16x24x8732 .f32) => (cmpf .ogt p q : IVec S16x24x8732 1))) V (mem_line0_1 (List.mem_of_getElem? (i := 29) rfl)) (by decide) (by decide)
  exact e.trans (congrArg₂ (fun (p : FVec Ideal S16x24x8732 .f32) (q : FVec Ideal S16x24x8732 .f32) => (cmpf .ogt p q : IVec S16x24x8732 1)) (W_v50 V) (W_v51 V))
theorem W_call2_v0 : W V main_call2_v0 = call2_v0 (argsOf V) :=
  W_of_nullary (y := main_call2_v0) (v := (iotaInDim S16x24x8732 32 2 : IVec S16x24x8732 32)) V (mem_line0_2 (List.mem_of_getElem? (i := 0) rfl))
theorem W_call2_cst : W V main_call2_cst = call2_cst (argsOf V) :=
  W_of_nullary (y := main_call2_cst) (v := (constant S_ .f32 0xFF800000#32 : FVec Ideal S_ .f32)) V (mem_line0_2 (List.mem_of_getElem? (i := 1) rfl))
theorem W_call2_c : W V main_call2_c = call2_c (argsOf V) :=
  W_of_nullary (y := main_call2_c) (v := (constantI S_ 32 0#32 : IVec S_ 32)) V (mem_line0_2 (List.mem_of_getElem? (i := 2) rfl))
theorem W_call2_v1_0 : W V main_call2_v1_0 = call2_v1_0 (argsOf V) := by
  have e := W_of_quaternary (a := main_v50) (b := main_call2_v0) (c := main_call2_cst) (d := main_call2_c) (y := main_call2_v1_0) (f := (fun (p : FVec Ideal S16x24x8732 .f32) (q : IVec S16x24x8732 32) (r : FVec Ideal S_ .f32) (s : IVec S_ 32) => (fun j => (Host.argReduce reducer_argmax_f32_i32 p q r s reducesTo_S16x24x8732_S16x24_d2 h_S_ j).1 : FVec Ideal S16x24 .f32))) V (mem_line0_2 (List.mem_of_getElem? (i := 3) rfl)) (by decide) (by decide) (by decide) (by decide)
  exact e.trans (congr (congr (congrArg₂ (fun (p : FVec Ideal S16x24x8732 .f32) (q : IVec S16x24x8732 32) (r : FVec Ideal S_ .f32) (s : IVec S_ 32) => (fun j => (Host.argReduce reducer_argmax_f32_i32 p q r s reducesTo_S16x24x8732_S16x24_d2 h_S_ j).1 : FVec Ideal S16x24 .f32)) (W_v50 V) (W_call2_v0 V)) (W_call2_cst V)) (W_call2_c V))
theorem W_v53 : W V main_v53 = v53 (argsOf V) := by
  have e := W_of_quaternary (a := main_v50) (b := main_call2_v0) (c := main_call2_cst) (d := main_call2_c) (y := main_v53) (f := (fun (p : FVec Ideal S16x24x8732 .f32) (q : IVec S16x24x8732 32) (r : FVec Ideal S_ .f32) (s : IVec S_ 32) => (fun j => (Host.argReduce reducer_argmax_f32_i32 p q r s reducesTo_S16x24x8732_S16x24_d2 h_S_ j).2 : IVec S16x24 32))) V (mem_line0_2 (List.mem_of_getElem? (i := 4) rfl)) (by decide) (by decide) (by decide) (by decide)
  exact e.trans (congr (congr (congrArg₂ (fun (p : FVec Ideal S16x24x8732 .f32) (q : IVec S16x24x8732 32) (r : FVec Ideal S_ .f32) (s : IVec S_ 32) => (fun j => (Host.argReduce reducer_argmax_f32_i32 p q r s reducesTo_S16x24x8732_S16x24_d2 h_S_ j).2 : IVec S16x24 32)) (W_v50 V) (W_call2_v0 V)) (W_call2_cst V)) (W_call2_c V))
theorem W_v54 : W V main_v54 = v54 (argsOf V) :=
  W_of_nullary (y := main_v54) (v := (iotaInDim S16 32 0 : IVec S16 32)) V (mem_line0_2 (List.mem_of_getElem? (i := 5) rfl))
theorem W_v55 : W V main_v55 = v55 (argsOf V) := by
  have e := W_of_unary (x := main_v54) (y := main_v55) (f := (fun (p : IVec S16 32) => (broadcastInDim S16x1 ![0] bcast_S16_S16x1_0 p : IVec S16x1 32))) V (mem_line0_2 (List.mem_of_getElem? (i := 6) rfl)) (by decide)
  exact e.trans (congrArg (fun (p : IVec S16 32) => (broadcastInDim S16x1 ![0] bcast_S16_S16x1_0 p : IVec S16x1 32)) (W_v54 V))
theorem W_v56 : W V main_v56 = v56 (argsOf V) :=
  W_of_nullary (y := main_v56) (v := (iotaInDim S24 32 0 : IVec S24 32)) V (mem_line0_2 (List.mem_of_getElem? (i := 7) rfl))
theorem W_v57 : W V main_v57 = v57 (argsOf V) := by
  have e := W_of_unary (x := main_v56) (y := main_v57) (f := (fun (p : IVec S24 32) => (broadcastInDim S1x24 ![1] bcast_S24_S1x24_1 p : IVec S1x24 32))) V (mem_line1_0 (List.mem_of_getElem? (i := 0) rfl)) (by decide)
  exact e.trans (congrArg (fun (p : IVec S24 32) => (broadcastInDim S1x24 ![1] bcast_S24_S1x24_1 p : IVec S1x24 32)) (W_v56 V))

end Cert.ReferenceIdeal.Hand

end
-- ==== Proof.ReferenceIdeal.Ends2.lean ====
/- Each buffer of the reference ends at its value: part 2 of 4. -/
module

public import proofs.«01_k».proof.Proof.ReferenceIdeal.Ends1
public import proofs.«01_k».proof.Proof.ReferenceIdeal.Values

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Line

variable (V : Valuation τ sig (Elt Ideal))

attribute [local irreducible] W

theorem W_c : W V main_c = c (argsOf V) :=
  W_of_nullary (y := main_c) (v := (constantI S_ 32 0#32 : IVec S_ 32)) V (mem_line1_0 (List.mem_of_getElem? (i := 1) rfl))
theorem W_v58 : W V main_v58 = v58 (argsOf V) := by
  have e := W_of_unary (x := main_c) (y := main_v58) (f := (fun (p : IVec S_ 32) => (broadcastInDim S16x1 ![] bcast_S_S16x1 p : IVec S16x1 32))) V (mem_line1_0 (List.mem_of_getElem? (i := 2) rfl)) (by decide)
  exact e.trans (congrArg (fun (p : IVec S_ 32) => (broadcastInDim S16x1 ![] bcast_S_S16x1 p : IVec S16x1 32)) (W_c V))
theorem W_v59 : W V main_v59 = v59 (argsOf V) := by
  have e := W_of_binary (a := main_v55) (b := main_v58) (y := main_v59) (f := (fun (p : IVec S16x1 32) (q : IVec S16x1 32) => (cmpi .slt p q : IVec S16x1 1))) V (mem_line1_0 (List.mem_of_getElem? (i := 3) rfl)) (by decide) (by decide)
  exact e.trans (congrArg₂ (fun (p : IVec S16x1 32) (q : IVec S16x1 32) => (cmpi .slt p q : IVec S16x1 1)) (W_v55 V) (W_v58 V))
theorem W_c_2 : W V main_c_2 = c_2 (argsOf V) :=
  W_of_nullary (y := main_c_2) (v := (constantI S_ 32 16#32 : IVec S_ 32)) V (mem_line1_0 (List.mem_of_getElem? (i := 4) rfl))
theorem W_v60 : W V main_v60 = v60 (argsOf V) := by
  have e := W_of_unary (x := main_c_2) (y := main_v60) (f := (fun (p : IVec S_ 32) => (broadcastInDim S16x1 ![] bcast_S_S16x1 p : IVec S16x1 32))) V (mem_line1_0 (List.mem_of_getElem? (i := 5) rfl)) (by decide)
  exact e.trans (congrArg (fun (p : IVec S_ 32) => (broadcastInDim S16x1 ![] bcast_S_S16x1 p : IVec S16x1 32)) (W_c_2 V))
theorem W_v61 : W V main_v61 = v61 (argsOf V) := by
  have e := W_of_binary (a := main_v55) (b := main_v60) (y := main_v61) (f := (fun (p : IVec S16x1 32) (q : IVec S16x1 32) => (addi p q : IVec S16x1 32))) V (mem_line1_0 (List.mem_of_getElem? (i := 6) rfl)) (by decide) (by decide)
  exact e.trans (congrArg₂ (fun (p : IVec S16x1 32) (q : IVec S16x1 32) => (addi p q : IVec S16x1 32)) (W_v55 V) (W_v60 V))
theorem W_v62 : W V main_v62 = v62 (argsOf V) := by
  have e := W_of_ternary (c := main_v59) (a := main_v61) (b := main_v55) (y := main_v62) (f := (fun (p : IVec S16x1 1) (q : IVec S16x1 32) (r : IVec S16x1 32) => (select p q r : IVec S16x1 32))) V (mem_line1_0 (List.mem_of_getElem? (i := 7) rfl)) (by decide) (by decide) (by decide)
  exact e.trans (congr (congrArg₂ (fun (p : IVec S16x1 1) (q : IVec S16x1 32) (r : IVec S16x1 32) => (select p q r : IVec S16x1 32)) (W_v59 V) (W_v61 V)) (W_v55 V))
theorem W_c_3 : W V main_c_3 = c_3 (argsOf V) :=
  W_of_nullary (y := main_c_3) (v := (constantI S_ 32 0#32 : IVec S_ 32)) V (mem_line1_0 (List.mem_of_getElem? (i := 8) rfl))
theorem W_v63 : W V main_v63 = v63 (argsOf V) := by
  have e := W_of_unary (x := main_c_3) (y := main_v63) (f := (fun (p : IVec S_ 32) => (broadcastInDim S1x24 ![] bcast_S_S1x24 p : IVec S1x24 32))) V (mem_line1_0 (List.mem_of_getElem? (i := 9) rfl)) (by decide)
  exact e.trans (congrArg (fun (p : IVec S_ 32) => (broadcastInDim S1x24 ![] bcast_S_S1x24 p : IVec S1x24 32)) (W_c_3 V))
theorem W_v64 : W V main_v64 = v64 (argsOf V) := by
  have e := W_of_binary (a := main_v57) (b := main_v63) (y := main_v64) (f := (fun (p : IVec S1x24 32) (q : IVec S1x24 32) => (cmpi .slt p q : IVec S1x24 1))) V (mem_line1_0 (List.mem_of_getElem? (i := 10) rfl)) (by decide) (by decide)
  exact e.trans (congrArg₂ (fun (p : IVec S1x24 32) (q : IVec S1x24 32) => (cmpi .slt p q : IVec S1x24 1)) (W_v57 V) (W_v63 V))
theorem W_c_4 : W V main_c_4 = c_4 (argsOf V) :=
  W_of_nullary (y := main_c_4) (v := (constantI S_ 32 24#32 : IVec S_ 32)) V (mem_line1_0 (List.mem_of_getElem? (i := 11) rfl))
theorem W_v65 : W V main_v65 = v65 (argsOf V) := by
  have e := W_of_unary (x := main_c_4) (y := main_v65) (f := (fun (p : IVec S_ 32) => (broadcastInDim S1x24 ![] bcast_S_S1x24 p : IVec S1x24 32))) V (mem_line1_0 (List.mem_of_getElem? (i := 12) rfl)) (by decide)
  exact e.trans (congrArg (fun (p : IVec S_ 32) => (broadcastInDim S1x24 ![] bcast_S_S1x24 p : IVec S1x24 32)) (W_c_4 V))
theorem W_v66 : W V main_v66 = v66 (argsOf V) := by
  have e := W_of_binary (a := main_v57) (b := main_v65) (y := main_v66) (f := (fun (p : IVec S1x24 32) (q : IVec S1x24 32) => (addi p q : IVec S1x24 32))) V (mem_line1_0 (List.mem_of_getElem? (i := 13) rfl)) (by decide) (by decide)
  exact e.trans (congrArg₂ (fun (p : IVec S1x24 32) (q : IVec S1x24 32) => (addi p q : IVec S1x24 32)) (W_v57 V) (W_v65 V))
theorem W_v67 : W V main_v67 = v67 (argsOf V) := by
  have e := W_of_ternary (c := main_v64) (a := main_v66) (b := main_v57) (y := main_v67) (f := (fun (p : IVec S1x24 1) (q : IVec S1x24 32) (r : IVec S1x24 32) => (select p q r : IVec S1x24 32))) V (mem_line1_0 (List.mem_of_getElem? (i := 14) rfl)) (by decide) (by decide) (by decide)
  exact e.trans (congr (congrArg₂ (fun (p : IVec S1x24 1) (q : IVec S1x24 32) (r : IVec S1x24 32) => (select p q r : IVec S1x24 32)) (W_v64 V) (W_v66 V)) (W_v57 V))
theorem W_c_5 : W V main_c_5 = c_5 (argsOf V) :=
  W_of_nullary (y := main_c_5) (v := (constantI S_ 32 0#32 : IVec S_ 32)) V (mem_line1_0 (List.mem_of_getElem? (i := 15) rfl))
theorem W_v68 : W V main_v68 = v68 (argsOf V) := by
  have e := W_of_unary (x := main_c_5) (y := main_v68) (f := (fun (p : IVec S_ 32) => (broadcastInDim S16x24 ![] bcast_S_S16x24 p : IVec S16x24 32))) V (mem_line1_0 (List.mem_of_getElem? (i := 16) rfl)) (by decide)
  exact e.trans (congrArg (fun (p : IVec S_ 32) => (broadcastInDim S16x24 ![] bcast_S_S16x24 p : IVec S16x24 32)) (W_c_5 V))
theorem W_v69 : W V main_v69 = v69 (argsOf V) := by
  have e := W_of_binary (a := main_v53) (b := main_v68) (y := main_v69) (f := (fun (p : IVec S16x24 32) (q : IVec S16x24 32) => (cmpi .slt p q : IVec S16x24 1))) V (mem_line1_0 (List.mem_of_getElem? (i := 17) rfl)) (by decide) (by decide)
  exact e.trans (congrArg₂ (fun (p : IVec S16x24 32) (q : IVec S16x24 32) => (cmpi .slt p q : IVec S16x24 1)) (W_v53 V) (W_v68 V))
theorem W_c_6 : W V main_c_6 = c_6 (argsOf V) :=
  W_of_nullary (y := main_c_6) (v := (constantI S_ 32 8732#32 : IVec S_ 32)) V (mem_line1_0 (List.mem_of_getElem? (i := 18) rfl))
theorem W_v70 : W V main_v70 = v70 (argsOf V) := by
  have e := W_of_unary (x := main_c_6) (y := main_v70) (f := (fun (p : IVec S_ 32) => (broadcastInDim S16x24 ![] bcast_S_S16x24 p : IVec S16x24 32))) V (mem_line1_0 (List.mem_of_getElem? (i := 19) rfl)) (by decide)
  exact e.trans (congrArg (fun (p : IVec S_ 32) => (broadcastInDim S16x24 ![] bcast_S_S16x24 p : IVec S16x24 32)) (W_c_6 V))
theorem W_v71 : W V main_v71 = v71 (argsOf V) := by
  have e := W_of_binary (a := main_v53) (b := main_v70) (y := main_v71) (f := (fun (p : IVec S16x24 32) (q : IVec S16x24 32) => (addi p q : IVec S16x24 32))) V (mem_line1_0 (List.mem_of_getElem? (i := 20) rfl)) (by decide) (by decide)
  exact e.trans (congrArg₂ (fun (p : IVec S16x24 32) (q : IVec S16x24 32) => (addi p q : IVec S16x24 32)) (W_v53 V) (W_v70 V))
theorem W_v72 : W V main_v72 = v72 (argsOf V) := by
  have e := W_of_ternary (c := main_v69) (a := main_v71) (b := main_v53) (y := main_v72) (f := (fun (p : IVec S16x24 1) (q : IVec S16x24 32) (r : IVec S16x24 32) => (select p q r : IVec S16x24 32))) V (mem_line1_0 (List.mem_of_getElem? (i := 21) rfl)) (by decide) (by decide) (by decide)
  exact e.trans (congr (congrArg₂ (fun (p : IVec S16x24 1) (q : IVec S16x24 32) (r : IVec S16x24 32) => (select p q r : IVec S16x24 32)) (W_v69 V) (W_v71 V)) (W_v53 V))
theorem W_v73 : W V main_v73 = v73 (argsOf V) := by
  have e := W_of_unary (x := main_v62) (y := main_v73) (f := (fun (p : IVec S16x1 32) => (broadcastInDim S16x24 ![0, 1] bcast_S16x1_S16x24_0_1 p : IVec S16x24 32))) V (mem_line1_0 (List.mem_of_getElem? (i := 22) rfl)) (by decide)
  exact e.trans (congrArg (fun (p : IVec S16x1 32) => (broadcastInDim S16x24 ![0, 1] bcast_S16x1_S16x24_0_1 p : IVec S16x24 32)) (W_v62 V))
theorem W_v74 : W V main_v74 = v74 (argsOf V) := by
  have e := W_of_unary (x := main_v67) (y := main_v74) (f := (fun (p : IVec S1x24 32) => (broadcastInDim S16x24 ![0, 1] bcast_S1x24_S16x24_0_1 p : IVec S16x24 32))) V (mem_line1_0 (List.mem_of_getElem? (i := 23) rfl)) (by decide)
  exact e.trans (congrArg (fun (p : IVec S1x24 32) => (broadcastInDim S16x24 ![0, 1] bcast_S1x24_S16x24_0_1 p : IVec S16x24 32)) (W_v67 V))
theorem W_v75 : W V main_v75 = v75 (argsOf V) := by
  have e := W_of_unary (x := main_v73) (y := main_v75) (f := (fun (p : IVec S16x24 32) => (broadcastInDim S16x24x1 ![0, 1] bcast_S16x24_S16x24x1_0_1 p : IVec S16x24x1 32))) V (mem_line1_0 (List.mem_of_getElem? (i := 24) rfl)) (by decide)
  exact e.trans (congrArg (fun (p : IVec S16x24 32) => (broadcastInDim S16x24x1 ![0, 1] bcast_S16x24_S16x24x1_0_1 p : IVec S16x24x1 32)) (W_v73 V))
theorem W_v76 : W V main_v76 = v76 (argsOf V) := by
  have e := W_of_unary (x := main_v74) (y := main_v76) (f := (fun (p : IVec S16x24 32) => (broadcastInDim S16x24x1 ![0, 1] bcast_S16x24_S16x24x1_0_1 p : IVec S16x24x1 32))) V (mem_line1_0 (List.mem_of_getElem? (i := 25) rfl)) (by decide)
  exact e.trans (congrArg (fun (p : IVec S16x24 32) => (broadcastInDim S16x24x1 ![0, 1] bcast_S16x24_S16x24x1_0_1 p : IVec S16x24x1 32)) (W_v74 V))
theorem W_v77 : W V main_v77 = v77 (argsOf V) := by
  have e := W_of_unary (x := main_v72) (y := main_v77) (f := (fun (p : IVec S16x24 32) => (broadcastInDim S16x24x1 ![0, 1] bcast_S16x24_S16x24x1_0_1 p : IVec S16x24x1 32))) V (mem_line1_0 (List.mem_of_getElem? (i := 26) rfl)) (by decide)
  exact e.trans (congrArg (fun (p : IVec S16x24 32) => (broadcastInDim S16x24x1 ![0, 1] bcast_S16x24_S16x24x1_0_1 p : IVec S16x24x1 32)) (W_v72 V))
theorem W_v78 : W V main_v78 = v78 (argsOf V) :=
  (W_of_nary V (mem_line1_0 (List.mem_of_getElem? (i := 27) rfl)) (by decide)).trans (by
    show join_v78 (W V main_v75) (W V main_v76) (W V main_v77) = _
    rw [W_v75, W_v76, W_v77]; rfl)
theorem W_c_7 : W V main_c_7 = c_7 (argsOf V) :=
  W_of_nullary (y := main_c_7) (v := (constantI S_ 1 1#1 : IVec S_ 1)) V (mem_line1_0 (List.mem_of_getElem? (i := 28) rfl))
theorem W_v79 : W V main_v79 = v79 (argsOf V) := by
  have e := W_of_unary (x := main_c_7) (y := main_v79) (f := (fun (p : IVec S_ 1) => (broadcastInDim S16x24 ![] bcast_S_S16x24 p : IVec S16x24 1))) V (mem_line1_0 (List.mem_of_getElem? (i := 29) rfl)) (by decide)
  exact e.trans (congrArg (fun (p : IVec S_ 1) => (broadcastInDim S16x24 ![] bcast_S_S16x24 p : IVec S16x24 1)) (W_c_7 V))
theorem W_v80 : W V main_v80 = v80 (argsOf V) := by
  have e := W_of_ternary (c := main_v52) (a := main_v78) (b := main_v79) (y := main_v80) (f := (fun (p : IVec S16x24x8732 1) (q : IVec S16x24x3 32) (r : IVec S16x24 1) => (Host.scatter scatter_S16x24x8732_S16x24x3_S16x24_n_012_012_2 (fun _ b => b) p q r : IVec S16x24x8732 1))) V (mem_line1_1 (List.mem_of_getElem? (i := 0) rfl)) (by decide) (by decide) (by decide)
  exact e.trans (congr (congrArg₂ (fun (p : IVec S16x24x8732 1) (q : IVec S16x24x3 32) (r : IVec S16x24 1) => (Host.scatter scatter_S16x24x8732_S16x24x3_S16x24_n_012_012_2 (fun _ b => b) p q r : IVec S16x24x8732 1)) (W_v52 V) (W_v78 V)) (W_v79 V))
theorem W_v81 : W V main_v81 = v81 (argsOf V) := by
  have e := W_of_unary (x := main_v80) (y := main_v81) (f := (fun (p : IVec S16x24x8732 1) => (transpose S16x8732x24 [0, 2, 1] p transposes_S16x24x8732_S16x8732x24_0_2_1 : IVec S16x8732x24 1))) V (mem_line1_1 (List.mem_of_getElem? (i := 1) rfl)) (by decide)
  exact e.trans (congrArg (fun (p : IVec S16x24x8732 1) => (transpose S16x8732x24 [0, 2, 1] p transposes_S16x24x8732_S16x8732x24_0_2_1 : IVec S16x8732x24 1)) (W_v80 V))
theorem W_c_8 : W V main_c_8 = c_8 (argsOf V) :=
  W_of_nullary (y := main_c_8) (v := (constantI S_ 1 0#1 : IVec S_ 1)) V (mem_line1_1 (List.mem_of_getElem? (i := 2) rfl))
theorem W_v82 : W V main_v82 = v82 (argsOf V) := by
  have e := W_of_binary (a := main_v81) (b := main_c_8) (y := main_v82) (f := (fun (p : IVec S16x8732x24 1) (q : IVec S_ 1) => (Host.reduce IntOp.ori p q reducesTo_S16x8732x24_S16x8732_d2 h_S_ : IVec S16x8732 1))) V (mem_line1_1 (List.mem_of_getElem? (i := 3) rfl)) (by decide) (by decide)
  exact e.trans (congrArg₂ (fun (p : IVec S16x8732x24 1) (q : IVec S_ 1) => (Host.reduce IntOp.ori p q reducesTo_S16x8732x24_S16x8732_d2 h_S_ : IVec S16x8732 1)) (W_v81 V) (W_c_8 V))
theorem W_cst_9 : W V main_cst_9 = cst_9 (argsOf V) :=
  W_of_nullary (y := main_cst_9) (v := (constant S_ .f32 0xFF800000#32 : FVec Ideal S_ .f32)) V (mem_line1_1 (List.mem_of_getElem? (i := 4) rfl))
theorem W_v83 : W V main_v83 = v83 (argsOf V) := by
  have e := W_of_binary (a := main_arg1) (b := main_cst_9) (y := main_v83) (f := (fun (p : FVec Ideal S16x8732x81 .f32) (q : FVec Ideal S_ .f32) => (Host.reduce FloatOps.maximumf p q reducesTo_S16x8732x81_S16x8732_d2 h_S_ : FVec Ideal S16x8732 .f32))) V (mem_line1_1 (List.mem_of_getElem? (i := 5) rfl)) (by decide) (by decide)
  exact e.trans (congrArg₂ (fun (p : FVec Ideal S16x8732x81 .f32) (q : FVec Ideal S_ .f32) => (Host.reduce FloatOps.maximumf p q reducesTo_S16x8732x81_S16x8732_d2 h_S_ : FVec Ideal S16x8732 .f32)) (W_a1 V) (W_cst_9 V))
theorem W_v84 : W V main_v84 = v84 (argsOf V) := by
  have e := W_of_unary (x := main_v83) (y := main_v84) (f := (fun (p : FVec Ideal S16x8732 .f32) => (broadcastInDim S16x8732x1 ![0, 1] bcast_S16x8732_S16x8732x1_0_1 p : FVec Ideal S16x8732x1 .f32))) V (mem_line1_1 (List.mem_of_getElem? (i := 6) rfl)) (by decide)
  exact e.trans (congrArg (fun (p : FVec Ideal S16x8732 .f32) => (broadcastInDim S16x8732x1 ![0, 1] bcast_S16x8732_S16x8732x1_0_1 p : FVec Ideal S16x8732x1 .f32)) (W_v83 V))
theorem W_v85 : W V main_v85 = v85 (argsOf V) := by
  have e := W_of_unary (x := main_v84) (y := main_v85) (f := (fun (p : FVec Ideal S16x8732x1 .f32) => (broadcastInDim S16x8732x81 ![0, 1, 2] bcast_S16x8732x1_S16x8732x81_0_1_2 p : FVec Ideal S16x8732x81 .f32))) V (mem_line1_1 (List.mem_of_getElem? (i := 7) rfl)) (by decide)
  exact e.trans (congrArg (fun (p : FVec Ideal S16x8732x1 .f32) => (broadcastInDim S16x8732x81 ![0, 1, 2] bcast_S16x8732x1_S16x8732x81_0_1_2 p : FVec Ideal S16x8732x81 .f32)) (W_v84 V))
theorem W_v86 : W V main_v86 = v86 (argsOf V) := by
  have e := W_of_binary (a := main_arg1) (b := main_v85) (y := main_v86) (f := (fun (p : FVec Ideal S16x8732x81 .f32) (q : FVec Ideal S16x8732x81 .f32) => (subf p q : FVec Ideal S16x8732x81 .f32))) V (mem_line1_1 (List.mem_of_getElem? (i := 8) rfl)) (by decide) (by decide)
  exact e.trans (congrArg₂ (fun (p : FVec Ideal S16x8732x81 .f32) (q : FVec Ideal S16x8732x81 .f32) => (subf p q : FVec Ideal S16x8732x81 .f32)) (W_a1 V) (W_v85 V))
theorem W_v87 : W V main_v87 = v87 (argsOf V) := by
  have e := W_of_unary (x := main_v86) (y := main_v87) (f := (fun (p : FVec Ideal S16x8732x81 .f32) => (Host.exp p : FVec Ideal S16x8732x81 .f32))) V (mem_line1_1 (List.mem_of_getElem? (i := 9) rfl)) (by decide)
  exact e.trans (congrArg (fun (p : FVec Ideal S16x8732x81 .f32) => (Host.exp p : FVec Ideal S16x8732x81 .f32)) (W_v86 V))
theorem W_cst_10 : W V main_cst_10 = cst_10 (argsOf V) :=
  W_of_nullary (y := main_cst_10) (v := (constant S_ .f32 0x00000000#32 : FVec Ideal S_ .f32)) V (mem_line1_1 (List.mem_of_getElem? (i := 10) rfl))
theorem W_v88 : W V main_v88 = v88 (argsOf V) := by
  have e := W_of_binary (a := main_v87) (b := main_cst_10) (y := main_v88) (f := (fun (p : FVec Ideal S16x8732x81 .f32) (q : FVec Ideal S_ .f32) => (Host.reduceAdd p q reducesTo_S16x8732x81_S16x8732_d2 h_S_ : FVec Ideal S16x8732 .f32))) V (mem_line1_1 (List.mem_of_getElem? (i := 11) rfl)) (by decide) (by decide)
  exact e.trans (congrArg₂ (fun (p : FVec Ideal S16x8732x81 .f32) (q : FVec Ideal S_ .f32) => (Host.reduceAdd p q reducesTo_S16x8732x81_S16x8732_d2 h_S_ : FVec Ideal S16x8732 .f32)) (W_v87 V) (W_cst_10 V))
theorem W_v89 : W V main_v89 = v89 (argsOf V) := by
  have e := W_of_unary (x := main_v88) (y := main_v89) (f := (fun (p : FVec Ideal S16x8732 .f32) => (Host.log p : FVec Ideal S16x8732 .f32))) V (mem_line1_1 (List.mem_of_getElem? (i := 12) rfl)) (by decide)
  exact e.trans (congrArg (fun (p : FVec Ideal S16x8732 .f32) => (Host.log p : FVec Ideal S16x8732 .f32)) (W_v88 V))
theorem W_v90 : W V main_v90 = v90 (argsOf V) := by
  have e := W_of_binary (a := main_v89) (b := main_v83) (y := main_v90) (f := (fun (p : FVec Ideal S16x8732 .f32) (q : FVec Ideal S16x8732 .f32) => (addf p q : FVec Ideal S16x8732 .f32))) V (mem_line1_1 (List.mem_of_getElem? (i := 13) rfl)) (by decide) (by decide)
  exact e.trans (congrArg₂ (fun (p : FVec Ideal S16x8732 .f32) (q : FVec Ideal S16x8732 .f32) => (addf p q : FVec Ideal S16x8732 .f32)) (W_v89 V) (W_v83 V))
theorem W_v91 : W V main_v91 = v91 (argsOf V) := by
  have e := W_of_unary (x := main_arg1) (y := main_v91) (f := (fun (p : FVec Ideal S16x8732x81 .f32) => (extractStridedSlice S16x8732x1 ![0, 0, 0] p slices_S16x8732x81_S16x8732x1_0_0_0 : FVec Ideal S16x8732x1 .f32))) V (mem_line1_1 (List.mem_of_getElem? (i := 14) rfl)) (by decide)
  exact e.trans (congrArg (fun (p : FVec Ideal S16x8732x81 .f32) => (extractStridedSlice S16x8732x1 ![0, 0, 0] p slices_S16x8732x81_S16x8732x1_0_0_0 : FVec Ideal S16x8732x1 .f32)) (W_a1 V))
theorem W_v92 : W V main_v92 = v92 (argsOf V) :=
  (W_of_reshape (x := main_v91) (y := main_v92) V (mem_line1_1 (List.mem_of_getElem? (i := 15) rfl)) (by decide)).trans (by
    show shapeCast _ (W V main_v91) _ = _
    rw [W_v91]; rfl)
theorem W_v93 : W V main_v93 = v93 (argsOf V) := by
  have e := W_of_binary (a := main_v90) (b := main_v92) (y := main_v93) (f := (fun (p : FVec Ideal S16x8732 .f32) (q : FVec Ideal S16x8732 .f32) => (subf p q : FVec Ideal S16x8732 .f32))) V (mem_line1_1 (List.mem_of_getElem? (i := 16) rfl)) (by decide) (by decide)
  exact e.trans (congrArg₂ (fun (p : FVec Ideal S16x8732 .f32) (q : FVec Ideal S16x8732 .f32) => (subf p q : FVec Ideal S16x8732 .f32)) (W_v90 V) (W_v92 V))
theorem W_cst_11 : W V main_cst_11 = cst_11 (argsOf V) :=
  W_of_nullary (y := main_cst_11) (v := (constant S_ .f32 0xCE6E6B28#32 : FVec Ideal S_ .f32)) V (mem_line1_1 (List.mem_of_getElem? (i := 17) rfl))
theorem W_call3_v0 : W V main_call3_v0 = call3_v0 (argsOf V) := by
  have e := W_of_unary (x := main_cst_11) (y := main_call3_v0) (f := (fun (p : FVec Ideal S_ .f32) => (p : FVec Ideal S_ .f32))) V (mem_line1_1 (List.mem_of_getElem? (i := 18) rfl)) (by decide)
  exact e.trans (congrArg (fun (p : FVec Ideal S_ .f32) => (p : FVec Ideal S_ .f32)) (W_cst_11 V))
theorem W_call3_v1 : W V main_call3_v1 = call3_v1 (argsOf V) := by
  have e := W_of_unary (x := main_call3_v0) (y := main_call3_v1) (f := (fun (p : FVec Ideal S_ .f32) => (broadcastInDim S16x8732 ![] bcast_S_S16x8732 p : FVec Ideal S16x8732 .f32))) V (mem_line1_1 (List.mem_of_getElem? (i := 19) rfl)) (by decide)
  exact e.trans (congrArg (fun (p : FVec Ideal S_ .f32) => (broadcastInDim S16x8732 ![] bcast_S_S16x8732 p : FVec Ideal S16x8732 .f32)) (W_call3_v0 V))
theorem W_v94 : W V main_v94 = v94 (argsOf V) := by
  have e := W_of_ternary (c := main_v82) (a := main_call3_v1) (b := main_v93) (y := main_v94) (f := (fun (p : IVec S16x8732 1) (q : FVec Ideal S16x8732 .f32) (r : FVec Ideal S16x8732 .f32) => (select p q r : FVec Ideal S16x8732 .f32))) V (mem_line1_1 (List.mem_of_getElem? (i := 20) rfl)) (by decide) (by decide) (by decide)
  exact e.trans (congr (congrArg₂ (fun (p : IVec S16x8732 1) (q : FVec Ideal S16x8732 .f32) (r : FVec Ideal S16x8732 .f32) => (select p q r : FVec Ideal S16x8732 .f32)) (W_v82 V) (W_call3_v1 V)) (W_v93 V))
theorem W_v95 : W V main_v95 = v95 (argsOf V) := by
  have e := W_of_unary (x := main_v94) (y := main_v95) (f := (fun (p : FVec Ideal S16x8732 .f32) => (Host.negf p : FVec Ideal S16x8732 .f32))) V (mem_line1_1 (List.mem_of_getElem? (i := 21) rfl)) (by decide)
  exact e.trans (congrArg (fun (p : FVec Ideal S16x8732 .f32) => (Host.negf p : FVec Ideal S16x8732 .f32)) (W_v94 V))
theorem W_call4_v0 : W V main_call4_v0 = call4_v0 (argsOf V) :=
  W_of_nullary (y := main_call4_v0) (v := (iotaInDim S16x8732 32 1 : IVec S16x8732 32)) V (mem_line1_1 (List.mem_of_getElem? (i := 22) rfl))
theorem W_call4_v1_0 : W V main_call4_v1_0 = call4_v1_0 (argsOf V) := by
  have e := W_of_binary (a := main_v95) (b := main_call4_v0) (y := main_call4_v1_0) (f := (fun (p : FVec Ideal S16x8732 .f32) (q : IVec S16x8732 32) => ((Host.sort2 S16x8732 1 comparator_f32_i32_d1 p q).1 : FVec Ideal S16x8732 .f32))) V (mem_line1_1 (List.mem_of_getElem? (i := 23) rfl)) (by decide) (by decide)
  exact e.trans (congrArg₂ (fun (p : FVec Ideal S16x8732 .f32) (q : IVec S16x8732 32) => ((Host.sort2 S16x8732 1 comparator_f32_i32_d1 p q).1 : FVec Ideal S16x8732 .f32)) (W_v95 V) (W_call4_v0 V))
theorem W_v96 : W V main_v96 = v96 (argsOf V) := by
  have e := W_of_binary (a := main_v95) (b := main_call4_v0) (y := main_v96) (f := (fun (p : FVec Ideal S16x8732 .f32) (q : IVec S16x8732 32) => ((Host.sort2 S16x8732 1 comparator_f32_i32_d1 p q).2 : IVec S16x8732 32))) V (mem_line1_1 (List.mem_of_getElem? (i := 24) rfl)) (by decide) (by decide)
  exact e.trans (congrArg₂ (fun (p : FVec Ideal S16x8732 .f32) (q : IVec S16x8732 32) => ((Host.sort2 S16x8732 1 comparator_f32_i32_d1 p q).2 : IVec S16x8732 32)) (W_v95 V) (W_call4_v0 V))
theorem W_call5_v0 : W V main_call5_v0 = call5_v0 (argsOf V) :=
  W_of_nullary (y := main_call5_v0) (v := (iotaInDim S16x8732 32 1 : IVec S16x8732 32)) V (mem_line1_1 (List.mem_of_getElem? (i := 25) rfl))
theorem W_call5_v1_0 : W V main_call5_v1_0 = call5_v1_0 (argsOf V) := by
  have e := W_of_binary (a := main_v96) (b := main_call5_v0) (y := main_call5_v1_0) (f := (fun (p : IVec S16x8732 32) (q : IVec S16x8732 32) => ((Host.sort2 S16x8732 1 comparator_i32_i32_d1 p q).1 : IVec S16x8732 32))) V (mem_line1_1 (List.mem_of_getElem? (i := 26) rfl)) (by decide) (by decide)
  exact e.trans (congrArg₂ (fun (p : IVec S16x8732 32) (q : IVec S16x8732 32) => ((Host.sort2 S16x8732 1 comparator_i32_i32_d1 p q).1 : IVec S16x8732 32)) (W_v96 V) (W_call5_v0 V))
theorem W_v97 : W V main_v97 = v97 (argsOf V) := by
  have e := W_of_binary (a := main_v96) (b := main_call5_v0) (y := main_v97) (f := (fun (p : IVec S16x8732 32) (q : IVec S16x8732 32) => ((Host.sort2 S16x8732 1 comparator_i32_i32_d1 p q).2 : IVec S16x8732 32))) V (mem_line1_1 (List.mem_of_getElem? (i := 27) rfl)) (by decide) (by decide)
  exact e.trans (congrArg₂ (fun (p : IVec S16x8732 32) (q : IVec S16x8732 32) => ((Host.sort2 S16x8732 1 comparator_i32_i32_d1 p q).2 : IVec S16x8732 32)) (W_v96 V) (W_call5_v0 V))
theorem W_v98 : W V main_v98 = v98 (argsOf V) := by
  have e := W_of_unary (x := main_v82) (y := main_v98) (f := (fun (p : IVec S16x8732 1) => (extui 32 p natLt_1_32 : IVec S16x8732 32))) V (mem_line1_1 (List.mem_of_getElem? (i := 28) rfl)) (by decide)
  exact e.trans (congrArg (fun (p : IVec S16x8732 1) => (extui 32 p natLt_1_32 : IVec S16x8732 32)) (W_v82 V))
theorem W_c_12 : W V main_c_12 = c_12 (argsOf V) :=
  W_of_nullary (y := main_c_12) (v := (constantI S_ 32 0#32 : IVec S_ 32)) V (mem_line1_1 (List.mem_of_getElem? (i := 29) rfl))
theorem W_v99 : W V main_v99 = v99 (argsOf V) := by
  have e := W_of_binary (a := main_v98) (b := main_c_12) (y := main_v99) (f := (fun (p : IVec S16x8732 32) (q : IVec S_ 32) => (Host.reduce IntOp.addi p q reducesTo_S16x8732_S16_d1 h_S_ : IVec S16 32))) V (mem_line1_2 (List.mem_of_getElem? (i := 0) rfl)) (by decide) (by decide)
  exact e.trans (congrArg₂ (fun (p : IVec S16x8732 32) (q : IVec S_ 32) => (Host.reduce IntOp.addi p q reducesTo_S16x8732_S16_d1 h_S_ : IVec S16 32)) (W_v98 V) (W_c_12 V))
theorem W_c_13 : W V main_c_13 = c_13 (argsOf V) :=
  W_of_nullary (y := main_c_13) (v := (constantI S_ 32 7#32 : IVec S_ 32)) V (mem_line1_2 (List.mem_of_getElem? (i := 1) rfl))
theorem W_v100 : W V main_v100 = v100 (argsOf V) := by
  have e := W_of_unary (x := main_c_13) (y := main_v100) (f := (fun (p : IVec S_ 32) => (broadcastInDim S16 ![] bcast_S_S16 p : IVec S16 32))) V (mem_line1_2 (List.mem_of_getElem? (i := 2) rfl)) (by decide)
  exact e.trans (congrArg (fun (p : IVec S_ 32) => (broadcastInDim S16 ![] bcast_S_S16 p : IVec S16 32)) (W_c_13 V))
theorem W_v101 : W V main_v101 = v101 (argsOf V) := by
  have e := W_of_binary (a := main_v100) (b := main_v99) (y := main_v101) (f := (fun (p : IVec S16 32) (q : IVec S16 32) => (muli p q : IVec S16 32))) V (mem_line1_2 (List.mem_of_getElem? (i := 3) rfl)) (by decide) (by decide)
  exact e.trans (congrArg₂ (fun (p : IVec S16 32) (q : IVec S16 32) => (muli p q : IVec S16 32)) (W_v100 V) (W_v99 V))
theorem W_c_14 : W V main_c_14 = c_14 (argsOf V) :=
  W_of_nullary (y := main_c_14) (v := (constantI S_ 32 8732#32 : IVec S_ 32)) V (mem_line1_2 (List.mem_of_getElem? (i := 4) rfl))
theorem W_v102 : W V main_v102 = v102 (argsOf V) := by
  have e := W_of_unary (x := main_c_14) (y := main_v102) (f := (fun (p : IVec S_ 32) => (broadcastInDim S16 ![] bcast_S_S16 p : IVec S16 32))) V (mem_line1_2 (List.mem_of_getElem? (i := 5) rfl)) (by decide)
  exact e.trans (congrArg (fun (p : IVec S_ 32) => (broadcastInDim S16 ![] bcast_S_S16 p : IVec S16 32)) (W_c_14 V))
theorem W_v103 : W V main_v103 = v103 (argsOf V) := by
  have e := W_of_binary (a := main_v102) (b := main_v99) (y := main_v103) (f := (fun (p : IVec S16 32) (q : IVec S16 32) => (subi p q : IVec S16 32))) V (mem_line2_0 (List.mem_of_getElem? (i := 0) rfl)) (by decide) (by decide)
  exact e.trans (congrArg₂ (fun (p : IVec S16 32) (q : IVec S16 32) => (subi p q : IVec S16 32)) (W_v102 V) (W_v99 V))
theorem W_v104 : W V main_v104 = v104 (argsOf V) := by
  have e := W_of_binary (a := main_v101) (b := main_v103) (y := main_v104) (f := (fun (p : IVec S16 32) (q : IVec S16 32) => (minsi p q : IVec S16 32))) V (mem_line2_0 (List.mem_of_getElem? (i := 1) rfl)) (by decide) (by decide)
  exact e.trans (congrArg₂ (fun (p : IVec S16 32) (q : IVec S16 32) => (minsi p q : IVec S16 32)) (W_v101 V) (W_v103 V))
theorem W_v105 : W V main_v105 = v105 (argsOf V) := by
  have e := W_of_unary (x := main_v104) (y := main_v105) (f := (fun (p : IVec S16 32) => (broadcastInDim S16x1 ![0] bcast_S16_S16x1_0 p : IVec S16x1 32))) V (mem_line2_0 (List.mem_of_getElem? (i := 2) rfl)) (by decide)
  exact e.trans (congrArg (fun (p : IVec S16 32) => (broadcastInDim S16x1 ![0] bcast_S16_S16x1_0 p : IVec S16x1 32)) (W_v104 V))
theorem W_v106 : W V main_v106 = v106 (argsOf V) := by
  have e := W_of_unary (x := main_v105) (y := main_v106) (f := (fun (p : IVec S16x1 32) => (broadcastInDim S16x8732 ![0, 1] bcast_S16x1_S16x8732_0_1 p : IVec S16x8732 32))) V (mem_line2_0 (List.mem_of_getElem? (i := 3) rfl)) (by decide)
  exact e.trans (congrArg (fun (p : IVec S16x1 32) => (broadcastInDim S16x8732 ![0, 1] bcast_S16x1_S16x8732_0_1 p : IVec S16x8732 32)) (W_v105 V))

end Cert.ReferenceIdeal.Hand

end
-- ==== Proof.ReferenceIdeal.Ends3.lean ====
/- Each buffer of the reference ends at its value: part 3 of 4. -/
module

public import proofs.«01_k».proof.Proof.ReferenceIdeal.Ends2
public import proofs.«01_k».proof.Proof.ReferenceIdeal.Values

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Line

variable (V : Valuation τ sig (Elt Ideal))

attribute [local irreducible] W

theorem W_v107 : W V main_v107 = v107 (argsOf V) := by
  have e := W_of_binary (a := main_v97) (b := main_v106) (y := main_v107) (f := (fun (p : IVec S16x8732 32) (q : IVec S16x8732 32) => (cmpi .slt p q : IVec S16x8732 1))) V (mem_line2_0 (List.mem_of_getElem? (i := 4) rfl)) (by decide) (by decide)
  exact e.trans (congrArg₂ (fun (p : IVec S16x8732 32) (q : IVec S16x8732 32) => (cmpi .slt p q : IVec S16x8732 1)) (W_v97 V) (W_v106 V))
theorem W_v108 : W V main_v108 = v108 (argsOf V) := by
  have e := W_of_unary (x := main_v81) (y := main_v108) (f := (fun (p : IVec S16x8732x24 1) => (uitofp .f32 p : FVec Ideal S16x8732x24 .f32))) V (mem_line2_0 (List.mem_of_getElem? (i := 5) rfl)) (by decide)
  exact e.trans (congrArg (fun (p : IVec S16x8732x24 1) => (uitofp .f32 p : FVec Ideal S16x8732x24 .f32)) (W_v81 V))
theorem W_v109 : W V main_v109 = v109 (argsOf V) := by
  have e := W_of_unary (x := main_v107) (y := main_v109) (f := (fun (p : IVec S16x8732 1) => (uitofp .f32 p : FVec Ideal S16x8732 .f32))) V (mem_line2_0 (List.mem_of_getElem? (i := 6) rfl)) (by decide)
  exact e.trans (congrArg (fun (p : IVec S16x8732 1) => (uitofp .f32 p : FVec Ideal S16x8732 .f32)) (W_v107 V))
theorem W_v110 : W V main_v110 = v110 (argsOf V) := by
  have e := W_of_unary (x := main_arg2) (y := main_v110) (f := (fun (p : FVec Ideal S16x24x4 .f32) => (broadcastInDim S16x1x24x4 ![0, 2, 3] bcast_S16x24x4_S16x1x24x4_0_2_3 p : FVec Ideal S16x1x24x4 .f32))) V (mem_line2_0 (List.mem_of_getElem? (i := 7) rfl)) (by decide)
  exact e.trans (congrArg (fun (p : FVec Ideal S16x24x4 .f32) => (broadcastInDim S16x1x24x4 ![0, 2, 3] bcast_S16x24x4_S16x1x24x4_0_2_3 p : FVec Ideal S16x1x24x4 .f32)) (W_a2 V))
theorem W_v111 : W V main_v111 = v111 (argsOf V) := by
  have e := W_of_unary (x := main_arg3) (y := main_v111) (f := (fun (p : FVec Ideal S8732x4 .f32) => (broadcastInDim S1x8732x1x4 ![1, 3] bcast_S8732x4_S1x8732x1x4_1_3 p : FVec Ideal S1x8732x1x4 .f32))) V (mem_line2_0 (List.mem_of_getElem? (i := 8) rfl)) (by decide)
  exact e.trans (congrArg (fun (p : FVec Ideal S8732x4 .f32) => (broadcastInDim S1x8732x1x4 ![1, 3] bcast_S8732x4_S1x8732x1x4_1_3 p : FVec Ideal S1x8732x1x4 .f32)) (W_a3 V))
theorem W_v112 : W V main_v112 = v112 (argsOf V) := by
  have e := W_of_unary (x := main_v110) (y := main_v112) (f := (fun (p : FVec Ideal S16x1x24x4 .f32) => (extractStridedSlice S16x1x24x2 ![0, 0, 0, 0] p slices_S16x1x24x4_S16x1x24x2_0_0_0_0 : FVec Ideal S16x1x24x2 .f32))) V (mem_line2_0 (List.mem_of_getElem? (i := 9) rfl)) (by decide)
  exact e.trans (congrArg (fun (p : FVec Ideal S16x1x24x4 .f32) => (extractStridedSlice S16x1x24x2 ![0, 0, 0, 0] p slices_S16x1x24x4_S16x1x24x2_0_0_0_0 : FVec Ideal S16x1x24x2 .f32)) (W_v110 V))
theorem W_v113 : W V main_v113 = v113 (argsOf V) := by
  have e := W_of_unary (x := main_v110) (y := main_v113) (f := (fun (p : FVec Ideal S16x1x24x4 .f32) => (extractStridedSlice S16x1x24x2 ![0, 0, 0, 2] p slices_S16x1x24x4_S16x1x24x2_0_0_0_2 : FVec Ideal S16x1x24x2 .f32))) V (mem_line2_0 (List.mem_of_getElem? (i := 10) rfl)) (by decide)
  exact e.trans (congrArg (fun (p : FVec Ideal S16x1x24x4 .f32) => (extractStridedSlice S16x1x24x2 ![0, 0, 0, 2] p slices_S16x1x24x4_S16x1x24x2_0_0_0_2 : FVec Ideal S16x1x24x2 .f32)) (W_v110 V))
theorem W_v114 : W V main_v114 = v114 (argsOf V) := by
  have e := W_of_binary (a := main_v112) (b := main_v113) (y := main_v114) (f := (fun (p : FVec Ideal S16x1x24x2 .f32) (q : FVec Ideal S16x1x24x2 .f32) => (addf p q : FVec Ideal S16x1x24x2 .f32))) V (mem_line2_0 (List.mem_of_getElem? (i := 11) rfl)) (by decide) (by decide)
  exact e.trans (congrArg₂ (fun (p : FVec Ideal S16x1x24x2 .f32) (q : FVec Ideal S16x1x24x2 .f32) => (addf p q : FVec Ideal S16x1x24x2 .f32)) (W_v112 V) (W_v113 V))
theorem W_cst_15 : W V main_cst_15 = cst_15 (argsOf V) :=
  W_of_nullary (y := main_cst_15) (v := (constant S_ .f32 0x40000000#32 : FVec Ideal S_ .f32)) V (mem_line2_0 (List.mem_of_getElem? (i := 12) rfl))
theorem W_v115 : W V main_v115 = v115 (argsOf V) := by
  have e := W_of_unary (x := main_cst_15) (y := main_v115) (f := (fun (p : FVec Ideal S_ .f32) => (broadcastInDim S16x1x24x2 ![] bcast_S_S16x1x24x2 p : FVec Ideal S16x1x24x2 .f32))) V (mem_line2_0 (List.mem_of_getElem? (i := 13) rfl)) (by decide)
  exact e.trans (congrArg (fun (p : FVec Ideal S_ .f32) => (broadcastInDim S16x1x24x2 ![] bcast_S_S16x1x24x2 p : FVec Ideal S16x1x24x2 .f32)) (W_cst_15 V))
theorem W_v116 : W V main_v116 = v116 (argsOf V) := by
  have e := W_of_binary (a := main_v114) (b := main_v115) (y := main_v116) (f := (fun (p : FVec Ideal S16x1x24x2 .f32) (q : FVec Ideal S16x1x24x2 .f32) => (Host.divf p q : FVec Ideal S16x1x24x2 .f32))) V (mem_line2_0 (List.mem_of_getElem? (i := 14) rfl)) (by decide) (by decide)
  exact e.trans (congrArg₂ (fun (p : FVec Ideal S16x1x24x2 .f32) (q : FVec Ideal S16x1x24x2 .f32) => (Host.divf p q : FVec Ideal S16x1x24x2 .f32)) (W_v114 V) (W_v115 V))
theorem W_v117 : W V main_v117 = v117 (argsOf V) := by
  have e := W_of_unary (x := main_v110) (y := main_v117) (f := (fun (p : FVec Ideal S16x1x24x4 .f32) => (extractStridedSlice S16x1x24x2 ![0, 0, 0, 2] p slices_S16x1x24x4_S16x1x24x2_0_0_0_2 : FVec Ideal S16x1x24x2 .f32))) V (mem_line2_0 (List.mem_of_getElem? (i := 15) rfl)) (by decide)
  exact e.trans (congrArg (fun (p : FVec Ideal S16x1x24x4 .f32) => (extractStridedSlice S16x1x24x2 ![0, 0, 0, 2] p slices_S16x1x24x4_S16x1x24x2_0_0_0_2 : FVec Ideal S16x1x24x2 .f32)) (W_v110 V))
theorem W_v118 : W V main_v118 = v118 (argsOf V) := by
  have e := W_of_unary (x := main_v110) (y := main_v118) (f := (fun (p : FVec Ideal S16x1x24x4 .f32) => (extractStridedSlice S16x1x24x2 ![0, 0, 0, 0] p slices_S16x1x24x4_S16x1x24x2_0_0_0_0 : FVec Ideal S16x1x24x2 .f32))) V (mem_line2_0 (List.mem_of_getElem? (i := 16) rfl)) (by decide)
  exact e.trans (congrArg (fun (p : FVec Ideal S16x1x24x4 .f32) => (extractStridedSlice S16x1x24x2 ![0, 0, 0, 0] p slices_S16x1x24x4_S16x1x24x2_0_0_0_0 : FVec Ideal S16x1x24x2 .f32)) (W_v110 V))
theorem W_v119 : W V main_v119 = v119 (argsOf V) := by
  have e := W_of_binary (a := main_v117) (b := main_v118) (y := main_v119) (f := (fun (p : FVec Ideal S16x1x24x2 .f32) (q : FVec Ideal S16x1x24x2 .f32) => (subf p q : FVec Ideal S16x1x24x2 .f32))) V (mem_line2_0 (List.mem_of_getElem? (i := 17) rfl)) (by decide) (by decide)
  exact e.trans (congrArg₂ (fun (p : FVec Ideal S16x1x24x2 .f32) (q : FVec Ideal S16x1x24x2 .f32) => (subf p q : FVec Ideal S16x1x24x2 .f32)) (W_v117 V) (W_v118 V))
theorem W_cst_16 : W V main_cst_16 = cst_16 (argsOf V) :=
  W_of_nullary (y := main_cst_16) (v := (constant S_ .f32 0x358637BD#32 : FVec Ideal S_ .f32)) V (mem_line2_0 (List.mem_of_getElem? (i := 18) rfl))
theorem W_call6_v0 : W V main_call6_v0 = call6_v0 (argsOf V) := by
  have e := W_of_unary (x := main_cst_16) (y := main_call6_v0) (f := (fun (p : FVec Ideal S_ .f32) => (p : FVec Ideal S_ .f32))) V (mem_line2_0 (List.mem_of_getElem? (i := 19) rfl)) (by decide)
  exact e.trans (congrArg (fun (p : FVec Ideal S_ .f32) => (p : FVec Ideal S_ .f32)) (W_cst_16 V))
theorem W_call6_v1 : W V main_call6_v1 = call6_v1 (argsOf V) := by
  have e := W_of_unary (x := main_call6_v0) (y := main_call6_v1) (f := (fun (p : FVec Ideal S_ .f32) => (broadcastInDim S16x1x24x2 ![] bcast_S_S16x1x24x2 p : FVec Ideal S16x1x24x2 .f32))) V (mem_line2_0 (List.mem_of_getElem? (i := 20) rfl)) (by decide)
  exact e.trans (congrArg (fun (p : FVec Ideal S_ .f32) => (broadcastInDim S16x1x24x2 ![] bcast_S_S16x1x24x2 p : FVec Ideal S16x1x24x2 .f32)) (W_call6_v0 V))
theorem W_v120 : W V main_v120 = v120 (argsOf V) := by
  have e := W_of_binary (a := main_call6_v1) (b := main_v119) (y := main_v120) (f := (fun (p : FVec Ideal S16x1x24x2 .f32) (q : FVec Ideal S16x1x24x2 .f32) => (maximumf p q : FVec Ideal S16x1x24x2 .f32))) V (mem_line2_0 (List.mem_of_getElem? (i := 21) rfl)) (by decide) (by decide)
  exact e.trans (congrArg₂ (fun (p : FVec Ideal S16x1x24x2 .f32) (q : FVec Ideal S16x1x24x2 .f32) => (maximumf p q : FVec Ideal S16x1x24x2 .f32)) (W_call6_v1 V) (W_v119 V))
theorem W_v121 : W V main_v121 = v121 (argsOf V) := by
  have e := W_of_unary (x := main_v111) (y := main_v121) (f := (fun (p : FVec Ideal S1x8732x1x4 .f32) => (extractStridedSlice S1x8732x1x2 ![0, 0, 0, 0] p slices_S1x8732x1x4_S1x8732x1x2_0_0_0_0 : FVec Ideal S1x8732x1x2 .f32))) V (mem_line2_0 (List.mem_of_getElem? (i := 22) rfl)) (by decide)
  exact e.trans (congrArg (fun (p : FVec Ideal S1x8732x1x4 .f32) => (extractStridedSlice S1x8732x1x2 ![0, 0, 0, 0] p slices_S1x8732x1x4_S1x8732x1x2_0_0_0_0 : FVec Ideal S1x8732x1x2 .f32)) (W_v111 V))
theorem W_v122 : W V main_v122 = v122 (argsOf V) := by
  have e := W_of_unary (x := main_v111) (y := main_v122) (f := (fun (p : FVec Ideal S1x8732x1x4 .f32) => (extractStridedSlice S1x8732x1x2 ![0, 0, 0, 2] p slices_S1x8732x1x4_S1x8732x1x2_0_0_0_2 : FVec Ideal S1x8732x1x2 .f32))) V (mem_line2_0 (List.mem_of_getElem? (i := 23) rfl)) (by decide)
  exact e.trans (congrArg (fun (p : FVec Ideal S1x8732x1x4 .f32) => (extractStridedSlice S1x8732x1x2 ![0, 0, 0, 2] p slices_S1x8732x1x4_S1x8732x1x2_0_0_0_2 : FVec Ideal S1x8732x1x2 .f32)) (W_v111 V))
theorem W_v123 : W V main_v123 = v123 (argsOf V) := by
  have e := W_of_binary (a := main_v121) (b := main_v122) (y := main_v123) (f := (fun (p : FVec Ideal S1x8732x1x2 .f32) (q : FVec Ideal S1x8732x1x2 .f32) => (addf p q : FVec Ideal S1x8732x1x2 .f32))) V (mem_line2_0 (List.mem_of_getElem? (i := 24) rfl)) (by decide) (by decide)
  exact e.trans (congrArg₂ (fun (p : FVec Ideal S1x8732x1x2 .f32) (q : FVec Ideal S1x8732x1x2 .f32) => (addf p q : FVec Ideal S1x8732x1x2 .f32)) (W_v121 V) (W_v122 V))
theorem W_cst_17 : W V main_cst_17 = cst_17 (argsOf V) :=
  W_of_nullary (y := main_cst_17) (v := (constant S_ .f32 0x40000000#32 : FVec Ideal S_ .f32)) V (mem_line2_0 (List.mem_of_getElem? (i := 25) rfl))
theorem W_v124 : W V main_v124 = v124 (argsOf V) := by
  have e := W_of_unary (x := main_cst_17) (y := main_v124) (f := (fun (p : FVec Ideal S_ .f32) => (broadcastInDim S1x8732x1x2 ![] bcast_S_S1x8732x1x2 p : FVec Ideal S1x8732x1x2 .f32))) V (mem_line2_0 (List.mem_of_getElem? (i := 26) rfl)) (by decide)
  exact e.trans (congrArg (fun (p : FVec Ideal S_ .f32) => (broadcastInDim S1x8732x1x2 ![] bcast_S_S1x8732x1x2 p : FVec Ideal S1x8732x1x2 .f32)) (W_cst_17 V))
theorem W_v125 : W V main_v125 = v125 (argsOf V) := by
  have e := W_of_binary (a := main_v123) (b := main_v124) (y := main_v125) (f := (fun (p : FVec Ideal S1x8732x1x2 .f32) (q : FVec Ideal S1x8732x1x2 .f32) => (Host.divf p q : FVec Ideal S1x8732x1x2 .f32))) V (mem_line2_0 (List.mem_of_getElem? (i := 27) rfl)) (by decide) (by decide)
  exact e.trans (congrArg₂ (fun (p : FVec Ideal S1x8732x1x2 .f32) (q : FVec Ideal S1x8732x1x2 .f32) => (Host.divf p q : FVec Ideal S1x8732x1x2 .f32)) (W_v123 V) (W_v124 V))
theorem W_v126 : W V main_v126 = v126 (argsOf V) := by
  have e := W_of_unary (x := main_v111) (y := main_v126) (f := (fun (p : FVec Ideal S1x8732x1x4 .f32) => (extractStridedSlice S1x8732x1x2 ![0, 0, 0, 2] p slices_S1x8732x1x4_S1x8732x1x2_0_0_0_2 : FVec Ideal S1x8732x1x2 .f32))) V (mem_line2_0 (List.mem_of_getElem? (i := 28) rfl)) (by decide)
  exact e.trans (congrArg (fun (p : FVec Ideal S1x8732x1x4 .f32) => (extractStridedSlice S1x8732x1x2 ![0, 0, 0, 2] p slices_S1x8732x1x4_S1x8732x1x2_0_0_0_2 : FVec Ideal S1x8732x1x2 .f32)) (W_v111 V))
theorem W_v127 : W V main_v127 = v127 (argsOf V) := by
  have e := W_of_unary (x := main_v111) (y := main_v127) (f := (fun (p : FVec Ideal S1x8732x1x4 .f32) => (extractStridedSlice S1x8732x1x2 ![0, 0, 0, 0] p slices_S1x8732x1x4_S1x8732x1x2_0_0_0_0 : FVec Ideal S1x8732x1x2 .f32))) V (mem_line2_0 (List.mem_of_getElem? (i := 29) rfl)) (by decide)
  exact e.trans (congrArg (fun (p : FVec Ideal S1x8732x1x4 .f32) => (extractStridedSlice S1x8732x1x2 ![0, 0, 0, 0] p slices_S1x8732x1x4_S1x8732x1x2_0_0_0_0 : FVec Ideal S1x8732x1x2 .f32)) (W_v111 V))
theorem W_v128 : W V main_v128 = v128 (argsOf V) := by
  have e := W_of_binary (a := main_v126) (b := main_v127) (y := main_v128) (f := (fun (p : FVec Ideal S1x8732x1x2 .f32) (q : FVec Ideal S1x8732x1x2 .f32) => (subf p q : FVec Ideal S1x8732x1x2 .f32))) V (mem_line2_1 (List.mem_of_getElem? (i := 0) rfl)) (by decide) (by decide)
  exact e.trans (congrArg₂ (fun (p : FVec Ideal S1x8732x1x2 .f32) (q : FVec Ideal S1x8732x1x2 .f32) => (subf p q : FVec Ideal S1x8732x1x2 .f32)) (W_v126 V) (W_v127 V))
theorem W_cst_18 : W V main_cst_18 = cst_18 (argsOf V) :=
  W_of_nullary (y := main_cst_18) (v := (constant S_ .f32 0x358637BD#32 : FVec Ideal S_ .f32)) V (mem_line2_1 (List.mem_of_getElem? (i := 1) rfl))
theorem W_call7_v0 : W V main_call7_v0 = call7_v0 (argsOf V) := by
  have e := W_of_unary (x := main_cst_18) (y := main_call7_v0) (f := (fun (p : FVec Ideal S_ .f32) => (p : FVec Ideal S_ .f32))) V (mem_line2_1 (List.mem_of_getElem? (i := 2) rfl)) (by decide)
  exact e.trans (congrArg (fun (p : FVec Ideal S_ .f32) => (p : FVec Ideal S_ .f32)) (W_cst_18 V))
theorem W_call7_v1 : W V main_call7_v1 = call7_v1 (argsOf V) := by
  have e := W_of_unary (x := main_call7_v0) (y := main_call7_v1) (f := (fun (p : FVec Ideal S_ .f32) => (broadcastInDim S1x8732x1x2 ![] bcast_S_S1x8732x1x2 p : FVec Ideal S1x8732x1x2 .f32))) V (mem_line2_1 (List.mem_of_getElem? (i := 3) rfl)) (by decide)
  exact e.trans (congrArg (fun (p : FVec Ideal S_ .f32) => (broadcastInDim S1x8732x1x2 ![] bcast_S_S1x8732x1x2 p : FVec Ideal S1x8732x1x2 .f32)) (W_call7_v0 V))
theorem W_v129 : W V main_v129 = v129 (argsOf V) := by
  have e := W_of_binary (a := main_call7_v1) (b := main_v128) (y := main_v129) (f := (fun (p : FVec Ideal S1x8732x1x2 .f32) (q : FVec Ideal S1x8732x1x2 .f32) => (maximumf p q : FVec Ideal S1x8732x1x2 .f32))) V (mem_line2_1 (List.mem_of_getElem? (i := 4) rfl)) (by decide) (by decide)
  exact e.trans (congrArg₂ (fun (p : FVec Ideal S1x8732x1x2 .f32) (q : FVec Ideal S1x8732x1x2 .f32) => (maximumf p q : FVec Ideal S1x8732x1x2 .f32)) (W_call7_v1 V) (W_v128 V))
theorem W_v130 : W V main_v130 = v130 (argsOf V) := by
  have e := W_of_unary (x := main_v116) (y := main_v130) (f := (fun (p : FVec Ideal S16x1x24x2 .f32) => (broadcastInDim S16x8732x24x2 ![0, 1, 2, 3] bcast_S16x1x24x2_S16x8732x24x2_0_1_2_3 p : FVec Ideal S16x8732x24x2 .f32))) V (mem_line2_1 (List.mem_of_getElem? (i := 5) rfl)) (by decide)
  exact e.trans (congrArg (fun (p : FVec Ideal S16x1x24x2 .f32) => (broadcastInDim S16x8732x24x2 ![0, 1, 2, 3] bcast_S16x1x24x2_S16x8732x24x2_0_1_2_3 p : FVec Ideal S16x8732x24x2 .f32)) (W_v116 V))
theorem W_v131 : W V main_v131 = v131 (argsOf V) := by
  have e := W_of_unary (x := main_v125) (y := main_v131) (f := (fun (p : FVec Ideal S1x8732x1x2 .f32) => (broadcastInDim S16x8732x24x2 ![0, 1, 2, 3] bcast_S1x8732x1x2_S16x8732x24x2_0_1_2_3 p : FVec Ideal S16x8732x24x2 .f32))) V (mem_line2_1 (List.mem_of_getElem? (i := 6) rfl)) (by decide)
  exact e.trans (congrArg (fun (p : FVec Ideal S1x8732x1x2 .f32) => (broadcastInDim S16x8732x24x2 ![0, 1, 2, 3] bcast_S1x8732x1x2_S16x8732x24x2_0_1_2_3 p : FVec Ideal S16x8732x24x2 .f32)) (W_v125 V))
theorem W_v132 : W V main_v132 = v132 (argsOf V) := by
  have e := W_of_binary (a := main_v130) (b := main_v131) (y := main_v132) (f := (fun (p : FVec Ideal S16x8732x24x2 .f32) (q : FVec Ideal S16x8732x24x2 .f32) => (subf p q : FVec Ideal S16x8732x24x2 .f32))) V (mem_line2_1 (List.mem_of_getElem? (i := 7) rfl)) (by decide) (by decide)
  exact e.trans (congrArg₂ (fun (p : FVec Ideal S16x8732x24x2 .f32) (q : FVec Ideal S16x8732x24x2 .f32) => (subf p q : FVec Ideal S16x8732x24x2 .f32)) (W_v130 V) (W_v131 V))
theorem W_cst_19 : W V main_cst_19 = cst_19 (argsOf V) :=
  W_of_nullary (y := main_cst_19) (v := (constant S_ .f32 0x3DCCCCCD#32 : FVec Ideal S_ .f32)) V (mem_line2_1 (List.mem_of_getElem? (i := 8) rfl))
theorem W_v133 : W V main_v133 = v133 (argsOf V) := by
  have e := W_of_unary (x := main_cst_19) (y := main_v133) (f := (fun (p : FVec Ideal S_ .f32) => (broadcastInDim S1x8732x1x2 ![] bcast_S_S1x8732x1x2 p : FVec Ideal S1x8732x1x2 .f32))) V (mem_line2_1 (List.mem_of_getElem? (i := 9) rfl)) (by decide)
  exact e.trans (congrArg (fun (p : FVec Ideal S_ .f32) => (broadcastInDim S1x8732x1x2 ![] bcast_S_S1x8732x1x2 p : FVec Ideal S1x8732x1x2 .f32)) (W_cst_19 V))
theorem W_v134 : W V main_v134 = v134 (argsOf V) := by
  have e := W_of_binary (a := main_v129) (b := main_v133) (y := main_v134) (f := (fun (p : FVec Ideal S1x8732x1x2 .f32) (q : FVec Ideal S1x8732x1x2 .f32) => (mulf p q : FVec Ideal S1x8732x1x2 .f32))) V (mem_line2_1 (List.mem_of_getElem? (i := 10) rfl)) (by decide) (by decide)
  exact e.trans (congrArg₂ (fun (p : FVec Ideal S1x8732x1x2 .f32) (q : FVec Ideal S1x8732x1x2 .f32) => (mulf p q : FVec Ideal S1x8732x1x2 .f32)) (W_v129 V) (W_v133 V))
theorem W_v135 : W V main_v135 = v135 (argsOf V) := by
  have e := W_of_unary (x := main_v134) (y := main_v135) (f := (fun (p : FVec Ideal S1x8732x1x2 .f32) => (broadcastInDim S16x8732x24x2 ![0, 1, 2, 3] bcast_S1x8732x1x2_S16x8732x24x2_0_1_2_3 p : FVec Ideal S16x8732x24x2 .f32))) V (mem_line2_1 (List.mem_of_getElem? (i := 11) rfl)) (by decide)
  exact e.trans (congrArg (fun (p : FVec Ideal S1x8732x1x2 .f32) => (broadcastInDim S16x8732x24x2 ![0, 1, 2, 3] bcast_S1x8732x1x2_S16x8732x24x2_0_1_2_3 p : FVec Ideal S16x8732x24x2 .f32)) (W_v134 V))
theorem W_v136 : W V main_v136 = v136 (argsOf V) := by
  have e := W_of_binary (a := main_v132) (b := main_v135) (y := main_v136) (f := (fun (p : FVec Ideal S16x8732x24x2 .f32) (q : FVec Ideal S16x8732x24x2 .f32) => (Host.divf p q : FVec Ideal S16x8732x24x2 .f32))) V (mem_line2_1 (List.mem_of_getElem? (i := 12) rfl)) (by decide) (by decide)
  exact e.trans (congrArg₂ (fun (p : FVec Ideal S16x8732x24x2 .f32) (q : FVec Ideal S16x8732x24x2 .f32) => (Host.divf p q : FVec Ideal S16x8732x24x2 .f32)) (W_v132 V) (W_v135 V))
theorem W_v137 : W V main_v137 = v137 (argsOf V) := by
  have e := W_of_unary (x := main_v120) (y := main_v137) (f := (fun (p : FVec Ideal S16x1x24x2 .f32) => (broadcastInDim S16x8732x24x2 ![0, 1, 2, 3] bcast_S16x1x24x2_S16x8732x24x2_0_1_2_3 p : FVec Ideal S16x8732x24x2 .f32))) V (mem_line2_1 (List.mem_of_getElem? (i := 13) rfl)) (by decide)
  exact e.trans (congrArg (fun (p : FVec Ideal S16x1x24x2 .f32) => (broadcastInDim S16x8732x24x2 ![0, 1, 2, 3] bcast_S16x1x24x2_S16x8732x24x2_0_1_2_3 p : FVec Ideal S16x8732x24x2 .f32)) (W_v120 V))
theorem W_v138 : W V main_v138 = v138 (argsOf V) := by
  have e := W_of_unary (x := main_v129) (y := main_v138) (f := (fun (p : FVec Ideal S1x8732x1x2 .f32) => (broadcastInDim S16x8732x24x2 ![0, 1, 2, 3] bcast_S1x8732x1x2_S16x8732x24x2_0_1_2_3 p : FVec Ideal S16x8732x24x2 .f32))) V (mem_line2_1 (List.mem_of_getElem? (i := 14) rfl)) (by decide)
  exact e.trans (congrArg (fun (p : FVec Ideal S1x8732x1x2 .f32) => (broadcastInDim S16x8732x24x2 ![0, 1, 2, 3] bcast_S1x8732x1x2_S16x8732x24x2_0_1_2_3 p : FVec Ideal S16x8732x24x2 .f32)) (W_v129 V))
theorem W_v139 : W V main_v139 = v139 (argsOf V) := by
  have e := W_of_binary (a := main_v137) (b := main_v138) (y := main_v139) (f := (fun (p : FVec Ideal S16x8732x24x2 .f32) (q : FVec Ideal S16x8732x24x2 .f32) => (Host.divf p q : FVec Ideal S16x8732x24x2 .f32))) V (mem_line2_1 (List.mem_of_getElem? (i := 15) rfl)) (by decide) (by decide)
  exact e.trans (congrArg₂ (fun (p : FVec Ideal S16x8732x24x2 .f32) (q : FVec Ideal S16x8732x24x2 .f32) => (Host.divf p q : FVec Ideal S16x8732x24x2 .f32)) (W_v137 V) (W_v138 V))
theorem W_cst_20 : W V main_cst_20 = cst_20 (argsOf V) :=
  W_of_nullary (y := main_cst_20) (v := (constant S_ .f32 0x358637BD#32 : FVec Ideal S_ .f32)) V (mem_line2_1 (List.mem_of_getElem? (i := 16) rfl))
theorem W_call8_v0 : W V main_call8_v0 = call8_v0 (argsOf V) := by
  have e := W_of_unary (x := main_cst_20) (y := main_call8_v0) (f := (fun (p : FVec Ideal S_ .f32) => (p : FVec Ideal S_ .f32))) V (mem_line2_1 (List.mem_of_getElem? (i := 17) rfl)) (by decide)
  exact e.trans (congrArg (fun (p : FVec Ideal S_ .f32) => (p : FVec Ideal S_ .f32)) (W_cst_20 V))
theorem W_call8_v1 : W V main_call8_v1 = call8_v1 (argsOf V) := by
  have e := W_of_unary (x := main_call8_v0) (y := main_call8_v1) (f := (fun (p : FVec Ideal S_ .f32) => (broadcastInDim S16x8732x24x2 ![] bcast_S_S16x8732x24x2 p : FVec Ideal S16x8732x24x2 .f32))) V (mem_line2_1 (List.mem_of_getElem? (i := 18) rfl)) (by decide)
  exact e.trans (congrArg (fun (p : FVec Ideal S_ .f32) => (broadcastInDim S16x8732x24x2 ![] bcast_S_S16x8732x24x2 p : FVec Ideal S16x8732x24x2 .f32)) (W_call8_v0 V))
theorem W_v140 : W V main_v140 = v140 (argsOf V) := by
  have e := W_of_binary (a := main_call8_v1) (b := main_v139) (y := main_v140) (f := (fun (p : FVec Ideal S16x8732x24x2 .f32) (q : FVec Ideal S16x8732x24x2 .f32) => (maximumf p q : FVec Ideal S16x8732x24x2 .f32))) V (mem_line2_1 (List.mem_of_getElem? (i := 19) rfl)) (by decide) (by decide)
  exact e.trans (congrArg₂ (fun (p : FVec Ideal S16x8732x24x2 .f32) (q : FVec Ideal S16x8732x24x2 .f32) => (maximumf p q : FVec Ideal S16x8732x24x2 .f32)) (W_call8_v1 V) (W_v139 V))
theorem W_v141 : W V main_v141 = v141 (argsOf V) := by
  have e := W_of_unary (x := main_v140) (y := main_v141) (f := (fun (p : FVec Ideal S16x8732x24x2 .f32) => (Host.log p : FVec Ideal S16x8732x24x2 .f32))) V (mem_line2_1 (List.mem_of_getElem? (i := 20) rfl)) (by decide)
  exact e.trans (congrArg (fun (p : FVec Ideal S16x8732x24x2 .f32) => (Host.log p : FVec Ideal S16x8732x24x2 .f32)) (W_v140 V))
theorem W_cst_21 : W V main_cst_21 = cst_21 (argsOf V) :=
  W_of_nullary (y := main_cst_21) (v := (constant S_ .f32 0x3E4CCCCD#32 : FVec Ideal S_ .f32)) V (mem_line2_1 (List.mem_of_getElem? (i := 21) rfl))
theorem W_v142 : W V main_v142 = v142 (argsOf V) := by
  have e := W_of_unary (x := main_cst_21) (y := main_v142) (f := (fun (p : FVec Ideal S_ .f32) => (broadcastInDim S16x8732x24x2 ![] bcast_S_S16x8732x24x2 p : FVec Ideal S16x8732x24x2 .f32))) V (mem_line2_1 (List.mem_of_getElem? (i := 22) rfl)) (by decide)
  exact e.trans (congrArg (fun (p : FVec Ideal S_ .f32) => (broadcastInDim S16x8732x24x2 ![] bcast_S_S16x8732x24x2 p : FVec Ideal S16x8732x24x2 .f32)) (W_cst_21 V))
theorem W_v143 : W V main_v143 = v143 (argsOf V) := by
  have e := W_of_binary (a := main_v141) (b := main_v142) (y := main_v143) (f := (fun (p : FVec Ideal S16x8732x24x2 .f32) (q : FVec Ideal S16x8732x24x2 .f32) => (Host.divf p q : FVec Ideal S16x8732x24x2 .f32))) V (mem_line2_1 (List.mem_of_getElem? (i := 23) rfl)) (by decide) (by decide)
  exact e.trans (congrArg₂ (fun (p : FVec Ideal S16x8732x24x2 .f32) (q : FVec Ideal S16x8732x24x2 .f32) => (Host.divf p q : FVec Ideal S16x8732x24x2 .f32)) (W_v141 V) (W_v142 V))
theorem W_v144 : W V main_v144 = v144 (argsOf V) := by
  have e := W_of_binary (a := main_v136) (b := main_v143) (y := main_v144) (f := (fun (p : FVec Ideal S16x8732x24x2 .f32) (q : FVec Ideal S16x8732x24x2 .f32) => (concatenate S16x8732x24x4 3 [⟨S16x8732x24x2, p⟩, ⟨S16x8732x24x2, q⟩] concatenates_S16x8732x24x2_S16x8732x24x2_S16x8732x24x4_d3 : FVec Ideal S16x8732x24x4 .f32))) V (mem_line2_1 (List.mem_of_getElem? (i := 24) rfl)) (by decide) (by decide)
  exact e.trans (congrArg₂ (fun (p : FVec Ideal S16x8732x24x2 .f32) (q : FVec Ideal S16x8732x24x2 .f32) => (concatenate S16x8732x24x4 3 [⟨S16x8732x24x2, p⟩, ⟨S16x8732x24x2, q⟩] concatenates_S16x8732x24x2_S16x8732x24x2_S16x8732x24x4_d3 : FVec Ideal S16x8732x24x4 .f32)) (W_v136 V) (W_v143 V))
theorem W_v145 : W V main_v145 = v145 (argsOf V) := by
  have e := W_of_unary (x := main_arg0) (y := main_v145) (f := (fun (p : FVec Ideal S16x8732x4 .f32) => (broadcastInDim S16x8732x1x4 ![0, 1, 3] bcast_S16x8732x4_S16x8732x1x4_0_1_3 p : FVec Ideal S16x8732x1x4 .f32))) V (mem_line2_1 (List.mem_of_getElem? (i := 25) rfl)) (by decide)
  exact e.trans (congrArg (fun (p : FVec Ideal S16x8732x4 .f32) => (broadcastInDim S16x8732x1x4 ![0, 1, 3] bcast_S16x8732x4_S16x8732x1x4_0_1_3 p : FVec Ideal S16x8732x1x4 .f32)) (W_a0 V))
theorem W_v146 : W V main_v146 = v146 (argsOf V) := by
  have e := W_of_unary (x := main_v145) (y := main_v146) (f := (fun (p : FVec Ideal S16x8732x1x4 .f32) => (broadcastInDim S16x8732x24x4 ![0, 1, 2, 3] bcast_S16x8732x1x4_S16x8732x24x4_0_1_2_3 p : FVec Ideal S16x8732x24x4 .f32))) V (mem_line2_1 (List.mem_of_getElem? (i := 26) rfl)) (by decide)
  exact e.trans (congrArg (fun (p : FVec Ideal S16x8732x1x4 .f32) => (broadcastInDim S16x8732x24x4 ![0, 1, 2, 3] bcast_S16x8732x1x4_S16x8732x24x4_0_1_2_3 p : FVec Ideal S16x8732x24x4 .f32)) (W_v145 V))
theorem W_v147 : W V main_v147 = v147 (argsOf V) := by
  have e := W_of_binary (a := main_v146) (b := main_v144) (y := main_v147) (f := (fun (p : FVec Ideal S16x8732x24x4 .f32) (q : FVec Ideal S16x8732x24x4 .f32) => (subf p q : FVec Ideal S16x8732x24x4 .f32))) V (mem_line2_1 (List.mem_of_getElem? (i := 27) rfl)) (by decide) (by decide)
  exact e.trans (congrArg₂ (fun (p : FVec Ideal S16x8732x24x4 .f32) (q : FVec Ideal S16x8732x24x4 .f32) => (subf p q : FVec Ideal S16x8732x24x4 .f32)) (W_v146 V) (W_v144 V))
theorem W_v148 : W V main_v148 = v148 (argsOf V) := by
  have e := W_of_unary (x := main_v147) (y := main_v148) (f := (fun (p : FVec Ideal S16x8732x24x4 .f32) => (Host.absf p : FVec Ideal S16x8732x24x4 .f32))) V (mem_line2_1 (List.mem_of_getElem? (i := 28) rfl)) (by decide)
  exact e.trans (congrArg (fun (p : FVec Ideal S16x8732x24x4 .f32) => (Host.absf p : FVec Ideal S16x8732x24x4 .f32)) (W_v147 V))
theorem W_cst_22 : W V main_cst_22 = cst_22 (argsOf V) :=
  W_of_nullary (y := main_cst_22) (v := (constant S_ .f32 0x3F800000#32 : FVec Ideal S_ .f32)) V (mem_line2_1 (List.mem_of_getElem? (i := 29) rfl))
theorem W_v149 : W V main_v149 = v149 (argsOf V) := by
  have e := W_of_unary (x := main_cst_22) (y := main_v149) (f := (fun (p : FVec Ideal S_ .f32) => (broadcastInDim S16x8732x24x4 ![] bcast_S_S16x8732x24x4 p : FVec Ideal S16x8732x24x4 .f32))) V (mem_line2_2 (List.mem_of_getElem? (i := 0) rfl)) (by decide)
  exact e.trans (congrArg (fun (p : FVec Ideal S_ .f32) => (broadcastInDim S16x8732x24x4 ![] bcast_S_S16x8732x24x4 p : FVec Ideal S16x8732x24x4 .f32)) (W_cst_22 V))
theorem W_v150 : W V main_v150 = v150 (argsOf V) := by
  have e := W_of_binary (a := main_v148) (b := main_v149) (y := main_v150) (f := (fun (p : FVec Ideal S16x8732x24x4 .f32) (q : FVec Ideal S16x8732x24x4 .f32) => (cmpf .olt p q : IVec S16x8732x24x4 1))) V (mem_line2_2 (List.mem_of_getElem? (i := 1) rfl)) (by decide) (by decide)
  exact e.trans (congrArg₂ (fun (p : FVec Ideal S16x8732x24x4 .f32) (q : FVec Ideal S16x8732x24x4 .f32) => (cmpf .olt p q : IVec S16x8732x24x4 1)) (W_v148 V) (W_v149 V))
theorem W_cst_23 : W V main_cst_23 = cst_23 (argsOf V) :=
  W_of_nullary (y := main_cst_23) (v := (constant S_ .f32 0x3F000000#32 : FVec Ideal S_ .f32)) V (mem_line2_2 (List.mem_of_getElem? (i := 2) rfl))
theorem W_v151 : W V main_v151 = v151 (argsOf V) := by
  have e := W_of_unary (x := main_cst_23) (y := main_v151) (f := (fun (p : FVec Ideal S_ .f32) => (broadcastInDim S16x8732x24x4 ![] bcast_S_S16x8732x24x4 p : FVec Ideal S16x8732x24x4 .f32))) V (mem_line2_2 (List.mem_of_getElem? (i := 3) rfl)) (by decide)
  exact e.trans (congrArg (fun (p : FVec Ideal S_ .f32) => (broadcastInDim S16x8732x24x4 ![] bcast_S_S16x8732x24x4 p : FVec Ideal S16x8732x24x4 .f32)) (W_cst_23 V))
theorem W_v152 : W V main_v152 = v152 (argsOf V) := by
  have e := W_of_binary (a := main_v151) (b := main_v147) (y := main_v152) (f := (fun (p : FVec Ideal S16x8732x24x4 .f32) (q : FVec Ideal S16x8732x24x4 .f32) => (mulf p q : FVec Ideal S16x8732x24x4 .f32))) V (mem_line2_2 (List.mem_of_getElem? (i := 4) rfl)) (by decide) (by decide)
  exact e.trans (congrArg₂ (fun (p : FVec Ideal S16x8732x24x4 .f32) (q : FVec Ideal S16x8732x24x4 .f32) => (mulf p q : FVec Ideal S16x8732x24x4 .f32)) (W_v151 V) (W_v147 V))
theorem W_v153 : W V main_v153 = v153 (argsOf V) := by
  have e := W_of_binary (a := main_v152) (b := main_v147) (y := main_v153) (f := (fun (p : FVec Ideal S16x8732x24x4 .f32) (q : FVec Ideal S16x8732x24x4 .f32) => (mulf p q : FVec Ideal S16x8732x24x4 .f32))) V (mem_line2_2 (List.mem_of_getElem? (i := 5) rfl)) (by decide) (by decide)
  exact e.trans (congrArg₂ (fun (p : FVec Ideal S16x8732x24x4 .f32) (q : FVec Ideal S16x8732x24x4 .f32) => (mulf p q : FVec Ideal S16x8732x24x4 .f32)) (W_v152 V) (W_v147 V))
theorem W_cst_24 : W V main_cst_24 = cst_24 (argsOf V) :=
  W_of_nullary (y := main_cst_24) (v := (constant S_ .f32 0x3F000000#32 : FVec Ideal S_ .f32)) V (mem_line3_0 (List.mem_of_getElem? (i := 0) rfl))
theorem W_v154 : W V main_v154 = v154 (argsOf V) := by
  have e := W_of_unary (x := main_cst_24) (y := main_v154) (f := (fun (p : FVec Ideal S_ .f32) => (broadcastInDim S16x8732x24x4 ![] bcast_S_S16x8732x24x4 p : FVec Ideal S16x8732x24x4 .f32))) V (mem_line3_0 (List.mem_of_getElem? (i := 1) rfl)) (by decide)
  exact e.trans (congrArg (fun (p : FVec Ideal S_ .f32) => (broadcastInDim S16x8732x24x4 ![] bcast_S_S16x8732x24x4 p : FVec Ideal S16x8732x24x4 .f32)) (W_cst_24 V))
theorem W_v155 : W V main_v155 = v155 (argsOf V) := by
  have e := W_of_binary (a := main_v148) (b := main_v154) (y := main_v155) (f := (fun (p : FVec Ideal S16x8732x24x4 .f32) (q : FVec Ideal S16x8732x24x4 .f32) => (subf p q : FVec Ideal S16x8732x24x4 .f32))) V (mem_line3_0 (List.mem_of_getElem? (i := 2) rfl)) (by decide) (by decide)
  exact e.trans (congrArg₂ (fun (p : FVec Ideal S16x8732x24x4 .f32) (q : FVec Ideal S16x8732x24x4 .f32) => (subf p q : FVec Ideal S16x8732x24x4 .f32)) (W_v148 V) (W_v154 V))
theorem W_v156 : W V main_v156 = v156 (argsOf V) := by
  have e := W_of_ternary (c := main_v150) (a := main_v153) (b := main_v155) (y := main_v156) (f := (fun (p : IVec S16x8732x24x4 1) (q : FVec Ideal S16x8732x24x4 .f32) (r : FVec Ideal S16x8732x24x4 .f32) => (select p q r : FVec Ideal S16x8732x24x4 .f32))) V (mem_line3_0 (List.mem_of_getElem? (i := 3) rfl)) (by decide) (by decide) (by decide)
  exact e.trans (congr (congrArg₂ (fun (p : IVec S16x8732x24x4 1) (q : FVec Ideal S16x8732x24x4 .f32) (r : FVec Ideal S16x8732x24x4 .f32) => (select p q r : FVec Ideal S16x8732x24x4 .f32)) (W_v150 V) (W_v153 V)) (W_v155 V))
theorem W_cst_25 : W V main_cst_25 = cst_25 (argsOf V) :=
  W_of_nullary (y := main_cst_25) (v := (constant S_ .f32 0x00000000#32 : FVec Ideal S_ .f32)) V (mem_line3_0 (List.mem_of_getElem? (i := 4) rfl))
theorem W_v157 : W V main_v157 = v157 (argsOf V) := by
  have e := W_of_binary (a := main_v108) (b := main_cst_25) (y := main_v157) (f := (fun (p : FVec Ideal S16x8732x24 .f32) (q : FVec Ideal S_ .f32) => (Host.reduceAdd p q reducesTo_S16x8732x24_S_d0_1_2 h_S_ : FVec Ideal S_ .f32))) V (mem_line3_0 (List.mem_of_getElem? (i := 5) rfl)) (by decide) (by decide)
  exact e.trans (congrArg₂ (fun (p : FVec Ideal S16x8732x24 .f32) (q : FVec Ideal S_ .f32) => (Host.reduceAdd p q reducesTo_S16x8732x24_S_d0_1_2 h_S_ : FVec Ideal S_ .f32)) (W_v108 V) (W_cst_25 V))
theorem W_cst_26 : W V main_cst_26 = cst_26 (argsOf V) :=
  W_of_nullary (y := main_cst_26) (v := (constant S_ .f32 0x3F800000#32 : FVec Ideal S_ .f32)) V (mem_line3_0 (List.mem_of_getElem? (i := 6) rfl))

end Cert.ReferenceIdeal.Hand

end
-- ==== Proof.ReferenceIdeal.Ends4.lean ====
/- Each buffer of the reference ends at its value: part 4 of 4. -/
module

public import proofs.«01_k».proof.Proof.ReferenceIdeal.Ends3
public import proofs.«01_k».proof.Proof.ReferenceIdeal.Values

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Line

variable (V : Valuation τ sig (Elt Ideal))

attribute [local irreducible] W Host.reduce

theorem W_call10_v0 : W V main_call10_v0 = call10_v0 (argsOf V) := by
  have e := W_of_unary (x := main_cst_26) (y := main_call10_v0) (f := (fun (p : FVec Ideal S_ .f32) => (p : FVec Ideal S_ .f32))) V (mem_line3_0 (List.mem_of_getElem? (i := 7) rfl)) (by decide)
  exact e.trans (congrArg (fun (p : FVec Ideal S_ .f32) => (p : FVec Ideal S_ .f32)) (W_cst_26 V))
theorem W_v158 : W V main_v158 = v158 (argsOf V) := by
  have e := W_of_binary (a := main_call10_v0) (b := main_v157) (y := main_v158) (f := (fun (p : FVec Ideal S_ .f32) (q : FVec Ideal S_ .f32) => (maximumf p q : FVec Ideal S_ .f32))) V (mem_line3_0 (List.mem_of_getElem? (i := 8) rfl)) (by decide) (by decide)
  exact e.trans (congrArg₂ (fun (p : FVec Ideal S_ .f32) (q : FVec Ideal S_ .f32) => (maximumf p q : FVec Ideal S_ .f32)) (W_call10_v0 V) (W_v157 V))
theorem W_v159 : W V main_v159 = v159 (argsOf V) := by
  have e := W_of_unary (x := main_v108) (y := main_v159) (f := (fun (p : FVec Ideal S16x8732x24 .f32) => (broadcastInDim S16x8732x24x1 ![0, 1, 2] bcast_S16x8732x24_S16x8732x24x1_0_1_2 p : FVec Ideal S16x8732x24x1 .f32))) V (mem_line3_0 (List.mem_of_getElem? (i := 9) rfl)) (by decide)
  exact e.trans (congrArg (fun (p : FVec Ideal S16x8732x24 .f32) => (broadcastInDim S16x8732x24x1 ![0, 1, 2] bcast_S16x8732x24_S16x8732x24x1_0_1_2 p : FVec Ideal S16x8732x24x1 .f32)) (W_v108 V))
theorem W_v160 : W V main_v160 = v160 (argsOf V) := by
  have e := W_of_unary (x := main_v159) (y := main_v160) (f := (fun (p : FVec Ideal S16x8732x24x1 .f32) => (broadcastInDim S16x8732x24x4 ![0, 1, 2, 3] bcast_S16x8732x24x1_S16x8732x24x4_0_1_2_3 p : FVec Ideal S16x8732x24x4 .f32))) V (mem_line3_0 (List.mem_of_getElem? (i := 10) rfl)) (by decide)
  exact e.trans (congrArg (fun (p : FVec Ideal S16x8732x24x1 .f32) => (broadcastInDim S16x8732x24x4 ![0, 1, 2, 3] bcast_S16x8732x24x1_S16x8732x24x4_0_1_2_3 p : FVec Ideal S16x8732x24x4 .f32)) (W_v159 V))
theorem W_v161 : W V main_v161 = v161 (argsOf V) := by
  have e := W_of_binary (a := main_v156) (b := main_v160) (y := main_v161) (f := (fun (p : FVec Ideal S16x8732x24x4 .f32) (q : FVec Ideal S16x8732x24x4 .f32) => (mulf p q : FVec Ideal S16x8732x24x4 .f32))) V (mem_line3_0 (List.mem_of_getElem? (i := 11) rfl)) (by decide) (by decide)
  exact e.trans (congrArg₂ (fun (p : FVec Ideal S16x8732x24x4 .f32) (q : FVec Ideal S16x8732x24x4 .f32) => (mulf p q : FVec Ideal S16x8732x24x4 .f32)) (W_v156 V) (W_v160 V))
theorem W_cst_27 : W V main_cst_27 = cst_27 (argsOf V) :=
  W_of_nullary (y := main_cst_27) (v := (constant S_ .f32 0x00000000#32 : FVec Ideal S_ .f32)) V (mem_line3_0 (List.mem_of_getElem? (i := 12) rfl))
theorem W_v162 : W V main_v162 = v162 (argsOf V) := by
  have e := W_of_binary (a := main_v161) (b := main_cst_27) (y := main_v162) (f := (fun (p : FVec Ideal S16x8732x24x4 .f32) (q : FVec Ideal S_ .f32) => (Host.reduceAdd p q reducesTo_S16x8732x24x4_S_d0_1_2_3 h_S_ : FVec Ideal S_ .f32))) V (mem_line3_0 (List.mem_of_getElem? (i := 13) rfl)) (by decide) (by decide)
  exact e.trans (congrArg₂ (fun (p : FVec Ideal S16x8732x24x4 .f32) (q : FVec Ideal S_ .f32) => (Host.reduceAdd p q reducesTo_S16x8732x24x4_S_d0_1_2_3 h_S_ : FVec Ideal S_ .f32)) (W_v161 V) (W_cst_27 V))
theorem W_v163 : W V main_v163 = v163 (argsOf V) := by
  have e := W_of_binary (a := main_v162) (b := main_v158) (y := main_v163) (f := (fun (p : FVec Ideal S_ .f32) (q : FVec Ideal S_ .f32) => (Host.divf p q : FVec Ideal S_ .f32))) V (mem_line3_0 (List.mem_of_getElem? (i := 14) rfl)) (by decide) (by decide)
  exact e.trans (congrArg₂ (fun (p : FVec Ideal S_ .f32) (q : FVec Ideal S_ .f32) => (Host.divf p q : FVec Ideal S_ .f32)) (W_v162 V) (W_v158 V))
theorem W_cst_28 : W V main_cst_28 = cst_28 (argsOf V) :=
  W_of_nullary (y := main_cst_28) (v := (constant S_ .f32 0xFF800000#32 : FVec Ideal S_ .f32)) V (mem_line3_0 (List.mem_of_getElem? (i := 15) rfl))
theorem W_v164 : W V main_v164 = v164 (argsOf V) := by
  have e := W_of_binary (a := main_arg1) (b := main_cst_28) (y := main_v164) (f := (fun (p : FVec Ideal S16x8732x81 .f32) (q : FVec Ideal S_ .f32) => (Host.reduce FloatOps.maximumf p q reducesTo_S16x8732x81_S16x8732_d2 h_S_ : FVec Ideal S16x8732 .f32))) V (mem_line3_0 (List.mem_of_getElem? (i := 16) rfl)) (by decide) (by decide)
  exact e.trans (congrArg₂ (fun (p : FVec Ideal S16x8732x81 .f32) (q : FVec Ideal S_ .f32) => (Host.reduce FloatOps.maximumf p q reducesTo_S16x8732x81_S16x8732_d2 h_S_ : FVec Ideal S16x8732 .f32)) (W_a1 V) (W_cst_28 V))
theorem W_v165 : W V main_v165 = v165 (argsOf V) := by
  have e := W_of_unary (x := main_v164) (y := main_v165) (f := (fun (p : FVec Ideal S16x8732 .f32) => (broadcastInDim S16x8732x1 ![0, 1] bcast_S16x8732_S16x8732x1_0_1 p : FVec Ideal S16x8732x1 .f32))) V (mem_line3_0 (List.mem_of_getElem? (i := 17) rfl)) (by decide)
  exact e.trans (congrArg (fun (p : FVec Ideal S16x8732 .f32) => (broadcastInDim S16x8732x1 ![0, 1] bcast_S16x8732_S16x8732x1_0_1 p : FVec Ideal S16x8732x1 .f32)) (W_v164 V))
theorem W_v166 : W V main_v166 = v166 (argsOf V) := by
  have e := W_of_unary (x := main_v165) (y := main_v166) (f := (fun (p : FVec Ideal S16x8732x1 .f32) => (broadcastInDim S16x8732x81 ![0, 1, 2] bcast_S16x8732x1_S16x8732x81_0_1_2 p : FVec Ideal S16x8732x81 .f32))) V (mem_line3_0 (List.mem_of_getElem? (i := 18) rfl)) (by decide)
  exact e.trans (congrArg (fun (p : FVec Ideal S16x8732x1 .f32) => (broadcastInDim S16x8732x81 ![0, 1, 2] bcast_S16x8732x1_S16x8732x81_0_1_2 p : FVec Ideal S16x8732x81 .f32)) (W_v165 V))
theorem W_v167 : W V main_v167 = v167 (argsOf V) := by
  have e := W_of_binary (a := main_arg1) (b := main_v166) (y := main_v167) (f := (fun (p : FVec Ideal S16x8732x81 .f32) (q : FVec Ideal S16x8732x81 .f32) => (subf p q : FVec Ideal S16x8732x81 .f32))) V (mem_line3_0 (List.mem_of_getElem? (i := 19) rfl)) (by decide) (by decide)
  exact e.trans (congrArg₂ (fun (p : FVec Ideal S16x8732x81 .f32) (q : FVec Ideal S16x8732x81 .f32) => (subf p q : FVec Ideal S16x8732x81 .f32)) (W_a1 V) (W_v166 V))
theorem W_v168 : W V main_v168 = v168 (argsOf V) := by
  have e := W_of_unary (x := main_v167) (y := main_v168) (f := (fun (p : FVec Ideal S16x8732x81 .f32) => (Host.exp p : FVec Ideal S16x8732x81 .f32))) V (mem_line3_0 (List.mem_of_getElem? (i := 20) rfl)) (by decide)
  exact e.trans (congrArg (fun (p : FVec Ideal S16x8732x81 .f32) => (Host.exp p : FVec Ideal S16x8732x81 .f32)) (W_v167 V))
theorem W_cst_29 : W V main_cst_29 = cst_29 (argsOf V) :=
  W_of_nullary (y := main_cst_29) (v := (constant S_ .f32 0x00000000#32 : FVec Ideal S_ .f32)) V (mem_line3_0 (List.mem_of_getElem? (i := 21) rfl))
theorem W_v169 : W V main_v169 = v169 (argsOf V) := by
  have e := W_of_binary (a := main_v168) (b := main_cst_29) (y := main_v169) (f := (fun (p : FVec Ideal S16x8732x81 .f32) (q : FVec Ideal S_ .f32) => (Host.reduceAdd p q reducesTo_S16x8732x81_S16x8732_d2 h_S_ : FVec Ideal S16x8732 .f32))) V (mem_line3_0 (List.mem_of_getElem? (i := 22) rfl)) (by decide) (by decide)
  exact e.trans (congrArg₂ (fun (p : FVec Ideal S16x8732x81 .f32) (q : FVec Ideal S_ .f32) => (Host.reduceAdd p q reducesTo_S16x8732x81_S16x8732_d2 h_S_ : FVec Ideal S16x8732 .f32)) (W_v168 V) (W_cst_29 V))
theorem W_v170 : W V main_v170 = v170 (argsOf V) := by
  have e := W_of_unary (x := main_v169) (y := main_v170) (f := (fun (p : FVec Ideal S16x8732 .f32) => (Host.log p : FVec Ideal S16x8732 .f32))) V (mem_line3_0 (List.mem_of_getElem? (i := 23) rfl)) (by decide)
  exact e.trans (congrArg (fun (p : FVec Ideal S16x8732 .f32) => (Host.log p : FVec Ideal S16x8732 .f32)) (W_v169 V))
theorem W_v171 : W V main_v171 = v171 (argsOf V) := by
  have e := W_of_binary (a := main_v170) (b := main_v164) (y := main_v171) (f := (fun (p : FVec Ideal S16x8732 .f32) (q : FVec Ideal S16x8732 .f32) => (addf p q : FVec Ideal S16x8732 .f32))) V (mem_line3_0 (List.mem_of_getElem? (i := 24) rfl)) (by decide) (by decide)
  exact e.trans (congrArg₂ (fun (p : FVec Ideal S16x8732 .f32) (q : FVec Ideal S16x8732 .f32) => (addf p q : FVec Ideal S16x8732 .f32)) (W_v170 V) (W_v164 V))
theorem W_v172 : W V main_v172 = v172 (argsOf V) := by
  have e := W_of_unary (x := main_arg4) (y := main_v172) (f := (fun (p : IVec S16x24 32) => (broadcastInDim S16x1x24 ![0, 2] bcast_S16x24_S16x1x24_0_2 p : IVec S16x1x24 32))) V (mem_line3_0 (List.mem_of_getElem? (i := 25) rfl)) (by decide)
  exact e.trans (congrArg (fun (p : IVec S16x24 32) => (broadcastInDim S16x1x24 ![0, 2] bcast_S16x24_S16x1x24_0_2 p : IVec S16x1x24 32)) (W_a4 V))
theorem W_v173 : W V main_v173 = v173 (argsOf V) := by
  have e := W_of_unary (x := main_v172) (y := main_v173) (f := (fun (p : IVec S16x1x24 32) => (broadcastInDim S16x8732x24 ![0, 1, 2] bcast_S16x1x24_S16x8732x24_0_1_2 p : IVec S16x8732x24 32))) V (mem_line3_0 (List.mem_of_getElem? (i := 26) rfl)) (by decide)
  exact e.trans (congrArg (fun (p : IVec S16x1x24 32) => (broadcastInDim S16x8732x24 ![0, 1, 2] bcast_S16x1x24_S16x8732x24_0_1_2 p : IVec S16x8732x24 32)) (W_v172 V))
theorem W_call11_c : W V main_call11_c = call11_c (argsOf V) :=
  W_of_nullary (y := main_call11_c) (v := (constantI S_ 32 0#32 : IVec S_ 32)) V (mem_line3_0 (List.mem_of_getElem? (i := 27) rfl))
theorem W_call11_v0 : W V main_call11_v0 = call11_v0 (argsOf V) := by
  have e := W_of_unary (x := main_call11_c) (y := main_call11_v0) (f := (fun (p : IVec S_ 32) => (broadcastInDim S16x8732x24 ![] bcast_S_S16x8732x24 p : IVec S16x8732x24 32))) V (mem_line3_0 (List.mem_of_getElem? (i := 28) rfl)) (by decide)
  exact e.trans (congrArg (fun (p : IVec S_ 32) => (broadcastInDim S16x8732x24 ![] bcast_S_S16x8732x24 p : IVec S16x8732x24 32)) (W_call11_c V))
theorem W_call11_v1 : W V main_call11_v1 = call11_v1 (argsOf V) := by
  have e := W_of_binary (a := main_v173) (b := main_call11_v0) (y := main_call11_v1) (f := (fun (p : IVec S16x8732x24 32) (q : IVec S16x8732x24 32) => (cmpi .slt p q : IVec S16x8732x24 1))) V (mem_line3_0 (List.mem_of_getElem? (i := 29) rfl)) (by decide) (by decide)
  exact e.trans (congrArg₂ (fun (p : IVec S16x8732x24 32) (q : IVec S16x8732x24 32) => (cmpi .slt p q : IVec S16x8732x24 1)) (W_v173 V) (W_call11_v0 V))
theorem W_call11_c_0 : W V main_call11_c_0 = call11_c_0 (argsOf V) :=
  W_of_nullary (y := main_call11_c_0) (v := (constantI S_ 32 81#32 : IVec S_ 32)) V (mem_line3_1 (List.mem_of_getElem? (i := 0) rfl))
theorem W_call11_v2 : W V main_call11_v2 = call11_v2 (argsOf V) := by
  have e := W_of_unary (x := main_call11_c_0) (y := main_call11_v2) (f := (fun (p : IVec S_ 32) => (broadcastInDim S16x8732x24 ![] bcast_S_S16x8732x24 p : IVec S16x8732x24 32))) V (mem_line3_1 (List.mem_of_getElem? (i := 1) rfl)) (by decide)
  exact e.trans (congrArg (fun (p : IVec S_ 32) => (broadcastInDim S16x8732x24 ![] bcast_S_S16x8732x24 p : IVec S16x8732x24 32)) (W_call11_c_0 V))
theorem W_call11_v3 : W V main_call11_v3 = call11_v3 (argsOf V) := by
  have e := W_of_binary (a := main_v173) (b := main_call11_v2) (y := main_call11_v3) (f := (fun (p : IVec S16x8732x24 32) (q : IVec S16x8732x24 32) => (addi p q : IVec S16x8732x24 32))) V (mem_line3_1 (List.mem_of_getElem? (i := 2) rfl)) (by decide) (by decide)
  exact e.trans (congrArg₂ (fun (p : IVec S16x8732x24 32) (q : IVec S16x8732x24 32) => (addi p q : IVec S16x8732x24 32)) (W_v173 V) (W_call11_v2 V))
theorem W_call11_v4 : W V main_call11_v4 = call11_v4 (argsOf V) := by
  have e := W_of_ternary (c := main_call11_v1) (a := main_call11_v3) (b := main_v173) (y := main_call11_v4) (f := (fun (p : IVec S16x8732x24 1) (q : IVec S16x8732x24 32) (r : IVec S16x8732x24 32) => (select p q r : IVec S16x8732x24 32))) V (mem_line3_1 (List.mem_of_getElem? (i := 3) rfl)) (by decide) (by decide) (by decide)
  exact e.trans (congr (congrArg₂ (fun (p : IVec S16x8732x24 1) (q : IVec S16x8732x24 32) (r : IVec S16x8732x24 32) => (select p q r : IVec S16x8732x24 32)) (W_call11_v1 V) (W_call11_v3 V)) (W_v173 V))
theorem W_call11_v5 : W V main_call11_v5 = call11_v5 (argsOf V) :=
  (W_of_reshape (x := main_call11_v4) (y := main_call11_v5) V (mem_line3_1 (List.mem_of_getElem? (i := 4) rfl)) (by decide)).trans (by
    show shapeCast _ (W V main_call11_v4) _ = _
    rw [W_call11_v4]; rfl)
theorem W_call11_c_1 : W V main_call11_c_1 = call11_c_1 (argsOf V) :=
  W_of_nullary (y := main_call11_c_1) (v := (constantI S1 32 80#32 : IVec S1 32)) V (mem_line3_1 (List.mem_of_getElem? (i := 5) rfl))
theorem W_call11_c_2 : W V main_call11_c_2 = call11_c_2 (argsOf V) :=
  W_of_nullary (y := main_call11_c_2) (v := (constantI S_ 32 0#32 : IVec S_ 32)) V (mem_line3_1 (List.mem_of_getElem? (i := 6) rfl))
theorem W_call11_v6 : W V main_call11_v6 = call11_v6 (argsOf V) := by
  have e := W_of_unary (x := main_call11_c_2) (y := main_call11_v6) (f := (fun (p : IVec S_ 32) => (broadcastInDim S16x8732x24x1 ![] bcast_S_S16x8732x24x1 p : IVec S16x8732x24x1 32))) V (mem_line3_1 (List.mem_of_getElem? (i := 7) rfl)) (by decide)
  exact e.trans (congrArg (fun (p : IVec S_ 32) => (broadcastInDim S16x8732x24x1 ![] bcast_S_S16x8732x24x1 p : IVec S16x8732x24x1 32)) (W_call11_c_2 V))
theorem W_call11_v7 : W V main_call11_v7 = call11_v7 (argsOf V) := by
  have e := W_of_binary (a := main_call11_v5) (b := main_call11_v6) (y := main_call11_v7) (f := (fun (p : IVec S16x8732x24x1 32) (q : IVec S16x8732x24x1 32) => (cmpi .sge p q : IVec S16x8732x24x1 1))) V (mem_line3_1 (List.mem_of_getElem? (i := 8) rfl)) (by decide) (by decide)
  exact e.trans (congrArg₂ (fun (p : IVec S16x8732x24x1 32) (q : IVec S16x8732x24x1 32) => (cmpi .sge p q : IVec S16x8732x24x1 1)) (W_call11_v5 V) (W_call11_v6 V))
theorem W_call11_v8 : W V main_call11_v8 = call11_v8 (argsOf V) := by
  have e := W_of_unary (x := main_call11_c_1) (y := main_call11_v8) (f := (fun (p : IVec S1 32) => (broadcastInDim S1x1x1x1 ![3] bcast_S1_S1x1x1x1_3 p : IVec S1x1x1x1 32))) V (mem_line3_1 (List.mem_of_getElem? (i := 9) rfl)) (by decide)
  exact e.trans (congrArg (fun (p : IVec S1 32) => (broadcastInDim S1x1x1x1 ![3] bcast_S1_S1x1x1x1_3 p : IVec S1x1x1x1 32)) (W_call11_c_1 V))
theorem W_call11_v9 : W V main_call11_v9 = call11_v9 (argsOf V) := by
  have e := W_of_unary (x := main_call11_v8) (y := main_call11_v9) (f := (fun (p : IVec S1x1x1x1 32) => (broadcastInDim S16x8732x24x1 ![0, 1, 2, 3] bcast_S1x1x1x1_S16x8732x24x1_0_1_2_3 p : IVec S16x8732x24x1 32))) V (mem_line3_1 (List.mem_of_getElem? (i := 10) rfl)) (by decide)
  exact e.trans (congrArg (fun (p : IVec S1x1x1x1 32) => (broadcastInDim S16x8732x24x1 ![0, 1, 2, 3] bcast_S1x1x1x1_S16x8732x24x1_0_1_2_3 p : IVec S16x8732x24x1 32)) (W_call11_v8 V))
theorem W_call11_v10 : W V main_call11_v10 = call11_v10 (argsOf V) := by
  have e := W_of_binary (a := main_call11_v5) (b := main_call11_v9) (y := main_call11_v10) (f := (fun (p : IVec S16x8732x24x1 32) (q : IVec S16x8732x24x1 32) => (cmpi .sle p q : IVec S16x8732x24x1 1))) V (mem_line3_1 (List.mem_of_getElem? (i := 11) rfl)) (by decide) (by decide)
  exact e.trans (congrArg₂ (fun (p : IVec S16x8732x24x1 32) (q : IVec S16x8732x24x1 32) => (cmpi .sle p q : IVec S16x8732x24x1 1)) (W_call11_v5 V) (W_call11_v9 V))
theorem W_call11_v11 : W V main_call11_v11 = call11_v11 (argsOf V) := by
  have e := W_of_binary (a := main_call11_v7) (b := main_call11_v10) (y := main_call11_v11) (f := (fun (p : IVec S16x8732x24x1 1) (q : IVec S16x8732x24x1 1) => (andi p q : IVec S16x8732x24x1 1))) V (mem_line3_1 (List.mem_of_getElem? (i := 12) rfl)) (by decide) (by decide)
  exact e.trans (congrArg₂ (fun (p : IVec S16x8732x24x1 1) (q : IVec S16x8732x24x1 1) => (andi p q : IVec S16x8732x24x1 1)) (W_call11_v7 V) (W_call11_v10 V))
theorem W_call11_c_3 : W V main_call11_c_3 = call11_c_3 (argsOf V) :=
  W_of_nullary (y := main_call11_c_3) (v := (constantI S_ 1 1#1 : IVec S_ 1)) V (mem_line3_1 (List.mem_of_getElem? (i := 13) rfl))
theorem W_call11_v12 : W V main_call11_v12 = call11_v12 (argsOf V) := by
  have e := W_of_binary (a := main_call11_v11) (b := main_call11_c_3) (y := main_call11_v12) (f := (fun (p : IVec S16x8732x24x1 1) (q : IVec S_ 1) => (Host.reduce IntOp.andi p q reducesTo_S16x8732x24x1_S16x8732x24_d3 h_S_ : IVec S16x8732x24 1))) V (mem_line3_1 (List.mem_of_getElem? (i := 14) rfl)) (by decide) (by decide)
  exact e.trans (congrArg₂ (fun (p : IVec S16x8732x24x1 1) (q : IVec S_ 1) => (Host.reduce IntOp.andi p q reducesTo_S16x8732x24x1_S16x8732x24_d3 h_S_ : IVec S16x8732x24 1)) (W_call11_v11 V) (W_call11_c_3 V))
theorem W_call11_v13 : W V main_call11_v13 = call11_v13 (argsOf V) := by
  have e := W_of_binary (a := main_arg1) (b := main_call11_v5) (y := main_call11_v13) (f := (fun (p : FVec Ideal S16x8732x81 .f32) (q : IVec S16x8732x24x1 32) => (Host.gather gather_S16x8732x81_S16x8732x24x1_S16x8732x24_n_2_01_01_2_3_111 p q : FVec Ideal S16x8732x24 .f32))) V (mem_line3_1 (List.mem_of_getElem? (i := 15) rfl)) (by decide) (by decide)
  exact e.trans (congrArg₂ (fun (p : FVec Ideal S16x8732x81 .f32) (q : IVec S16x8732x24x1 32) => (Host.gather gather_S16x8732x81_S16x8732x24x1_S16x8732x24_n_2_01_01_2_3_111 p q : FVec Ideal S16x8732x24 .f32)) (W_a1 V) (W_call11_v5 V))
theorem W_call11_cst : W V main_call11_cst = call11_cst (argsOf V) :=
  W_of_nullary (y := main_call11_cst) (v := (constant S_ .f32 0x7FC00000#32 : FVec Ideal S_ .f32)) V (mem_line3_1 (List.mem_of_getElem? (i := 16) rfl))
theorem W_call11_v14 : W V main_call11_v14 = call11_v14 (argsOf V) := by
  have e := W_of_unary (x := main_call11_cst) (y := main_call11_v14) (f := (fun (p : FVec Ideal S_ .f32) => (broadcastInDim S16x8732x24 ![] bcast_S_S16x8732x24 p : FVec Ideal S16x8732x24 .f32))) V (mem_line3_1 (List.mem_of_getElem? (i := 17) rfl)) (by decide)
  exact e.trans (congrArg (fun (p : FVec Ideal S_ .f32) => (broadcastInDim S16x8732x24 ![] bcast_S_S16x8732x24 p : FVec Ideal S16x8732x24 .f32)) (W_call11_cst V))
theorem W_v174 : W V main_v174 = v174 (argsOf V) := by
  have e := W_of_ternary (c := main_call11_v12) (a := main_call11_v13) (b := main_call11_v14) (y := main_v174) (f := (fun (p : IVec S16x8732x24 1) (q : FVec Ideal S16x8732x24 .f32) (r : FVec Ideal S16x8732x24 .f32) => (select p q r : FVec Ideal S16x8732x24 .f32))) V (mem_line3_1 (List.mem_of_getElem? (i := 18) rfl)) (by decide) (by decide) (by decide)
  exact e.trans (congr (congrArg₂ (fun (p : IVec S16x8732x24 1) (q : FVec Ideal S16x8732x24 .f32) (r : FVec Ideal S16x8732x24 .f32) => (select p q r : FVec Ideal S16x8732x24 .f32)) (W_call11_v12 V) (W_call11_v13 V)) (W_call11_v14 V))
theorem W_v175 : W V main_v175 = v175 (argsOf V) := by
  have e := W_of_unary (x := main_v171) (y := main_v175) (f := (fun (p : FVec Ideal S16x8732 .f32) => (broadcastInDim S16x8732x1 ![0, 1] bcast_S16x8732_S16x8732x1_0_1 p : FVec Ideal S16x8732x1 .f32))) V (mem_line3_1 (List.mem_of_getElem? (i := 19) rfl)) (by decide)
  exact e.trans (congrArg (fun (p : FVec Ideal S16x8732 .f32) => (broadcastInDim S16x8732x1 ![0, 1] bcast_S16x8732_S16x8732x1_0_1 p : FVec Ideal S16x8732x1 .f32)) (W_v171 V))
theorem W_v176 : W V main_v176 = v176 (argsOf V) := by
  have e := W_of_unary (x := main_v175) (y := main_v176) (f := (fun (p : FVec Ideal S16x8732x1 .f32) => (broadcastInDim S16x8732x24 ![0, 1, 2] bcast_S16x8732x1_S16x8732x24_0_1_2 p : FVec Ideal S16x8732x24 .f32))) V (mem_line3_1 (List.mem_of_getElem? (i := 20) rfl)) (by decide)
  exact e.trans (congrArg (fun (p : FVec Ideal S16x8732x1 .f32) => (broadcastInDim S16x8732x24 ![0, 1, 2] bcast_S16x8732x1_S16x8732x24_0_1_2 p : FVec Ideal S16x8732x24 .f32)) (W_v175 V))
theorem W_v177 : W V main_v177 = v177 (argsOf V) := by
  have e := W_of_binary (a := main_v176) (b := main_v174) (y := main_v177) (f := (fun (p : FVec Ideal S16x8732x24 .f32) (q : FVec Ideal S16x8732x24 .f32) => (subf p q : FVec Ideal S16x8732x24 .f32))) V (mem_line3_1 (List.mem_of_getElem? (i := 21) rfl)) (by decide) (by decide)
  exact e.trans (congrArg₂ (fun (p : FVec Ideal S16x8732x24 .f32) (q : FVec Ideal S16x8732x24 .f32) => (subf p q : FVec Ideal S16x8732x24 .f32)) (W_v176 V) (W_v174 V))
theorem W_v178 : W V main_v178 = v178 (argsOf V) := by
  have e := W_of_unary (x := main_arg1) (y := main_v178) (f := (fun (p : FVec Ideal S16x8732x81 .f32) => (extractStridedSlice S16x8732x1 ![0, 0, 0] p slices_S16x8732x81_S16x8732x1_0_0_0 : FVec Ideal S16x8732x1 .f32))) V (mem_line3_1 (List.mem_of_getElem? (i := 22) rfl)) (by decide)
  exact e.trans (congrArg (fun (p : FVec Ideal S16x8732x81 .f32) => (extractStridedSlice S16x8732x1 ![0, 0, 0] p slices_S16x8732x81_S16x8732x1_0_0_0 : FVec Ideal S16x8732x1 .f32)) (W_a1 V))
theorem W_v179 : W V main_v179 = v179 (argsOf V) :=
  (W_of_reshape (x := main_v178) (y := main_v179) V (mem_line3_1 (List.mem_of_getElem? (i := 23) rfl)) (by decide)).trans (by
    show shapeCast _ (W V main_v178) _ = _
    rw [W_v178]; rfl)
theorem W_v180 : W V main_v180 = v180 (argsOf V) := by
  have e := W_of_binary (a := main_v171) (b := main_v179) (y := main_v180) (f := (fun (p : FVec Ideal S16x8732 .f32) (q : FVec Ideal S16x8732 .f32) => (subf p q : FVec Ideal S16x8732 .f32))) V (mem_line3_1 (List.mem_of_getElem? (i := 24) rfl)) (by decide) (by decide)
  exact e.trans (congrArg₂ (fun (p : FVec Ideal S16x8732 .f32) (q : FVec Ideal S16x8732 .f32) => (subf p q : FVec Ideal S16x8732 .f32)) (W_v171 V) (W_v179 V))
theorem W_cst_30 : W V main_cst_30 = cst_30 (argsOf V) :=
  W_of_nullary (y := main_cst_30) (v := (constant S_ .f32 0x00000000#32 : FVec Ideal S_ .f32)) V (mem_line3_1 (List.mem_of_getElem? (i := 25) rfl))
theorem W_v181 : W V main_v181 = v181 (argsOf V) := by
  have e := W_of_binary (a := main_v108) (b := main_cst_30) (y := main_v181) (f := (fun (p : FVec Ideal S16x8732x24 .f32) (q : FVec Ideal S_ .f32) => (Host.reduceAdd p q reducesTo_S16x8732x24_S_d0_1_2 h_S_ : FVec Ideal S_ .f32))) V (mem_line3_1 (List.mem_of_getElem? (i := 26) rfl)) (by decide) (by decide)
  exact e.trans (congrArg₂ (fun (p : FVec Ideal S16x8732x24 .f32) (q : FVec Ideal S_ .f32) => (Host.reduceAdd p q reducesTo_S16x8732x24_S_d0_1_2 h_S_ : FVec Ideal S_ .f32)) (W_v108 V) (W_cst_30 V))
theorem W_cst_31 : W V main_cst_31 = cst_31 (argsOf V) :=
  W_of_nullary (y := main_cst_31) (v := (constant S_ .f32 0x00000000#32 : FVec Ideal S_ .f32)) V (mem_line3_1 (List.mem_of_getElem? (i := 27) rfl))
theorem W_v182 : W V main_v182 = v182 (argsOf V) := by
  have e := W_of_binary (a := main_v109) (b := main_cst_31) (y := main_v182) (f := (fun (p : FVec Ideal S16x8732 .f32) (q : FVec Ideal S_ .f32) => (Host.reduceAdd p q reducesTo_S16x8732_S_d0_1 h_S_ : FVec Ideal S_ .f32))) V (mem_line3_1 (List.mem_of_getElem? (i := 28) rfl)) (by decide) (by decide)
  exact e.trans (congrArg₂ (fun (p : FVec Ideal S16x8732 .f32) (q : FVec Ideal S_ .f32) => (Host.reduceAdd p q reducesTo_S16x8732_S_d0_1 h_S_ : FVec Ideal S_ .f32)) (W_v109 V) (W_cst_31 V))
theorem W_v183 : W V main_v183 = v183 (argsOf V) := by
  have e := W_of_binary (a := main_v181) (b := main_v182) (y := main_v183) (f := (fun (p : FVec Ideal S_ .f32) (q : FVec Ideal S_ .f32) => (addf p q : FVec Ideal S_ .f32))) V (mem_line3_1 (List.mem_of_getElem? (i := 29) rfl)) (by decide) (by decide)
  exact e.trans (congrArg₂ (fun (p : FVec Ideal S_ .f32) (q : FVec Ideal S_ .f32) => (addf p q : FVec Ideal S_ .f32)) (W_v181 V) (W_v182 V))
theorem W_cst_32 : W V main_cst_32 = cst_32 (argsOf V) :=
  W_of_nullary (y := main_cst_32) (v := (constant S_ .f32 0x3F800000#32 : FVec Ideal S_ .f32)) V (mem_line3_2 (List.mem_of_getElem? (i := 0) rfl))
theorem W_call12_v0 : W V main_call12_v0 = call12_v0 (argsOf V) := by
  have e := W_of_unary (x := main_cst_32) (y := main_call12_v0) (f := (fun (p : FVec Ideal S_ .f32) => (p : FVec Ideal S_ .f32))) V (mem_line3_2 (List.mem_of_getElem? (i := 1) rfl)) (by decide)
  exact e.trans (congrArg (fun (p : FVec Ideal S_ .f32) => (p : FVec Ideal S_ .f32)) (W_cst_32 V))
theorem W_v184 : W V main_v184 = v184 (argsOf V) := by
  have e := W_of_binary (a := main_call12_v0) (b := main_v183) (y := main_v184) (f := (fun (p : FVec Ideal S_ .f32) (q : FVec Ideal S_ .f32) => (maximumf p q : FVec Ideal S_ .f32))) V (mem_line3_2 (List.mem_of_getElem? (i := 2) rfl)) (by decide) (by decide)
  exact e.trans (congrArg₂ (fun (p : FVec Ideal S_ .f32) (q : FVec Ideal S_ .f32) => (maximumf p q : FVec Ideal S_ .f32)) (W_call12_v0 V) (W_v183 V))
theorem W_v185 : W V main_v185 = v185 (argsOf V) := by
  have e := W_of_binary (a := main_v177) (b := main_v108) (y := main_v185) (f := (fun (p : FVec Ideal S16x8732x24 .f32) (q : FVec Ideal S16x8732x24 .f32) => (mulf p q : FVec Ideal S16x8732x24 .f32))) V (mem_line3_2 (List.mem_of_getElem? (i := 3) rfl)) (by decide) (by decide)
  exact e.trans (congrArg₂ (fun (p : FVec Ideal S16x8732x24 .f32) (q : FVec Ideal S16x8732x24 .f32) => (mulf p q : FVec Ideal S16x8732x24 .f32)) (W_v177 V) (W_v108 V))
theorem W_cst_33 : W V main_cst_33 = cst_33 (argsOf V) :=
  W_of_nullary (y := main_cst_33) (v := (constant S_ .f32 0x00000000#32 : FVec Ideal S_ .f32)) V (mem_line3_2 (List.mem_of_getElem? (i := 4) rfl))
theorem W_v186 : W V main_v186 = v186 (argsOf V) := by
  have e := W_of_binary (a := main_v185) (b := main_cst_33) (y := main_v186) (f := (fun (p : FVec Ideal S16x8732x24 .f32) (q : FVec Ideal S_ .f32) => (Host.reduceAdd p q reducesTo_S16x8732x24_S_d0_1_2 h_S_ : FVec Ideal S_ .f32))) V (mem_line3_2 (List.mem_of_getElem? (i := 5) rfl)) (by decide) (by decide)
  exact e.trans (congrArg₂ (fun (p : FVec Ideal S16x8732x24 .f32) (q : FVec Ideal S_ .f32) => (Host.reduceAdd p q reducesTo_S16x8732x24_S_d0_1_2 h_S_ : FVec Ideal S_ .f32)) (W_v185 V) (W_cst_33 V))
theorem W_v187 : W V main_v187 = v187 (argsOf V) := by
  have e := W_of_binary (a := main_v180) (b := main_v109) (y := main_v187) (f := (fun (p : FVec Ideal S16x8732 .f32) (q : FVec Ideal S16x8732 .f32) => (mulf p q : FVec Ideal S16x8732 .f32))) V (mem_line3_2 (List.mem_of_getElem? (i := 6) rfl)) (by decide) (by decide)
  exact e.trans (congrArg₂ (fun (p : FVec Ideal S16x8732 .f32) (q : FVec Ideal S16x8732 .f32) => (mulf p q : FVec Ideal S16x8732 .f32)) (W_v180 V) (W_v109 V))
theorem W_cst_34 : W V main_cst_34 = cst_34 (argsOf V) :=
  W_of_nullary (y := main_cst_34) (v := (constant S_ .f32 0x00000000#32 : FVec Ideal S_ .f32)) V (mem_line3_2 (List.mem_of_getElem? (i := 7) rfl))
theorem W_v188 : W V main_v188 = v188 (argsOf V) := by
  have e := W_of_binary (a := main_v187) (b := main_cst_34) (y := main_v188) (f := (fun (p : FVec Ideal S16x8732 .f32) (q : FVec Ideal S_ .f32) => (Host.reduceAdd p q reducesTo_S16x8732_S_d0_1 h_S_ : FVec Ideal S_ .f32))) V (mem_line3_2 (List.mem_of_getElem? (i := 8) rfl)) (by decide) (by decide)
  exact e.trans (congrArg₂ (fun (p : FVec Ideal S16x8732 .f32) (q : FVec Ideal S_ .f32) => (Host.reduceAdd p q reducesTo_S16x8732_S_d0_1 h_S_ : FVec Ideal S_ .f32)) (W_v187 V) (W_cst_34 V))
theorem W_v189 : W V main_v189 = v189 (argsOf V) := by
  have e := W_of_binary (a := main_v186) (b := main_v188) (y := main_v189) (f := (fun (p : FVec Ideal S_ .f32) (q : FVec Ideal S_ .f32) => (addf p q : FVec Ideal S_ .f32))) V (mem_line3_2 (List.mem_of_getElem? (i := 9) rfl)) (by decide) (by decide)
  exact e.trans (congrArg₂ (fun (p : FVec Ideal S_ .f32) (q : FVec Ideal S_ .f32) => (addf p q : FVec Ideal S_ .f32)) (W_v186 V) (W_v188 V))
theorem W_v190 : W V main_v190 = v190 (argsOf V) := by
  have e := W_of_binary (a := main_v189) (b := main_v184) (y := main_v190) (f := (fun (p : FVec Ideal S_ .f32) (q : FVec Ideal S_ .f32) => (Host.divf p q : FVec Ideal S_ .f32))) V (mem_line3_2 (List.mem_of_getElem? (i := 10) rfl)) (by decide) (by decide)
  exact e.trans (congrArg₂ (fun (p : FVec Ideal S_ .f32) (q : FVec Ideal S_ .f32) => (Host.divf p q : FVec Ideal S_ .f32)) (W_v189 V) (W_v184 V))
theorem W_v191 : W V main_v191 = v191 (argsOf V) := by
  have e := W_of_binary (a := main_v163) (b := main_v190) (y := main_v191) (f := (fun (p : FVec Ideal S_ .f32) (q : FVec Ideal S_ .f32) => (addf p q : FVec Ideal S_ .f32))) V (mem_line3_2 (List.mem_of_getElem? (i := 11) rfl)) (by decide) (by decide)
  exact e.trans (congrArg₂ (fun (p : FVec Ideal S_ .f32) (q : FVec Ideal S_ .f32) => (addf p q : FVec Ideal S_ .f32)) (W_v163 V) (W_v190 V))
theorem W_v192 : W V main_v192 = v192 (argsOf V) := by
  have e := W_of_unary (x := main_v163) (y := main_v192) (f := (fun (p : FVec Ideal S_ .f32) => (broadcastInDim S1 ![] bcast_S_S1 p : FVec Ideal S1 .f32))) V (mem_line3_2 (List.mem_of_getElem? (i := 12) rfl)) (by decide)
  exact e.trans (congrArg (fun (p : FVec Ideal S_ .f32) => (broadcastInDim S1 ![] bcast_S_S1 p : FVec Ideal S1 .f32)) (W_v163 V))
theorem W_v193 : W V main_v193 = v193 (argsOf V) := by
  have e := W_of_unary (x := main_v190) (y := main_v193) (f := (fun (p : FVec Ideal S_ .f32) => (broadcastInDim S1 ![] bcast_S_S1 p : FVec Ideal S1 .f32))) V (mem_line3_2 (List.mem_of_getElem? (i := 13) rfl)) (by decide)
  exact e.trans (congrArg (fun (p : FVec Ideal S_ .f32) => (broadcastInDim S1 ![] bcast_S_S1 p : FVec Ideal S1 .f32)) (W_v190 V))
theorem W_v194 : W V main_v194 = v194 (argsOf V) := by
  have e := W_of_unary (x := main_v191) (y := main_v194) (f := (fun (p : FVec Ideal S_ .f32) => (broadcastInDim S1 ![] bcast_S_S1 p : FVec Ideal S1 .f32))) V (mem_line3_2 (List.mem_of_getElem? (i := 14) rfl)) (by decide)
  exact e.trans (congrArg (fun (p : FVec Ideal S_ .f32) => (broadcastInDim S1 ![] bcast_S_S1 p : FVec Ideal S1 .f32)) (W_v191 V))
theorem W_v195 : W V main_v195 = v195 (argsOf V) :=
  (W_of_nary V (mem_line3_2 (List.mem_of_getElem? (i := 15) rfl)) (by decide)).trans (by
    show join_v195 (W V main_v192) (W V main_v193) (W V main_v194) = _
    rw [W_v192, W_v193, W_v194]; rfl)

end Cert.ReferenceIdeal.Hand

end
-- ==== Proof.ReferenceIdeal.Match.lean ====
/- The reference's matches, read at an index: the overlaps, each object's best anchor, and the matched pairs. -/
module

public import proofs.«01_k».proof.Proof.ReferenceIdeal.Values
public import proofs.«01_k».proof.Proof.Loss.Words
public import Idealize.ShloMosaic.Lib.Pointwise
public import Idealize.ShloMosaic.Lib.Routing.OpsSet
public import Idealize.ShloMosaic.Lib.Routing.OpsPair
public import Idealize.ShloMosaic.Lib.Routing.OpsOrder

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

/-- The arguments as functions of their indices. -/
def inpR (x : Args) : In where
  q b a j := x.a0 (ix3 b a j)
  l b a k := x.a1 (ix3 b a k)
  t b o j := x.a2 (ix3 b o j)
  p a j := x.a3 (ix2 a j)
  g b o := x.a4 (ix2 b o)

variable (x : Args)

theorem v20_apply (b : Fin 16) (o : Fin 24) (a : Fin 8732) :
    v20 x (ix3 b o a) = wid ((inpR x).t b o) ((inpR x).p a) * hei ((inpR x).t b o) ((inpR x).p a) := by
  pointwise [v20, v19, v18, v17, v16, v15, call0_v1, call0_v0, cst, v14, v13, v12, v11, v10, v9, v8, v7, v6, v5, v4, v3, v2, v1, v0]
  rfl

theorem v31_apply (b : Fin 16) (o : Fin 24) : v31 x (ix2 b o) = area ((inpR x).t b o) := by
  pointwise [v31, v30, v29, v28, v27, v26, v25, v24, v23, v22, v21]
  rfl

theorem v42_apply (a : Fin 8732) : v42 x (ix1 a) = area ((inpR x).p a) := by
  pointwise [v42, v41, v40, v39, v38, v37, v36, v35, v34, v33, v32]
  rfl

theorem v50_apply (b : Fin 16) (o : Fin 24) (a : Fin 8732) : v50 x (ix3 b o a) = iou ((inpR x).t b o) ((inpR x).p a) := by
  have h1 := v31_apply x b o
  have h2 := v42_apply x a
  have h3 := v20_apply x b o a
  pointwise [v50, v49, v48, v47, v46, v45, v44, v43, call1_v1, call1_v0, cst_0, v31_apply, v42_apply, v20_apply]
  rfl

theorem v52_apply (b : Fin 16) (o : Fin 24) (a : Fin 8732) :
    v52 x (ix3 b o a) = 1#1 ↔ lit 0x3EB33333#32 < iou ((inpR x).t b o) ((inpR x).p a) := by
  pointwise [v52, v51, cst_1, v50_apply]
  rw [ofBool_one, decide_eq_true_iff]

/-- What a left fold of the argument-of-the-maximum body keeps: a pair of the list or the start, which none beats. -/
theorem argmax_fold (l : List (EReal × BitVec 32)) (s : EReal × BitVec 32) :
    (l.foldl (reducer_argmax_f32_i32 (F := Ideal)) s = s ∨ l.foldl (reducer_argmax_f32_i32 (F := Ideal)) s ∈ l)
    ∧ ∀ p, p = s ∨ p ∈ l → p.1 < (l.foldl (reducer_argmax_f32_i32 (F := Ideal)) s).1
        ∨ (p.1 = (l.foldl (reducer_argmax_f32_i32 (F := Ideal)) s).1 ∧ (l.foldl (reducer_argmax_f32_i32 (F := Ideal)) s).2.toInt ≤ p.2.toInt) := by
  have step : ∀ a b : EReal × BitVec 32, (reducer_argmax_f32_i32 (F := Ideal) a b = a ∧ (b.1 < a.1 ∨ (b.1 = a.1 ∧ a.2.toInt ≤ b.2.toInt)))
      ∨ (reducer_argmax_f32_i32 (F := Ideal) a b = b ∧ (a.1 < b.1 ∨ (a.1 = b.1 ∧ b.2.toInt ≤ a.2.toInt))) := by
    intro a b
    obtain ⟨a1, a2⟩ := a
    obtain ⟨b1, b2⟩ := b
    have e : reducer_argmax_f32_i32 (F := Ideal) (a1, a2) (b1, b2)
        = (if b1 < a1 then a1 else b1, if b1 < a1 ∨ (a1 = b1 ∧ a2.toInt < b2.toInt) then a2 else b2) := by
      pointwise [reducer_argmax_f32_i32]
      have hs : IntOp.cmpi .slt a2 b2 = BitVec.ofBool (decide (a2.toInt < b2.toInt)) := rfl
      rw [hs]
      by_cases h1 : b1 < a1 <;> by_cases h2 : a1 = b1 <;> by_cases h3 : a2.toInt < b2.toInt <;>
        simp [h1, h2, h3, IntOp.ori, IntOp.andi, Scalar.select]
    rw [e]
    rcases lt_trichotomy b1 a1 with h | h | h
    · left; rw [if_pos h, if_pos (Or.inl h)]; exact ⟨rfl, Or.inl h⟩
    · subst h
      by_cases h2 : a2.toInt < b2.toInt
      · left; rw [if_neg (lt_irrefl _), if_pos (Or.inr ⟨rfl, h2⟩)]; exact ⟨rfl, Or.inr ⟨rfl, h2.le⟩⟩
      · right; rw [if_neg (lt_irrefl _), if_neg (by rintro (h | h); exacts [lt_irrefl _ h, h2 h.2])]; exact ⟨rfl, Or.inr ⟨rfl, not_lt.1 h2⟩⟩
    · right
      rw [if_neg h.not_gt, if_neg (by rintro (h' | h'); exacts [h.not_gt h', h.ne h'.1])]
      exact ⟨rfl, Or.inl h⟩
  have tr : ∀ p q r : EReal × BitVec 32, (p.1 < q.1 ∨ (p.1 = q.1 ∧ q.2.toInt ≤ p.2.toInt)) → (q.1 < r.1 ∨ (q.1 = r.1 ∧ r.2.toInt ≤ q.2.toInt))
      → (p.1 < r.1 ∨ (p.1 = r.1 ∧ r.2.toInt ≤ p.2.toInt)) := by
    rintro p q r (h | ⟨h, h'⟩) (g | ⟨g, g'⟩)
    · exact Or.inl (h.trans g)
    · exact Or.inl (g ▸ h)
    · exact Or.inl (h ▸ g)
    · exact Or.inr ⟨h.trans g, g'.trans h'⟩
  induction l generalizing s with
  | nil => exact ⟨Or.inl rfl, by rintro p (h | h); exacts [Or.inr ⟨congrArg _ h, h ▸ le_rfl⟩, (List.not_mem_nil h).elim]⟩
  | cons b l ih =>
    rw [List.foldl_cons]
    obtain ⟨h1, h2⟩ := ih (reducer_argmax_f32_i32 (F := Ideal) s b)
    rcases step s b with ⟨e, hb⟩ | ⟨e, hs⟩
    · rw [e] at h1 h2 ⊢
      refine ⟨h1.imp id (List.mem_cons_of_mem _), ?_⟩
      rintro p (h | h)
      · exact h2 p (Or.inl h)
      · rcases List.mem_cons.1 h with h | h
        · subst h; exact tr _ _ _ hb (h2 s (Or.inl rfl))
        · exact h2 p (Or.inr h)
    · rw [e] at h1 h2 ⊢
      refine ⟨Or.inr ?_, ?_⟩
      · rcases h1 with h | h
        · rw [h]; exact List.mem_cons_self
        · exact List.mem_cons_of_mem _ h
      · rintro p (h | h)
        · subst h; exact tr _ _ _ hs (h2 b (Or.inl rfl))
        · rcases List.mem_cons.1 h with h | h
          · exact h2 p (Or.inl h)
          · exact h2 p (Or.inr h)

end Cert.ReferenceIdeal.Hand

end
-- ==== Proof.ReferenceIdeal.Best.lean ====
/- The reference's best anchor of each object. -/
module

public import proofs.«01_k».proof.Proof.ReferenceIdeal.Match

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args)

theorem idx3_eq (i : S16x24x8732.Idx) : i = ix3 (i 0) (i 1) (i 2) := by funext w; fin_cases w <;> rfl

theorem drop2 (h : S16x24x8732.ReducesTo [2] S16x24) (b : Fin 16) (o : Fin 24) (i : S16x24x8732.Idx) :
    h.drop i = ix2 b o ↔ ∃ a, i = ix3 b o a := by
  have e0 : (h.drop i 0).val = (i 0).val := h.drop_apply_val_of_eq i 0 0 (by decide)
  have e1 : (h.drop i 1).val = (i 1).val := h.drop_apply_val_of_eq i 1 1 (by decide)
  constructor
  · intro e
    refine ⟨i 2, ?_⟩
    rw [e] at e0 e1
    have f0 : i 0 = b := Fin.ext e0.symm
    have f1 : i 1 = o := Fin.ext e1.symm
    rw [← f0, ← f1]
    exact idx3_eq i
  · rintro ⟨a, rfl⟩
    funext w
    refine Fin.ext ?_
    fin_cases w
    · exact e0
    · exact e1

theorem small (a : Fin 8732) : (BitVec.ofNat 32 a.val).toInt = a.val :=
  StableHlo.Predicate.toInt_ofNat_small _ (by have := a.isLt; omega)

/-- Over the pairs of a function's values and their places, the fold keeps the first place of the greatest value. -/
theorem best_of_fold (f : Fin 8732 → EReal) (l : List (EReal × BitVec 32)) (hmem : ∀ p, p ∈ l ↔ ∃ a : Fin 8732, p = (f a, BitVec.ofNat 32 a.val)) :
    ∃ a : Fin 8732, Best f a ∧ (l.foldl (reducer_argmax_f32_i32 (F := Ideal)) (⊥, 0#32)).2 = BitVec.ofNat 32 a.val := by
  obtain ⟨h1, h2⟩ := argmax_fold l (⊥, 0#32)
  generalize l.foldl (reducer_argmax_f32_i32 (F := Ideal)) (⊥, 0#32) = r at h1 h2
  have h2' : ∀ a : Fin 8732, f a < r.1 ∨ (f a = r.1 ∧ r.2.toInt ≤ a.val) := fun a => by
    have := h2 _ (Or.inr ((hmem _).2 ⟨a, rfl⟩))
    rwa [small] at this
  rcases h1 with h | h
  · refine ⟨⟨0, by norm_num⟩, ?_, by rw [h]⟩
    have hb : ∀ a : Fin 8732, f a = ⊥ := fun a => by
      rcases h2' a with g | g
      · rw [h] at g; exact absurd g not_lt_bot
      · rw [g.1, h]
    exact ⟨fun j => by rw [hb, hb], fun j _ => Fin.mk_le_of_le_val (Nat.zero_le _)⟩
  · obtain ⟨a, ha⟩ := (hmem _).1 h
    refine ⟨a, ⟨fun j => ?_, fun j hj => ?_⟩, by rw [ha]⟩
    · rcases h2' j with g | g
      · rw [ha] at g; exact g.le
      · rw [ha] at g; exact g.1.le
    · rcases h2' j with g | g
      · rw [ha] at g; exact absurd hj g.ne
      · have := g.2
        rw [ha, small] at this
        exact Fin.le_def.2 (by exact_mod_cast this)

theorem start_pair : ((call2_cst x (Shape.Idx.first h_S_) : EReal), call2_c x (Shape.Idx.first h_S_)) = ((⊥ : EReal), 0#32) :=
  Prod.ext lit_bot rfl

/-- The pairs the argument-of-the-maximum runs over. -/
def fib (j : S16x24.Idx) : List (EReal × BitVec 32) :=
  Host.argReduceFiber (v50 x) (call2_v0 x) reducesTo_S16x24x8732_S16x24_d2 j

theorem v53_red : v53 x = fun j => (Host.argReduce (reducer_argmax_f32_i32 (F := Ideal)) (v50 x) (call2_v0 x) (call2_cst x) (call2_c x)
    reducesTo_S16x24x8732_S16x24_d2 h_S_ j).2 := by
  delta v53
  with_reducible rfl

theorem red_fold : Host.argReduce (reducer_argmax_f32_i32 (F := Ideal)) (v50 x) (call2_v0 x) (call2_cst x) (call2_c x)
      reducesTo_S16x24x8732_S16x24_d2 h_S_
    = fun j => (fib x j).foldl (reducer_argmax_f32_i32 (F := Ideal)) (⊥, 0#32) := by
  rw [Ideal.argReduce_eq_reduce2]
  funext j
  rw [Host.reduce2_eq_foldl_fiber, start_pair]
  rfl

theorem best_of (v : S16x24.Idx → BitVec 32) (G : S16x24.Idx → EReal × BitVec 32) (l : S16x24.Idx → List (EReal × BitVec 32))
    (hv : v = fun j => (G j).2) (hG : G = fun j => (l j).foldl (reducer_argmax_f32_i32 (F := Ideal)) (⊥, 0#32)) (j : S16x24.Idx)
    (f : Fin 8732 → EReal) (hmem : ∀ p, p ∈ l j ↔ ∃ a : Fin 8732, p = (f a, BitVec.ofNat 32 a.val)) :
    ∃ a : Fin 8732, Best f a ∧ v j = BitVec.ofNat 32 a.val := by
  rw [hv, hG]
  exact best_of_fold f (l j) hmem

theorem fiber_mem (b : Fin 16) (o : Fin 24) (p : EReal × BitVec 32) :
    p ∈ fib x (ix2 b o)
      ↔ ∃ a : Fin 8732, p = (iou ((inpR x).t b o) ((inpR x).p a), BitVec.ofNat 32 a.val) := by
  unfold fib Host.argReduceFiber
  simp only [List.mem_map, List.mem_filter, List.mem_finRange, true_and, decide_eq_true_iff, drop2]
  constructor
  · rintro ⟨n, ⟨a, ha⟩, rfl⟩
    refine ⟨a, ?_⟩
    rw [ha, v50_apply]
    rfl
  · rintro ⟨a, rfl⟩
    refine ⟨S16x24x8732.rowMajor (ix3 b o a), ⟨a, by rw [Equiv.symm_apply_apply]⟩, ?_⟩
    rw [Equiv.symm_apply_apply, v50_apply]
    rfl

theorem v53_best (b : Fin 16) (o : Fin 24) :
    ∃ a : Fin 8732, Best (fun j => iou ((inpR x).t b o) ((inpR x).p j)) a ∧ v53 x (ix2 b o) = BitVec.ofNat 32 a.val :=
  best_of (v53 x) (Host.argReduce (reducer_argmax_f32_i32 (F := Ideal)) (v50 x) (call2_v0 x) (call2_cst x) (call2_c x)
    reducesTo_S16x24x8732_S16x24_d2 h_S_) (fib x) (v53_red x) (red_fold x) (ix2 b o) (fun j => iou ((inpR x).t b o) ((inpR x).p j)) (fiber_mem x b o)

end Cert.ReferenceIdeal.Hand

end
-- ==== Proof.ReferenceIdeal.Index.lean ====
/- The reference's scatter: its index words and the matched pairs. -/
module

public import proofs.«01_k».proof.Proof.ReferenceIdeal.Best

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args)

theorem best_unique {n : ℕ} {f : Fin n → EReal} {a c : Fin n} (ha : Best f a) (hc : Best f c) : a = c :=
  le_antisymm (ha.2 c (le_antisymm (ha.1 c) (hc.1 a))) (hc.2 a (le_antisymm (hc.1 a) (ha.1 c)))

/-- The index words of the object `(b, o)`. -/
theorem v78_apply (b : Fin 16) (o : Fin 24) :
    v78 x (ix3 b o 0) = BitVec.ofNat 32 b.val ∧ v78 x (ix3 b o 1) = BitVec.ofNat 32 o.val ∧ v78 x (ix3 b o 2) = v53 x (ix2 b o) := by
  obtain ⟨a, -, ha⟩ := v53_best x b o
  have w1 : v62 x (ix2 b 0) = BitVec.ofNat 32 b.val := by
    have : v62 x (ix2 b 0) = Scalar.select (IntOp.cmpi .slt (BitVec.ofNat 32 b.val) 0#32) (v61 x (ix2 b 0)) (BitVec.ofNat 32 b.val) := rfl
    rw [this]
    exact Routing.wrap_of_lt _ _ (by rw [BitVec.toNat_ofNat]; have := b.isLt; omega)
  have w2 : v67 x (ix2 0 o) = BitVec.ofNat 32 o.val := by
    have : v67 x (ix2 0 o) = Scalar.select (IntOp.cmpi .slt (BitVec.ofNat 32 o.val) 0#32) (v66 x (ix2 0 o)) (BitVec.ofNat 32 o.val) := rfl
    rw [this]
    exact Routing.wrap_of_lt _ _ (by rw [BitVec.toNat_ofNat]; have := o.isLt; omega)
  have w3 : v72 x (ix2 b o) = v53 x (ix2 b o) := by
    have : v72 x (ix2 b o) = Scalar.select (IntOp.cmpi .slt (v53 x (ix2 b o)) 0#32) (v71 x (ix2 b o)) (v53 x (ix2 b o)) := rfl
    rw [this, ha]
    exact Routing.wrap_of_lt _ _ (by rw [BitVec.toNat_ofNat]; have := a.isLt; omega)
  refine ⟨?_, ?_, ?_⟩
  · have : v78 x (ix3 b o 0) = v62 x (ix2 b 0) := by pointwise [v78, v75, v73]
    rw [this, w1]
  · have : v78 x (ix3 b o 1) = v67 x (ix2 0 o) := by pointwise [v78, v76, v74]
    rw [this, w2]
  · have : v78 x (ix3 b o 2) = v72 x (ix2 b o) := by pointwise [v78, v77]
    rw [this, w3]

/-- Update `(b, o)` lands at the cell its three index words name. -/
theorem lands (idx : IVec S16x24x3 32) (b : Fin 16) (o : Fin 24) (ι : S16x24x8732.Idx) :
    scatter_S16x24x8732_S16x24x3_S16x24_n_012_012_2.resultIdx? (ix2 b o) idx = some ι
      ↔ (idx (ix3 b o 0)).toInt = (ι 0).val ∧ (idx (ix3 b o 1)).toInt = (ι 1).val ∧ (idx (ix3 b o 2)).toInt = (ι 2).val := by
  rw [Routing.resultIdx?_eq_some]
  have h0 : scatter_S16x24x8732_S16x24x3_S16x24_n_012_012_2.start (ix2 b o) idx 0 + (scatter_S16x24x8732_S16x24x3_S16x24_n_012_012_2.window (ix2 b o) 0 : Int)
      = (idx (ix3 b o 0)).toInt := by
    have e : scatter_S16x24x8732_S16x24x3_S16x24_n_012_012_2.start (ix2 b o) idx 0 = (idx (ix3 b o 0)).toInt := by
      refine congrArg (fun i => (idx i).toInt) ?_
      funext w; fin_cases w <;> rfl
    rw [e, show scatter_S16x24x8732_S16x24x3_S16x24_n_012_012_2.window (ix2 b o) 0 = 0 from rfl]
    exact add_zero _
  have h1 : scatter_S16x24x8732_S16x24x3_S16x24_n_012_012_2.start (ix2 b o) idx 1 + (scatter_S16x24x8732_S16x24x3_S16x24_n_012_012_2.window (ix2 b o) 1 : Int)
      = (idx (ix3 b o 1)).toInt := by
    have e : scatter_S16x24x8732_S16x24x3_S16x24_n_012_012_2.start (ix2 b o) idx 1 = (idx (ix3 b o 1)).toInt := by
      refine congrArg (fun i => (idx i).toInt) ?_
      funext w; fin_cases w <;> rfl
    rw [e, show scatter_S16x24x8732_S16x24x3_S16x24_n_012_012_2.window (ix2 b o) 1 = 0 from rfl]
    exact add_zero _
  have h2 : scatter_S16x24x8732_S16x24x3_S16x24_n_012_012_2.start (ix2 b o) idx 2 + (scatter_S16x24x8732_S16x24x3_S16x24_n_012_012_2.window (ix2 b o) 2 : Int)
      = (idx (ix3 b o 2)).toInt := by
    have e : scatter_S16x24x8732_S16x24x3_S16x24_n_012_012_2.start (ix2 b o) idx 2 = (idx (ix3 b o 2)).toInt := by
      refine congrArg (fun i => (idx i).toInt) ?_
      funext w; fin_cases w <;> rfl
    rw [e, show scatter_S16x24x8732_S16x24x3_S16x24_n_012_012_2.window (ix2 b o) 2 = 0 from rfl]
    exact add_zero _
  constructor
  · intro h
    exact ⟨h0.symm.trans (h 0), h1.symm.trans (h 1), h2.symm.trans (h 2)⟩
  · rintro ⟨g0, g1, g2⟩ a
    match a with
    | ⟨0, _⟩ => exact h0.trans g0
    | ⟨1, _⟩ => exact h1.trans g1
    | ⟨2, _⟩ => exact h2.trans g2

theorem idx2_eq (i : S16x24.Idx) : ∃ (b : Fin 16) (o : Fin 24), i = ix2 b o := ⟨i 0, i 1, by funext w; fin_cases w <;> rfl⟩

/-- The matched pairs: the overlap passes the threshold, or the anchor is the object's best. -/
theorem v80_apply (b : Fin 16) (o : Fin 24) (a : Fin 8732) :
    v80 x (ix3 b o a) = 1#1 ↔ Pos ((inpR x).t b o) (inpR x).p a := by
  have hv : v80 x = Host.scatter scatter_S16x24x8732_S16x24x3_S16x24_n_012_012_2 (fun _ b => b) (v52 x) (v78 x) (v79 x) := by
    delta v80; with_reducible rfl
  have h79 : ∀ k, v79 x k = 1#1 := fun _ => rfl
  have hl : ∀ k : S16x24.Idx, scatter_S16x24x8732_S16x24x3_S16x24_n_012_012_2.resultIdx? k (v78 x) = some (ix3 b o a)
      ↔ k = ix2 b o ∧ Best (fun j => iou ((inpR x).t b o) ((inpR x).p j)) a := by
    intro k
    obtain ⟨b', o', rfl⟩ := idx2_eq k
    rw [lands]
    obtain ⟨e0, e1, e2⟩ := v78_apply x b' o'
    obtain ⟨c, hc, hcv⟩ := v53_best x b' o'
    rw [e0, e1, e2, hcv, small, StableHlo.Predicate.toInt_ofNat_small _ (by have := b'.isLt; omega),
      StableHlo.Predicate.toInt_ofNat_small _ (by have := o'.isLt; omega)]
    constructor
    · rintro ⟨g0, g1, g2⟩
      have f0 : b' = b := Fin.ext (by exact_mod_cast g0)
      have f1 : o' = o := Fin.ext (by exact_mod_cast g1)
      have f2 : c = a := Fin.ext (by exact_mod_cast g2)
      rw [f0, f1, f2] at hc
      exact ⟨by rw [f0, f1], hc⟩
    · rintro ⟨g, hb⟩
      have f0 : b' = b := congrFun g 0
      have f1 : o' = o := congrFun g 1
      subst f0 f1
      rw [best_unique hc hb]
      exact ⟨rfl, rfl, rfl⟩
  rw [hv]
  unfold Pos
  by_cases hb : Best (fun j => iou ((inpR x).t b o) ((inpR x).p j)) a
  · rw [Routing.scatter_set_hit _ _ _ _ _ (1#1) (fun k _ => h79 k) (ix2 b o) ((hl _).2 ⟨rfl, hb⟩)]
    exact ⟨fun _ => Or.inr hb, fun _ => rfl⟩
  · rw [Routing.scatter_set_miss _ _ _ _ _ (fun k h => hb ((hl k).1 h).2), v52_apply]
    exact ⟨Or.inl, fun h => h.resolve_right hb⟩

theorem v81_apply (b : Fin 16) (a : Fin 8732) (o : Fin 24) :
    v81 x (ix3 b a o) = 1#1 ↔ Pos ((inpR x).t b o) (inpR x).p a := by
  have : v81 x (ix3 b a o) = v80 x (ix3 b o a) := by pointwise [v81]
  rw [this, v80_apply]

theorem v108_apply (b : Fin 16) (a : Fin 8732) (o : Fin 24) :
    v108 x (ix3 b a o) = posf ((inpR x).t b o) (inpR x).p a := by
  have : v108 x (ix3 b a o) = FloatOps.uitofp .f32 (v81 x (ix3 b a o)) := rfl
  rw [this, uitofp_bit]
  exact if_congr (v81_apply x b a o) rfl rfl

theorem v82_apply (b : Fin 16) (a : Fin 8732) :
    v82 x (ix2 b a) = 1#1 ↔ Any ((inpR x).t b) (inpR x).p a := by
  have : v82 x (ix2 b a) = Finset.univ.fold IntOp.ori (0#1) (fun o => v81 x (ix3 b a o)) := by
    pointwise [v82, c_8]
  rw [this, Routing.fold_ori]
  constructor
  · rintro ⟨o, -, h⟩; exact ⟨o, (v81_apply x b a o).1 h⟩
  · rintro ⟨o, h⟩; exact ⟨o, Finset.mem_univ _, (v81_apply x b a o).2 h⟩

end Cert.ReferenceIdeal.Hand

end
-- ==== Proof.Loss.Boxes.lean ====
/- The box offsets written two ways agree where the priors lie in the unit square. -/
module

public import proofs.«01_k».proof.Proof.Loss.Words

@[expose] public section

noncomputable section

namespace Cert.Loss

open Idealize.ShloMosaic
open scoped Classical

/-- A center coordinate's offset: the difference of the centers over the scaled prior width. -/
def rc (q t0 t1 p0 p1 : EReal) : EReal :=
  q - Ideal.div (Ideal.div (t0 + t1) (lit 0x40000000#32) - Ideal.div (p0 + p1) (lit 0x40000000#32))
    (max (lit 0x358637BD#32) (p1 - p0) * lit 0x3DCCCCCD#32)

/-- A size's offset: the scaled logarithm of the ratio of the widths. -/
def rs (q t0 t1 p0 p1 : EReal) : EReal :=
  q - Ideal.div (Ideal.log (max (lit 0x358637BD#32) (Ideal.div (max (lit 0x358637BD#32) (t1 - t0)) (max (lit 0x358637BD#32) (p1 - p0)))))
    (lit 0x3E4CCCCD#32)

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.2 h)]

theorem add_sub_real (q : EReal) (x y z : ℝ) (h : z = y - x) : q + (x : EReal) - (y : EReal) = q - (z : EReal) := by
  subst h
  induction q using EReal.rec with
  | bot => simp [sub_eq_add_neg]
  | top => simp [sub_eq_add_neg, ← EReal.coe_neg, ← EReal.coe_add]
  | coe r => rw [← EReal.coe_add, ← EReal.coe_sub, ← EReal.coe_sub]; congr 1; ring

theorem top_div (y : ℝ) (h : 0 < y) : Ideal.div ⊤ (y : EReal) = ⊤ := by
  rw [Ideal.div_coe h.ne', EReal.top_mul_coe_of_pos (by positivity)]

theorem bot_div (y : ℝ) (h : 0 < y) : Ideal.div ⊥ (y : EReal) = ⊥ := by
  rw [Ideal.div_coe h.ne', EReal.bot_mul_coe_of_pos (by positivity)]

theorem add_real_sub_top (q : EReal) (x : ℝ) : q + (x : EReal) - ⊤ = q - ⊤ := by
  rw [sub_eq_add_neg, sub_eq_add_neg, EReal.neg_top, EReal.add_bot, EReal.add_bot]

theorem add_real_sub_bot (q : EReal) (x : ℝ) : q + (x : EReal) - ⊥ = q - ⊥ := by
  rw [sub_eq_add_neg, sub_eq_add_neg, EReal.neg_bot]
  induction q using EReal.rec with
  | bot => simp
  | top => simp
  | coe r => rw [← EReal.coe_add, EReal.coe_add_top, EReal.coe_add_top]

theorem rc_eq (q t0 t1 : EReal) (p0 p1 : ℝ) : rc q t0 t1 p0 p1 = dc q t0 t1 p0 p1 := by
  have hw : 0 < max (8796093 / 8796093022208 : ℝ) (p1 - p0) := lt_max_of_lt_left (by norm_num)
  unfold rc dc rinv
  rw [lit_eps, lit_tenth, lit_2, lit_half]
  rw [← EReal.coe_sub p1 p0, coe_max, ← EReal.coe_mul, ← EReal.coe_add p0 p1]
  generalize max (8796093 / 8796093022208 : ℝ) (p1 - p0) = w at hw
  have hu : 0 < w * (13421773 / 134217728) := by positivity
  have hi : 0 < 1 / (w * (13421773 / 134217728)) := by positivity
  rw [div_real _ two_ne_zero, ← EReal.coe_one, div_real _ hu.ne', ← EReal.coe_mul, ← EReal.coe_mul]
  generalize t0 + t1 = s
  induction s using EReal.rec with
  | bot =>
    rw [bot_div _ two_pos, EReal.bot_sub, bot_div _ hu, EReal.bot_mul_coe_of_pos (by norm_num), EReal.bot_mul_coe_of_pos hi, add_real_sub_bot]
  | top =>
    rw [top_div _ two_pos, EReal.top_sub_coe, top_div _ hu, EReal.top_mul_coe_of_pos (by norm_num), EReal.top_mul_coe_of_pos hi, add_real_sub_top]
  | coe s =>
    rw [div_real _ two_ne_zero, ← EReal.coe_sub, div_real _ hu.ne', ← EReal.coe_mul, ← EReal.coe_mul]
    refine (add_sub_real q _ _ _ ?_).symm
    field_simp

theorem rs_eq (q t0 t1 : EReal) (p0 p1 : ℝ) (h0 : 0 ≤ p0) (h1 : p1 ≤ 1) : rs q t0 t1 p0 p1 = ds q t0 t1 p0 p1 := by
  have hw : 0 < max (8796093 / 8796093022208 : ℝ) (p1 - p0) := lt_max_of_lt_left (by norm_num)
  have hw1 : max (8796093 / 8796093022208 : ℝ) (p1 - p0) ≤ 1 := max_le (by norm_num) (by linarith)
  unfold rs ds kap
  rw [lit_eps, lit_fifth]
  rw [← EReal.coe_sub p1 p0, coe_max]
  have ht : (∃ v : ℝ, max ((8796093 / 8796093022208 : ℝ) : EReal) (t1 - t0) = v ∧ (8796093 / 8796093022208 : ℝ) ≤ v)
      ∨ max ((8796093 / 8796093022208 : ℝ) : EReal) (t1 - t0) = ⊤ := by
    generalize t1 - t0 = d
    induction d using EReal.rec with
    | bot => exact Or.inl ⟨_, max_eq_left bot_le, le_rfl⟩
    | top => exact Or.inr (max_eq_right le_top)
    | coe d => exact Or.inl ⟨_, coe_max _ _, le_max_left _ _⟩
  generalize max (8796093 / 8796093022208 : ℝ) (p1 - p0) = w at hw hw1
  rcases ht with ⟨v, e, ht⟩ | e
  · have hv : 0 < v := lt_of_lt_of_le (by norm_num) ht
    rw [e, div_real _ hw.ne', coe_max, max_eq_right, log_real (div_pos hv hw), log_real hv, log_real hw, div_real _ (by norm_num),
      ← EReal.coe_mul, ← EReal.coe_mul]
    · refine (add_sub_real q _ _ _ ?_).symm
      rw [Real.log_div hv.ne' hw.ne']
      field_simp
    · rw [le_div_iff₀ hw]
      nlinarith
  · rw [e, top_div _ hw, max_eq_right le_top, log_real hw, Ideal.log_top, top_div _ (by norm_num),
      EReal.top_mul_coe_of_pos (by norm_num), ← EReal.coe_mul, add_real_sub_top]

theorem posf_cases (t : Box) (p : Fin 8732 → Box) (a : Fin 8732) : posf t p a = 0 ∨ posf t p a = 1 := by
  unfold posf; split_ifs; exacts [Or.inr rfl, Or.inl rfl]

/-- The four smooth-L1 losses of a pair, masked one by one. -/
theorem box4_posf (q t p : Box) (t' : Box) (p' : Fin 8732 → Box) (a : Fin 8732)
    (hp : ∀ j, ∃ r : ℝ, p j = r ∧ 0 ≤ r ∧ r ≤ 1) :
    box4 q t p * posf t' p' a = sl1 (rc (q 0) (t 0) (t 2) (p 0) (p 2)) * posf t' p' a + sl1 (rc (q 1) (t 1) (t 3) (p 1) (p 3)) * posf t' p' a
      + sl1 (rs (q 2) (t 0) (t 2) (p 0) (p 2)) * posf t' p' a + sl1 (rs (q 3) (t 1) (t 3) (p 1) (p 3)) * posf t' p' a := by
  obtain ⟨p0, f0, l0, u0⟩ := hp 0
  obtain ⟨p1, f1, l1, u1⟩ := hp 1
  obtain ⟨p2, f2, l2, u2⟩ := hp 2
  obtain ⟨p3, f3, l3, u3⟩ := hp 3
  rw [f0, f1, f2, f3, rc_eq, rc_eq, rs_eq _ _ _ _ _ l0 u2, rs_eq _ _ _ _ _ l1 u3]
  unfold box4
  rw [f0, f1, f2, f3]
  rcases posf_cases t' p' a with h | h
  · rw [h]; simp only [mul_zero, add_zero]
  · rw [h]; simp only [mul_one]

/-- The priors lie in the unit square. -/
structure In.Corners (x : In) : Prop where
  p : ∀ a j, ∃ r : ℝ, x.p a j = r ∧ 0 ≤ r ∧ r ≤ 1

end Cert.Loss

end
-- ==== Proof.Loss.Lse.lean ====
/- The two arrangements of the logarithm of a sum of exponentials, over finite logits. -/
module

public import proofs.«01_k».proof.Proof.Loss.Boxes

@[expose] public section

noncomputable section

namespace Cert.Loss

open Idealize.ShloMosaic
open scoped Classical

theorem coe_sum {ι : Type} (s : Finset ι) (f : ι → ℝ) : (∑ i ∈ s, ((f i : ℝ) : EReal)) = ((∑ i ∈ s, f i : ℝ) : EReal) := by
  induction s using Finset.induction_on with
  | empty => simp
  | insert a s ha ih => rw [Finset.sum_insert ha, Finset.sum_insert ha, ih, EReal.coe_add]

/-- The background loss of finite logits. -/
def bgr (r : Fin 81 → ℝ) : ℝ := Real.log (∑ c, Real.exp (r c - r 0))

theorem sum_exp_pos (r : Fin 81 → ℝ) (m : ℝ) : 0 < ∑ c, Real.exp (r c - m) :=
  Finset.sum_pos (fun c _ => Real.exp_pos _) ⟨0, Finset.mem_univ _⟩

theorem bgr_nonneg (r : Fin 81 → ℝ) : 0 ≤ bgr r := by
  refine Real.log_nonneg ?_
  have h := Finset.single_le_sum (f := fun c => Real.exp (r c - r 0)) (fun c _ => (Real.exp_pos _).le) (Finset.mem_univ (0 : Fin 81))
  simpa using h

theorem bgr_le (r : Fin 81 → ℝ) (h : ∀ c, r c - r 0 ≤ 80) : bgr r ≤ 85 := by
  unfold bgr
  rw [Real.log_le_iff_le_exp (sum_exp_pos r _)]
  have h1 : ∑ c, Real.exp (r c - r 0) ≤ ∑ _c : Fin 81, Real.exp 80 := Finset.sum_le_sum fun c _ => Real.exp_le_exp.2 (h c)
  have h2 : (81 : ℝ) ≤ Real.exp 5 := by
    have h := Real.sum_le_exp_of_nonneg (x := 5) (by norm_num) 7
    refine le_trans ?_ h
    norm_num [Finset.sum_range_succ, Nat.factorial]
  have h3 : Real.exp 85 = Real.exp 5 * Real.exp 80 := by rw [← Real.exp_add]; norm_num
  rw [h3]
  refine h1.trans ?_
  rw [Finset.sum_const, Finset.card_univ, Fintype.card_fin, nsmul_eq_mul]
  exact mul_le_mul_of_nonneg_right (by exact_mod_cast h2) (Real.exp_pos _).le

theorem bg_real (l : Fin 81 → EReal) (r : Fin 81 → ℝ) (hl : ∀ c, l c = r c) (h : ∀ c, r c - r 0 ≤ 80) : bg l = ((bgr r : ℝ) : EReal) := by
  unfold bg bgr
  have e : ∀ c, Ideal.exp (min (l c - l 0) (lit 0x42A00000#32)) = ((Real.exp (r c - r 0) : ℝ) : EReal) := fun c => by
    rw [hl, hl, lit_80, ← EReal.coe_sub, min_eq_left (by exact_mod_cast h c), Ideal.exp_coe]
  rw [Finset.sum_congr rfl fun c _ => e c, coe_sum, log_real (sum_exp_pos r _)]

/-- The unclamped sum. -/
theorem log_sum_margin (l : Fin 81 → EReal) (r : Fin 81 → ℝ) (hl : ∀ c, l c = r c) :
    Ideal.log (∑ c, Ideal.exp (l c - l 0)) = ((bgr r : ℝ) : EReal) := by
  unfold bgr
  have e : ∀ c, Ideal.exp (l c - l 0) = ((Real.exp (r c - r 0) : ℝ) : EReal) := fun c => by
    rw [hl, hl, ← EReal.coe_sub, Ideal.exp_coe]
  rw [Finset.sum_congr rfl fun c _ => e c, coe_sum, log_real (sum_exp_pos r _)]

/-- The shifted sum, shifted back. -/
theorem shifted (l : Fin 81 → EReal) (r : Fin 81 → ℝ) (hl : ∀ c, l c = r c) (M : EReal) (hM : M = Finset.univ.fold max (lit 0xFF800000#32) l) :
    Ideal.log (∑ c, Ideal.exp (l c - M)) + M = ((bgr r + r 0 : ℝ) : EReal) := by
  have hm : ∃ m : ℝ, M = m := by
    rw [fold_max_eq_sup] at hM
    obtain ⟨j, -, hj⟩ := Finset.exists_mem_eq_sup (Finset.univ : Finset (Fin 81)) ⟨0, Finset.mem_univ _⟩ l
    exact ⟨r j, by rw [hM, hj, hl]⟩
  obtain ⟨m, rfl⟩ := hm
  have e : ∀ c, Ideal.exp (l c - m) = ((Real.exp (r c - m) : ℝ) : EReal) := fun c => by
    rw [hl, ← EReal.coe_sub, Ideal.exp_coe]
  rw [Finset.sum_congr rfl fun c _ => e c, coe_sum, log_real (sum_exp_pos r _), ← EReal.coe_add]
  congr 1
  have f : ∑ c, Real.exp (r c - m) = Real.exp (r 0 - m) * ∑ c, Real.exp (r c - r 0) := by
    rw [Finset.mul_sum]
    refine Finset.sum_congr rfl fun c _ => ?_
    rw [← Real.exp_add]; congr 1; ring
  rw [f, Real.log_mul (Real.exp_pos _).ne' (sum_exp_pos r _).ne', Real.log_exp]
  unfold bgr
  ring

end Cert.Loss

end
-- ==== Proof.Loss.Cut.lean ====
/- The bisection finds the hard negatives: where the losses either side of the cut are apart, its sum is that of the greatest `k` losses. -/
module

public import proofs.«01_k».proof.Proof.Loss.Lse

@[expose] public section

noncomputable section

namespace Cert.Loss

open Idealize.ShloMosaic
open scoped Classical

/-- Masked losses in descending order under `σ`, and a count `k` of them at a cut that is not a tie. -/
structure Ranked (v : Fin 8732 → EReal) (w : Fin 8732 → ℝ) (σ : Equiv.Perm (Fin 8732)) (k : ℕ) : Prop where
  hv : ∀ a, v a = w a
  range : ∀ a, w a = -1000000000 ∨ (0 ≤ w a ∧ w a ≤ 85)
  anti : ∀ i j, i ≤ j → w (σ j) ≤ w (σ i)
  one : 1 ≤ k
  lt : k < 8732
  pos : ∀ i : Fin 8732, i.val < k → 0 ≤ w (σ i)
  gap : ∀ i j : Fin 8732, i.val + 1 = k → j.val = k → w (σ j) + 1 / 2 ^ 35 ≤ w (σ i)

namespace Ranked

variable {v : Fin 8732 → EReal} {w : Fin 8732 → ℝ} {σ : Equiv.Perm (Fin 8732)} {k : ℕ}

/-- How many losses exceed `x`. -/
def over (w : Fin 8732 → ℝ) (σ : Equiv.Perm (Fin 8732)) (x : ℝ) : Finset (Fin 8732) := Finset.univ.filter fun i => x < w (σ i)

theorem above_real (h : Ranked v w σ k) (x : ℝ) : above v x = (((over w σ x).card : ℝ) : EReal) := by
  unfold above over
  rw [← Equiv.sum_comp σ]
  have e : ∀ i, (if (x : EReal) < v (σ i) then (1 : EReal) else 0) = (((if x < w (σ i) then 1 else 0 : ℝ)) : EReal) := fun i => by
    rw [h.hv]
    simp only [EReal.coe_lt_coe_iff]
    split_ifs <;> rfl
  rw [Finset.sum_congr rfl fun i _ => e i, coe_sum, Finset.sum_boole]

/-- The first places. -/
def first (k : ℕ) : Finset (Fin 8732) := Finset.univ.filter fun i => i.val < k

theorem card_first (hk : k < 8732) : (first k).card = k := by
  have e : first k = Finset.univ.filter fun i : Fin 8732 => i < (⟨k, hk⟩ : Fin 8732) := by
    unfold first; ext i; simp [Fin.lt_def]
  rw [e]
  have e2 : (Finset.univ.filter fun i : Fin 8732 => i < (⟨k, hk⟩ : Fin 8732)) = Finset.Iio (⟨k, hk⟩ : Fin 8732) := by
    ext i; simp
  rw [e2, Fin.card_Iio]

/-- A threshold that `k` losses exceed is exceeded by the first `k`. -/
theorem first_over (h : Ranked v w σ k) (x : ℝ) (hx : k ≤ (over w σ x).card) (i : Fin 8732) (hi : i.val < k) : x < w (σ i) := by
  by_contra hn
  have hsub : over w σ x ⊆ first i.val := fun j hj => by
    unfold over at hj; unfold first
    rw [Finset.mem_filter] at hj ⊢
    refine ⟨Finset.mem_univ _, ?_⟩
    by_contra hji
    exact absurd (lt_of_lt_of_le hj.2 (h.anti i j (Fin.le_def.2 (not_lt.1 hji)))) hn
  have := Finset.card_le_card hsub
  rw [card_first i.isLt] at this
  omega

/-- A threshold that fewer than `k` losses exceed bounds the last of the first `k`. -/
theorem last_under (h : Ranked v w σ k) (x : ℝ) (hx : (over w σ x).card < k) (i : Fin 8732) (hi : i.val + 1 = k) : w (σ i) ≤ x := by
  by_contra hn
  have hsub : first k ⊆ over w σ x := fun j hj => by
    unfold first at hj; unfold over
    rw [Finset.mem_filter] at hj ⊢
    exact ⟨Finset.mem_univ _, lt_of_lt_of_le (not_le.1 hn) (h.anti j i (Fin.le_def.2 (by omega)))⟩
  have := Finset.card_le_card hsub
  rw [card_first h.lt] at this
  omega

theorem lo0_real (h : Ranked v w σ k) : ∃ L : ℝ, lo0 v = L ∧ -1 ≤ L ∧ L ≤ 84 ∧ ∀ a, 0 ≤ w a → L + 1 ≤ w a := by
  set g : Fin 8732 → ℝ := fun a => if w a < -100000000 then 0 else w a with hg
  have e : ∀ a, (if v a < lit 0xCCBEBC20#32 then (0 : EReal) else v a) = ((g a : ℝ) : EReal) := fun a => by
    rw [lit_m1e8, h.hv, hg]
    simp only [EReal.coe_lt_coe_iff]
    split_ifs <;> rfl
  have g0 : ∀ a, 0 ≤ g a ∧ g a ≤ 85 := fun a => by
    rw [hg]; dsimp only
    rcases h.range a with h1 | h1
    · rw [h1]; norm_num
    · rw [if_neg (by linarith [h1.1])]; exact h1
  have gw : ∀ a, 0 ≤ w a → g a = w a := fun a ha => by
    rw [hg]; dsimp only; rw [if_neg (by linarith)]
  have hf : Finset.univ.fold min (lit 0x7F800000#32) (fun a => if v a < lit 0xCCBEBC20#32 then 0 else v a)
      = Finset.univ.inf fun a => ((g a : ℝ) : EReal) := by
    rw [lit_top, funext e]; rfl
  obtain ⟨j, -, hj⟩ := Finset.exists_mem_eq_inf (Finset.univ : Finset (Fin 8732)) ⟨0, Finset.mem_univ _⟩ fun a => ((g a : ℝ) : EReal)
  refine ⟨g j - 1, ?_, by linarith [(g0 j).1], by linarith [(g0 j).2], fun a ha => ?_⟩
  · unfold lo0
    rw [hf, hj, EReal.coe_sub, EReal.coe_one]
  · have h1 : (Finset.univ.inf fun a => ((g a : ℝ) : EReal)) ≤ ((g a : ℝ) : EReal) := Finset.inf_le (Finset.mem_univ a)
    rw [hj, EReal.coe_le_coe_iff, gw a ha] at h1
    linarith

theorem hi0_real (h : Ranked v w σ k) (L : ℝ) (hL : lo0 v = L) (hL84 : L ≤ 84) :
    ∃ H : ℝ, hi0 v = H ∧ (∀ a, w a ≤ H) ∧ H ≤ 85 := by
  obtain ⟨j, -, hj⟩ := Finset.exists_mem_eq_sup (Finset.univ : Finset (Fin 8732)) ⟨0, Finset.mem_univ _⟩ v
  refine ⟨max (w j) (L + 1), ?_, fun a => ?_, max_le ?_ (by linarith)⟩
  · unfold hi0
    rw [fold_max_eq_sup, hj, hL, h.hv, ← EReal.coe_one, ← EReal.coe_add, coe_max]
  · have h1 : v a ≤ Finset.univ.sup v := Finset.le_sup (Finset.mem_univ a)
    rw [hj, h.hv, h.hv, EReal.coe_le_coe_iff] at h1
    exact h1.trans (le_max_left _ _)
  · rcases h.range j with h1 | h1
    · rw [h1]; norm_num
    · exact h1.2

/-- What `n` steps keep: an interval of the width halved `n` times that brackets the cut. -/
def Inv (w : Fin 8732 → ℝ) (σ : Equiv.Perm (Fin 8732)) (k : ℕ) (D : ℝ) (n : ℕ) (x : EReal × EReal) : Prop :=
  ∃ lo hi : ℝ, x = ((lo : EReal), (hi : EReal)) ∧ hi - lo = D / 2 ^ n ∧ k ≤ (over w σ lo).card ∧ (over w σ hi).card < k

theorem inv_step (h : Ranked v w σ k) (D : ℝ) (n : ℕ) (x : EReal × EReal) (hx : Inv w σ k D n x) :
    Inv w σ k D (n + 1) (stepB v ((k : ℝ) : EReal) x) := by
  obtain ⟨lo, hi, rfl, hd, hl, hh⟩ := hx
  have e : lit 0x3F000000#32 * ((lo : EReal) + (hi : EReal)) = ((1 / 2 * (lo + hi) : ℝ) : EReal) := by
    rw [lit_half, ← EReal.coe_add, ← EReal.coe_mul]
  have hw : D / 2 ^ (n + 1) = (hi - lo) / 2 := by rw [hd, pow_succ]; field_simp
  unfold stepB
  dsimp only
  rw [e, h.above_real]
  simp only [EReal.coe_le_coe_iff, Nat.cast_le]
  split_ifs with hc
  · exact ⟨_, _, rfl, by rw [hw]; ring, hc, hh⟩
  · exact ⟨_, _, rfl, by rw [hw]; ring, hl, not_le.1 hc⟩

theorem inv_iter (h : Ranked v w σ k) (D : ℝ) (x : EReal × EReal) (hx : Inv w σ k D 0 x) (n : ℕ) :
    Inv w σ k D n ((stepB v ((k : ℝ) : EReal))^[n] x) := by
  induction n with
  | zero => exact hx
  | succ n ih => rw [Function.iterate_succ_apply']; exact h.inv_step D n _ ih

/-- The cut parts the first `k` losses from the others. -/
theorem cut_parts (h : Ranked v w σ k) : ∃ c : ℝ, cut v ((k : ℝ) : EReal) = c ∧ over w σ c = first k := by
  obtain ⟨L, hL, L1, L84, hLw⟩ := h.lo0_real
  obtain ⟨H, hH, hHw, H85⟩ := h.hi0_real L hL L84
  have h0 : Inv w σ k (H - L) 0 (lo0 v, hi0 v) := by
    refine ⟨L, H, by rw [hL, hH], by simp, ?_, ?_⟩
    · have hsub : first k ⊆ over w σ L := fun j hj => by
        unfold first at hj; unfold over
        rw [Finset.mem_filter] at hj ⊢
        exact ⟨Finset.mem_univ _, by linarith [hLw _ (h.pos j hj.2)]⟩
      have := Finset.card_le_card hsub
      rwa [card_first h.lt] at this
    · have : over w σ H = ∅ := by
        unfold over
        refine Finset.filter_eq_empty_iff.2 fun i _ => not_lt.2 (hHw _)
      rw [this, Finset.card_empty]
      exact h.one
  obtain ⟨lo, hi, hx, hd, hl, hh⟩ := h.inv_iter (H - L) _ h0 42
  refine ⟨lo, by unfold cut; rw [hx], ?_⟩
  have hk := h.one
  have hkn := h.lt
  have hnarrow : hi - lo < 1 / 2 ^ 35 := by
    rw [hd]
    have : H - L ≤ 86 := by linarith
    rw [div_lt_div_iff₀ (by positivity) (by positivity)]
    norm_num
    linarith
  have hu := h.last_under hi hh ⟨k - 1, by omega⟩ (by dsimp only; omega)
  have hg := h.gap ⟨k - 1, by omega⟩ ⟨k, hkn⟩ (by dsimp only; omega) rfl
  ext i
  unfold over first
  rw [Finset.mem_filter, Finset.mem_filter]
  refine and_congr_right fun _ => ⟨fun hi' => ?_, fun hi' => h.first_over lo hl i hi'⟩
  by_contra hn
  have := h.anti ⟨k, hkn⟩ i (Fin.le_def.2 (not_lt.1 hn))
  linarith

theorem neg_real (h : Ranked v w σ k) : neg v ((k : ℝ) : EReal) = ((∑ i ∈ first k, w (σ i) : ℝ) : EReal) := by
  obtain ⟨c, hc, ho⟩ := h.cut_parts
  have hk1 : (1 : ℝ) ≤ (k : ℝ) := by exact_mod_cast h.one
  unfold neg
  rw [lit_half, if_pos (EReal.coe_lt_coe_iff.2 (by linarith)), hc, h.above_real, ho, card_first h.lt, ← Equiv.sum_comp σ]
  have e : ∀ i, (if (c : EReal) < v (σ i) then v (σ i) else 0) = (((if c < w (σ i) then w (σ i) else 0 : ℝ)) : EReal) := fun i => by
    rw [h.hv]
    simp only [EReal.coe_lt_coe_iff]
    split_ifs <;> rfl
  rw [Finset.sum_congr rfl fun i _ => e i, coe_sum, ← EReal.coe_sub, sub_self, EReal.coe_zero, zero_mul, sub_zero, ← Finset.sum_filter]
  rw [show (Finset.univ.filter fun i => c < w (σ i)) = over w σ c from rfl, ho]

end Ranked

theorem neg_zero_count (v : Fin 8732 → EReal) : neg v (((0 : ℕ) : ℝ) : EReal) = 0 := by
  unfold neg
  rw [lit_half, if_neg (not_lt.2 (EReal.coe_le_coe_iff.2 (by norm_num)))]

end Cert.Loss

end
-- ==== Proof.Loss.Sort.lean ====
/- Sorting the rows of a table: the stable order of a row's keys, the ranks the second sort reads off, and counts of words. -/
module

public import proofs.«01_k».proof.Proof.Loss.Cut
public import Idealize.ShloMosaic.Lib.SortFacts
public import Idealize.ShloMosaic.Lib.Pointwise

@[expose] public section

noncomputable section

namespace Cert.Loss

open Idealize.ShloMosaic
open scoped Classical

/-- A table of sixteen rows. -/
abbrev SR : Shape := ⟨2, ![16, 8732]⟩

theorem along_row (b : Fin 16) (i k : Fin 8732) (h : 1 < SR.rank) : (ix2 b i : SR.Idx).along ⟨1, h⟩ k = ix2 b k := by
  funext w; fin_cases w <;> rfl

theorem sort2_snd {α β : Type} (cmp : α × β → α × β → BitVec 1) (x : SR.Idx → α) (y : SR.Idx → β) (b : Fin 16) (i : Fin 8732) :
    (Host.sort2 SR 1 cmp x y).2 (ix2 b i)
      = y (ix2 b (sortedFrom (fun k k' : Fin 8732 => cmp (x (ix2 b k), y (ix2 b k)) (x (ix2 b k'), y (ix2 b k')) == 1#1) i)) := by
  have hd : 1 < SR.rank := by decide
  unfold Host.sort2
  rw [dif_pos hd]
  have hA : (fun k : Fin 8732 => (ix2 b i : SR.Idx).along ⟨1, hd⟩ k) = fun k => ix2 b k := funext fun k => along_row b i k hd
  exact congrArg (fun A : Fin 8732 → SR.Idx =>
    y (A (sortedFrom (fun k k' : Fin 8732 => cmp (x (A k), y (A k)) (x (A k'), y (A k')) == 1#1) i))) hA

theorem sort2_fst {α β : Type} (cmp : α × β → α × β → BitVec 1) (x : SR.Idx → α) (y : SR.Idx → β) (b : Fin 16) (i : Fin 8732) :
    (Host.sort2 SR 1 cmp x y).1 (ix2 b i)
      = x (ix2 b (sortedFrom (fun k k' : Fin 8732 => cmp (x (ix2 b k), y (ix2 b k)) (x (ix2 b k'), y (ix2 b k')) == 1#1) i)) := by
  have hd : 1 < SR.rank := by decide
  unfold Host.sort2
  rw [dif_pos hd]
  have hA : (fun k : Fin 8732 => (ix2 b i : SR.Idx).along ⟨1, hd⟩ k) = fun k => ix2 b k := funext fun k => along_row b i k hd
  exact congrArg (fun A : Fin 8732 → SR.Idx =>
    x (A (sortedFrom (fun k k' : Fin 8732 => cmp (x (A k), y (A k)) (x (A k'), y (A k')) == 1#1) i))) hA

/-- The stable ascending order of keys. -/
def ord {n : ℕ} (key : Fin n → EReal) : Fin n → Fin n := sortedFrom fun a b => decide (key a < key b)

theorem ord_bij {n : ℕ} (key : Fin n → EReal) : Function.Bijective (ord key) :=
  ⟨sortedFrom_injective _, sortedFrom_surjective _⟩

/-- The order as a permutation. -/
def perm {n : ℕ} (key : Fin n → EReal) : Equiv.Perm (Fin n) := Equiv.ofBijective (ord key) (ord_bij key)

theorem perm_apply {n : ℕ} (key : Fin n → EReal) (i : Fin n) : perm key i = ord key i := rfl

theorem ord_mono {n : ℕ} (key : Fin n → EReal) (i j : Fin n) (h : i ≤ j) : key (ord key i) ≤ key (ord key j) := by
  rcases h.eq_or_lt with h | h
  · exact le_of_eq (by rw [h])
  · have e := sortedFrom_noInversion (fun a b => decide (key a < key b)) (fun a b => decide (key a < key b))
      (fun a b hab => by rw [decide_eq_true_iff] at hab; exact decide_eq_false (not_lt.2 hab.le)) (fun _ _ h => h)
      (fun a b c hab hbc => by
        rw [decide_eq_false_iff_not] at hab hbc ⊢
        exact not_lt.2 ((not_lt.1 hbc).trans (not_lt.1 hab))) i j h
    exact not_lt.1 (decide_eq_false_iff_not.1 e)

/-- Sorting the places of a permutation undoes it. -/
theorem unsort {n : ℕ} (σ : Fin n → Fin n) (hσ : Function.Bijective σ) (i : Fin n) :
    σ (sortedFrom (fun a b => decide ((σ a).val < (σ b).val)) i) = i := by
  set τ : Fin n → Fin n := sortedFrom (fun a b => decide ((σ a).val < (σ b).val)) with hτ
  have hm : StrictMono fun i => σ (τ i) := fun i j hij => by
    have e := sortedFrom_noInversion (fun a b => decide ((σ a).val < (σ b).val)) (fun a b => decide ((σ a).val < (σ b).val))
      (fun a b hab => by rw [decide_eq_true_iff] at hab; exact decide_eq_false (not_lt.2 hab.le)) (fun _ _ h => h)
      (fun a b c hab hbc => by
        rw [decide_eq_false_iff_not] at hab hbc ⊢
        exact not_lt.2 ((not_lt.1 hbc).trans (not_lt.1 hab))) i j hij
    have hle := not_lt.1 (decide_eq_false_iff_not.1 e)
    refine lt_of_le_of_ne (Fin.le_def.2 hle) fun h => hij.ne (sortedFrom_injective _ (hσ.1 h))
  have hs : Function.Surjective fun i => σ (τ i) := fun a => by
    obtain ⟨c, hc⟩ := hσ.2 a
    obtain ⟨d, hd⟩ := sortedFrom_surjective (fun a b => decide ((σ a).val < (σ b).val)) c
    exact ⟨d, by show σ (τ d) = a; rw [hτ, hd, hc]⟩
  have h := Subsingleton.elim (hm.orderIsoOfSurjective _ hs) (OrderIso.refl (Fin n))
  exact congrArg (fun e : Fin n ≃o Fin n => e i) h

/-- Small words compare as numbers. -/
theorem slt_ofNat (p q : ℕ) (hp : p < 2 ^ 31) (hq : q < 2 ^ 31) :
    IntOp.cmpi .slt (BitVec.ofNat 32 p) (BitVec.ofNat 32 q) = BitVec.ofBool (decide (p < q)) := by
  have e : ∀ k : ℕ, k < 2 ^ 31 → (BitVec.ofNat 32 k).toInt = k := fun k hk => by
    rw [BitVec.toInt_eq_toNat_of_lt (by rw [BitVec.toNat_ofNat, Nat.mod_eq_of_lt (by omega)]; omega), BitVec.toNat_ofNat,
      Nat.mod_eq_of_lt (by omega)]
  show BitVec.ofBool (decide ((BitVec.ofNat 32 p).toInt < (BitVec.ofNat 32 q).toInt)) = _
  rw [e p hp, e q hq]
  congr 1
  simp

/-- The ranks: the places of the places. -/
theorem rank_word (σ : Equiv.Perm (Fin 8732)) (a : Fin 8732) :
    sortedFrom (fun k k' : Fin 8732 => IntOp.cmpi .slt (BitVec.ofNat 32 (σ k).val) (BitVec.ofNat 32 (σ k').val) == 1#1) a = σ.symm a := by
  have e : (fun k k' : Fin 8732 => IntOp.cmpi .slt (BitVec.ofNat 32 (σ k).val) (BitVec.ofNat 32 (σ k').val) == 1#1)
      = fun k k' => decide ((σ k).val < (σ k').val) := by
    funext k k'
    rw [slt_ofNat _ _ (by omega) (by omega)]
    by_cases h : (σ k).val < (σ k').val
    · rw [decide_eq_true h]; rfl
    · rw [decide_eq_false h]; rfl
  rw [e, Equiv.eq_symm_apply]
  exact unsort σ σ.bijective a

/-- A sum of bits' words counts them. -/
theorem fold_addi (s : Finset (Fin 8732)) (f : Fin 8732 → BitVec 1) :
    s.fold IntOp.addi 0#32 (fun a => BitVec.setWidth 32 (f a)) = BitVec.ofNat 32 (s.filter fun a => f a = 1#1).card := by
  induction s using Finset.induction_on with
  | empty => rfl
  | insert a s ha ih =>
    rw [Finset.fold_insert ha, ih, Finset.filter_insert]
    by_cases h : f a = 1#1
    · rw [if_pos h, Finset.card_insert_of_notMem (fun hm => ha (Finset.mem_filter.1 hm).1), h]
      show 1#32 + BitVec.ofNat 32 _ = _
      rw [Nat.add_comm, BitVec.ofNat_add]
    · have h0 : f a = 0#1 := by
        rcases (show f a = 0#1 ∨ f a = 1#1 by generalize f a = v; revert v; decide) with h1 | h1
        · exact h1
        · exact absurd h1 h
      rw [if_neg h, h0]
      show 0#32 + BitVec.ofNat 32 _ = _
      rw [BitVec.zero_add]

/-- How many hard negatives, as a number. -/
def kn (n : ℕ) : ℕ := min (7 * n) (8732 - n)

theorem kn_word (n : ℕ) (h : n ≤ 8732) :
    IntOp.minsi (IntOp.muli 7#32 (BitVec.ofNat 32 n)) (IntOp.subi 8732#32 (BitVec.ofNat 32 n)) = BitVec.ofNat 32 (kn n) := by
  have e : ∀ k : ℕ, k < 2 ^ 31 → (BitVec.ofNat 32 k).toInt = k := fun k hk => by
    rw [BitVec.toInt_eq_toNat_of_lt (by rw [BitVec.toNat_ofNat, Nat.mod_eq_of_lt (by omega)]; omega), BitVec.toNat_ofNat,
      Nat.mod_eq_of_lt (by omega)]
  have h1 : IntOp.muli 7#32 (BitVec.ofNat 32 n) = BitVec.ofNat 32 (7 * n) := by
    show 7#32 * BitVec.ofNat 32 n = _
    rw [BitVec.ofNat_mul]
  have h2 : IntOp.subi 8732#32 (BitVec.ofNat 32 n) = BitVec.ofNat 32 (8732 - n) := by
    show 8732#32 - BitVec.ofNat 32 n = _
    apply BitVec.eq_of_toNat_eq
    rw [BitVec.toNat_sub, BitVec.toNat_ofNat, BitVec.toNat_ofNat, BitVec.toNat_ofNat]
    omega
  rw [h1, h2]
  unfold IntOp.minsi kn
  rw [BitVec.slt_eq_decide, e _ (by omega), e _ (by omega)]
  rcases lt_or_ge (7 * n) (8732 - n) with h | h
  · rw [if_pos (by simp only [decide_eq_true_eq]; exact_mod_cast h), min_eq_left h.le]
  · rw [if_neg (by simp only [decide_eq_true_eq, not_lt]; exact_mod_cast h), min_eq_right h]

end Cert.Loss

end
-- ==== Proof.Loss.Class.lean ====
/- The class loss over finite logits: the masked losses in their order, the hard negatives' sum, and the matched pairs' cross-entropy, as reals. -/
module

public import proofs.«01_k».proof.Proof.Loss.Sort

@[expose] public section

set_option maxRecDepth 16384

noncomputable section

namespace Cert.Loss

open Idealize.ShloMosaic
open scoped Classical

variable (t : Fin 24 → Box) (p : Fin 8732 → Box) (l : Fin 8732 → Fin 81 → EReal) (r : Fin 8732 → Fin 81 → ℝ) (g : Fin 24 → BitVec 32)

/-- The masked background losses of finite logits. -/
def wr (a : Fin 8732) : ℝ := if Any t p a then -1000000000 else bgr (r a)

/-- The keys the losses are ordered by. -/
def keyr (a : Fin 8732) : EReal := ((-(wr t p r a) : ℝ) : EReal)

/-- The descending order of the masked losses. -/
def desc : Equiv.Perm (Fin 8732) := perm (keyr t p r)

/-- How many anchors some object matches. -/
def npn : ℕ := (Finset.univ.filter fun a => Any t p a).card

/-- How many hard negatives are mined. -/
def kc : ℕ := kn (npn t p)

theorem npn_le : npn t p ≤ 8732 := by
  have h := Finset.card_le_univ (Finset.univ.filter fun a => Any t p a)
  rwa [Fintype.card_fin] at h

/-- One image's logits are finite and bounded against the background's, its labels name classes, and the cut is not a tie. -/
structure Fine : Prop where
  hl : ∀ a c, l a c = r a c
  margin : ∀ a c, r a c - r a 0 ≤ 80
  labels : ∀ o, (g o).toNat < 81
  apart : ∀ i j : Fin 8732, i.val + 1 = kc t p → j.val = kc t p → wr t p r (desc t p r j) + 1 / 2 ^ 35 ≤ wr t p r (desc t p r i)

variable {t p l r g}

theorem Fine.cand_eq (h : Fine t p l r g) (a : Fin 8732) : cand t p l a = ((wr t p r a : ℝ) : EReal) := by
  unfold cand wr
  by_cases ha : Any t p a
  · rw [if_pos ha, if_pos ha, lit_m1e9]
  · rw [if_neg ha, if_neg ha, bg_real (l a) (r a) (h.hl a) (h.margin a)]

theorem desc_anti (i j : Fin 8732) (hij : i ≤ j) : wr t p r (desc t p r j) ≤ wr t p r (desc t p r i) := by
  have e : keyr t p r (desc t p r i) ≤ keyr t p r (desc t p r j) := by
    unfold desc
    rw [perm_apply, perm_apply]
    exact ord_mono (keyr t p r) i j hij
  unfold keyr at e
  have := EReal.coe_le_coe_iff.1 e
  linarith

theorem unmasked (i : Fin 8732) (hi : i.val < kc t p) : ¬ Any t p (desc t p r i) := by
  intro ha
  have hw : wr t p r (desc t p r i) = -1000000000 := if_pos ha
  have hsub : (Finset.Ici i).image (desc t p r) ⊆ Finset.univ.filter fun a => Any t p a := fun a hm => by
    obtain ⟨j, hj, rfl⟩ := Finset.mem_image.1 hm
    refine Finset.mem_filter.2 ⟨Finset.mem_univ _, ?_⟩
    by_contra hn
    have h1 := desc_anti (t := t) (p := p) (r := r) i j (Finset.mem_Ici.1 hj)
    have h2 : wr t p r (desc t p r j) = bgr (r (desc t p r j)) := if_neg hn
    have h3 := bgr_nonneg (r (desc t p r j))
    linarith
  have hc := Finset.card_le_card hsub
  rw [Finset.card_image_of_injective _ (desc t p r).injective, Fin.card_Ici] at hc
  have hn := npn_le t p
  have hk : kc t p ≤ 8732 - npn t p := min_le_right _ _
  have hc' : 8732 - i.val ≤ npn t p := hc
  omega

theorem Fine.ranked (h : Fine t p l r g) (h1 : 1 ≤ kc t p) : Ranked (cand t p l) (wr t p r) (desc t p r) (kc t p) where
  hv := h.cand_eq
  range a := by
    unfold wr
    by_cases ha : Any t p a
    · exact Or.inl (if_pos ha)
    · rw [if_neg ha]
      exact Or.inr ⟨bgr_nonneg _, bgr_le _ (h.margin a)⟩
  anti := desc_anti
  one := h1
  lt := by
    have h2 : kc t p ≤ 7 * npn t p := min_le_left _ _
    have h3 : kc t p ≤ 8732 - npn t p := min_le_right _ _
    omega
  pos i hi := by
    have := unmasked (r := r) i hi
    have e : wr t p r (desc t p r i) = bgr (r (desc t p r i)) := if_neg this
    rw [e]
    exact bgr_nonneg _
  gap := h.apart

theorem kk_real : kk (npos t p) = (((kc t p : ℕ) : ℝ) : EReal) := by
  have e : npos t p = (((npn t p : ℕ) : ℝ) : EReal) := by
    unfold npos npn
    rw [Finset.sum_congr rfl fun a _ => show (if Any t p a then (1 : EReal) else 0) = (((if Any t p a then 1 else 0 : ℝ)) : EReal) by split_ifs <;> rfl,
      coe_sum, Finset.sum_boole]
  have hn := npn_le t p
  unfold kk
  rw [e, lit_7, lit_8732, ← EReal.coe_mul, ← EReal.coe_sub, coe_min]
  refine congrArg (fun z : ℝ => (z : EReal)) ?_
  unfold kc kn
  rw [Nat.cast_min, Nat.cast_mul, Nat.cast_sub hn]
  norm_num

/-- Whether an anchor is mined. -/
def mined (t : Fin 24 → Box) (p : Fin 8732 → Box) (r : Fin 8732 → Fin 81 → ℝ) (a : Fin 8732) : ℝ :=
  if ((desc t p r).symm a).val < kc t p then 1 else 0

theorem mined_sum : ∑ a, mined t p r a = ((kc t p : ℕ) : ℝ) := by
  unfold mined
  rw [← Equiv.sum_comp (desc t p r)]
  simp only [Equiv.symm_apply_apply]
  rw [Finset.sum_boole]
  have hn := npn_le t p
  have hk : kc t p ≤ 7 * npn t p := min_le_left _ _
  have hk' : kc t p ≤ 8732 - npn t p := min_le_right _ _
  refine congrArg (Nat.cast (R := ℝ)) ?_
  exact Ranked.card_first (by omega)

theorem Fine.neg_eq (h : Fine t p l r g) : neg (cand t p l) (kk (npos t p)) = ((∑ a, bgr (r a) * mined t p r a : ℝ) : EReal) := by
  rw [kk_real]
  unfold mined
  rw [← Equiv.sum_comp (desc t p r)]
  simp only [Equiv.symm_apply_apply]
  rcases Nat.eq_zero_or_pos (kc t p) with h0 | h1
  · rw [h0, neg_zero_count]
    simp
  · rw [(h.ranked h1).neg_real]
    refine congrArg (fun z : ℝ => (z : EReal)) ?_
    unfold Ranked.first
    rw [Finset.sum_filter]
    refine Finset.sum_congr rfl fun i _ => ?_
    by_cases hi : i.val < kc t p
    · rw [if_pos hi, if_pos hi, mul_one]
      exact if_neg (unmasked i hi)
    · rw [if_neg hi, if_neg hi, mul_zero]

/-- Whether a pair matches. -/
def pr (t : Box) (p : Fin 8732 → Box) (a : Fin 8732) : ℝ := if Pos t p a then 1 else 0

theorem posf_pr (t : Box) (p : Fin 8732 → Box) (a : Fin 8732) : posf t p a = ((pr t p a : ℝ) : EReal) := by
  unfold posf pr; split_ifs <;> rfl

theorem pick_real (w : BitVec 32) (hw : w.toNat < 81) (m : Fin 81 → EReal) (s : Fin 81 → ℝ) (hm : ∀ c, m c = s c) : pick w m = ((s ⟨w.toNat, hw⟩ : ℝ) : EReal) := by
  unfold pick
  rw [Finset.sum_eq_single (⟨w.toNat, hw⟩ : Fin 81)]
  · rw [if_pos (by simp), one_mul, hm]
  · intro c _ hc
    rw [if_neg, zero_mul]
    intro e
    apply hc
    apply Fin.ext
    have := congrArg BitVec.toNat e
    rw [BitVec.toNat_ofNat, Nat.mod_eq_of_lt (by have := c.isLt; omega)] at this
    exact this
  · intro hn; exact absurd (Finset.mem_univ _) hn

/-- The cross-entropy of a matched pair. -/
def ce (r : Fin 8732 → Fin 81 → ℝ) (g : Fin 24 → BitVec 32) (hg : ∀ o, (g o).toNat < 81) (a : Fin 8732) (o : Fin 24) : ℝ :=
  bgr (r a) + r a 0 - r a ⟨(g o).toNat, hg o⟩

theorem Fine.cep_eq (h : Fine t p l r g) : cep t p l g = ((∑ a, ∑ o, ce r g h.labels a o * pr (t o) p a : ℝ) : EReal) := by
  have e1 : ∀ a, cnt t p a * (bg (l a) + l a 0) = (((∑ o, pr (t o) p a) * (bgr (r a) + r a 0) : ℝ) : EReal) := fun a => by
    unfold cnt
    rw [Finset.sum_congr rfl fun o _ => posf_pr (t o) p a, coe_sum, bg_real _ _ (h.hl a) (h.margin a), h.hl a 0, ← EReal.coe_add, ← EReal.coe_mul]
  have e2 : ∀ o a, posf (t o) p a * pick (g o) (l a) = ((pr (t o) p a * r a ⟨(g o).toNat, h.labels o⟩ : ℝ) : EReal) := fun o a => by
    rw [posf_pr, pick_real _ (h.labels o) _ _ (h.hl a), ← EReal.coe_mul]
  unfold cep
  rw [Finset.sum_congr rfl fun a _ => e1 a, coe_sum,
    Finset.sum_congr rfl fun o _ => (Finset.sum_congr rfl fun a _ => e2 o a).trans (coe_sum _ _), coe_sum, ← EReal.coe_sub]
  refine congrArg (fun z : ℝ => (z : EReal)) ?_
  rw [Finset.sum_comm (s := (Finset.univ : Finset (Fin 24))), ← Finset.sum_sub_distrib]
  refine Finset.sum_congr rfl fun a _ => ?_
  rw [Finset.sum_mul, ← Finset.sum_sub_distrib]
  refine Finset.sum_congr rfl fun o _ => ?_
  unfold ce
  ring

end Cert.Loss

end
-- ==== Proof.ReferenceIdeal.Gather.lean ====
/- The reference's logarithms of sums of exponentials, and the logits its labels name. -/
module

public import proofs.«01_k».proof.Proof.ReferenceIdeal.Index
public import proofs.«01_k».proof.Proof.Loss.Class
public import Idealize.ShloMosaic.Lib.ReduceAll

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args)

theorem v83_apply (b : Fin 16) (a : Fin 8732) : v83 x (ix2 b a) = Finset.univ.fold max (lit 0xFF800000#32) ((inpR x).l b a) := by
  pointwise [v83, cst_9]
  rfl

theorem v90_shifted (b : Fin 16) (a : Fin 8732) : v90 x (ix2 b a)
    = Ideal.log (∑ c, Ideal.exp ((inpR x).l b a c - v83 x (ix2 b a))) + v83 x (ix2 b a) := by
  pointwise [v90, v89, v88, cst_10, v87, v86, v85, v84]
  rfl

theorem v90_apply (b : Fin 16) (a : Fin 8732) (r : Fin 81 → ℝ) (h : ∀ c, (inpR x).l b a c = r c) :
    v90 x (ix2 b a) = ((bgr r + r 0 : ℝ) : EReal) :=
  (v90_shifted x b a).trans (shifted _ r h _ (v83_apply x b a))

theorem v93_apply (b : Fin 16) (a : Fin 8732) (r : Fin 81 → ℝ) (h : ∀ c, (inpR x).l b a c = r c) :
    v93 x (ix2 b a) = ((bgr r : ℝ) : EReal) := by
  have e : v93 x (ix2 b a) = (show EReal from v90 x (ix2 b a)) - (inpR x).l b a 0 := by
    pointwise [v93, v92, v91]
    rfl
  rw [e, v90_apply x b a r h, h 0]
  show ((bgr r + r 0 : ℝ) : EReal) - ((r 0 : ℝ) : EReal) = _
  rw [← EReal.coe_sub]
  congr 1
  ring

theorem v171_v90 : v171 x = v90 x := by
  delta v171 v170 v169 cst_29 v168 v167 v166 v165 v164 cst_28 v90 v89 v88 cst_10 v87 v86 v85 v84 v83 cst_9
  with_reducible rfl

theorem v180_v93 : v180 x = v93 x := by
  have e : v180 x = subf (v171 x) (v92 x) := by
    delta v180 v179 v178 v92 v91; with_reducible rfl
  rw [e, v171_v90]
  delta v93; with_reducible rfl

/-- The gather's index words are the labels. -/
theorem label_word (b : Fin 16) (a : Fin 8732) (o : Fin 24) (h : ((inpR x).g b o).toNat < 81) :
    call11_v5 x (ix4 b a o 0) = (inpR x).g b o := by
  have e : call11_v5 x (ix4 b a o 0) = Scalar.select (IntOp.cmpi .slt ((inpR x).g b o) 0#32) (IntOp.addi ((inpR x).g b o) 81#32) ((inpR x).g b o) := by
    pointwise [call11_v5, call11_v4, call11_v3, call11_v2, call11_v1, call11_v0, call11_c, call11_c_0, v173, v172]
    rfl
  rw [e]
  exact Routing.wrap_of_lt _ _ (by omega)

theorem label_ok (w : BitVec 32) (h : w.toNat < 81) : IntOp.andi (IntOp.cmpi .sge w 0#32) (IntOp.cmpi .sle w 80#32) = 1#1 := by
  have e : w.toInt = w.toNat := BitVec.toInt_eq_toNat_of_lt (by omega)
  rw [IntOp.andi_eq_one]
  constructor
  · show BitVec.ofBool (decide ((0#32).toInt ≤ w.toInt)) = 1#1
    rw [ofBool_one, decide_eq_true_iff, e]
    exact Int.natCast_nonneg _
  · show BitVec.ofBool (decide (w.toInt ≤ (80#32).toInt)) = 1#1
    rw [ofBool_one, decide_eq_true_iff, e]
    have : (80#32).toInt = 80 := by decide
    rw [this]
    omega

theorem in_range (b : Fin 16) (a : Fin 8732) (o : Fin 24) (h : ((inpR x).g b o).toNat < 81) : call11_v12 x (ix3 b a o) = 1#1 := by
  have e : call11_v12 x (ix3 b a o) = IntOp.andi (IntOp.cmpi .sge (call11_v5 x (ix4 b a o 0)) 0#32) (IntOp.cmpi .sle (call11_v5 x (ix4 b a o 0)) 80#32) := by
    have f : call11_v12 x (ix3 b a o) = Finset.univ.fold IntOp.andi 1#1 (fun w : Fin 1 => call11_v11 x (ix4 b a o w)) := by
      pointwise [call11_v12, call11_c_3]
    rw [f, Finset.univ_unique, Finset.fold_singleton]
    have one : ∀ w : BitVec 1, IntOp.andi w 1#1 = w := by decide
    rw [one]
    show call11_v11 x (ix4 b a o 0) = _
    pointwise [call11_v11, call11_v10, call11_v9, call11_v8, call11_c_1, call11_v7, call11_v6, call11_c_2]
  rw [e, label_word x b a o h, label_ok _ h]

theorem gathered (u : FVec Ideal S16x8732x81 .f32) (k : IVec S16x8732x24x1 32) (b : Fin 16) (a : Fin 8732) (o : Fin 24) (w : BitVec 32)
    (hw : k (ix4 b a o 0) = w) (h : w.toNat < 81) :
    Host.gather gather_S16x8732x81_S16x8732x24x1_S16x8732x24_n_2_01_01_2_3_111 u k (ix3 b a o) = u (ix3 b a ⟨w.toNat, h⟩) := by
  unfold Host.gather
  refine congrArg u (funext fun c => Fin.ext ?_)
  let d := gather_S16x8732x81_S16x8732x24x1_S16x8732x24_n_2_01_01_2_3_111
  match c with
  | ⟨0, _⟩ =>
    show d.start (ix3 b a o) k 0 + d.batchCoord (ix3 b a o) 0 + d.offCoord (ix3 b a o) 0 = b.val
    rw [show d.start (ix3 b a o) k 0 = 0 from rfl, show d.offCoord (ix3 b a o) 0 = 0 from rfl, show d.batchCoord (ix3 b a o) 0 = b.val from rfl]
    omega
  | ⟨1, _⟩ =>
    show d.start (ix3 b a o) k 1 + d.batchCoord (ix3 b a o) 1 + d.offCoord (ix3 b a o) 1 = a.val
    rw [show d.start (ix3 b a o) k 1 = 0 from rfl, show d.offCoord (ix3 b a o) 1 = 0 from rfl, show d.batchCoord (ix3 b a o) 1 = a.val from rfl]
    omega
  | ⟨2, _⟩ =>
    show d.start (ix3 b a o) k 2 + d.batchCoord (ix3 b a o) 2 + d.offCoord (ix3 b a o) 2 = w.toNat
    have e : d.start (ix3 b a o) k 2 = min (k (ix4 b a o 0)).toInt.toNat 80 := by
      refine congrArg (fun i => min (k i).toInt.toNat 80) ?_
      funext q; fin_cases q <;> rfl
    rw [e, hw, show d.offCoord (ix3 b a o) 2 = 0 from rfl, show d.batchCoord (ix3 b a o) 2 = 0 from rfl,
      BitVec.toInt_eq_toNat_of_lt (by omega)]
    omega

theorem v174_apply (b : Fin 16) (a : Fin 8732) (o : Fin 24) (h : ((inpR x).g b o).toNat < 81) :
    v174 x (ix3 b a o) = (inpR x).l b a ⟨((inpR x).g b o).toNat, h⟩ := by
  have hv : v174 x = select (call11_v12 x) (Host.gather gather_S16x8732x81_S16x8732x24x1_S16x8732x24_n_2_01_01_2_3_111 x.a1 (call11_v5 x)) (call11_v14 x) := by
    delta v174 call11_v13; with_reducible rfl
  have hs : v174 x (ix3 b a o) = Scalar.select (call11_v12 x (ix3 b a o))
      (Host.gather gather_S16x8732x81_S16x8732x24x1_S16x8732x24_n_2_01_01_2_3_111 x.a1 (call11_v5 x) (ix3 b a o)) (call11_v14 x (ix3 b a o)) := by
    rw [hv]; rfl
  rw [hs, in_range x b a o h, gathered _ _ b a o _ (label_word x b a o h) h]
  rfl

end Cert.ReferenceIdeal.Hand

end
-- ==== Proof.ReferenceIdeal.Ranks.lean ====
/- The reference's ranks of the masked losses: which anchors it mines. -/
module

public import proofs.«01_k».proof.Proof.ReferenceIdeal.Gather

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args)

theorem neg_masked (c : BitVec 1) (P : Prop) (hc : c = 1#1 ↔ P) (u v : ℝ) :
    -(Scalar.select c (u : EReal) (v : EReal)) = ((-(if P then u else v) : ℝ) : EReal) := by
  rw [EReal.coe_neg]
  by_cases h : P
  · rw [if_pos h, hc.2 h]; rfl
  · have h0 : c = 0#1 := by
      have h1 : c ≠ 1#1 := fun e => h (hc.1 e)
      exact (show ∀ d : BitVec 1, d ≠ 1#1 → d = 0#1 by decide) c h1
    rw [if_neg h, h0]; rfl

theorem v95_apply (b : Fin 16) (a : Fin 8732) (r : Fin 8732 → Fin 81 → ℝ) (h : ∀ a c, (inpR x).l b a c = r a c) :
    v95 x (ix2 b a) = keyr ((inpR x).t b) (inpR x).p r a := by
  have hv : v95 x = Host.negf (v94 x) := by delta v95; with_reducible rfl
  have hn : ∀ (u : FVec Ideal S16x8732 .f32) (i : S16x8732.Idx), Host.negf u i = -(show EReal from u i) := fun _ _ => rfl
  have e : v94 x (ix2 b a) = Scalar.select (v82 x (ix2 b a)) (lit 0xCE6E6B28#32) (v93 x (ix2 b a)) := by
    pointwise [v94, call3_v1, call3_v0, cst_11]
  rw [hv, hn, e, v93_apply x b a (r a) (h a), lit_m1e9]
  unfold keyr wr
  exact neg_masked _ _ (v82_apply x b a) _ _

/-- The order of keys, on numbers. -/
theorem compared (l r : EReal × BitVec 32) : (comparator_f32_i32_d1 (F := Ideal) l r == 1#1) = decide (l.1 < r.1) := by
  have same : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32)) (FloatOps.ofBits (F := Ideal) .f32 0x00000000#32) v) = v := fun v => by
    have hu : FloatOps.cmpf (F := Ideal) (φ := .f32) .une v v = 0#1 := by
      show BitVec.ofBool (decide (v ≠ v)) = 0#1
      rw [decide_eq_false (fun h => h rfl)]; rfl
    rw [hu]
    show Scalar.select (FloatOps.cmpf (F := Ideal) (φ := .f32) .oeq v (FloatOps.ofBits (F := Ideal) .f32 0x00000000#32)) (FloatOps.ofBits (F := Ideal) .f32 0x00000000#32) v = v
    by_cases hz : v = FloatOps.ofBits (F := Ideal) .f32 0x00000000#32
    · have : FloatOps.cmpf (F := Ideal) (φ := .f32) .oeq v (FloatOps.ofBits (F := Ideal) .f32 0x00000000#32) = 1#1 := by
        show BitVec.ofBool (decide (v = _)) = 1#1
        rw [decide_eq_true hz]; rfl
      rw [this]; exact hz.symm
    · have : FloatOps.cmpf (F := Ideal) (φ := .f32) .oeq v (FloatOps.ofBits (F := Ideal) .f32 0x00000000#32) = 0#1 := by
        show BitVec.ofBool (decide (v = _)) = 0#1
        rw [decide_eq_false hz]; rfl
      rw [this]; rfl
  have e : comparator_f32_i32_d1 (F := Ideal) l r = BitVec.ofBool (decide (l.1 < r.1)) := by
    unfold comparator_f32_i32_d1
    dsimp only
    rw [same, same]
    rfl
  rw [e]
  cases decide (l.1 < r.1) <;> rfl

theorem v96_apply (b : Fin 16) (r : Fin 8732 → Fin 81 → ℝ) (h : ∀ a c, (inpR x).l b a c = r a c) (i : Fin 8732) :
    v96 x (ix2 b i) = BitVec.ofNat 32 (desc ((inpR x).t b) (inpR x).p r i).val := by
  have hv : v96 x = (Host.sort2 SR 1 (comparator_f32_i32_d1 (F := Ideal)) (v95 x) (call4_v0 x)).2 := by
    delta v96; with_reducible rfl
  have hk : (fun k k' : Fin 8732 => comparator_f32_i32_d1 (F := Ideal) (v95 x (ix2 b k), call4_v0 x (ix2 b k)) (v95 x (ix2 b k'), call4_v0 x (ix2 b k')) == 1#1)
      = fun k k' => decide (keyr ((inpR x).t b) (inpR x).p r k < keyr ((inpR x).t b) (inpR x).p r k') := by
    funext k k'
    rw [compared]
    dsimp only
    rw [v95_apply x b k r h, v95_apply x b k' r h]
  have hi : ∀ k : Fin 8732, call4_v0 x (ix2 b k) = BitVec.ofNat 32 k.val := fun k => rfl
  rw [hv, sort2_snd, hk, hi]
  unfold desc
  rw [perm_apply]
  unfold ord
  rfl

theorem v97_apply (b : Fin 16) (r : Fin 8732 → Fin 81 → ℝ) (h : ∀ a c, (inpR x).l b a c = r a c) (a : Fin 8732) :
    v97 x (ix2 b a) = BitVec.ofNat 32 ((desc ((inpR x).t b) (inpR x).p r).symm a).val := by
  have hv : v97 x = (Host.sort2 SR 1 comparator_i32_i32_d1 (v96 x) (call5_v0 x)).2 := by
    delta v97; with_reducible rfl
  have hk : (fun k k' : Fin 8732 => comparator_i32_i32_d1 (v96 x (ix2 b k), call5_v0 x (ix2 b k)) (v96 x (ix2 b k'), call5_v0 x (ix2 b k')) == 1#1)
      = fun k k' => IntOp.cmpi .slt (BitVec.ofNat 32 (desc ((inpR x).t b) (inpR x).p r k).val) (BitVec.ofNat 32 (desc ((inpR x).t b) (inpR x).p r k').val) == 1#1 := by
    funext k k'
    have e : ∀ l r : BitVec 32 × BitVec 32, comparator_i32_i32_d1 l r = IntOp.cmpi .slt l.1 r.1 := fun _ _ => rfl
    rw [e]
    dsimp only
    rw [v96_apply x b r h k, v96_apply x b r h k']
  have hi : ∀ k : Fin 8732, call5_v0 x (ix2 b k) = BitVec.ofNat 32 k.val := fun k => rfl
  rw [hv, sort2_snd, hk, hi, rank_word]

theorem v99_apply (b : Fin 16) : v99 x (ix1 b) = BitVec.ofNat 32 (npn ((inpR x).t b) (inpR x).p) := by
  have e : v99 x (ix1 b) = Finset.univ.fold IntOp.addi 0#32 (fun a => BitVec.setWidth 32 (v82 x (ix2 b a))) := by
    pointwise [v99, c_12, v98]
  rw [e, fold_addi]
  unfold npn
  refine congrArg (fun s : Finset (Fin 8732) => BitVec.ofNat 32 s.card) ?_
  exact Finset.filter_congr fun a _ => v82_apply x b a

theorem v104_apply (b : Fin 16) : v104 x (ix1 b) = BitVec.ofNat 32 (kc ((inpR x).t b) (inpR x).p) := by
  have e : v104 x (ix1 b) = IntOp.minsi (IntOp.muli 7#32 (v99 x (ix1 b))) (IntOp.subi 8732#32 (v99 x (ix1 b))) := by
    pointwise [v104, v103, v102, c_14, v101, v100, c_13]
  rw [e, v99_apply, kn_word _ (npn_le _ _)]
  rfl

theorem v109_apply (b : Fin 16) (r : Fin 8732 → Fin 81 → ℝ) (h : ∀ a c, (inpR x).l b a c = r a c) (a : Fin 8732) :
    v109 x (ix2 b a) = ((mined ((inpR x).t b) (inpR x).p r a : ℝ) : EReal) := by
  have e : v109 x (ix2 b a) = (show EReal from FloatOps.uitofp (F := Ideal) .f32 (IntOp.cmpi .slt (v97 x (ix2 b a)) (v104 x (ix1 b)))) := by
    pointwise [v109, v107, v106, v105]
  have hn := npn_le ((inpR x).t b) (inpR x).p
  have hk' : kc ((inpR x).t b) (inpR x).p ≤ 8732 - npn ((inpR x).t b) (inpR x).p := min_le_right _ _
  rw [e, v97_apply x b r h, v104_apply, slt_ofNat _ _ (by omega) (by omega)]
  refine (uitofp_bit _).trans ?_
  unfold mined
  by_cases hc : ((desc ((inpR x).t b) (inpR x).p r).symm a).val < kc ((inpR x).t b) (inpR x).p
  · rw [if_pos hc, if_pos ((ofBool_one _).2 (decide_eq_true hc))]
    rfl
  · rw [if_neg hc, if_neg (fun e => hc (of_decide_eq_true ((ofBool_one _).1 e)))]
    rfl

end Cert.ReferenceIdeal.Hand

end
-- ==== Proof.ReferenceIdeal.Offsets.lean ====
/- The reference's box offsets and their smooth-L1 losses, read at an index. -/
module

public import proofs.«01_k».proof.Proof.ReferenceIdeal.Index
public import proofs.«01_k».proof.Proof.Loss.Boxes

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args)

theorem v136_0 (b : Fin 16) (a : Fin 8732) (o : Fin 24) : v147 x (ix4 b a o 0)
    = rc ((inpR x).q b a 0) ((inpR x).t b o 0) ((inpR x).t b o 2) ((inpR x).p a 0) ((inpR x).p a 2) := by
  pointwise [v147, v146, v145, v144, v136, v135, v134, v133, cst_19, v132, v131, v130, v129, call7_v1, call7_v0, cst_18, v128, v127, v126,
    v125, v124, cst_17, v123, v122, v121, v116, v115, cst_15, v114, v113, v112, v111, v110]
  rfl

theorem v136_1 (b : Fin 16) (a : Fin 8732) (o : Fin 24) : v147 x (ix4 b a o 1)
    = rc ((inpR x).q b a 1) ((inpR x).t b o 1) ((inpR x).t b o 3) ((inpR x).p a 1) ((inpR x).p a 3) := by
  pointwise [v147, v146, v145, v144, v136, v135, v134, v133, cst_19, v132, v131, v130, v129, call7_v1, call7_v0, cst_18, v128, v127, v126,
    v125, v124, cst_17, v123, v122, v121, v116, v115, cst_15, v114, v113, v112, v111, v110]
  rfl

theorem v143_2 (b : Fin 16) (a : Fin 8732) (o : Fin 24) : v147 x (ix4 b a o 2)
    = rs ((inpR x).q b a 2) ((inpR x).t b o 0) ((inpR x).t b o 2) ((inpR x).p a 0) ((inpR x).p a 2) := by
  pointwise [v147, v146, v145, v144, v143, v142, cst_21, v141, v140, call8_v1, call8_v0, cst_20, v139, v138, v137, v129, call7_v1, call7_v0, cst_18,
    v128, v127, v126, v120, call6_v1, call6_v0, cst_16, v119, v118, v117, v111, v110]
  rfl

theorem v143_3 (b : Fin 16) (a : Fin 8732) (o : Fin 24) : v147 x (ix4 b a o 3)
    = rs ((inpR x).q b a 3) ((inpR x).t b o 1) ((inpR x).t b o 3) ((inpR x).p a 1) ((inpR x).p a 3) := by
  pointwise [v147, v146, v145, v144, v143, v142, cst_21, v141, v140, call8_v1, call8_v0, cst_20, v139, v138, v137, v129, call7_v1, call7_v0, cst_18,
    v128, v127, v126, v120, call6_v1, call6_v0, cst_16, v119, v118, v117, v111, v110]
  rfl

theorem v156_apply (b : Fin 16) (a : Fin 8732) (o : Fin 24) (j : Fin 4) :
    v156 x (ix4 b a o j) = sl1 (v147 x (ix4 b a o j)) := by
  pointwise [v156, v155, v154, cst_24, v153, v152, v151, cst_23, v150, v149, cst_22, v148]
  rfl

theorem v161_apply (b : Fin 16) (a : Fin 8732) (o : Fin 24) (j : Fin 4) :
    v161 x (ix4 b a o j) = sl1 (v147 x (ix4 b a o j)) * posf ((inpR x).t b o) (inpR x).p a := by
  pointwise [v161, v160, v159, v108_apply, v156_apply]

theorem v157_apply (j : S_.Idx) : v157 x j = (inpR x).pairsTot := by
  pointwise [v157, cst_25, v108_apply]
  rfl

/-- An index of the pairs' offsets as its four coordinates. -/
def idx4 : S16x8732x24x4.Idx ≃ Fin 16 × Fin 8732 × Fin 24 × Fin 4 where
  toFun i := (i 0, i 1, i 2, i 3)
  invFun y := ix4 y.1 y.2.1 y.2.2.1 y.2.2.2
  left_inv i := by funext w; fin_cases w <;> rfl
  right_inv y := rfl

/-- A sum over the pairs' offsets, the objects outside the anchors. -/
theorem sum_idx4 (F : S16x8732x24x4.Idx → EReal) :
    ∑ i, F i = ∑ b : Fin 16, ∑ o : Fin 24, ∑ a : Fin 8732, ∑ j : Fin 4, F (ix4 b a o j) := by
  rw [← Equiv.sum_comp idx4.symm F, Fintype.sum_prod_type]
  refine Finset.sum_congr rfl fun b _ => ?_
  rw [Fintype.sum_prod_type]
  refine Eq.trans ?_ Finset.sum_comm
  refine Finset.sum_congr rfl fun a _ => ?_
  rw [Fintype.sum_prod_type]
  rfl

theorem v161_sum (h : (inpR x).Corners) (b : Fin 16) (o : Fin 24) (a : Fin 8732) :
    (∑ j : Fin 4, (show EReal from v161 x (ix4 b a o j)))
      = box4 ((inpR x).q b a) ((inpR x).t b o) ((inpR x).p a) * posf ((inpR x).t b o) (inpR x).p a := by
  rw [box4_posf _ _ _ _ _ _ (h.p a), ← v136_0, ← v136_1, ← v143_2, ← v143_3, ← v161_apply, ← v161_apply,
    ← v161_apply, ← v161_apply]
  exact Fin.sum_univ_four (fun j : Fin 4 => (show EReal from v161 x (ix4 b a o j)))

theorem v162_apply (h : (inpR x).Corners) (j : S_.Idx) : v162 x j = (inpR x).boxTot := by
  have e : v162 x j = ∑ i : S16x8732x24x4.Idx, (show EReal from v161 x i) := by
    pointwise [v162, cst_27]
    rw [Ideal.hostReduceAdd_total _ (fun b => b.elim0), zero_add]
  refine e.trans ((sum_idx4 (v161 x)).trans ?_)
  unfold In.boxTot box
  refine Finset.sum_congr rfl fun b _ => Finset.sum_congr rfl fun o _ => Finset.sum_congr rfl fun a _ => ?_
  exact v161_sum x h b o a

/-- A quotient by a value kept at least one. -/
theorem div_max (u w : FVec Ideal S_ .f32) (j : S_.Idx) :
    Host.divf u (maximumf (constant S_ .f32 0x3F800000#32) w) j = Ideal.div (u j) (max (lit 0x3F800000#32) (w j)) := rfl

theorem v163_div (j : S_.Idx) : v163 x j = Ideal.div (v162 x j) (max (lit 0x3F800000#32) (v157 x j)) := by
  have hv : v163 x = Host.divf (v162 x) (maximumf (constant S_ .f32 0x3F800000#32) (v157 x)) := by
    delta v163 v158 call10_v0 cst_26
    with_reducible rfl
  rw [hv, div_max]

theorem v163_apply (h : (inpR x).Corners) (j : S_.Idx) : v163 x j = (inpR x).boxLoss := by
  rw [v163_div, v162_apply x h, v157_apply, lit_1, max_comm]
  unfold In.boxLoss
  rfl

end Cert.ReferenceIdeal.Hand

end
-- ==== Proof.ReferenceIdeal.Stack.lean ====
/- The reference's result, read at its three places: the box loss, the class loss and their sum. -/
module

public import proofs.«01_k».proof.Proof.ReferenceIdeal.Offsets

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss

/-- Three scalars stacked. -/
theorem stack_apply (u v w : FVec Ideal S_ .f32) (j : S_.Idx) (i : Fin 3) :
    concatenate S3 0 [⟨S1, broadcastInDim S1 ![] bcast_S_S1 u⟩, ⟨S1, broadcastInDim S1 ![] bcast_S_S1 v⟩,
      ⟨S1, broadcastInDim S1 ![] bcast_S_S1 w⟩] concatenates_S1_S1_S1_S3_d0 (ix1 i) = ![u j, v j, w j] i := by
  have hs : ∀ k : S_.Idx, k = j := fun k => funext fun a => a.elim0
  fin_cases i
  · exact congrArg u (hs _)
  · exact congrArg v (hs _)
  · exact congrArg w (hs _)

variable (x : Args)

theorem v195_apply (j : S_.Idx) (i : Fin 3) : v195 x (ix1 i) = ![v163 x j, v190 x j, addf (v163 x) (v190 x) j] i := by
  have hv : v195 x = concatenate S3 0 [⟨S1, broadcastInDim S1 ![] bcast_S_S1 (v163 x)⟩, ⟨S1, broadcastInDim S1 ![] bcast_S_S1 (v190 x)⟩,
      ⟨S1, broadcastInDim S1 ![] bcast_S_S1 (addf (v163 x) (v190 x))⟩] concatenates_S1_S1_S1_S3_d0 := by
    delta v195 v194 v193 v192 v191
    with_reducible rfl
  rw [hv, stack_apply _ _ _ j]

theorem v195_0 (j : S_.Idx) : v195 x (ix1 0) = v163 x j := by
  have e : ∀ u v w : EReal, (![u, v, w] : Fin 3 → EReal) 0 = u := fun _ _ _ => rfl
  exact (v195_apply x j 0).trans (e _ _ _)

theorem v195_boxLoss (h : (inpR x).Corners) : v195 x (ix1 0) = (inpR x).boxLoss :=
  (v195_0 x (fun w => w.elim0)).trans (v163_apply x h _)

end Cert.ReferenceIdeal.Hand

end
-- ==== Proof.ReferenceIdeal.Total.lean ====
/- The reference's class loss, over finite logits: the kernel's. -/
module

public import proofs.«01_k».proof.Proof.ReferenceIdeal.Ranks
public import proofs.«01_k».proof.Proof.ReferenceIdeal.Stack

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.Loss
open scoped Classical

variable (x : Args) (r : Fin 16 → Fin 8732 → Fin 81 → ℝ)

/-- Every image's logits, labels and cut are fine. -/
def AllFine : Prop := ∀ b, Fine ((inpR x).t b) (inpR x).p ((inpR x).l b) (r b) ((inpR x).g b)

variable {x r}

theorem v185_apply (h : AllFine x r) (b : Fin 16) (a : Fin 8732) (o : Fin 24) :
    v185 x (ix3 b a o) = ((ce (r b) ((inpR x).g b) (h b).labels a o * pr ((inpR x).t b o) (inpR x).p a : ℝ) : EReal) := by
  have e : v185 x (ix3 b a o) = ((show EReal from v171 x (ix2 b a)) - (show EReal from v174 x (ix3 b a o))) * (show EReal from v108 x (ix3 b a o)) := by
    pointwise [v185, v177, v176, v175]
  rw [e, v171_v90, v90_apply x b a (r b a) ((h b).hl a), v174_apply x b a o ((h b).labels o), v108_apply, posf_pr]
  show (((bgr (r b a) + r b a 0 : ℝ) : EReal) - (inpR x).l b a ⟨((inpR x).g b o).toNat, (h b).labels o⟩) * ((pr ((inpR x).t b o) (inpR x).p a : ℝ) : EReal) = _
  rw [(h b).hl a, ← EReal.coe_sub, ← EReal.coe_mul]
  unfold ce
  rfl

theorem v187_apply (h : AllFine x r) (b : Fin 16) (a : Fin 8732) :
    v187 x (ix2 b a) = ((bgr (r b a) * mined ((inpR x).t b) (inpR x).p (r b) a : ℝ) : EReal) := by
  have e : v187 x (ix2 b a) = (show EReal from v180 x (ix2 b a)) * (show EReal from v109 x (ix2 b a)) := by
    pointwise [v187]
  rw [e, v180_v93, v93_apply x b a (r b a) ((h b).hl a), v109_apply x b (r b) (h b).hl a]
  exact (EReal.coe_mul _ _).symm

theorem v186_apply (h : AllFine x r) (j : S_.Idx) : v186 x j = (inpR x).cepTot := by
  have e : v186 x j = ∑ b : Fin 16, ∑ a : Fin 8732, ∑ o : Fin 24, (show EReal from v185 x (ix3 b a o)) := by
    pointwise [v186, cst_33]
  rw [e]
  unfold In.cepTot
  refine Finset.sum_congr rfl fun b _ => ?_
  rw [(h b).cep_eq, ← coe_sum]
  refine Finset.sum_congr rfl fun a _ => ?_
  rw [← coe_sum]
  exact Finset.sum_congr rfl fun o _ => v185_apply h b a o

theorem v188_apply (h : AllFine x r) (j : S_.Idx) : v188 x j = ∑ b, (inpR x).negOf b := by
  have e : v188 x j = ∑ b : Fin 16, ∑ a : Fin 8732, (show EReal from v187 x (ix2 b a)) := by
    pointwise [v188, cst_34]
  rw [e]
  refine Finset.sum_congr rfl fun b _ => ?_
  unfold In.negOf In.kOf
  rw [(h b).neg_eq, ← coe_sum]
  exact Finset.sum_congr rfl fun a _ => v187_apply h b a

theorem v182_apply (h : AllFine x r) (j : S_.Idx) : v182 x j = ∑ b, (inpR x).kOf b := by
  have e : v182 x j = ∑ b : Fin 16, ∑ a : Fin 8732, (show EReal from v109 x (ix2 b a)) := by
    pointwise [v182, cst_31]
  rw [e]
  refine Finset.sum_congr rfl fun b _ => ?_
  unfold In.kOf
  rw [kk_real, ← mined_sum (r := r b), ← coe_sum]
  exact Finset.sum_congr rfl fun a _ => v109_apply x b (r b) (h b).hl a

theorem v181_v157 : v181 x = v157 x := by
  delta v181 cst_30 v157 cst_25
  with_reducible rfl

theorem v190_div (j : S_.Idx) : v190 x j = Ideal.div ((show EReal from v186 x j) + (show EReal from v188 x j))
    (max (lit 0x3F800000#32) ((show EReal from v181 x j) + (show EReal from v182 x j))) := by
  have hv : v190 x = Host.divf (addf (v186 x) (v188 x)) (maximumf (constant S_ .f32 0x3F800000#32) (addf (v181 x) (v182 x))) := by
    delta v190 v189 v184 v183 call12_v0 cst_32
    with_reducible rfl
  have ha : ∀ u w : FVec Ideal S_ .f32, addf u w j = (show EReal from u j) + (show EReal from w j) := fun _ _ => rfl
  rw [hv, div_max, ha, ha]

theorem v190_apply (h : AllFine x r) (j : S_.Idx) : v190 x j = (inpR x).clsLoss := by
  rw [v190_div, v186_apply h, v188_apply h, v182_apply h, v181_v157, v157_apply, lit_1, max_comm]
  unfold In.clsLoss
  rfl

theorem out_eq (y : In) (i : Fin 3) (u v w : EReal) (hu : u = y.boxLoss) (hv : v = y.clsLoss) (hw : w = u + v) : ![u, v, w] i = y.out i := by
  subst hw hu hv
  unfold In.out
  rfl

/-- The reference's three results. -/
theorem v195_out (h : AllFine x r) (hc : (inpR x).Corners) (j : S_.Idx) (i : Fin 3) : v195 x (ix1 i) = (inpR x).out i :=
  (v195_apply x j i).trans (out_eq (inpR x) i _ _ _ (v163_apply x hc j) (v190_apply h j)
    (by
      have ha : ∀ u w : FVec Ideal S_ .f32, addf u w j = (show EReal from u j) + (show EReal from w j) := fun _ _ => rfl
      exact ha _ _))

end Cert.ReferenceIdeal.Hand

end
-- ==== Proof.Pre.Values.lean ====
/- The precondition's values, one definition an operation. -/
module

public import proofs.«01_k».proof.Pre_mined_apart
public import proofs.«01_k».proof.Proof.ReferenceIdeal.Total

@[expose] public section

set_option maxRecDepth 16384

noncomputable section

namespace Cert.Pre

open Idealize.ShloMosaic Idealize.ShloMosaic.StableHlo
open Cert.Pre_mined_apart

theorem facts_pre : Cert.Pre_mined_apart.Facts where
  slices_S16x8732x81_S16x8732x1_0_0_0 := by decide
  bcast_S16x8732x1_S16x8732x81_0_1_2 := by decide
  bcast_S_S16x8732x81 := by decide
  reducesTo_S16x8732x81_S_d0_1_2 := by decide
  h_S_ := by decide
  bcast_S_S8732x4 := by decide
  reducesTo_S8732x4_S_d0_1 := by decide
  bcast_S_S16x24 := by decide
  reducesTo_S16x24_S_d0_1 := by decide
  slices_S16x24x4_S16x24x1_0_0_2 := by decide
  shapeCasts_S16x24x1_S16x24 := by decide
  bcast_S16x24_S16x24x8732_0_1 := by decide
  slices_S8732x4_S8732x1_0_2 := by decide
  shapeCasts_S8732x1_S8732 := by decide
  bcast_S8732_S16x24x8732_2 := by decide
  slices_S16x24x4_S16x24x1_0_0_0 := by decide
  slices_S8732x4_S8732x1_0_0 := by decide
  bcast_S_S16x24x8732 := by decide
  slices_S16x24x4_S16x24x1_0_0_3 := by decide
  slices_S8732x4_S8732x1_0_3 := by decide
  slices_S16x24x4_S16x24x1_0_0_1 := by decide
  slices_S8732x4_S8732x1_0_1 := by decide
  reducesTo_S16x24x8732_S16x24_d2 := by decide
  reducesTo_S16x24x8732_S16x8732_d1 := by decide
  reducesTo_S16x8732x81_S16x8732_d2 := by decide
  bcast_S_S16x8732 := by decide
  natLt_1_32 := by decide
  reducesTo_S16x8732_S16_d1 := by decide
  bcast_S_S16 := by decide
  slices_S16x8732_S16x8731_0_0 := by decide
  slices_S16x8732_S16x8731_0_1 := by decide
  bcast_S_S16x8731 := by decide
  bcast_S16_S16x8731_0 := by decide
  reducesTo_S16x8731_S_d0_1 := by decide

attribute [local instance] facts_pre
open Cert.Pre_mined_apart.Facts

/-- The five arguments. -/
abbrev Args := Cert.ReferenceIdeal.Hand.Args

def v0 (x : Args) : FVec Ideal S16x8732x1 .f32 := extractStridedSlice S16x8732x1 ![0, 0, 0] x.a1 slices_S16x8732x81_S16x8732x1_0_0_0
def v1 (x : Args) : FVec Ideal S16x8732x81 .f32 := broadcastInDim S16x8732x81 ![0, 1, 2] bcast_S16x8732x1_S16x8732x81_0_1_2 (v0 x)
def v2 (x : Args) : FVec Ideal S16x8732x81 .f32 := subf x.a1 (v1 x)
def v3 (x : Args) : FVec Ideal S16x8732x81 .f32 := Host.absf x.a1
def cst (x : Args) : FVec Ideal S_ .f32 := constant (F := Ideal) S_ .f32 0x7F800000#32
def v4 (x : Args) : FVec Ideal S16x8732x81 .f32 := broadcastInDim S16x8732x81 ![] bcast_S_S16x8732x81 (cst x)
def v5 (x : Args) : IVec S16x8732x81 1 := cmpf .olt (v3 x) (v4 x)
def cst_0 (x : Args) : FVec Ideal S_ .f32 := constant (F := Ideal) S_ .f32 0x42A00000#32
def v6 (x : Args) : FVec Ideal S16x8732x81 .f32 := broadcastInDim S16x8732x81 ![] bcast_S_S16x8732x81 (cst_0 x)
def v7 (x : Args) : IVec S16x8732x81 1 := cmpf .ole (v2 x) (v6 x)
def v8 (x : Args) : IVec S16x8732x81 1 := andi (v5 x) (v7 x)
def c (x : Args) : IVec S_ 1 := constantI S_ 1 1#1
def v9 (x : Args) : IVec S_ 1 := Host.reduce IntOp.andi (v8 x) (c x) reducesTo_S16x8732x81_S_d0_1_2 h_S_
def cst_1 (x : Args) : FVec Ideal S_ .f32 := constant (F := Ideal) S_ .f32 0x00000000#32
def v10 (x : Args) : FVec Ideal S8732x4 .f32 := broadcastInDim S8732x4 ![] bcast_S_S8732x4 (cst_1 x)
def v11 (x : Args) : IVec S8732x4 1 := cmpf .oge x.a3 (v10 x)
def cst_2 (x : Args) : FVec Ideal S_ .f32 := constant (F := Ideal) S_ .f32 0x3F800000#32
def v12 (x : Args) : FVec Ideal S8732x4 .f32 := broadcastInDim S8732x4 ![] bcast_S_S8732x4 (cst_2 x)
def v13 (x : Args) : IVec S8732x4 1 := cmpf .ole x.a3 (v12 x)
def v14 (x : Args) : IVec S8732x4 1 := andi (v11 x) (v13 x)
def c_3 (x : Args) : IVec S_ 1 := constantI S_ 1 1#1
def v15 (x : Args) : IVec S_ 1 := Host.reduce IntOp.andi (v14 x) (c_3 x) reducesTo_S8732x4_S_d0_1 h_S_
def c_4 (x : Args) : IVec S_ 32 := constantI S_ 32 0#32
def v16 (x : Args) : IVec S16x24 32 := broadcastInDim S16x24 ![] bcast_S_S16x24 (c_4 x)
def v17 (x : Args) : IVec S16x24 1 := cmpi .sge x.a4 (v16 x)
def c_5 (x : Args) : IVec S_ 32 := constantI S_ 32 81#32
def v18 (x : Args) : IVec S16x24 32 := broadcastInDim S16x24 ![] bcast_S_S16x24 (c_5 x)
def v19 (x : Args) : IVec S16x24 1 := cmpi .slt x.a4 (v18 x)
def v20 (x : Args) : IVec S16x24 1 := andi (v17 x) (v19 x)
def c_6 (x : Args) : IVec S_ 1 := constantI S_ 1 1#1
def v21 (x : Args) : IVec S_ 1 := Host.reduce IntOp.andi (v20 x) (c_6 x) reducesTo_S16x24_S_d0_1 h_S_
def v22 (x : Args) : FVec Ideal S16x24x1 .f32 := extractStridedSlice S16x24x1 ![0, 0, 2] x.a2 slices_S16x24x4_S16x24x1_0_0_2
def v23 (x : Args) : FVec Ideal S16x24 .f32 := shapeCast S16x24 (v22 x) shapeCasts_S16x24x1_S16x24
def v24 (x : Args) : FVec Ideal S16x24x8732 .f32 := broadcastInDim S16x24x8732 ![0, 1] bcast_S16x24_S16x24x8732_0_1 (v23 x)
def v25 (x : Args) : FVec Ideal S8732x1 .f32 := extractStridedSlice S8732x1 ![0, 2] x.a3 slices_S8732x4_S8732x1_0_2
def v26 (x : Args) : FVec Ideal S8732 .f32 := shapeCast S8732 (v25 x) shapeCasts_S8732x1_S8732
def v27 (x : Args) : FVec Ideal S16x24x8732 .f32 := broadcastInDim S16x24x8732 ![2] bcast_S8732_S16x24x8732_2 (v26 x)
def v28 (x : Args) : FVec Ideal S16x24x8732 .f32 := minimumf (v24 x) (v27 x)
def v29 (x : Args) : FVec Ideal S16x24x1 .f32 := extractStridedSlice S16x24x1 ![0, 0, 0] x.a2 slices_S16x24x4_S16x24x1_0_0_0
def v30 (x : Args) : FVec Ideal S16x24 .f32 := shapeCast S16x24 (v29 x) shapeCasts_S16x24x1_S16x24
def v31 (x : Args) : FVec Ideal S16x24x8732 .f32 := broadcastInDim S16x24x8732 ![0, 1] bcast_S16x24_S16x24x8732_0_1 (v30 x)
def v32 (x : Args) : FVec Ideal S8732x1 .f32 := extractStridedSlice S8732x1 ![0, 0] x.a3 slices_S8732x4_S8732x1_0_0
def v33 (x : Args) : FVec Ideal S8732 .f32 := shapeCast S8732 (v32 x) shapeCasts_S8732x1_S8732
def v34 (x : Args) : FVec Ideal S16x24x8732 .f32 := broadcastInDim S16x24x8732 ![2] bcast_S8732_S16x24x8732_2 (v33 x)
def v35 (x : Args) : FVec Ideal S16x24x8732 .f32 := maximumf (v31 x) (v34 x)
def v36 (x : Args) : FVec Ideal S16x24x8732 .f32 := subf (v28 x) (v35 x)
def cst_7 (x : Args) : FVec Ideal S_ .f32 := constant (F := Ideal) S_ .f32 0x00000000#32
def v37 (x : Args) : FVec Ideal S16x24x8732 .f32 := broadcastInDim S16x24x8732 ![] bcast_S_S16x24x8732 (cst_7 x)
def v38 (x : Args) : FVec Ideal S16x24x8732 .f32 := maximumf (v36 x) (v37 x)
def v39 (x : Args) : FVec Ideal S16x24x1 .f32 := extractStridedSlice S16x24x1 ![0, 0, 3] x.a2 slices_S16x24x4_S16x24x1_0_0_3
def v40 (x : Args) : FVec Ideal S16x24 .f32 := shapeCast S16x24 (v39 x) shapeCasts_S16x24x1_S16x24
def v41 (x : Args) : FVec Ideal S16x24x8732 .f32 := broadcastInDim S16x24x8732 ![0, 1] bcast_S16x24_S16x24x8732_0_1 (v40 x)
def v42 (x : Args) : FVec Ideal S8732x1 .f32 := extractStridedSlice S8732x1 ![0, 3] x.a3 slices_S8732x4_S8732x1_0_3
def v43 (x : Args) : FVec Ideal S8732 .f32 := shapeCast S8732 (v42 x) shapeCasts_S8732x1_S8732
def v44 (x : Args) : FVec Ideal S16x24x8732 .f32 := broadcastInDim S16x24x8732 ![2] bcast_S8732_S16x24x8732_2 (v43 x)
def v45 (x : Args) : FVec Ideal S16x24x8732 .f32 := minimumf (v41 x) (v44 x)
def v46 (x : Args) : FVec Ideal S16x24x1 .f32 := extractStridedSlice S16x24x1 ![0, 0, 1] x.a2 slices_S16x24x4_S16x24x1_0_0_1
def v47 (x : Args) : FVec Ideal S16x24 .f32 := shapeCast S16x24 (v46 x) shapeCasts_S16x24x1_S16x24
def v48 (x : Args) : FVec Ideal S16x24x8732 .f32 := broadcastInDim S16x24x8732 ![0, 1] bcast_S16x24_S16x24x8732_0_1 (v47 x)
def v49 (x : Args) : FVec Ideal S8732x1 .f32 := extractStridedSlice S8732x1 ![0, 1] x.a3 slices_S8732x4_S8732x1_0_1
def v50 (x : Args) : FVec Ideal S8732 .f32 := shapeCast S8732 (v49 x) shapeCasts_S8732x1_S8732
def v51 (x : Args) : FVec Ideal S16x24x8732 .f32 := broadcastInDim S16x24x8732 ![2] bcast_S8732_S16x24x8732_2 (v50 x)
def v52 (x : Args) : FVec Ideal S16x24x8732 .f32 := maximumf (v48 x) (v51 x)
def v53 (x : Args) : FVec Ideal S16x24x8732 .f32 := subf (v45 x) (v52 x)
def cst_8 (x : Args) : FVec Ideal S_ .f32 := constant (F := Ideal) S_ .f32 0x00000000#32
def v54 (x : Args) : FVec Ideal S16x24x8732 .f32 := broadcastInDim S16x24x8732 ![] bcast_S_S16x24x8732 (cst_8 x)
def v55 (x : Args) : FVec Ideal S16x24x8732 .f32 := maximumf (v53 x) (v54 x)
def v56 (x : Args) : FVec Ideal S16x24x8732 .f32 := mulf (v38 x) (v55 x)
def v57 (x : Args) : FVec Ideal S16x24x1 .f32 := extractStridedSlice S16x24x1 ![0, 0, 2] x.a2 slices_S16x24x4_S16x24x1_0_0_2
def v58 (x : Args) : FVec Ideal S16x24 .f32 := shapeCast S16x24 (v57 x) shapeCasts_S16x24x1_S16x24
def v59 (x : Args) : FVec Ideal S16x24x8732 .f32 := broadcastInDim S16x24x8732 ![0, 1] bcast_S16x24_S16x24x8732_0_1 (v58 x)
def v60 (x : Args) : FVec Ideal S16x24x1 .f32 := extractStridedSlice S16x24x1 ![0, 0, 0] x.a2 slices_S16x24x4_S16x24x1_0_0_0
def v61 (x : Args) : FVec Ideal S16x24 .f32 := shapeCast S16x24 (v60 x) shapeCasts_S16x24x1_S16x24
def v62 (x : Args) : FVec Ideal S16x24x8732 .f32 := broadcastInDim S16x24x8732 ![0, 1] bcast_S16x24_S16x24x8732_0_1 (v61 x)
def v63 (x : Args) : FVec Ideal S16x24x8732 .f32 := subf (v59 x) (v62 x)
def v64 (x : Args) : FVec Ideal S16x24x1 .f32 := extractStridedSlice S16x24x1 ![0, 0, 3] x.a2 slices_S16x24x4_S16x24x1_0_0_3
def v65 (x : Args) : FVec Ideal S16x24 .f32 := shapeCast S16x24 (v64 x) shapeCasts_S16x24x1_S16x24
def v66 (x : Args) : FVec Ideal S16x24x8732 .f32 := broadcastInDim S16x24x8732 ![0, 1] bcast_S16x24_S16x24x8732_0_1 (v65 x)
def v67 (x : Args) : FVec Ideal S16x24x1 .f32 := extractStridedSlice S16x24x1 ![0, 0, 1] x.a2 slices_S16x24x4_S16x24x1_0_0_1
def v68 (x : Args) : FVec Ideal S16x24 .f32 := shapeCast S16x24 (v67 x) shapeCasts_S16x24x1_S16x24
def v69 (x : Args) : FVec Ideal S16x24x8732 .f32 := broadcastInDim S16x24x8732 ![0, 1] bcast_S16x24_S16x24x8732_0_1 (v68 x)
def v70 (x : Args) : FVec Ideal S16x24x8732 .f32 := subf (v66 x) (v69 x)
def v71 (x : Args) : FVec Ideal S16x24x8732 .f32 := mulf (v63 x) (v70 x)
def v72 (x : Args) : FVec Ideal S8732x1 .f32 := extractStridedSlice S8732x1 ![0, 2] x.a3 slices_S8732x4_S8732x1_0_2
def v73 (x : Args) : FVec Ideal S8732 .f32 := shapeCast S8732 (v72 x) shapeCasts_S8732x1_S8732
def v74 (x : Args) : FVec Ideal S16x24x8732 .f32 := broadcastInDim S16x24x8732 ![2] bcast_S8732_S16x24x8732_2 (v73 x)
def v75 (x : Args) : FVec Ideal S8732x1 .f32 := extractStridedSlice S8732x1 ![0, 0] x.a3 slices_S8732x4_S8732x1_0_0
def v76 (x : Args) : FVec Ideal S8732 .f32 := shapeCast S8732 (v75 x) shapeCasts_S8732x1_S8732
def v77 (x : Args) : FVec Ideal S16x24x8732 .f32 := broadcastInDim S16x24x8732 ![2] bcast_S8732_S16x24x8732_2 (v76 x)
def v78 (x : Args) : FVec Ideal S16x24x8732 .f32 := subf (v74 x) (v77 x)
def v79 (x : Args) : FVec Ideal S8732x1 .f32 := extractStridedSlice S8732x1 ![0, 3] x.a3 slices_S8732x4_S8732x1_0_3
def v80 (x : Args) : FVec Ideal S8732 .f32 := shapeCast S8732 (v79 x) shapeCasts_S8732x1_S8732
def v81 (x : Args) : FVec Ideal S16x24x8732 .f32 := broadcastInDim S16x24x8732 ![2] bcast_S8732_S16x24x8732_2 (v80 x)
def v82 (x : Args) : FVec Ideal S8732x1 .f32 := extractStridedSlice S8732x1 ![0, 1] x.a3 slices_S8732x4_S8732x1_0_1
def v83 (x : Args) : FVec Ideal S8732 .f32 := shapeCast S8732 (v82 x) shapeCasts_S8732x1_S8732
def v84 (x : Args) : FVec Ideal S16x24x8732 .f32 := broadcastInDim S16x24x8732 ![2] bcast_S8732_S16x24x8732_2 (v83 x)
def v85 (x : Args) : FVec Ideal S16x24x8732 .f32 := subf (v81 x) (v84 x)
def v86 (x : Args) : FVec Ideal S16x24x8732 .f32 := mulf (v78 x) (v85 x)
def v87 (x : Args) : FVec Ideal S16x24x8732 .f32 := addf (v71 x) (v86 x)
def v88 (x : Args) : FVec Ideal S16x24x8732 .f32 := subf (v87 x) (v56 x)
def cst_9 (x : Args) : FVec Ideal S_ .f32 := constant (F := Ideal) S_ .f32 0x3089705F#32
def v89 (x : Args) : FVec Ideal S16x24x8732 .f32 := broadcastInDim S16x24x8732 ![] bcast_S_S16x24x8732 (cst_9 x)
def v90 (x : Args) : FVec Ideal S16x24x8732 .f32 := maximumf (v88 x) (v89 x)
def v91 (x : Args) : FVec Ideal S16x24x8732 .f32 := Host.divf (v56 x) (v90 x)
def v92 (x : Args) : IVec S16x24x8732 32 := iotaInDim S16x24x8732 32 2
def cst_10 (x : Args) : FVec Ideal S_ .f32 := constant (F := Ideal) S_ .f32 0xFF800000#32
def v93 (x : Args) : FVec Ideal S16x24 .f32 := Host.reduce FloatOps.maximumf (v91 x) (cst_10 x) reducesTo_S16x24x8732_S16x24_d2 h_S_
def v94 (x : Args) : FVec Ideal S16x24x8732 .f32 := broadcastInDim S16x24x8732 ![0, 1] bcast_S16x24_S16x24x8732_0_1 (v93 x)
def v95 (x : Args) : IVec S16x24x8732 1 := cmpf .oeq (v91 x) (v94 x)
def c_11 (x : Args) : IVec S_ 32 := constantI S_ 32 8732#32
def v96 (x : Args) : IVec S16x24x8732 32 := broadcastInDim S16x24x8732 ![] bcast_S_S16x24x8732 (c_11 x)
def v97 (x : Args) : IVec S16x24x8732 32 := select (v95 x) (v92 x) (v96 x)
def c_12 (x : Args) : IVec S_ 32 := constantI S_ 32 2147483647#32
def v98 (x : Args) : IVec S16x24 32 := Host.reduce IntOp.minsi (v97 x) (c_12 x) reducesTo_S16x24x8732_S16x24_d2 h_S_
def v99 (x : Args) : IVec S16x24x8732 32 := broadcastInDim S16x24x8732 ![0, 1] bcast_S16x24_S16x24x8732_0_1 (v98 x)
def cst_13 (x : Args) : FVec Ideal S_ .f32 := constant (F := Ideal) S_ .f32 0x3EB33333#32
def v100 (x : Args) : FVec Ideal S16x24x8732 .f32 := broadcastInDim S16x24x8732 ![] bcast_S_S16x24x8732 (cst_13 x)
def v101 (x : Args) : IVec S16x24x8732 1 := cmpf .ogt (v91 x) (v100 x)
def v102 (x : Args) : IVec S16x24x8732 1 := cmpi .eq (v92 x) (v99 x)
def v103 (x : Args) : IVec S16x24x8732 1 := ori (v101 x) (v102 x)
def c_14 (x : Args) : IVec S_ 1 := constantI S_ 1 0#1
def v104 (x : Args) : IVec S16x8732 1 := Host.reduce IntOp.ori (v103 x) (c_14 x) reducesTo_S16x24x8732_S16x8732_d1 h_S_
def v105 (x : Args) : FVec Ideal S16x8732x81 .f32 := Host.exp (v2 x)
def cst_15 (x : Args) : FVec Ideal S_ .f32 := constant (F := Ideal) S_ .f32 0x00000000#32
def v106 (x : Args) : FVec Ideal S16x8732 .f32 := Host.reduceAdd (v105 x) (cst_15 x) reducesTo_S16x8732x81_S16x8732_d2 h_S_
def v107 (x : Args) : FVec Ideal S16x8732 .f32 := Host.log (v106 x)
def cst_16 (x : Args) : FVec Ideal S_ .f32 := constant (F := Ideal) S_ .f32 0xCE6E6B28#32
def v108 (x : Args) : FVec Ideal S16x8732 .f32 := broadcastInDim S16x8732 ![] bcast_S_S16x8732 (cst_16 x)
def v109 (x : Args) : FVec Ideal S16x8732 .f32 := select (v104 x) (v108 x) (v107 x)
def v110 (x : Args) : IVec S16x8732 32 := iotaInDim S16x8732 32 1
def v111 (x : Args) : FVec Ideal S16x8732 .f32 := Host.negf (v109 x)
def v112_0 (x : Args) : FVec Ideal S16x8732 .f32 := (Host.sort2 S16x8732 1 (comparator_f32_i32_d1 (F := Ideal)) (v111 x) (v110 x)).1
def v113 (x : Args) : IVec S16x8732 32 := extui 32 (v104 x) natLt_1_32
def c_17 (x : Args) : IVec S_ 32 := constantI S_ 32 0#32
def v114 (x : Args) : IVec S16 32 := Host.reduce IntOp.addi (v113 x) (c_17 x) reducesTo_S16x8732_S16_d1 h_S_
def c_18 (x : Args) : IVec S_ 32 := constantI S_ 32 7#32
def v115 (x : Args) : IVec S16 32 := broadcastInDim S16 ![] bcast_S_S16 (c_18 x)
def v116 (x : Args) : IVec S16 32 := muli (v115 x) (v114 x)
def c_19 (x : Args) : IVec S_ 32 := constantI S_ 32 8732#32
def v117 (x : Args) : IVec S16 32 := broadcastInDim S16 ![] bcast_S_S16 (c_19 x)
def v118 (x : Args) : IVec S16 32 := subi (v117 x) (v114 x)
def v119 (x : Args) : IVec S16 32 := minsi (v116 x) (v118 x)
def v120 (x : Args) : FVec Ideal S16x8731 .f32 := extractStridedSlice S16x8731 ![0, 0] (v112_0 x) slices_S16x8732_S16x8731_0_0
def v121 (x : Args) : FVec Ideal S16x8731 .f32 := extractStridedSlice S16x8731 ![0, 1] (v112_0 x) slices_S16x8732_S16x8731_0_1
def v122 (x : Args) : IVec S16x8731 32 := iotaInDim S16x8731 32 1
def c_20 (x : Args) : IVec S_ 32 := constantI S_ 32 1#32
def v123 (x : Args) : IVec S16x8731 32 := broadcastInDim S16x8731 ![] bcast_S_S16x8731 (c_20 x)
def v124 (x : Args) : IVec S16x8731 32 := addi (v122 x) (v123 x)
def v125 (x : Args) : IVec S16x8731 32 := broadcastInDim S16x8731 ![0] bcast_S16_S16x8731_0 (v119 x)
def v126 (x : Args) : IVec S16x8731 1 := cmpi .eq (v124 x) (v125 x)
def v127 (x : Args) : FVec Ideal S16x8731 .f32 := subf (v121 x) (v120 x)
def cst_21 (x : Args) : FVec Ideal S_ .f32 := constant (F := Ideal) S_ .f32 0x2E000000#32
def v128 (x : Args) : FVec Ideal S16x8731 .f32 := broadcastInDim S16x8731 ![] bcast_S_S16x8731 (cst_21 x)
def v129 (x : Args) : IVec S16x8731 1 := cmpf .oge (v127 x) (v128 x)
def v130 (x : Args) : IVec S16x8731 1 := noti (v126 x)
def v131 (x : Args) : IVec S16x8731 1 := ori (v129 x) (v130 x)
def c_22 (x : Args) : IVec S_ 1 := constantI S_ 1 1#1
def v132 (x : Args) : IVec S_ 1 := Host.reduce IntOp.andi (v131 x) (c_22 x) reducesTo_S16x8731_S_d0_1 h_S_
def v133 (x : Args) : IVec S_ 1 := andi (v9 x) (v15 x)
def v134 (x : Args) : IVec S_ 1 := andi (v133 x) (v21 x)
def v135 (x : Args) : IVec S_ 1 := andi (v134 x) (v132 x)

end Cert.Pre

end
-- ==== Proof.Pre.Matched.lean ====
/- The anchors some object matches, as the precondition finds them. -/
module

public import proofs.«01_k».proof.Proof.Pre.Values

@[expose] public section

set_option maxRecDepth 16384

noncomputable section

namespace Cert.Pre

open Idealize.ShloMosaic Idealize.ShloMosaic.StableHlo
open Cert.Pre_mined_apart Cert.Loss
open Cert.ReferenceIdeal.Hand (inpR)
open scoped Classical

attribute [local instance] facts_pre

/-- A choice by an equality of numbers. -/
theorem sel_eq (u v : EReal) (p q : BitVec 32) :
    Scalar.select (FloatOps.cmpf (F := Ideal) (φ := .f32) .oeq u v) p q = if u = v then p else q := by
  show Scalar.select (BitVec.ofBool (decide (u = v))) p q = _
  by_cases h : u = v
  · rw [if_pos h, decide_eq_true h]; rfl
  · rw [if_neg h, decide_eq_false h]; rfl

theorem above_bit (u v : EReal) : FloatOps.cmpf (F := Ideal) (φ := .f32) .ogt u v = 1#1 ↔ v < u := by
  show BitVec.ofBool (decide (v < u)) = 1#1 ↔ _
  rw [ofBool_one, decide_eq_true_iff]

variable (x : Args)

theorem v56_apply (b : Fin 16) (o : Fin 24) (a : Fin 8732) :
    v56 x (ix3 b o a) = wid ((inpR x).t b o) ((inpR x).p a) * hei ((inpR x).t b o) ((inpR x).p a) := by
  unfold wid hei
  rw [max_comm 0, max_comm 0]
  pointwise [v56, v55, v54, cst_8, v53, v52, v51, v50, v49, v48, v47, v46, v45, v44, v43, v42, v41, v40, v39, v38, cst_7, v37, v36, v35, v34, v33, v32, v31, v30, v29, v28, v27, v26, v25, v24, v23, v22]
  rfl

theorem v71_apply (b : Fin 16) (o : Fin 24) (a : Fin 8732) : v71 x (ix3 b o a) = area ((inpR x).t b o) := by
  pointwise [v71, v70, v69, v68, v67, v66, v65, v64, v63, v62, v61, v60, v59, v58, v57]
  rfl

theorem v86_apply (b : Fin 16) (o : Fin 24) (a : Fin 8732) : v86 x (ix3 b o a) = area ((inpR x).p a) := by
  pointwise [v86, v85, v84, v83, v82, v81, v80, v79, v78, v77, v76, v75, v74, v73, v72]
  rfl

theorem v91_apply (b : Fin 16) (o : Fin 24) (a : Fin 8732) : v91 x (ix3 b o a) = iou ((inpR x).t b o) ((inpR x).p a) := by
  unfold iou
  rw [max_comm (lit 0x3089705F#32)]
  pointwise [v91, v90, v89, cst_9, v88, v87, v86_apply, v71_apply, v56_apply]

theorem v98_apply (b : Fin 16) (o : Fin 24) : v98 x (ix2 b o) = Finset.univ.fold IntOp.minsi (2147483647#32)
    (fun a : Fin 8732 => if iou ((inpR x).t b o) ((inpR x).p a)
        = Finset.univ.fold max (lit 0xFF800000#32) (fun a : Fin 8732 => iou ((inpR x).t b o) ((inpR x).p a)) then BitVec.ofNat 32 a.val else 8732#32) := by
  have h93 : v93 x (ix2 b o) = Finset.univ.fold max (lit 0xFF800000#32) (fun a : Fin 8732 => iou ((inpR x).t b o) ((inpR x).p a)) := by
    pointwise [v93, cst_10, v91_apply]
  have e : v98 x (ix2 b o) = Finset.univ.fold IntOp.minsi (2147483647#32) (fun a : Fin 8732 => v97 x (ix3 b o a)) := by
    pointwise [v98, c_12]
  rw [e]
  refine congrArg (Finset.univ.fold IntOp.minsi (2147483647#32)) (funext fun a => ?_)
  have f : v97 x (ix3 b o a) = Scalar.select (FloatOps.cmpf (F := Ideal) (φ := .f32) .oeq (v91 x (ix3 b o a)) (v93 x (ix2 b o))) (BitVec.ofNat 32 a.val) 8732#32 := by
    pointwise [v97, v96, c_11, v95, v94, v92]
  rw [f, v91_apply, h93]
  exact sel_eq _ _ _ _

theorem v103_apply (b : Fin 16) (o : Fin 24) (a : Fin 8732) : v103 x (ix3 b o a) = 1#1 ↔ Pos ((inpR x).t b o) (inpR x).p a := by
  have e : v103 x (ix3 b o a) = IntOp.ori (FloatOps.cmpf (F := Ideal) (φ := .f32) .ogt (v91 x (ix3 b o a)) (lit 0x3EB33333#32))
      (IntOp.cmpi .eq (BitVec.ofNat 32 a.val) (v98 x (ix2 b o))) := by
    pointwise [v103, v102, v101, v100, cst_13, v99, v92]
  rw [e, v91_apply, v98_apply, ori_one, cmpi_eq_one, best_iff (fun a : Fin 8732 => iou ((inpR x).t b o) ((inpR x).p a)) a]
  unfold Pos
  exact or_congr (above_bit _ _) Iff.rfl

theorem v104_apply (b : Fin 16) (a : Fin 8732) : v104 x (ix2 b a) = 1#1 ↔ Any ((inpR x).t b) (inpR x).p a := by
  have e : v104 x (ix2 b a) = Finset.univ.fold IntOp.ori (0#1) (fun o : Fin 24 => v103 x (ix3 b o a)) := by
    pointwise [v104, c_14]
  rw [e, Routing.fold_ori]
  constructor
  · rintro ⟨o, -, h⟩; exact ⟨o, (v103_apply x b o a).1 h⟩
  · rintro ⟨o, h⟩; exact ⟨o, Finset.mem_univ _, (v103_apply x b o a).2 h⟩

end Cert.Pre

end
-- ==== Proof.Pre.Parts.lean ====
/- The precondition, read part by part as its values. -/
module

public import proofs.«01_k».proof.Proof.Pre.Values

@[expose] public section

set_option maxRecDepth 16384

noncomputable section

namespace Cert.Pre

open Idealize.ShloMosaic Idealize.ShloMosaic.StableHlo
open Cert.Pre_mined_apart

attribute [local instance] facts_pre

variable (x : Args)

theorem part6 : fn_part6 (F := Ideal) (v9 x) (v15 x) (v21 x) (v112_0 x) (v119 x) (v120 x) = (v135 x) := by
  delta fn_part6 v121 v122 c_20 v123 v124 v125 v126 v127 cst_21 v128 v129 v130 v131 c_22 v132 v133 v134 v135
  with_reducible rfl

theorem part5 : fn_part5 (F := Ideal) (v2 x) (v9 x) (v15 x) (v21 x) (v103 x) = fn_part6 (F := Ideal) (v9 x) (v15 x) (v21 x) (v112_0 x) (v119 x) (v120 x) := by
  delta fn_part5 c_14 v104 v105 cst_15 v106 v107 cst_16 v108 v109 v110 v111 v112_0 v113 c_17 v114 c_18 v115 v116 c_19 v117 v118 v119 v120
  with_reducible rfl

theorem part4 : fn_part4 (F := Ideal) (v2 x) (v9 x) (v15 x) (v21 x) (v56 x) (v71 x) (v78 x) (v81 x) (v84 x) = fn_part5 (F := Ideal) (v2 x) (v9 x) (v15 x) (v21 x) (v103 x) := by
  delta fn_part4 v85 v86 v87 v88 cst_9 v89 v90 v91 v92 cst_10 v93 v94 v95 c_11 v96 v97 c_12 v98 v99 cst_13 v100 v101 v102 v103
  with_reducible rfl

theorem part3 : fn_part3 (F := Ideal) x.a2 x.a3 (v2 x) (v9 x) (v15 x) (v21 x) (v56 x) (v59 x) (v60 x) = fn_part4 (F := Ideal) (v2 x) (v9 x) (v15 x) (v21 x) (v56 x) (v71 x) (v78 x) (v81 x) (v84 x) := by
  delta fn_part3 v61 v62 v63 v64 v65 v66 v67 v68 v69 v70 v71 v72 v73 v74 v75 v76 v77 v78 v79 v80 v81 v82 v83 v84
  with_reducible rfl

theorem part2 : fn_part2 (F := Ideal) x.a2 x.a3 (v2 x) (v9 x) (v15 x) (v21 x) (v36 x) (v37 x) = fn_part3 (F := Ideal) x.a2 x.a3 (v2 x) (v9 x) (v15 x) (v21 x) (v56 x) (v59 x) (v60 x) := by
  delta fn_part2 v38 v39 v40 v41 v42 v43 v44 v45 v46 v47 v48 v49 v50 v51 v52 v53 cst_8 v54 v55 v56 v57 v58 v59 v60
  with_reducible rfl

theorem part1 : fn_part1 (F := Ideal) x.a2 x.a3 x.a4 (v2 x) (v9 x) (v15 x) (v16 x) = fn_part2 (F := Ideal) x.a2 x.a3 (v2 x) (v9 x) (v15 x) (v21 x) (v36 x) (v37 x) := by
  delta fn_part1 v17 c_5 v18 v19 v20 c_6 v21 v22 v23 v24 v25 v26 v27 v28 v29 v30 v31 v32 v33 v34 v35 v36 cst_7 v37
  with_reducible rfl

theorem part0 : fn (F := Ideal) x.a0 x.a1 x.a2 x.a3 x.a4 = fn_part1 (F := Ideal) x.a2 x.a3 x.a4 (v2 x) (v9 x) (v15 x) (v16 x) := by
  delta fn v0 v1 v2 v3 cst v4 v5 cst_0 v6 v7 v8 c v9 cst_1 v10 v11 cst_2 v12 v13 v14 c_3 v15 c_4 v16
  with_reducible rfl

theorem fn_eq : fn (F := Ideal) x.a0 x.a1 x.a2 x.a3 x.a4 = (v135 x) := by
  rw [part0, part1, part2, part3, part4, part5, part6]

end Cert.Pre

end
-- ==== Proof.Pre.Said.lean ====
/- What the precondition says: finite logits in their margin, priors in the unit square, labels in range, and the cut apart. -/
module

public import proofs.«01_k».proof.Proof.Pre.Matched
public import proofs.«01_k».proof.Proof.Pre.Parts
public import Idealize.ShloMosaic.Lib.ReduceAll

@[expose] public section

set_option maxRecDepth 16384

noncomputable section

namespace Cert.Pre

open Idealize.ShloMosaic Idealize.ShloMosaic.StableHlo
open Cert.Pre_mined_apart Cert.Loss
open Cert.ReferenceIdeal.Hand (inpR)
open scoped Classical

attribute [local instance] facts_pre

theorem small_label (w : BitVec 32) (h : IntOp.andi (IntOp.cmpi .sge w 0#32) (IntOp.cmpi .slt w 81#32) = 1#1) : w.toNat < 81 := by
  obtain ⟨h0, h1⟩ := IntOp.andi_eq_one.1 h
  change BitVec.ofBool (decide ((0#32).toInt ≤ w.toInt)) = 1#1 at h0
  change BitVec.ofBool (decide (w.toInt < (81#32).toInt)) = 1#1 at h1
  rw [ofBool_one, decide_eq_true_iff] at h0 h1
  rw [show (0#32).toInt = 0 by decide] at h0
  rw [show (81#32).toInt = 81 by decide] at h1
  rw [BitVec.toInt_eq_toNat_cond] at h0 h1
  split_ifs at h0 h1 <;> omega

/-- What the bit at the cut says. -/
theorem gap_of (u v : ℝ) (i : ℕ) (e : IntOp.ori (BitVec.ofBool (decide (lit 0x2E000000#32 ≤ ((-u : ℝ) : EReal) - ((-v : ℝ) : EReal))))
    (~~~(IntOp.cmpi .eq (IntOp.addi (BitVec.ofNat 32 i) 1#32) (BitVec.ofNat 32 (i + 1)))) = 1#1) : u + 1 / 2 ^ 35 ≤ v := by
  have h1 : IntOp.cmpi .eq (IntOp.addi (BitVec.ofNat 32 i) 1#32) (BitVec.ofNat 32 (i + 1)) = 1#1 := by
    rw [cmpi_eq_one, BitVec.ofNat_add]; rfl
  rw [h1, ori_one, ofBool_one, decide_eq_true_iff, lit_gap, ← EReal.coe_sub, EReal.coe_le_coe_iff] at e
  rcases e with e | e
  · linarith
  · exact absurd e (by decide)

theorem gap_from (u v : ℝ) (i : ℕ) (a b : EReal) (w : BitVec 32) (d : BitVec 1) (ha : a = ((-u : ℝ) : EReal)) (hb : b = ((-v : ℝ) : EReal)) (hw : w = BitVec.ofNat 32 (i + 1))
    (f : d = IntOp.ori (BitVec.ofBool (decide (lit 0x2E000000#32 ≤ a - b))) (~~~(IntOp.cmpi .eq (IntOp.addi (BitVec.ofNat 32 i) 1#32) w)))
    (e : d = 1#1) : u + 1 / 2 ^ 35 ≤ v := by
  subst ha hb hw
  exact gap_of u v i (f.symm.trans e)

theorem keyr_eq (t : Fin 24 → Fin 4 → EReal) (q : Fin 8732 → Fin 4 → EReal) (r : Fin 8732 → Fin 81 → ℝ) (a : Fin 8732) :
    keyr t q r a = ((-(wr t q r a) : ℝ) : EReal) := rfl

variable (x : Args)

theorem real_of_unit {v : EReal} (h0 : 0 ≤ v) (h1 : v ≤ ((1 : ℝ) : EReal)) : ∃ r : ℝ, v = r ∧ 0 ≤ r ∧ r ≤ 1 := by
  induction v using EReal.rec with
  | bot => simp at h0
  | top => exact absurd h1 (not_le.2 (EReal.coe_lt_top 1))
  | coe r => exact ⟨r, rfl, by exact_mod_cast h0, by exact_mod_cast h1⟩

theorem real_of_abs {v : EReal} (h : max v (-v) < ⊤) : v = ((v.toReal : ℝ) : EReal) := by
  induction v using EReal.rec with
  | bot => simp at h
  | top => simp at h
  | coe r => rfl

/-- The four parts. -/
theorem split4 (j : S_.Idx) (h : v135 x j = 1#1) : v9 x j = 1#1 ∧ v15 x j = 1#1 ∧ v21 x j = 1#1 ∧ v132 x j = 1#1 := by
  have e : v135 x j = IntOp.andi (IntOp.andi (IntOp.andi (v9 x j) (v15 x j)) (v21 x j)) (v132 x j) := by
    delta v135 v134 v133; rfl
  rw [e, IntOp.andi_eq_one, IntOp.andi_eq_one, IntOp.andi_eq_one] at h
  exact ⟨h.1.1.1, h.1.1.2, h.1.2, h.2⟩

theorem sub_idx : Subsingleton S_.Idx := ⟨fun a b => funext fun w => w.elim0⟩

theorem logit (j : S_.Idx) (h : v9 x j = 1#1) (b : Fin 16) (a : Fin 8732) (c : Fin 81) :
    max ((inpR x).l b a c) (-(inpR x).l b a c) < ⊤ ∧ (inpR x).l b a c - (inpR x).l b a 0 ≤ lit 0x42A00000#32 := by
  have hs := sub_idx
  have e : v8 x (ix3 b a c) = 1#1 := Host.reduce_andi_all _ _ _ _ _ h (ix3 b a c)
  have f : v8 x (ix3 b a c) = IntOp.andi (BitVec.ofBool (decide (max ((inpR x).l b a c) (-(inpR x).l b a c) < lit 0x7F800000#32)))
      (BitVec.ofBool (decide ((inpR x).l b a c - (inpR x).l b a 0 ≤ lit 0x42A00000#32))) := by
    pointwise [v8, v7, v6, cst_0, v5, v4, cst, v3, v2, v1, v0]
    rfl
  rw [f, IntOp.andi_eq_one, ofBool_one, ofBool_one, decide_eq_true_iff, decide_eq_true_iff, lit_top] at e
  exact e

theorem corner (j : S_.Idx) (h : v15 x j = 1#1) : (inpR x).Corners := ⟨fun a k => by
  have hs := sub_idx
  have e : v14 x (ix2 a k) = 1#1 := Host.reduce_andi_all _ _ _ _ _ h (ix2 a k)
  have f : v14 x (ix2 a k) = IntOp.andi (BitVec.ofBool (decide (lit 0x00000000#32 ≤ (inpR x).p a k)))
      (BitVec.ofBool (decide ((inpR x).p a k ≤ lit 0x3F800000#32))) := by
    pointwise [v14, v13, v12, cst_2, v11, v10, cst_1]
    rfl
  rw [f, IntOp.andi_eq_one, ofBool_one, ofBool_one, decide_eq_true_iff, decide_eq_true_iff, lit_1] at e
  have e0 : lit 0x00000000#32 = 0 := by simp [lit, Ideal.ofBits, Ideal.ieee]
  rw [e0] at e
  exact real_of_unit e.1 e.2⟩

theorem label (j : S_.Idx) (h : v21 x j = 1#1) (b : Fin 16) (o : Fin 24) : ((inpR x).g b o).toNat < 81 := by
  have hs := sub_idx
  have e : v20 x (ix2 b o) = 1#1 := Host.reduce_andi_all _ _ _ _ _ h (ix2 b o)
  have f : v20 x (ix2 b o) = IntOp.andi (IntOp.cmpi .sge ((inpR x).g b o) 0#32) (IntOp.cmpi .slt ((inpR x).g b o) 81#32) := by
    pointwise [v20, v19, v18, c_5, v17, v16, c_4]
    rfl
  rw [f] at e
  exact small_label _ e

theorem v111_apply (b : Fin 16) (a : Fin 8732) (r : Fin 8732 → Fin 81 → ℝ) (h : ∀ a c, (inpR x).l b a c = r a c) :
    v111 x (ix2 b a) = keyr ((inpR x).t b) (inpR x).p r a := by
  have hv : v111 x = Host.negf (v109 x) := by delta v111; with_reducible rfl
  have hn : ∀ (u : FVec Ideal S16x8732 .f32) (i : S16x8732.Idx), Host.negf u i = -(show EReal from u i) := fun _ _ => rfl
  have h107 : v107 x (ix2 b a) = ((bgr (r a) : ℝ) : EReal) := by
    have e : v107 x (ix2 b a) = Ideal.log (∑ c, Ideal.exp ((inpR x).l b a c - (inpR x).l b a 0)) := by
      pointwise [v107, v106, cst_15, v105, v2, v1, v0]
      rfl
    rw [e, log_sum_margin _ (r a) (h a)]
  have e : v109 x (ix2 b a) = Scalar.select (v104 x (ix2 b a)) (lit 0xCE6E6B28#32) (v107 x (ix2 b a)) := by
    pointwise [v109, v108, cst_16]
  rw [hv, hn, e, h107, lit_m1e9]
  unfold keyr wr
  exact Cert.ReferenceIdeal.Hand.neg_masked _ _ (v104_apply x b a) _ _

theorem compared (l r : EReal × BitVec 32) : (comparator_f32_i32_d1 (F := Ideal) l r == 1#1) = decide (l.1 < r.1) := by
  have e : comparator_f32_i32_d1 (F := Ideal) l r = Cert.ReferenceIdeal.comparator_f32_i32_d1 (F := Ideal) l r := rfl
  rw [e, Cert.ReferenceIdeal.Hand.compared]

theorem sorted_key (b : Fin 16) (r : Fin 8732 → Fin 81 → ℝ) (h : ∀ a c, (inpR x).l b a c = r a c) (i : Fin 8732) :
    v112_0 x (ix2 b i) = keyr ((inpR x).t b) (inpR x).p r (desc ((inpR x).t b) (inpR x).p r i) := by
  have hv : v112_0 x = (Host.sort2 SR 1 (comparator_f32_i32_d1 (F := Ideal)) (v111 x) (v110 x)).1 := by
    delta v112_0; with_reducible rfl
  have hk : (fun k k' : Fin 8732 => comparator_f32_i32_d1 (F := Ideal) (v111 x (ix2 b k), v110 x (ix2 b k)) (v111 x (ix2 b k'), v110 x (ix2 b k')) == 1#1)
      = fun k k' => decide (keyr ((inpR x).t b) (inpR x).p r k < keyr ((inpR x).t b) (inpR x).p r k') := by
    funext k k'
    rw [compared]
    dsimp only
    rw [v111_apply x b k r h, v111_apply x b k' r h]
  rw [hv, sort2_fst, hk, v111_apply x b _ r h]
  unfold desc
  rw [perm_apply]
  unfold ord
  rfl

theorem v119_apply (b : Fin 16) : v119 x (ix1 b) = BitVec.ofNat 32 (kc ((inpR x).t b) (inpR x).p) := by
  have h114 : v114 x (ix1 b) = BitVec.ofNat 32 (npn ((inpR x).t b) (inpR x).p) := by
    have e : v114 x (ix1 b) = Finset.univ.fold IntOp.addi 0#32 (fun a => BitVec.setWidth 32 (v104 x (ix2 b a))) := by
      pointwise [v114, c_17, v113]
    rw [e, fold_addi]
    unfold npn
    refine congrArg (fun s : Finset (Fin 8732) => BitVec.ofNat 32 s.card) ?_
    exact Finset.filter_congr fun a _ => v104_apply x b a
  have e : v119 x (ix1 b) = IntOp.minsi (IntOp.muli 7#32 (v114 x (ix1 b))) (IntOp.subi 8732#32 (v114 x (ix1 b))) := by
    pointwise [v119, v118, v117, c_19, v116, v115, c_18]
  rw [e, h114, kn_word _ (npn_le _ _)]
  rfl

theorem bit_at (A B C : FVec Ideal S16x8731 .f32) (I J K : IVec S16x8731 32) (i : S16x8731.Idx) :
    ori (cmpf .oge (subf A B) C) (noti (cmpi .eq (addi I J) K)) i
      = IntOp.ori (BitVec.ofBool (decide ((show EReal from C i) ≤ (show EReal from A i) - (show EReal from B i)))) (~~~(IntOp.cmpi .eq (IntOp.addi (I i) (J i)) (K i))) := rfl

theorem apart_bit (b : Fin 16) (i : Fin 8732) (hb : i.val < 8731) : v131 x (ix2 b ⟨i.val, hb⟩)
    = IntOp.ori (BitVec.ofBool (decide (lit 0x2E000000#32 ≤ (show EReal from v121 x (ix2 b ⟨i.val, hb⟩)) - (show EReal from v120 x (ix2 b ⟨i.val, hb⟩)))))
      (~~~(IntOp.cmpi .eq (IntOp.addi (BitVec.ofNat 32 i.val) 1#32) (v119 x (ix1 b)))) := by
  have hv : v131 x = ori (cmpf .oge (subf (v121 x) (v120 x)) (v128 x)) (noti (cmpi .eq (addi (v122 x) (v123 x)) (v125 x))) := by
    delta v131 v130 v129 v127 v126 v124; with_reducible rfl
  have h128 : v128 x (ix2 b ⟨i.val, hb⟩) = lit 0x2E000000#32 := by pointwise [v128, cst_21]
  have h122 : v122 x (ix2 b ⟨i.val, hb⟩) = BitVec.ofNat 32 i.val := by pointwise [v122]
  have h123 : v123 x (ix2 b ⟨i.val, hb⟩) = 1#32 := by pointwise [v123, c_20]
  have h125 : v125 x (ix2 b ⟨i.val, hb⟩) = v119 x (ix1 b) := by pointwise [v125]
  rw [hv, bit_at, h128, h122, h123, h125]

theorem near (b : Fin 16) (i : Fin 8732) (hb : i.val < 8731) : v120 x (ix2 b ⟨i.val, hb⟩) = v112_0 x (ix2 b i) := by
  delta v120
  exact congrArg (v112_0 x) (by funext w; fin_cases w <;> exact Fin.ext (Nat.zero_add _))

theorem next (b : Fin 16) (i k : Fin 8732) (hb : i.val < 8731) (hk : 1 + i.val = k.val) : v121 x (ix2 b ⟨i.val, hb⟩) = v112_0 x (ix2 b k) := by
  delta v121
  exact congrArg (v112_0 x) (by
    funext w; fin_cases w
    · exact Fin.ext (Nat.zero_add _)
    · exact Fin.ext hk)

theorem apart_all (j : S_.Idx) (h : v132 x j = 1#1) (b : Fin 16) (i : Fin 8731) : v131 x (ix2 b i) = 1#1 :=
  Host.reduce_andi_all _ _ _ _ _ h (ix2 b i)

theorem apart (j : S_.Idx) (h : v132 x j = 1#1) (b : Fin 16) (r : Fin 8732 → Fin 81 → ℝ) (hl : ∀ a c, (inpR x).l b a c = r a c)
    (i k : Fin 8732) (hi : i.val + 1 = kc ((inpR x).t b) (inpR x).p) (hk : k.val = kc ((inpR x).t b) (inpR x).p) :
    wr ((inpR x).t b) (inpR x).p r (desc ((inpR x).t b) (inpR x).p r k) + 1 / 2 ^ 35
      ≤ wr ((inpR x).t b) (inpR x).p r (desc ((inpR x).t b) (inpR x).p r i) := by
  have hik : i.val + 1 = k.val := hi.trans hk.symm
  have hb : i.val < 8731 := by have := k.isLt; omega
  have hw : v119 x (ix1 b) = BitVec.ofNat 32 (i.val + 1) := (v119_apply x b).trans (congrArg (BitVec.ofNat 32) hi.symm)
  exact gap_from _ _ i.val _ _ _ _ (((next x b i k hb ((Nat.add_comm _ _).trans hik)).trans (sorted_key x b r hl k)).trans (keyr_eq _ _ _ _))
    (((near x b i hb).trans (sorted_key x b r hl i)).trans (keyr_eq _ _ _ _)) hw (apart_bit x b i hb) (apart_all x j h b ⟨i.val, hb⟩)

end Cert.Pre

end
-- ==== Proof.Pre.All.lean ====
/- All the precondition says, together. -/
module

public import proofs.«01_k».proof.Proof.Pre.Said

@[expose] public section

set_option maxRecDepth 16384

noncomputable section

namespace Cert.Pre

open Idealize.ShloMosaic Idealize.ShloMosaic.StableHlo
open Cert.Pre_mined_apart Cert.Loss
open Cert.ReferenceIdeal.Hand (inpR)
open scoped Classical

attribute [local instance] facts_pre

variable (x : Args)

/-- The logits, as reals. -/
def logitR (b : Fin 16) (a : Fin 8732) (c : Fin 81) : ℝ := ((inpR x).l b a c).toReal

theorem logit_real (j : S_.Idx) (h : v9 x j = 1#1) (b : Fin 16) (a : Fin 8732) (c : Fin 81) : (inpR x).l b a c = ((logitR x b a c : ℝ) : EReal) :=
  real_of_abs (logit x j h b a c).1

/-- All it says, of the arguments the results are computed from. -/
theorem said (h : fn (F := Ideal) x.a0 x.a1 x.a2 x.a3 x.a4 = fun _ => 1#1) :
    (inpR x).Corners ∧ Cert.ReferenceIdeal.Hand.AllFine x (logitR x) := by
  have e : v135 x (fun w => w.elim0) = 1#1 := congrFun ((fn_eq x).symm.trans h) (fun w => w.elim0)
  obtain ⟨h9, h15, h21, h132⟩ := split4 x _ e
  refine ⟨corner x _ h15, fun b => ⟨logit_real x _ h9 b, fun a c => ?_, label x _ h21 b, ?_⟩⟩
  · have hm := (logit x _ h9 b a c).2
    rw [logit_real x _ h9 b a c, logit_real x _ h9 b a 0, lit_80, ← EReal.coe_sub, EReal.coe_le_coe_iff] at hm
    exact hm
  · exact fun i k hi hk => apart x _ h132 b _ (logit_real x _ h9 b) i k hi hk

end Cert.Pre

end
-- ==== Proof.lean ====
/-
  The claim: the kernel, its idealization and the reference each run to their end with their arguments unchanged, the
  idealization differs from the kernel by its named constant only, and its three losses are the reference's.
-/
module

public import proofs.«01_k».proof.Defs
public import proofs.«01_k».proof.Proof.Kernel.Frame
public import proofs.«01_k».proof.Proof.KernelIdeal.Frame
public import proofs.«01_k».proof.Proof.KernelIdeal.End
public import proofs.«01_k».proof.Proof.ReferenceIdeal.Ops
public import proofs.«01_k».proof.Proof.ReferenceIdeal.Ends4
public import proofs.«01_k».proof.Proof.ReferenceIdeal.Total
public import proofs.«01_k».proof.Proof.Pre.All

@[expose] public section

set_option maxRecDepth 16384

noncomputable section

namespace Cert.Proof

open Idealize.ShloMosaic Idealize.ShloMosaic.StableHlo Idealize.SL.Sem
open Cert.Loss

attribute [local instance] Cert.Pre.facts_pre

theorem frame_reference : Cert.quiescent_ReferenceIdeal := fun m g _ =>
  (θ_run Cert.ReferenceIdeal.defs _ _).mono (fun _ h => ⟨fun c => (h.1 c).2, h.2⟩)
    (Cert.ReferenceIdeal.Hand.run_frame (F := Ideal) m g)

/-- The reference's arguments at its launch. -/
abbrev launched (m' : (ℓ : Loc Cert.ReferenceIdeal.nD Cert.ReferenceIdeal.τ Cert.ReferenceIdeal.sig) → Buf (Elt Ideal) ℓ)
    (c : Dev Cert.ReferenceIdeal.nD) : Cert.ReferenceIdeal.Hand.Args :=
  Cert.ReferenceIdeal.Hand.argsOf (launchContents m' c)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's arguments, as the reference's. -/
def given (c : Dev Cert.KernelIdeal.nD) : Cert.ReferenceIdeal.Hand.Args where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)

theorem inpR_given (c : Dev Cert.KernelIdeal.nD) : Cert.ReferenceIdeal.Hand.inpR (given m c) = Cert.KernelIdeal.Hand.inp m c := rfl

theorem launched_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    launched m' c = given m c := by
  have e : ∀ (p q : Cert.ReferenceIdeal.Hand.Args), p.a0 = q.a0 → p.a1 = q.a1 → p.a2 = q.a2 → p.a3 = q.a3 → p.a4 = q.a4 → p = q := by
    rintro ⟨_, _, _, _, _⟩ ⟨_, _, _, _, _⟩ h0 h1 h2 h3 h4
    cases h0; cases h1; cases h2; cases h3; cases h4; rfl
  exact e _ _ h.1 h.2.1 h.2.2.1 h.2.2.2.1 h.2.2.2.2

theorem outV_apply (c : Dev Cert.KernelIdeal.nD) (i : Fin 3) : Cert.KernelIdeal.Hand.outV m c (ix1 i) = (Cert.KernelIdeal.Hand.inp m c).out i := rfl

/-- The reference's three losses are the kernel's. -/
theorem result (hpre : Cert.Pre_KernelIdeal_mined_apart m) (c : Dev Cert.KernelIdeal.nD) (i : Fin 3) :
    Cert.ReferenceIdeal.Hand.v195 (given m c) (ix1 i) = Cert.KernelIdeal.Hand.outV m c (ix1 i) := by
  obtain ⟨hc, hf⟩ := Cert.Pre.said (given m c) (hpre c)
  have e := Cert.ReferenceIdeal.Hand.v195_out hf hc (fun w => w.elim0) i
  rw [inpR_given] at e
  exact e.trans (outV_apply m c i).symm

end

theorem idx1 (i : Cert.ReferenceIdeal.S3.Idx) : ∃ k : Fin 3, i = ix1 k := ⟨i 0, by funext w; fin_cases w; rfl⟩

theorem algebraic : Cert.algebraic_KernelIdeal_ReferenceIdeal_pre_mined_apart := by
  intro m g m' g' hpre hargs
  refine ⟨fun c => Cert.KernelIdeal.Hand.outV m c, Cert.KernelIdeal.Hand.run_out m g, ?_⟩
  refine (θ_run Cert.ReferenceIdeal.defs _ _).mono (fun r h c => ⟨?_, (h.1 c).2⟩)
    (Cert.ReferenceIdeal.Hand.run_frame (F := Ideal) m' g')
  have hr := (h.1 c).1.trans ((Cert.ReferenceIdeal.Hand.W_v195 (launchContents m' c)).trans
    (congrArg Cert.ReferenceIdeal.Hand.v195 (launched_eq m m' c (hargs c))))
  refine hr.trans (funext fun i => ?_)
  obtain ⟨k, rfl⟩ := idx1 i
  exact result m hpre c k

theorem claim : Cert.Claim :=
  ⟨Cert.Kernel.Gen.facts, Cert.KernelIdeal.Gen.facts, Cert.ReferenceIdeal.Gen.facts, Cert.Pre.facts_pre,
    fun m g _ => Cert.Kernel.Hand.run_frame (F := Bits) m g, fun m g _ => Cert.KernelIdeal.Hand.run_frame (F := Ideal) m g,
    fun m g _ => Cert.KernelIdeal.Hand.run_frame (F := Ideal) m g,
    frame_reference, fun m g _ => frame_reference m g trivial, IdealRules.named_const.statement _ _ _ _ _ rfl, algebraic⟩

end Cert.Proof

end
